-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite3 [hPre_finite3 : Cert.Pre_finite3.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite3.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite3 [hPre_finite3 : Cert.Pre_finite3.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite3.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite12 [hPre_finite12 : Cert.Pre_finite12.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite12.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite12 [hPre_finite12 : Cert.Pre_finite12.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite12.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite3 [hKernel2Ideal : Cert.Kernel2Ideal.Facts] [hPre_finite3 : Cert.Pre_finite3.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite3 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite3 [hReference2Ideal : Cert.Reference2Ideal.Facts] [hPre_finite3 : Cert.Pre_finite3.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite3 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite12 [hKernel3Ideal : Cert.Kernel3Ideal.Facts] [hPre_finite12 : Cert.Pre_finite12.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite12 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite12 [hReference3Ideal : Cert.Reference3Ideal.Facts] [hPre_finite12 : Cert.Pre_finite12.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite12 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18))
      ∧ r.2.sem = fun _ => 0)

def preserves_Kernel_KernelIdeal : Prop :=
  IdealRules.named_const.Statement Cert.KernelIdeal.κ "masked" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "masked" .f32 0xF149F2CA#32 ⊥
  ∧ IdealRules.named_const.Statement Cert.Kernel2Ideal.κ "log2e" .f32 0x3FB8AA3B#32 (((Real.log 2)⁻¹ : ℝ) : EReal)

def algebraic_Kernel2Ideal_Reference2Ideal_pre_finite3 [hKernel2Ideal : Cert.Kernel2Ideal.Facts] [hReference2Ideal : Cert.Reference2Ideal.Facts] [hPre_finite3 : Cert.Pre_finite3.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite3 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v13)) (v1 : (c : Dev Cert.Kernel2Ideal.nD) → Buf (Elt Ideal) ((c.tc : Thread Cert.Kernel2Ideal.nD Cert.Kernel2Ideal.τ).loc Cert.Kernel2Ideal.main_v12_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_v12_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite12 [hKernel3Ideal : Cert.Kernel3Ideal.Facts] [hReference3Ideal : Cert.Reference3Ideal.Facts] [hPre_finite12 : Cert.Pre_finite12.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite12 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v11_0)) (v1 : (c : Dev Cert.Kernel3Ideal.nD) → Buf (Elt Ideal) ((c.tc : Thread Cert.Kernel3Ideal.nD Cert.Kernel3Ideal.τ).loc Cert.Kernel3Ideal.main_v11_1)) (v2 : (c : Dev Cert.Kernel3Ideal.nD) → Buf (Elt Ideal) ((c.tc : Thread Cert.Kernel3Ideal.nD Cert.Kernel3Ideal.τ).loc Cert.Kernel3Ideal.main_v11_2)) (v3 : (c : Dev Cert.Kernel3Ideal.nD) → Buf (Elt Ideal) ((c.tc : Thread Cert.Kernel3Ideal.nD Cert.Kernel3Ideal.τ).loc Cert.Kernel3Ideal.main_v11_3)) (v4 : (c : Dev Cert.Kernel3Ideal.nD) → Buf (Elt Ideal) ((c.tc : Thread Cert.Kernel3Ideal.nD Cert.Kernel3Ideal.τ).loc Cert.Kernel3Ideal.main_v11_4)) (v5 : (c : Dev Cert.Kernel3Ideal.nD) → Buf (Elt Ideal) ((c.tc : Thread Cert.Kernel3Ideal.nD Cert.Kernel3Ideal.τ).loc Cert.Kernel3Ideal.main_v11_5)) (v6 : (c : Dev Cert.Kernel3Ideal.nD) → Buf (Elt Ideal) ((c.tc : Thread Cert.Kernel3Ideal.nD Cert.Kernel3Ideal.τ).loc Cert.Kernel3Ideal.main_v11_6)) (v7 : (c : Dev Cert.Kernel3Ideal.nD) → Buf (Elt Ideal) ((c.tc : Thread Cert.Kernel3Ideal.nD Cert.Kernel3Ideal.τ).loc Cert.Kernel3Ideal.main_v11_7)) (v8 : (c : Dev Cert.Kernel3Ideal.nD) → Buf (Elt Ideal) ((c.tc : Thread Cert.Kernel3Ideal.nD Cert.Kernel3Ideal.τ).loc Cert.Kernel3Ideal.main_v11_8)) (v9 : (c : Dev Cert.Kernel3Ideal.nD) → Buf (Elt Ideal) ((c.tc : Thread Cert.Kernel3Ideal.nD Cert.Kernel3Ideal.τ).loc Cert.Kernel3Ideal.main_v11_9)) (v10 : (c : Dev Cert.Kernel3Ideal.nD) → Buf (Elt Ideal) ((c.tc : Thread Cert.Kernel3Ideal.nD Cert.Kernel3Ideal.τ).loc Cert.Kernel3Ideal.main_v11_10)) (v11 : (c : Dev Cert.Kernel3Ideal.nD) → Buf (Elt Ideal) ((c.tc : Thread Cert.Kernel3Ideal.nD Cert.Kernel3Ideal.τ).loc Cert.Kernel3Ideal.main_v11_11)) (v12 : (c : Dev Cert.Kernel3Ideal.nD) → Buf (Elt Ideal) ((c.tc : Thread Cert.Kernel3Ideal.nD Cert.Kernel3Ideal.τ).loc Cert.Kernel3Ideal.main_v11_12)) (v13 : (c : Dev Cert.Kernel3Ideal.nD) → Buf (Elt Ideal) ((c.tc : Thread Cert.Kernel3Ideal.nD Cert.Kernel3Ideal.τ).loc Cert.Kernel3Ideal.main_v11_13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11_0) = v0 c
          ∧ r.2.mem ((c.tc : Thread Cert.Kernel3Ideal.nD Cert.Kernel3Ideal.τ).loc Cert.Kernel3Ideal.main_v11_1) = v1 c
          ∧ r.2.mem ((c.tc : Thread Cert.Kernel3Ideal.nD Cert.Kernel3Ideal.τ).loc Cert.Kernel3Ideal.main_v11_2) = v2 c
          ∧ r.2.mem ((c.tc : Thread Cert.Kernel3Ideal.nD Cert.Kernel3Ideal.τ).loc Cert.Kernel3Ideal.main_v11_3) = v3 c
          ∧ r.2.mem ((c.tc : Thread Cert.Kernel3Ideal.nD Cert.Kernel3Ideal.τ).loc Cert.Kernel3Ideal.main_v11_4) = v4 c
          ∧ r.2.mem ((c.tc : Thread Cert.Kernel3Ideal.nD Cert.Kernel3Ideal.τ).loc Cert.Kernel3Ideal.main_v11_5) = v5 c
          ∧ r.2.mem ((c.tc : Thread Cert.Kernel3Ideal.nD Cert.Kernel3Ideal.τ).loc Cert.Kernel3Ideal.main_v11_6) = v6 c
          ∧ r.2.mem ((c.tc : Thread Cert.Kernel3Ideal.nD Cert.Kernel3Ideal.τ).loc Cert.Kernel3Ideal.main_v11_7) = v7 c
          ∧ r.2.mem ((c.tc : Thread Cert.Kernel3Ideal.nD Cert.Kernel3Ideal.τ).loc Cert.Kernel3Ideal.main_v11_8) = v8 c
          ∧ r.2.mem ((c.tc : Thread Cert.Kernel3Ideal.nD Cert.Kernel3Ideal.τ).loc Cert.Kernel3Ideal.main_v11_9) = v9 c
          ∧ r.2.mem ((c.tc : Thread Cert.Kernel3Ideal.nD Cert.Kernel3Ideal.τ).loc Cert.Kernel3Ideal.main_v11_10) = v10 c
          ∧ r.2.mem ((c.tc : Thread Cert.Kernel3Ideal.nD Cert.Kernel3Ideal.τ).loc Cert.Kernel3Ideal.main_v11_11) = v11 c
          ∧ r.2.mem ((c.tc : Thread Cert.Kernel3Ideal.nD Cert.Kernel3Ideal.τ).loc Cert.Kernel3Ideal.main_v11_12) = v12 c
          ∧ r.2.mem ((c.tc : Thread Cert.Kernel3Ideal.nD Cert.Kernel3Ideal.τ).loc Cert.Kernel3Ideal.main_v11_13) = v13 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v137) = v0 c
          ∧ r.2.mem ((c.tc : Thread Cert.Reference3Ideal.nD Cert.Reference3Ideal.τ).loc Cert.Reference3Ideal.main_v212) = v1 c
          ∧ r.2.mem ((c.tc : Thread Cert.Reference3Ideal.nD Cert.Reference3Ideal.τ).loc Cert.Reference3Ideal.main_v215) = v2 c
          ∧ r.2.mem ((c.tc : Thread Cert.Reference3Ideal.nD Cert.Reference3Ideal.τ).loc Cert.Reference3Ideal.main_v216) = v3 c
          ∧ r.2.mem ((c.tc : Thread Cert.Reference3Ideal.nD Cert.Reference3Ideal.τ).loc Cert.Reference3Ideal.main_v218) = v4 c
          ∧ r.2.mem ((c.tc : Thread Cert.Reference3Ideal.nD Cert.Reference3Ideal.τ).loc Cert.Reference3Ideal.main_v165) = v5 c
          ∧ r.2.mem ((c.tc : Thread Cert.Reference3Ideal.nD Cert.Reference3Ideal.τ).loc Cert.Reference3Ideal.main_v139) = v6 c
          ∧ r.2.mem ((c.tc : Thread Cert.Reference3Ideal.nD Cert.Reference3Ideal.τ).loc Cert.Reference3Ideal.main_v116) = v7 c
          ∧ r.2.mem ((c.tc : Thread Cert.Reference3Ideal.nD Cert.Reference3Ideal.τ).loc Cert.Reference3Ideal.main_v113) = v8 c
          ∧ r.2.mem ((c.tc : Thread Cert.Reference3Ideal.nD Cert.Reference3Ideal.τ).loc Cert.Reference3Ideal.main_v219) = v9 c
          ∧ r.2.mem ((c.tc : Thread Cert.Reference3Ideal.nD Cert.Reference3Ideal.τ).loc Cert.Reference3Ideal.main_v169) = v10 c
          ∧ r.2.mem ((c.tc : Thread Cert.Reference3Ideal.nD Cert.Reference3Ideal.τ).loc Cert.Reference3Ideal.main_v145) = v11 c
          ∧ r.2.mem ((c.tc : Thread Cert.Reference3Ideal.nD Cert.Reference3Ideal.τ).loc Cert.Reference3Ideal.main_v120) = v12 c
          ∧ r.2.mem ((c.tc : Thread Cert.Reference3Ideal.nD Cert.Reference3Ideal.τ).loc Cert.Reference3Ideal.main_v220) = v13 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  IdealRules.named_const.Statement Cert.Kernel4Ideal.κ "inv192" .f32 0x3BAAAAAB#32 ((1 / 192 : ℝ) : EReal)

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts) (hPre_finite12 : Cert.Pre_finite12.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite3 (hKernel2Ideal := hKernel2Ideal) (hPre_finite3 := hPre_finite3)
    ∧ quiescent_Reference2Ideal (hReference2Ideal := hReference2Ideal)
    ∧ quiescent_Reference2Ideal_pre_finite3 (hReference2Ideal := hReference2Ideal) (hPre_finite3 := hPre_finite3)
    ∧ quiescent_Kernel3 (hKernel3 := hKernel3)
    ∧ quiescent_Kernel3Ideal (hKernel3Ideal := hKernel3Ideal)
    ∧ quiescent_Kernel3Ideal_pre_finite12 (hKernel3Ideal := hKernel3Ideal) (hPre_finite12 := hPre_finite12)
    ∧ quiescent_Reference3Ideal (hReference3Ideal := hReference3Ideal)
    ∧ quiescent_Reference3Ideal_pre_finite12 (hReference3Ideal := hReference3Ideal) (hPre_finite12 := hPre_finite12)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite3 (hKernel2Ideal := hKernel2Ideal) (hReference2Ideal := hReference2Ideal) (hPre_finite3 := hPre_finite3)
    ∧ preserves_Kernel3_Kernel3Ideal
    ∧ algebraic_Kernel3Ideal_Reference3Ideal_pre_finite12 (hKernel3Ideal := hKernel3Ideal) (hReference3Ideal := hReference3Ideal) (hPre_finite12 := hPre_finite12)
    ∧ preserves_Kernel4_Kernel4Ideal
-- ==== Pre_finite.lean ====
abbrev S8192x4x192 : Shape := ⟨3, ![8192, 4, 192]⟩
abbrev S8192x4x128 : Shape := ⟨3, ![8192, 4, 128]⟩
abbrev S_ : Shape := ⟨0, ![]⟩
abbrev S1 : Shape := ⟨1, ![1]⟩
abbrev S4 : Shape := ⟨1, ![4]⟩

class Facts : Prop where
  bcast_S_S8192x4x192 : S_.BroadcastsInDim S8192x4x192 (![] : Fin 0 → Fin S8192x4x192.rank)
  reducesTo_S8192x4x192_S_d0_1_2 : S8192x4x192.ReducesTo [0, 1, 2] S_
  h_S_ : 0 < S_.numel
  bcast_S_S8192x4x128 : S_.BroadcastsInDim S8192x4x128 (![] : Fin 0 → Fin S8192x4x128.rank)
  reducesTo_S8192x4x128_S_d0_1_2 : S8192x4x128.ReducesTo [0, 1, 2] S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  let main_c_6 : IVec S_ 1 := constantI S_ 1 1#1
  let main_v21 : IVec S_ 1 := (fun x v => Host.reduce IntOp.andi x v reducesTo_S4_S_d0 h_S_) main_v20 main_c_6
  main_v21

def fn {F : FTy → Type} [FloatOps F] (main_arg0 : FVec F S8192x4x192 .f32) (main_arg1 : FVec F S8192x4x192 .f32) (main_arg2 : FVec F S8192x4x128 .f32) (main_arg3 : FVec F S8192x4x128 .f32) : IVec S_ 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_c : IVec S_ 1 := constantI S_ 1 1#1
  let main_v3 : IVec S_ 1 := (fun x v => Host.reduce IntOp.andi x v reducesTo_S8192x4x192_S_d0_1_2 h_S_) main_v2 main_c
  let main_v4 : FVec F S8192x4x192 .f32 := Host.absf main_arg1
  let main_cst_0 : FVec F S_ .f32 := constant S_ .f32 0x7F800000#32
  let main_v5 : FVec F S8192x4x192 .f32 := broadcastInDim S8192x4x192 ![] bcast_S_S8192x4x192 main_cst_0
  let main_v6 : IVec S8192x4x192 1 := cmpf .olt main_v4 main_v5
  let main_c_1 : IVec S_ 1 := constantI S_ 1 1#1
  let main_v7 : IVec S_ 1 := (fun x v => Host.reduce IntOp.andi x v reducesTo_S8192x4x192_S_d0_1_2 h_S_) main_v6 main_c_1
  let main_v8 : FVec F S8192x4x128 .f32 := Host.absf main_arg2
  let main_cst_2 : FVec F S_ .f32 := constant S_ .f32 0x7F800000#32
  let main_v9 : FVec F S8192x4x128 .f32 := broadcastInDim S8192x4x128 ![] bcast_S_S8192x4x128 main_cst_2
  let main_v10 : IVec S8192x4x128 1 := cmpf .olt main_v8 main_v9
  let main_c_3 : IVec S_ 1 := constantI S_ 1 1#1
  let main_v11 : IVec S_ 1 := (fun x v => Host.reduce IntOp.andi x v reducesTo_S8192x4x128_S_d0_1_2 h_S_) main_v10 main_c_3
  let main_v12 : FVec F S8192x4x128 .f32 := Host.absf main_arg3
  let main_cst_4 : FVec F S_ .f32 := constant S_ .f32 0x7F800000#32
  let main_v13 : FVec F S8192x4x128 .f32 := broadcastInDim S8192x4x128 ![] bcast_S_S8192x4x128 main_cst_4
  let main_v14 : IVec S8192x4x128 1 := cmpf .olt main_v12 main_v13
  let main_c_5 : IVec S_ 1 := constantI S_ 1 1#1
  let main_v15 : IVec S_ 1 := (fun x v => Host.reduce IntOp.andi x v reducesTo_S8192x4x128_S_d0_1_2 h_S_) main_v14 main_c_5
  fn_part1 (F := F) main_v3 main_v7 main_v11 main_v15
-- ==== Pre_finite12.lean ====
abbrev S8192x512 : Shape := ⟨2, ![8192, 512]⟩
abbrev S8192x3008 : Shape := ⟨2, ![8192, 3008]⟩
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S3x512 : Shape := ⟨2, ![3, 512]⟩
abbrev S1x512 : Shape := ⟨2, ![1, 512]⟩
abbrev S1x1024 : Shape := ⟨2, ![1, 1024]⟩
abbrev S_ : Shape := ⟨0, ![]⟩
abbrev S1 : Shape := ⟨1, ![1]⟩
abbrev S12 : Shape := ⟨1, ![12]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x3008 : S_.BroadcastsInDim S8192x3008 (![] : Fin 0 → Fin S8192x3008.rank)
  reducesTo_S8192x3008_S_d0_1 : S8192x3008.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S8192x256 : S_.BroadcastsInDim S8192x256 (![] : Fin 0 → Fin S8192x256.rank)
  reducesTo_S8192x256_S_d0_1 : S8192x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S3x512 : S_.BroadcastsInDim S3x512 (![] : Fin 0 → Fin S3x512.rank)
  reducesTo_S3x512_S_d0_1 : S3x512.ReducesTo [0, 1] S_
  bcast_S_S1x512 : S_.BroadcastsInDim S1x512 (![] : Fin 0 → Fin S1x512.rank)
  reducesTo_S1x512_S_d0_1 : S1x512.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  concatenates_S1_S1_S1_S1_S1_S1_S1_S1_S1_S1_S1_S1_S12_d0 : Shape.Concatenates [S1, S1, S1, S1, S1, S1, S1, S1, S1, S1, S1, S1] S12 0
  reducesTo_S12_S_d0 : S12.ReducesTo [0] S_

variable [Facts]

def fn_part3 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : IVec S1 1 := broadcastInDim S1 ![] bcast_S_S1 main_v3
  let main_v49 : IVec S1 1 := broadcastInDim S1 ![] bcast_S_S1 main_v7
  let main_v50 : IVec S1 1 := broadcastInDim S1 ![] bcast_S_S1 main_v11
  let main_v51 : IVec S1 1 := broadcastInDim S1 ![] bcast_S_S1 main_v15
  let main_v52 : IVec S1 1 := broadcastInDim S1 ![] bcast_S_S1 main_v19
  let main_v53 : IVec S1 1 := broadcastInDim S1 ![] bcast_S_S1 main_v23
  let main_v54 : IVec S1 1 := broadcastInDim S1 ![] bcast_S_S1 main_v27
  let main_v55 : IVec S1 1 := broadcastInDim S1 ![] bcast_S_S1 main_v31
  let main_v56 : IVec S1 1 := broadcastInDim S1 ![] bcast_S_S1 main_v35
  let main_v57 : IVec S1 1 := broadcastInDim S1 ![] bcast_S_S1 main_v39
  let main_v58 : IVec S1 1 := broadcastInDim S1 ![] bcast_S_S1 main_v43
  let main_v59 : IVec S1 1 := broadcastInDim S1 ![] bcast_S_S1 main_v47
  let main_v60 : IVec S12 1 := concatenate S12 0 [⟨S1, main_v48⟩, ⟨S1, main_v49⟩, ⟨S1, main_v50⟩, ⟨S1, main_v51⟩, ⟨S1, main_v52⟩, ⟨S1, main_v53⟩, ⟨S1, main_v54⟩, ⟨S1, main_v55⟩, ⟨S1, main_v56⟩, ⟨S1, main_v57⟩, ⟨S1, main_v58⟩, ⟨S1, main_v59⟩] concatenates_S1_S1_S1_S1_S1_S1_S1_S1_S1_S1_S1_S1_S12_d0
  let main_c_22 : IVec S_ 1 := constantI S_ 1 1#1
  let main_v61 : IVec S_ 1 := (fun x v => Host.reduce IntOp.andi x v reducesTo_S12_S_d0 h_S_) main_v60 main_c_22
  main_v61

def fn_part2 {F : FTy → Type} [FloatOps F] (main_arg8 : FVec F S3x512 .f32) (main_arg9 : FVec F S1x512 .f32) (main_arg10 : FVec F S1x512 .f32) (main_arg11 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S3x512 .f32 := Host.absf main_arg8
  let main_cst_14 : FVec F S_ .f32 := constant S_ .f32 0x7F800000#32
  let main_v33 : FVec F S3x512 .f32 := broadcastInDim S3x512 ![] bcast_S_S3x512 main_cst_14
  let main_v34 : IVec S3x512 1 := cmpf .olt main_v32 main_v33
  let main_c_15 : IVec S_ 1 := constantI S_ 1 1#1
  let main_v35 : IVec S_ 1 := (fun x v => Host.reduce IntOp.andi x v reducesTo_S3x512_S_d0_1 h_S_) main_v34 main_c_15
  let main_v36 : FVec F S1x512 .f32 := Host.absf main_arg9
  let main_cst_16 : FVec F S_ .f32 := constant S_ .f32 0x7F800000#32
  let main_v37 : FVec F S1x512 .f32 := broadcastInDim S1x512 ![] bcast_S_S1x512 main_cst_16
  let main_v38 : IVec S1x512 1 := cmpf .olt main_v36 main_v37
  let main_c_17 : IVec S_ 1 := constantI S_ 1 1#1
  let main_v39 : IVec S_ 1 := (fun x v => Host.reduce IntOp.andi x v reducesTo_S1x512_S_d0_1 h_S_) main_v38 main_c_17
  let main_v40 : FVec F S1x512 .f32 := Host.absf main_arg10
  let main_cst_18 : FVec F S_ .f32 := constant S_ .f32 0x7F800000#32
  let main_v41 : FVec F S1x512 .f32 := broadcastInDim S1x512 ![] bcast_S_S1x512 main_cst_18
  let main_v42 : IVec S1x512 1 := cmpf .olt main_v40 main_v41
  let main_c_19 : IVec S_ 1 := constantI S_ 1 1#1
  let main_v43 : IVec S_ 1 := (fun x v => Host.reduce IntOp.andi x v reducesTo_S1x512_S_d0_1 h_S_) main_v42 main_c_19
  let main_v44 : FVec F S1x1024 .f32 := Host.absf main_arg11
  let main_cst_20 : FVec F S_ .f32 := constant S_ .f32 0x7F800000#32
  let main_v45 : FVec F S1x1024 .f32 := broadcastInDim S1x1024 ![] bcast_S_S1x1024 main_cst_20
  let main_v46 : IVec S1x1024 1 := cmpf .olt main_v44 main_v45
  let main_c_21 : IVec S_ 1 := constantI S_ 1 1#1
  let main_v47 : IVec S_ 1 := (fun x v => Host.reduce IntOp.andi x v reducesTo_S1x1024_S_d0_1 h_S_) main_v46 main_c_21
  fn_part3 (F := F) main_v3 main_v7 main_v11 main_v15 main_v19 main_v23 main_v27 main_v31 main_v35 main_v39 main_v43 main_v47

def fn_part1 {F : FTy → Type} [FloatOps F] (main_arg4 : FVec F S8192x1024 .f32) (main_arg5 : FVec F S1024x1024 .f32) (main_arg6 : FVec F S1024x1024 .f32) (main_arg7 : FVec F S256x1024 .f32) (main_arg8 : FVec F S3x512 .f32) (main_arg9 : FVec F S1x512 .f32) (main_arg10 : FVec F S1x512 .f32) (main_arg11 : FVec F S1x1024 .f32) (main_v3 : IVec S_ 1) (main_v7 : IVec S_ 1) (main_v11 : IVec S_ 1) (main_v15 : IVec S_ 1) : IVec S_ 1 :=
  let main_v16 : FVec F S8192x1024 .f32 := Host.absf main_arg4
  let main_cst_6 : FVec F S_ .f32 := constant S_ .f32 0x7F800000#32
  let main_v17 : FVec F S8192x1024 .f32 := broadcastInDim S8192x1024 ![] bcast_S_S8192x1024 main_cst_6
  let main_v18 : IVec S8192x1024 1 := cmpf .olt main_v16 main_v17
  let main_c_7 : IVec S_ 1 := constantI S_ 1 1#1
  let main_v19 : IVec S_ 1 := (fun x v => Host.reduce IntOp.andi x v reducesTo_S8192x1024_S_d0_1 h_S_) main_v18 main_c_7
  let main_v20 : FVec F S1024x1024 .f32 := Host.absf main_arg5
  let main_cst_8 : FVec F S_ .f32 := constant S_ .f32 0x7F800000#32
  let main_v21 : FVec F S1024x1024 .f32 := broadcastInDim S1024x1024 ![] bcast_S_S1024x1024 main_cst_8
  let main_v22 : IVec S1024x1024 1 := cmpf .olt main_v20 main_v21
  let main_c_9 : IVec S_ 1 := constantI S_ 1 1#1
  let main_v23 : IVec S_ 1 := (fun x v => Host.reduce IntOp.andi x v reducesTo_S1024x1024_S_d0_1 h_S_) main_v22 main_c_9
  let main_v24 : FVec F S1024x1024 .f32 := Host.absf main_arg6
  let main_cst_10 : FVec F S_ .f32 := constant S_ .f32 0x7F800000#32
  let main_v25 : FVec F S1024x1024 .f32 := broadcastInDim S1024x1024 ![] bcast_S_S1024x1024 main_cst_10
  let main_v26 : IVec S1024x1024 1 := cmpf .olt main_v24 main_v25
  let main_c_11 : IVec S_ 1 := constantI S_ 1 1#1
  let main_v27 : IVec S_ 1 := (fun x v => Host.reduce IntOp.andi x v reducesTo_S1024x1024_S_d0_1 h_S_) main_v26 main_c_11
  let main_v28 : FVec F S256x1024 .f32 := Host.absf main_arg7
  let main_cst_12 : FVec F S_ .f32 := constant S_ .f32 0x7F800000#32
  let main_v29 : FVec F S256x1024 .f32 := broadcastInDim S256x1024 ![] bcast_S_S256x1024 main_cst_12
  let main_v30 : IVec S256x1024 1 := cmpf .olt main_v28 main_v29
  let main_c_13 : IVec S_ 1 := constantI S_ 1 1#1
  let main_v31 : IVec S_ 1 := (fun x v => Host.reduce IntOp.andi x v reducesTo_S256x1024_S_d0_1 h_S_) main_v30 main_c_13
  fn_part2 (F := F) main_arg8 main_arg9 main_arg10 main_arg11 main_v3 main_v7 main_v11 main_v15 main_v19 main_v23 main_v27 main_v31

def fn {F : FTy → Type} [FloatOps F] (main_arg0 : FVec F S8192x512 .f32) (main_arg1 : FVec F S8192x3008 .f32) (main_arg2 : FVec F S8192x1024 .f32) (main_arg3 : FVec F S8192x256 .f32) (main_arg4 : FVec F S8192x1024 .f32) (main_arg5 : FVec F S1024x1024 .f32) (main_arg6 : FVec F S1024x1024 .f32) (main_arg7 : FVec F S256x1024 .f32) (main_arg8 : FVec F S3x512 .f32) (main_arg9 : FVec F S1x512 .f32) (main_arg10 : FVec F S1x512 .f32) (main_arg11 : FVec F S1x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x3008 .f32 := Host.absf main_arg1
  let main_cst_0 : FVec F S_ .f32 := constant S_ .f32 0x7F800000#32
  let main_v5 : FVec F S8192x3008 .f32 := broadcastInDim S8192x3008 ![] bcast_S_S8192x3008 main_cst_0
  let main_v6 : IVec S8192x3008 1 := cmpf .olt main_v4 main_v5
  let main_c_1 : IVec S_ 1 := constantI S_ 1 1#1
  let main_v7 : IVec S_ 1 := (fun x v => Host.reduce IntOp.andi x v reducesTo_S8192x3008_S_d0_1 h_S_) main_v6 main_c_1
  let main_v8 : FVec F S8192x1024 .f32 := Host.absf main_arg2
  let main_cst_2 : FVec F S_ .f32 := constant S_ .f32 0x7F800000#32
  let main_v9 : FVec F S8192x1024 .f32 := broadcastInDim S8192x1024 ![] bcast_S_S8192x1024 main_cst_2
  let main_v10 : IVec S8192x1024 1 := cmpf .olt main_v8 main_v9
  let main_c_3 : IVec S_ 1 := constantI S_ 1 1#1
  let main_v11 : IVec S_ 1 := (fun x v => Host.reduce IntOp.andi x v reducesTo_S8192x1024_S_d0_1 h_S_) main_v10 main_c_3
  let main_v12 : FVec F S8192x256 .f32 := Host.absf main_arg3
  let main_cst_4 : FVec F S_ .f32 := constant S_ .f32 0x7F800000#32
  let main_v13 : FVec F S8192x256 .f32 := broadcastInDim S8192x256 ![] bcast_S_S8192x256 main_cst_4
  let main_v14 : IVec S8192x256 1 := cmpf .olt main_v12 main_v13
  let main_c_5 : IVec S_ 1 := constantI S_ 1 1#1
  let main_v15 : IVec S_ 1 := (fun x v => Host.reduce IntOp.andi x v reducesTo_S8192x256_S_d0_1 h_S_) main_v14 main_c_5
  fn_part1 (F := F) main_arg4 main_arg5 main_arg6 main_arg7 main_arg8 main_arg9 main_arg10 main_arg11 main_v3 main_v7 main_v11 main_v15
-- ==== Pre_finite3.lean ====
abbrev S8192x4x192 : Shape := ⟨3, ![8192, 4, 192]⟩
abbrev S8192x4x128 : Shape := ⟨3, ![8192, 4, 128]⟩
abbrev S_ : Shape := ⟨0, ![]⟩
abbrev S1 : Shape := ⟨1, ![1]⟩
abbrev S3 : Shape := ⟨1, ![3]⟩

class Facts : Prop where
  bcast_S_S8192x4x192 : S_.BroadcastsInDim S8192x4x192 (![] : Fin 0 → Fin S8192x4x192.rank)
  reducesTo_S8192x4x192_S_d0_1_2 : S8192x4x192.ReducesTo [0, 1, 2] S_
  h_S_ : 0 < S_.numel
  bcast_S_S8192x4x128 : S_.BroadcastsInDim S8192x4x128 (![] : Fin 0 → Fin S8192x4x128.rank)
  reducesTo_S8192x4x128_S_d0_1_2 : S8192x4x128.ReducesTo [0, 1, 2] S_
  bcast_S_S1 : S_.BroadcastsInDim S1 (![] : Fin 0 → Fin S1.rank)
  concatenates_S1_S1_S1_S3_d0 : Shape.Concatenates [S1, S1, S1] S3 0
  reducesTo_S3_S_d0 : S3.ReducesTo [0] S_

variable [Facts]

def fn {F : FTy → Type} [FloatOps F] (main_arg0 : FVec F S8192x4x192 .f32) (main_arg1 : FVec F S8192x4x192 .f32) (main_arg2 : FVec F S8192x4x128 .f32) : IVec S_ 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_c : IVec S_ 1 := constantI S_ 1 1#1
  let main_v3 : IVec S_ 1 := (fun x v => Host.reduce IntOp.andi x v reducesTo_S8192x4x192_S_d0_1_2 h_S_) main_v2 main_c
  let main_v4 : FVec F S8192x4x192 .f32 := Host.absf main_arg1
  let main_cst_0 : FVec F S_ .f32 := constant S_ .f32 0x7F800000#32
  let main_v5 : FVec F S8192x4x192 .f32 := broadcastInDim S8192x4x192 ![] bcast_S_S8192x4x192 main_cst_0
  let main_v6 : IVec S8192x4x192 1 := cmpf .olt main_v4 main_v5
  let main_c_1 : IVec S_ 1 := constantI S_ 1 1#1
  let main_v7 : IVec S_ 1 := (fun x v => Host.reduce IntOp.andi x v reducesTo_S8192x4x192_S_d0_1_2 h_S_) main_v6 main_c_1
  let main_v8 : FVec F S8192x4x128 .f32 := Host.absf main_arg2
  let main_cst_2 : FVec F S_ .f32 := constant S_ .f32 0x7F800000#32
  let main_v9 : FVec F S8192x4x128 .f32 := broadcastInDim S8192x4x128 ![] bcast_S_S8192x4x128 main_cst_2
  let main_v10 : IVec S8192x4x128 1 := cmpf .olt main_v8 main_v9
  let main_c_3 : IVec S_ 1 := constantI S_ 1 1#1
  let main_v11 : IVec S_ 1 := (fun x v => Host.reduce IntOp.andi x v reducesTo_S8192x4x128_S_d0_1_2 h_S_) main_v10 main_c_3
  let main_v12 : IVec S1 1 := broadcastInDim S1 ![] bcast_S_S1 main_v3
  let main_v13 : IVec S1 1 := broadcastInDim S1 ![] bcast_S_S1 main_v7
  let main_v14 : IVec S1 1 := broadcastInDim S1 ![] bcast_S_S1 main_v11
  let main_v15 : IVec S3 1 := concatenate S3 0 [⟨S1, main_v12⟩, ⟨S1, main_v13⟩, ⟨S1, main_v14⟩] concatenates_S1_S1_S1_S3_d0
  let main_c_4 : IVec S_ 1 := constantI S_ 1 1#1
  let main_v16 : IVec S_ 1 := (fun x v => Host.reduce IntOp.andi x v reducesTo_S3_S_d0 h_S_) main_v15 main_c_4
  main_v16
-- ==== Kernel.lean ====
abbrev S8192x4x192 : Shape := ⟨3, ![8192, 4, 192]⟩
abbrev S8192x4x128 : Shape := ⟨3, ![8192, 4, 128]⟩
abbrev S_ : Shape := ⟨0, ![]⟩
abbrev S4x8192x8192 : Shape := ⟨3, ![4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S8192x4 : Shape := ⟨2, ![8192, 4]⟩
abbrev S8192x4x256 : Shape := ⟨3, ![8192, 4, 256]⟩
abbrev S8192x1024 : Shape := ⟨2, ![8192, 1024]⟩
abbrev S8192x512 : Shape := ⟨2, ![8192, 512]⟩
abbrev S4x8x8192 : Shape := ⟨3, ![4, 8, 8192]⟩
abbrev S32x8192 : Shape := ⟨2, ![32, 8192]⟩
abbrev S512x256 : Shape := ⟨2, ![512, 256]⟩
abbrev S512x128 : Shape := ⟨2, ![512, 128]⟩
abbrev S8192x256 : Shape := ⟨2, ![8192, 256]⟩
abbrev S8192x128 : Shape := ⟨2, ![8192, 128]⟩
abbrev S8x8192 : Shape := ⟨2, ![8, 8192]⟩
abbrev S512x512 : Shape := ⟨2, ![512, 512]⟩
abbrev S1x512 : Shape := ⟨2, ![1, 512]⟩

abbrev nBuf : Space → Nat
  | .hbm => 78
  | .vmem => 22
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S_, .f32⟩
  | .hbm, ⟨5, _⟩ => ⟨S_, .f32⟩
  | .hbm, ⟨6, _⟩ => ⟨S4x8192x8192, .f32⟩
  | .hbm, ⟨7, _⟩ => ⟨S_, .f32⟩
  | .hbm, ⟨8, _⟩ => ⟨S4x8192x8192, .f32⟩
  | .hbm, ⟨9, _⟩ => ⟨S4x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x8192x8192, .i1⟩
  | .hbm, ⟨17, _⟩ => ⟨S_, .f32⟩
  | .hbm, ⟨18, _⟩ => ⟨S_, .f32⟩
  | .hbm, ⟨19, _⟩ => ⟨S4x8192x8192, .i1⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x8192, .f32⟩
  | .hbm, ⟨26, _⟩ => ⟨S4x8192x8192, .f32⟩
  | .hbm, ⟨27, _⟩ => ⟨S4x8192x8192, .f32⟩
  | .hbm, ⟨28, _⟩ => ⟨S_, .f32⟩
  | .hbm, ⟨29, _⟩ => ⟨S4x8192, .f32⟩
  | .hbm, ⟨30, _⟩ => ⟨S4x8192x1, .f32⟩
  | .hbm, ⟨31, _⟩ => ⟨S4x8192x8192, .f32⟩
  | .hbm, ⟨32, _⟩ => ⟨S4x8192x8192, .f32⟩
  | .hbm, ⟨33, _⟩ => ⟨S4x128x8192, .f32⟩
  | .hbm, ⟨34, _⟩ => ⟨S8192x4x128, .f32⟩
  | .hbm, ⟨35, _⟩ => ⟨S4x8192, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S8192x4x128, .f32⟩
  | .hbm, ⟨40, _⟩ => ⟨S_, .f32⟩
  | .hbm, ⟨41, _⟩ => ⟨S8192x4, .f32⟩
  | .hbm, ⟨42, _⟩ => ⟨S4x8192, .f32⟩
  | .hbm, ⟨43, _⟩ => ⟨S_, .f32⟩
  | .hbm, ⟨44, _⟩ => ⟨S_, .f32⟩
  | .hbm, ⟨45, _⟩ => ⟨S8192x4x192, .f32⟩
  | .hbm, ⟨46, _⟩ => ⟨S8192x4x192, .f32⟩
  | .hbm, ⟨47, _⟩ => ⟨S_, .i32⟩
  | .hbm, ⟨48, _⟩ => ⟨S_, .f32⟩
  | .hbm, ⟨49, _⟩ => ⟨S8192x4x256, .f32⟩
  | .hbm, ⟨50, _⟩ => ⟨S8192x1024, .f32⟩
  | .hbm, ⟨51, _⟩ => ⟨S8192x1024, .bf16⟩
  | .hbm, ⟨52, _⟩ => ⟨S_, .i32⟩
  | .hbm, ⟨53, _⟩ => ⟨S_, .f32⟩
  | .hbm, ⟨54, _⟩ => ⟨S8192x4x256, .f32⟩
  | .hbm, ⟨55, _⟩ => ⟨S8192x1024, .f32⟩
  | .hbm, ⟨56, _⟩ => ⟨S8192x1024, .bf16⟩
  | .hbm, ⟨57, _⟩ => ⟨S8192x512, .f32⟩
  | .hbm, ⟨58, _⟩ => ⟨S8192x512, .bf16⟩
  | .hbm, ⟨59, _⟩ => ⟨S8192x512, .f32⟩
  | .hbm, ⟨60, _⟩ => ⟨S8192x512, .bf16⟩
  | .hbm, ⟨61, _⟩ => ⟨S4x8x8192, .f32⟩
  | .hbm, ⟨62, _⟩ => ⟨S32x8192, .f32⟩
  | .hbm, ⟨63, _⟩ => ⟨S4x8x8192, .f32⟩
  | .hbm, ⟨64, _⟩ => ⟨S32x8192, .f32⟩
  | .hbm, ⟨65, _⟩ => ⟨S8192x1024, .f32⟩
  | .hbm, ⟨66, _⟩ => ⟨S8192x1024, .f32⟩
  | .hbm, ⟨67, _⟩ => ⟨S8192x512, .f32⟩
  | .hbm, ⟨68, _⟩ => ⟨S_, .f32⟩
  | .hbm, ⟨69, _⟩ => ⟨S8192x1024, .f32⟩
  | .hbm, ⟨70, _⟩ => ⟨S8192x1024, .f32⟩
  | .hbm, ⟨71, _⟩ => ⟨S8192x4x256, .f32⟩
  | .hbm, ⟨72, _⟩ => ⟨S8192x4x192, .f32⟩
  | .hbm, ⟨73, _⟩ => ⟨S8192x1024, .f32⟩
  | .hbm, ⟨74, _⟩ => ⟨S8192x1024, .f32⟩
  | .hbm, ⟨75, _⟩ => ⟨S8192x4x256, .f32⟩
  | .hbm, ⟨76, _⟩ => ⟨S8192x4x192, .f32⟩
  | .hbm, ⟨77, _⟩ => ⟨S8192x4x128, .f32⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S8192x256, .bf16⟩
  | .local _ .vmem, ⟨5, _⟩ => ⟨S8192x256, .bf16⟩
  | .local _ .vmem, ⟨6, _⟩ => ⟨S8192x128, .bf16⟩
  | .local _ .vmem, ⟨7, _⟩ => ⟨S8192x128, .bf16⟩
  | .local _ .vmem, ⟨8, _⟩ => ⟨S8x8192, .f32⟩
  | .local _ .vmem, ⟨9, _⟩ => ⟨S8x8192, .f32⟩
  | .local _ .vmem, ⟨10, _⟩ => ⟨S8x8192, .f32⟩
  | .local _ .vmem, ⟨11, _⟩ => ⟨S8x8192, .f32⟩
  | .local _ .vmem, ⟨12, _⟩ => ⟨S8192x256, .f32⟩
  | .local _ .vmem, ⟨13, _⟩ => ⟨S8192x256, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_call1_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_call2_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47_0 : Ref sig .tc := ⟨.hbm, 65, rfl⟩
abbrev main_v47_1 : Ref sig .tc := ⟨.hbm, 66, rfl⟩
abbrev main_v47_2 : Ref sig .tc := ⟨.hbm, 67, rfl⟩
abbrev main_cst_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c15_i32 : BitVec 32 := 15#32
  let arg1 : BitVec 32 := BitVec.ofNat 32 (i 1).val
  let v0 : BitVec 32 := Scalar.subi c15_i32 arg1
  let c512_i32 : BitVec 32 := 512#32
  let v12 : BitVec 32 := Scalar.muli v0 c512_i32
  v12
def k0_off1 (i : grid0.Coords) : Fin 2 → Nat :=
  let c15_i32 : BitVec 32 := 15#32
  let arg1 : BitVec 32 := BitVec.ofNat 32 (i 1).val
  let v0 : BitVec 32 := Scalar.subi c15_i32 arg1
  let c512_i32 : BitVec 32 := 512#32
  let v12 : BitVec 32 := Scalar.muli v0 c512_i32
  let v13 : BitVec 32 := v12
  let v14 : Index := Scalar.indexCast v13
  let c0_9 : Index := 0#32
  ![v14.toNat, 0]
def k0_off2 (i : grid0.Coords) : Fin 2 → Nat :=
  let c15_i32 : BitVec 32 := 15#32
  let arg1 : BitVec 32 := BitVec.ofNat 32 (i 1).val
  let v0 : BitVec 32 := Scalar.subi c15_i32 arg1
  let c512_i32 : BitVec 32 := 512#32
  let v12 : BitVec 32 := Scalar.muli v0 c512_i32
  let v13 : BitVec 32 := v12
  let v21 : Index := Scalar.indexCast v13
  let c0_13 : Index := 0#32
  ![v21.toNat, 0]
def k0_mult2 (i : grid0.Coords) : BitVec 32 :=
  let c15_i32 : BitVec 32 := 15#32
  let arg1 : BitVec 32 := BitVec.ofNat 32 (i 1).val
  let v0 : BitVec 32 := Scalar.subi c15_i32 arg1
  let c1_i32 : BitVec 32 := 1#32
  let v28 : BitVec 32 := Scalar.addi v0 c1_i32
  let c15_i32_17 : BitVec 32 := 15#32
  let v29 : BitVec 32 := Scalar.minsi v28 c15_i32_17
  let c512_i32_18 : BitVec 32 := 512#32
  let v30 : BitVec 32 := Scalar.muli v29 c512_i32_18
  v30
def k0_off3 (i : grid0.Coords) : Fin 2 → Nat :=
  let c15_i32 : BitVec 32 := 15#32
  let arg1 : BitVec 32 := BitVec.ofNat 32 (i 1).val
  let v0 : BitVec 32 := Scalar.subi c15_i32 arg1
  let c1_i32 : BitVec 32 := 1#32
  let v28 : BitVec 32 := Scalar.addi v0 c1_i32
  let c15_i32_17 : BitVec 32 := 15#32
  let v29 : BitVec 32 := Scalar.minsi v28 c15_i32_17
  let c512_i32_18 : BitVec 32 := 512#32
  let v30 : BitVec 32 := Scalar.muli v29 c512_i32_18
  let v31 : BitVec 32 := v30
  let v32 : Index := Scalar.indexCast v31
  let c0_19 : Index := 0#32
  ![v32.toNat, 0]
def k0_off4 (i : grid0.Coords) : Fin 2 → Nat :=
  let c15_i32 : BitVec 32 := 15#32
  let arg1 : BitVec 32 := BitVec.ofNat 32 (i 1).val
  let v0 : BitVec 32 := Scalar.subi c15_i32 arg1
  let c1_i32 : BitVec 32 := 1#32
  let v28 : BitVec 32 := Scalar.addi v0 c1_i32
  let c15_i32_17 : BitVec 32 := 15#32
  let v29 : BitVec 32 := Scalar.minsi v28 c15_i32_17
  let c512_i32_18 : BitVec 32 := 512#32
  let v30 : BitVec 32 := Scalar.muli v29 c512_i32_18
  let v31 : BitVec 32 := v30
  let v39 : Index := Scalar.indexCast v31
  let c0_23 : Index := 0#32
  ![v39.toNat, 0]
def k0_mult3 (i : grid0.Coords) : BitVec 32 :=
  let c15_i32 : BitVec 32 := 15#32
  let arg1 : BitVec 32 := BitVec.ofNat 32 (i 1).val
  let v0 : BitVec 32 := Scalar.subi c15_i32 arg1
  let c512_i32_27 : BitVec 32 := 512#32
  let v46 : BitVec 32 := Scalar.muli v0 c512_i32_27
  v46
def k0_off5 (i : grid0.Coords) : Fin 2 → Nat :=
  let c0_31 : Index := 0#32
  let c15_i32 : BitVec 32 := 15#32
  let arg1 : BitVec 32 := BitVec.ofNat 32 (i 1).val
  let v0 : BitVec 32 := Scalar.subi c15_i32 arg1
  let c512_i32_27 : BitVec 32 := 512#32
  let v46 : BitVec 32 := Scalar.muli v0 c512_i32_27
  let v47 : BitVec 32 := v46
  let v54 : Index := Scalar.indexCast v47
  ![0, v54.toNat]
@[reducible] def k0_t1_loop (i : grid0.Coords) : Scf.Loop 32 :=
  let c0_i32_60 : BitVec 32 := 0#32
  let c15_i32_50 : BitVec 32 := 15#32
  let c15_i32 : BitVec 32 := 15#32
  let arg1 : BitVec 32 := BitVec.ofNat 32 (i 1).val
  let v0 : BitVec 32 := Scalar.subi c15_i32 arg1
  let v92 : BitVec 32 := Scalar.subi c15_i32_50 v0
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v112 : BitVec 32 := Scalar.subi v111 c0_i32_60
  let c1_i32_61 : BitVec 32 := 1#32
  let v114 : BitVec 32 := Scalar.divsi v112 c1_i32_61
  let v115 : BitVec 32 := Scalar.muli v114 c1_i32_61
  let v116 : BitVec 32 := Scalar.addi c0_i32_60 v115
  let c1_i32_62 : BitVec 32 := 1#32
  ⟨c0_i32_60, v116, c1_i32_62⟩
def k0_mult4 (i : grid0.Coords) (k0_t1 : Fin (k0_t1_loop i).trips) : BitVec 32 :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c1_i32_62 : BitVec 32 := 1#32
  let arg15 : BitVec 32 := Scf.iv c0_i32_60 c1_i32_62 k0_t1
  let v126 : BitVec 32 := Scalar.muli c2_i32_70 arg15
  let v127 : BitVec 32 := Scalar.addi v125 v126
  let c1_i32_71 : BitVec 32 := 1#32
  let v128 : BitVec 32 := Scalar.addi v127 c1_i32_71
  let c512_i32_72 : BitVec 32 := 512#32
  let v129 : BitVec 32 := Scalar.muli v128 c512_i32_72
  v129
def k0_off6 (i : grid0.Coords) (k0_t1 : Fin (k0_t1_loop i).trips) (c1_i32_71 : BitVec 32) : Fin 2 → Nat :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c1_i32_62 : BitVec 32 := 1#32
  let arg15 : BitVec 32 := Scf.iv c0_i32_60 c1_i32_62 k0_t1
  let v126 : BitVec 32 := Scalar.muli c2_i32_70 arg15
  let v127 : BitVec 32 := Scalar.addi v125 v126
  let v128 : BitVec 32 := Scalar.addi v127 c1_i32_71
  let c512_i32_72 : BitVec 32 := 512#32
  let v129 : BitVec 32 := Scalar.muli v128 c512_i32_72
  let v130 : BitVec 32 := v129
  let v131 : Index := Scalar.indexCast v130
  let c0_73 : Index := 0#32
  ![v131.toNat, 0]
def k0_off7 (i : grid0.Coords) (k0_t1 : Fin (k0_t1_loop i).trips) (c1_i32_71 : BitVec 32) : Fin 2 → Nat :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c1_i32_62 : BitVec 32 := 1#32
  let arg15 : BitVec 32 := Scf.iv c0_i32_60 c1_i32_62 k0_t1
  let v126 : BitVec 32 := Scalar.muli c2_i32_70 arg15
  let v127 : BitVec 32 := Scalar.addi v125 v126
  let v128 : BitVec 32 := Scalar.addi v127 c1_i32_71
  let c512_i32_72 : BitVec 32 := 512#32
  let v129 : BitVec 32 := Scalar.muli v128 c512_i32_72
  let v130 : BitVec 32 := v129
  let v138 : Index := Scalar.indexCast v130
  let c0_77 : Index := 0#32
  ![v138.toNat, 0]
def k0_mult5 (i : grid0.Coords) (k0_t1 : Fin (k0_t1_loop i).trips) : BitVec 32 :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c1_i32_62 : BitVec 32 := 1#32
  let arg15 : BitVec 32 := Scf.iv c0_i32_60 c1_i32_62 k0_t1
  let v126 : BitVec 32 := Scalar.muli c2_i32_70 arg15
  let v127 : BitVec 32 := Scalar.addi v125 v126
  let c512_i32_81 : BitVec 32 := 512#32
  let v145 : BitVec 32 := Scalar.muli v127 c512_i32_81
  v145
def k0_off8 (i : grid0.Coords) (k0_t1 : Fin (k0_t1_loop i).trips) : Fin 2 → Nat :=
  let c0_84 : Index := 0#32
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c1_i32_62 : BitVec 32 := 1#32
  let arg15 : BitVec 32 := Scf.iv c0_i32_60 c1_i32_62 k0_t1
  let v126 : BitVec 32 := Scalar.muli c2_i32_70 arg15
  let v127 : BitVec 32 := Scalar.addi v125 v126
  let c512_i32_81 : BitVec 32 := 512#32
  let v145 : BitVec 32 := Scalar.muli v127 c512_i32_81
  let v146 : BitVec 32 := v145
  let v148 : Index := Scalar.indexCast v146
  ![0, v148.toNat]
def k0_off9 (i : grid0.Coords) (k0_t1 : Fin (k0_t1_loop i).trips) : Fin 2 → Nat :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c1_i32_62 : BitVec 32 := 1#32
  let arg15 : BitVec 32 := Scf.iv c0_i32_60 c1_i32_62 k0_t1
  let v126 : BitVec 32 := Scalar.muli c2_i32_70 arg15
  let v127 : BitVec 32 := Scalar.addi v125 v126
  let c512_i32_81 : BitVec 32 := 512#32
  let v145 : BitVec 32 := Scalar.muli v127 c512_i32_81
  let v146 : BitVec 32 := v145
  let v165 : Index := Scalar.indexCast v146
  let c0_90 : Index := 0#32
  ![v165.toNat, 0]
def k0_off10 (i : grid0.Coords) (k0_t1 : Fin (k0_t1_loop i).trips) : Fin 2 → Nat :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c1_i32_62 : BitVec 32 := 1#32
  let arg15 : BitVec 32 := Scf.iv c0_i32_60 c1_i32_62 k0_t1
  let v126 : BitVec 32 := Scalar.muli c2_i32_70 arg15
  let v127 : BitVec 32 := Scalar.addi v125 v126
  let c512_i32_81 : BitVec 32 := 512#32
  let v145 : BitVec 32 := Scalar.muli v127 c512_i32_81
  let v146 : BitVec 32 := v145
  let v173 : Index := Scalar.indexCast v146
  let c0_96 : Index := 0#32
  ![v173.toNat, 0]
def k0_mult6 (i : grid0.Coords) (k0_t1 : Fin (k0_t1_loop i).trips) : BitVec 32 :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c1_i32_62 : BitVec 32 := 1#32
  let arg15 : BitVec 32 := Scf.iv c0_i32_60 c1_i32_62 k0_t1
  let v126 : BitVec 32 := Scalar.muli c2_i32_70 arg15
  let v127 : BitVec 32 := Scalar.addi v125 v126
  let c2_i32_103 : BitVec 32 := 2#32
  let v186 : BitVec 32 := Scalar.addi v127 c2_i32_103
  let c512_i32_104 : BitVec 32 := 512#32
  let v187 : BitVec 32 := Scalar.muli v186 c512_i32_104
  v187
def k0_mult7 (i : grid0.Coords) (k0_t1 : Fin (k0_t1_loop i).trips) : BitVec 32 :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c1_i32_62 : BitVec 32 := 1#32
  let arg15 : BitVec 32 := Scf.iv c0_i32_60 c1_i32_62 k0_t1
  let v126 : BitVec 32 := Scalar.muli c2_i32_70 arg15
  let v127 : BitVec 32 := Scalar.addi v125 v126
  let c1_i32_113 : BitVec 32 := 1#32
  let v203 : BitVec 32 := Scalar.addi v127 c1_i32_113
  let c512_i32_114 : BitVec 32 := 512#32
  let v204 : BitVec 32 := Scalar.muli v203 c512_i32_114
  v204
def k0_off11 (i : grid0.Coords) (k0_t1 : Fin (k0_t1_loop i).trips) : Fin 2 → Nat :=
  let c0_117 : Index := 0#32
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c1_i32_62 : BitVec 32 := 1#32
  let arg15 : BitVec 32 := Scf.iv c0_i32_60 c1_i32_62 k0_t1
  let v126 : BitVec 32 := Scalar.muli c2_i32_70 arg15
  let v127 : BitVec 32 := Scalar.addi v125 v126
  let c1_i32_113 : BitVec 32 := 1#32
  let v203 : BitVec 32 := Scalar.addi v127 c1_i32_113
  let c512_i32_114 : BitVec 32 := 512#32
  let v204 : BitVec 32 := Scalar.muli v203 c512_i32_114
  let v205 : BitVec 32 := v204
  let v207 : Index := Scalar.indexCast v205
  ![0, v207.toNat]
@[reducible] def k0_t2_loop (i : grid0.Coords) : Scf.Loop 32 :=
  let c0_i32_60 : BitVec 32 := 0#32
  let c15_i32_50 : BitVec 32 := 15#32
  let c15_i32 : BitVec 32 := 15#32
  let arg1 : BitVec 32 := BitVec.ofNat 32 (i 1).val
  let v0 : BitVec 32 := Scalar.subi c15_i32 arg1
  let v92 : BitVec 32 := Scalar.subi c15_i32_50 v0
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v112 : BitVec 32 := Scalar.subi v111 c0_i32_60
  let c1_i32_61 : BitVec 32 := 1#32
  let v114 : BitVec 32 := Scalar.divsi v112 c1_i32_61
  let v115 : BitVec 32 := Scalar.muli v114 c1_i32_61
  let v116 : BitVec 32 := Scalar.addi c0_i32_60 v115
  let v113 : BitVec 32 := Scalar.addi c0_i32_60 v112
  let c1_i32_63 : BitVec 32 := 1#32
  ⟨v116, v113, c1_i32_63⟩
def k0_mult8 (i : grid0.Coords) (k0_t2 : Fin (k0_t2_loop i).trips) : BitVec 32 :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c15_i32_50 : BitVec 32 := 15#32
  let v92 : BitVec 32 := Scalar.subi c15_i32_50 v0
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v112 : BitVec 32 := Scalar.subi v111 c0_i32_60
  let c1_i32_61 : BitVec 32 := 1#32
  let v114 : BitVec 32 := Scalar.divsi v112 c1_i32_61
  let v115 : BitVec 32 := Scalar.muli v114 c1_i32_61
  let v116 : BitVec 32 := Scalar.addi c0_i32_60 v115
  let c1_i32_63 : BitVec 32 := 1#32
  let arg15 : BitVec 32 := Scf.iv v116 c1_i32_63 k0_t2
  let v126 : BitVec 32 := Scalar.muli c2_i32_70 arg15
  let v127 : BitVec 32 := Scalar.addi v125 v126
  let c1_i32_71 : BitVec 32 := 1#32
  let v128 : BitVec 32 := Scalar.addi v127 c1_i32_71
  let c512_i32_72 : BitVec 32 := 512#32
  let v129 : BitVec 32 := Scalar.muli v128 c512_i32_72
  v129
def k0_off12 (i : grid0.Coords) (k0_t2 : Fin (k0_t2_loop i).trips) (c1_i32_71 : BitVec 32) : Fin 2 → Nat :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c15_i32_50 : BitVec 32 := 15#32
  let v92 : BitVec 32 := Scalar.subi c15_i32_50 v0
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v112 : BitVec 32 := Scalar.subi v111 c0_i32_60
  let c1_i32_61 : BitVec 32 := 1#32
  let v114 : BitVec 32 := Scalar.divsi v112 c1_i32_61
  let v115 : BitVec 32 := Scalar.muli v114 c1_i32_61
  let v116 : BitVec 32 := Scalar.addi c0_i32_60 v115
  let c1_i32_63 : BitVec 32 := 1#32
  let arg15 : BitVec 32 := Scf.iv v116 c1_i32_63 k0_t2
  let v126 : BitVec 32 := Scalar.muli c2_i32_70 arg15
  let v127 : BitVec 32 := Scalar.addi v125 v126
  let v128 : BitVec 32 := Scalar.addi v127 c1_i32_71
  let c512_i32_72 : BitVec 32 := 512#32
  let v129 : BitVec 32 := Scalar.muli v128 c512_i32_72
  let v130 : BitVec 32 := v129
  let v131 : Index := Scalar.indexCast v130
  let c0_73 : Index := 0#32
  ![v131.toNat, 0]
def k0_off13 (i : grid0.Coords) (k0_t2 : Fin (k0_t2_loop i).trips) (c1_i32_71 : BitVec 32) : Fin 2 → Nat :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c15_i32_50 : BitVec 32 := 15#32
  let v92 : BitVec 32 := Scalar.subi c15_i32_50 v0
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v112 : BitVec 32 := Scalar.subi v111 c0_i32_60
  let c1_i32_61 : BitVec 32 := 1#32
  let v114 : BitVec 32 := Scalar.divsi v112 c1_i32_61
  let v115 : BitVec 32 := Scalar.muli v114 c1_i32_61
  let v116 : BitVec 32 := Scalar.addi c0_i32_60 v115
  let c1_i32_63 : BitVec 32 := 1#32
  let arg15 : BitVec 32 := Scf.iv v116 c1_i32_63 k0_t2
  let v126 : BitVec 32 := Scalar.muli c2_i32_70 arg15
  let v127 : BitVec 32 := Scalar.addi v125 v126
  let v128 : BitVec 32 := Scalar.addi v127 c1_i32_71
  let c512_i32_72 : BitVec 32 := 512#32
  let v129 : BitVec 32 := Scalar.muli v128 c512_i32_72
  let v130 : BitVec 32 := v129
  let v138 : Index := Scalar.indexCast v130
  let c0_77 : Index := 0#32
  ![v138.toNat, 0]
def k0_mult9 (i : grid0.Coords) (k0_t2 : Fin (k0_t2_loop i).trips) : BitVec 32 :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c15_i32_50 : BitVec 32 := 15#32
  let v92 : BitVec 32 := Scalar.subi c15_i32_50 v0
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v112 : BitVec 32 := Scalar.subi v111 c0_i32_60
  let c1_i32_61 : BitVec 32 := 1#32
  let v114 : BitVec 32 := Scalar.divsi v112 c1_i32_61
  let v115 : BitVec 32 := Scalar.muli v114 c1_i32_61
  let v116 : BitVec 32 := Scalar.addi c0_i32_60 v115
  let c1_i32_63 : BitVec 32 := 1#32
  let arg15 : BitVec 32 := Scf.iv v116 c1_i32_63 k0_t2
  let v126 : BitVec 32 := Scalar.muli c2_i32_70 arg15
  let v127 : BitVec 32 := Scalar.addi v125 v126
  let c512_i32_81 : BitVec 32 := 512#32
  let v145 : BitVec 32 := Scalar.muli v127 c512_i32_81
  v145
def k0_off14 (i : grid0.Coords) (k0_t2 : Fin (k0_t2_loop i).trips) : Fin 2 → Nat :=
  let c0_84 : Index := 0#32
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c15_i32_50 : BitVec 32 := 15#32
  let v92 : BitVec 32 := Scalar.subi c15_i32_50 v0
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v112 : BitVec 32 := Scalar.subi v111 c0_i32_60
  let c1_i32_61 : BitVec 32 := 1#32
  let v114 : BitVec 32 := Scalar.divsi v112 c1_i32_61
  let v115 : BitVec 32 := Scalar.muli v114 c1_i32_61
  let v116 : BitVec 32 := Scalar.addi c0_i32_60 v115
  let c1_i32_63 : BitVec 32 := 1#32
  let arg15 : BitVec 32 := Scf.iv v116 c1_i32_63 k0_t2
  let v126 : BitVec 32 := Scalar.muli c2_i32_70 arg15
  let v127 : BitVec 32 := Scalar.addi v125 v126
  let c512_i32_81 : BitVec 32 := 512#32
  let v145 : BitVec 32 := Scalar.muli v127 c512_i32_81
  let v146 : BitVec 32 := v145
  let v148 : Index := Scalar.indexCast v146
  ![0, v148.toNat]
def k0_off15 (i : grid0.Coords) (k0_t2 : Fin (k0_t2_loop i).trips) : Fin 2 → Nat :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c15_i32_50 : BitVec 32 := 15#32
  let v92 : BitVec 32 := Scalar.subi c15_i32_50 v0
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v112 : BitVec 32 := Scalar.subi v111 c0_i32_60
  let c1_i32_61 : BitVec 32 := 1#32
  let v114 : BitVec 32 := Scalar.divsi v112 c1_i32_61
  let v115 : BitVec 32 := Scalar.muli v114 c1_i32_61
  let v116 : BitVec 32 := Scalar.addi c0_i32_60 v115
  let c1_i32_63 : BitVec 32 := 1#32
  let arg15 : BitVec 32 := Scf.iv v116 c1_i32_63 k0_t2
  let v126 : BitVec 32 := Scalar.muli c2_i32_70 arg15
  let v127 : BitVec 32 := Scalar.addi v125 v126
  let c512_i32_81 : BitVec 32 := 512#32
  let v145 : BitVec 32 := Scalar.muli v127 c512_i32_81
  let v146 : BitVec 32 := v145
  let v165 : Index := Scalar.indexCast v146
  let c0_90 : Index := 0#32
  ![v165.toNat, 0]
def k0_off16 (i : grid0.Coords) (k0_t2 : Fin (k0_t2_loop i).trips) : Fin 2 → Nat :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c15_i32_50 : BitVec 32 := 15#32
  let v92 : BitVec 32 := Scalar.subi c15_i32_50 v0
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v112 : BitVec 32 := Scalar.subi v111 c0_i32_60
  let c1_i32_61 : BitVec 32 := 1#32
  let v114 : BitVec 32 := Scalar.divsi v112 c1_i32_61
  let v115 : BitVec 32 := Scalar.muli v114 c1_i32_61
  let v116 : BitVec 32 := Scalar.addi c0_i32_60 v115
  let c1_i32_63 : BitVec 32 := 1#32
  let arg15 : BitVec 32 := Scf.iv v116 c1_i32_63 k0_t2
  let v126 : BitVec 32 := Scalar.muli c2_i32_70 arg15
  let v127 : BitVec 32 := Scalar.addi v125 v126
  let c512_i32_81 : BitVec 32 := 512#32
  let v145 : BitVec 32 := Scalar.muli v127 c512_i32_81
  let v146 : BitVec 32 := v145
  let v173 : Index := Scalar.indexCast v146
  let c0_96 : Index := 0#32
  ![v173.toNat, 0]
def k0_mult10 (i : grid0.Coords) (k0_t2 : Fin (k0_t2_loop i).trips) : BitVec 32 :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c15_i32_50 : BitVec 32 := 15#32
  let v92 : BitVec 32 := Scalar.subi c15_i32_50 v0
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v112 : BitVec 32 := Scalar.subi v111 c0_i32_60
  let c1_i32_61 : BitVec 32 := 1#32
  let v114 : BitVec 32 := Scalar.divsi v112 c1_i32_61
  let v115 : BitVec 32 := Scalar.muli v114 c1_i32_61
  let v116 : BitVec 32 := Scalar.addi c0_i32_60 v115
  let c1_i32_63 : BitVec 32 := 1#32
  let arg15 : BitVec 32 := Scf.iv v116 c1_i32_63 k0_t2
  let v126 : BitVec 32 := Scalar.muli c2_i32_70 arg15
  let v127 : BitVec 32 := Scalar.addi v125 v126
  let c2_i32_103 : BitVec 32 := 2#32
  let v186 : BitVec 32 := Scalar.addi v127 c2_i32_103
  let c512_i32_104 : BitVec 32 := 512#32
  let v187 : BitVec 32 := Scalar.muli v186 c512_i32_104
  v187
def k0_mult11 (i : grid0.Coords) (k0_t2 : Fin (k0_t2_loop i).trips) : BitVec 32 :=
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c15_i32_50 : BitVec 32 := 15#32
  let v92 : BitVec 32 := Scalar.subi c15_i32_50 v0
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v112 : BitVec 32 := Scalar.subi v111 c0_i32_60
  let c1_i32_61 : BitVec 32 := 1#32
  let v114 : BitVec 32 := Scalar.divsi v112 c1_i32_61
  let v115 : BitVec 32 := Scalar.muli v114 c1_i32_61
  let v116 : BitVec 32 := Scalar.addi c0_i32_60 v115
  let c1_i32_63 : BitVec 32 := 1#32
  let arg15 : BitVec 32 := Scf.iv v116 c1_i32_63 k0_t2
  let v126 : BitVec 32 := Scalar.muli c2_i32_70 arg15
  let v127 : BitVec 32 := Scalar.addi v125 v126
  let c1_i32_113 : BitVec 32 := 1#32
  let v203 : BitVec 32 := Scalar.addi v127 c1_i32_113
  let c512_i32_114 : BitVec 32 := 512#32
  let v204 : BitVec 32 := Scalar.muli v203 c512_i32_114
  v204
def k0_off17 (i : grid0.Coords) (k0_t2 : Fin (k0_t2_loop i).trips) : Fin 2 → Nat :=
  let c0_117 : Index := 0#32
  let c15_i32 : BitVec 32 := 15#32
  let arg1 : BitVec 32 := BitVec.ofNat 32 (i 1).val
  let v0 : BitVec 32 := Scalar.subi c15_i32 arg1
  let c1_i32_69 : BitVec 32 := 1#32
  let v125 : BitVec 32 := Scalar.addi v0 c1_i32_69
  let c2_i32_70 : BitVec 32 := 2#32
  let c0_i32_60 : BitVec 32 := 0#32
  let c15_i32_50 : BitVec 32 := 15#32
  let v92 : BitVec 32 := Scalar.subi c15_i32_50 v0
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v112 : BitVec 32 := Scalar.subi v111 c0_i32_60
  let c1_i32_61 : BitVec 32 := 1#32
  let v114 : BitVec 32 := Scalar.divsi v112 c1_i32_61
  let v115 : BitVec 32 := Scalar.muli v114 c1_i32_61
  let v116 : BitVec 32 := Scalar.addi c0_i32_60 v115
  let c1_i32_63 : BitVec 32 := 1#32
  let arg15 : BitVec 32 := Scf.iv v116 c1_i32_63 k0_t2
  let v126 : BitVec 32 := Scalar.muli c2_i32_70 arg15
  let v127 : BitVec 32 := Scalar.addi v125 v126
  let c1_i32_113 : BitVec 32 := 1#32
  let v203 : BitVec 32 := Scalar.addi v127 c1_i32_113
  let c512_i32_114 : BitVec 32 := 512#32
  let v204 : BitVec 32 := Scalar.muli v203 c512_i32_114
  let v205 : BitVec 32 := v204
  let v207 : Index := Scalar.indexCast v205
  ![0, v207.toNat]
def k0_cond2 (i : grid0.Coords) : BitVec 1 :=
  let c15_i32_50 : BitVec 32 := 15#32
  let c15_i32 : BitVec 32 := 15#32
  let arg1 : BitVec 32 := BitVec.ofNat 32 (i 1).val
  let v0 : BitVec 32 := Scalar.subi c15_i32 arg1
  let v92 : BitVec 32 := Scalar.subi c15_i32_50 v0
  let c2_i32_64 : BitVec 32 := 2#32
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v117 : BitVec 32 := Scalar.muli c2_i32_64 v111
  let v118 : BitVec 32 := Scalar.subi v92 v117
  let c2_i32_65 : BitVec 32 := 2#32
  let v119 : BitVec 1 := Scalar.cmpi .eq v118 c2_i32_65
  let v120 : BitVec 32 := Scalar.extui v119
  let c0_i32_66 : BitVec 32 := 0#32
  let v121 : BitVec 1 := Scalar.cmpi .ne v120 c0_i32_66
  v121

def k0_mult12 : BitVec 32 :=
  let c7680_i32 : BitVec 32 := 7680#32
  c7680_i32
def k0_mult13 : BitVec 32 :=
  let c7168_i32 : BitVec 32 := 7168#32
  c7168_i32
def k0_mult14 : BitVec 32 :=
  let c7680_i32_98 : BitVec 32 := 7680#32
  c7680_i32_98
def k0_cond3 (i : grid0.Coords) : BitVec 1 :=
  let c15_i32_50 : BitVec 32 := 15#32
  let c15_i32 : BitVec 32 := 15#32
  let arg1 : BitVec 32 := BitVec.ofNat 32 (i 1).val
  let v0 : BitVec 32 := Scalar.subi c15_i32 arg1
  let v92 : BitVec 32 := Scalar.subi c15_i32_50 v0
  let c2_i32_64 : BitVec 32 := 2#32
  let c1_i32_51 : BitVec 32 := 1#32
  let v93 : BitVec 32 := Scalar.subi v92 c1_i32_51
  let c0_i32_52 : BitVec 32 := 0#32
  let v94 : BitVec 32 := Scalar.maxsi v93 c0_i32_52
  let c0_i32_53 : BitVec 32 := 0#32
  let v96 : BitVec 1 := Scalar.cmpi .sgt v94 c0_i32_53
  let v97 : BitVec 32 := Scalar.extui v96
  let c0_i32_54 : BitVec 32 := 0#32
  let v98 : BitVec 1 := Scalar.cmpi .slt v94 c0_i32_54
  let v99 : BitVec 32 := Scalar.extui v98
  let v100 : BitVec 32 := Scalar.subi v97 v99
  let c2_i32 : BitVec 32 := 2#32
  let c0_i32_55 : BitVec 32 := 0#32
  let v101 : BitVec 1 := Scalar.cmpi .sgt c2_i32 c0_i32_55
  let v102 : BitVec 32 := Scalar.extui v101
  let c0_i32_56 : BitVec 32 := 0#32
  let v103 : BitVec 1 := Scalar.cmpi .slt c2_i32 c0_i32_56
  let v104 : BitVec 32 := Scalar.extui v103
  let v105 : BitVec 32 := Scalar.subi v102 v104
  let v106 : BitVec 1 := Scalar.cmpi .ne v100 v105
  let v107 : BitVec 32 := Scalar.remsi v94 c2_i32
  let c0_i32_57 : BitVec 32 := 0#32
  let v108 : BitVec 1 := Scalar.cmpi .ne v107 c0_i32_57
  let v109 : BitVec 1 := Scalar.andi v106 v108
  let v95 : BitVec 32 := Scalar.divsi v94 c2_i32
  let c1_i32_58 : BitVec 32 := 1#32
  let v110 : BitVec 32 := Scalar.subi v95 c1_i32_58
  let v111 : BitVec 32 := Scalar.select v109 v110 v95
  let v117 : BitVec 32 := Scalar.muli c2_i32_64 v111
  let v118 : BitVec 32 := Scalar.subi v92 v117
  let c1_i32_67 : BitVec 32 := 1#32
  let v122 : BitVec 1 := Scalar.cmpi .eq v118 c1_i32_67
  let v123 : BitVec 32 := Scalar.extui v122
  let c0_i32_68 : BitVec 32 := 0#32
  let v124 : BitVec 1 := Scalar.cmpi .ne v123 c0_i32_68
  v124

def k0_mult15 : BitVec 32 :=
  let c7680_i32 : BitVec 32 := 7680#32
  c7680_i32
def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "masked" => some ⊥
  | _ => none
-- ==== ReferenceIdeal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x8192x192 : Shape := ⟨3, ![4, 8192, 192]⟩

abbrev nBuf : Space → Nat
  | .hbm => 90
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S4x8192x8192, .i1⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x8192, .f32⟩
  | .hbm, ⟨26, _⟩ => ⟨S4x8192x8192, .i1⟩
  | .hbm, ⟨27, _⟩ => ⟨S4x8192x8192, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4x8192, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .i1⟩
  | .hbm, ⟨36, _⟩ => ⟨S_, .f32⟩
  | .hbm, ⟨37, _⟩ => ⟨S4x8192, .f32⟩
  | .hbm, ⟨38, _⟩ => ⟨S4x8192, .i1⟩
  | .hbm, ⟨39, _⟩ => ⟨S_, .f32⟩
  | .hbm, ⟨40, _⟩ => ⟨S4x8192, .f32⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .f32⟩
  | .hbm, ⟨46, _⟩ => ⟨S4x8192, .f32⟩
  | .hbm, ⟨47, _⟩ => ⟨S4x8192x1, .f32⟩
  | .hbm, ⟨48, _⟩ => ⟨S4x8192x8192, .f32⟩
  | .hbm, ⟨49, _⟩ => ⟨S4x8192x8192, .f32⟩
  | .hbm, ⟨50, _⟩ => ⟨S4x8192x8192, .f32⟩
  | .hbm, ⟨51, _⟩ => ⟨S_, .f32⟩
  | .hbm, ⟨52, _⟩ => ⟨S4x8192, .f32⟩
  | .hbm, ⟨53, _⟩ => ⟨S4x8192x1, .f32⟩
  | .hbm, ⟨54, _⟩ => ⟨S4x8192x8192, .f32⟩
  | .hbm, ⟨55, _⟩ => ⟨S4x8192x8192, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S4x128x8192, .f32⟩
  | .hbm, ⟨61, _⟩ => ⟨S8192x4x128, .f32⟩
  | .hbm, ⟨62, _⟩ => ⟨S4x128x8192, .f32⟩
  | .hbm, ⟨63, _⟩ => ⟨S4x8192x8192, .f32⟩
  | .hbm, ⟨64, _⟩ => ⟨S4x128x8192, .f32⟩
  | .hbm, ⟨65, _⟩ => ⟨S8192x4x128, .f32⟩
  | .hbm, ⟨66, _⟩ => ⟨S4x8192x8192, .f32⟩
  | .hbm, ⟨67, _⟩ => ⟨S4x8192x8192, .f32⟩
  | .hbm, ⟨68, _⟩ => ⟨S4x8192x8192, .f32⟩
  | .hbm, ⟨69, _⟩ => ⟨S_, .f32⟩
  | .hbm, ⟨70, _⟩ => ⟨S4x8192, .f32⟩
  | .hbm, ⟨71, _⟩ => ⟨S4x8192x1, .f32⟩
  | .hbm, ⟨72, _⟩ => ⟨S4x8192x1, .f32⟩
  | .hbm, ⟨73, _⟩ => ⟨S4x8192x8192, .f32⟩
  | .hbm, ⟨74, _⟩ => ⟨S4x8192x8192, .f32⟩
  | .hbm, ⟨75, _⟩ => ⟨S_, .f32⟩
  | .hbm, ⟨76, _⟩ => ⟨S4x8192, .f32⟩
  | .hbm, ⟨77, _⟩ => ⟨S4x8192x8192, .f32⟩
  | .hbm, ⟨78, _⟩ => ⟨S4x8192x8192, .f32⟩
  | .hbm, ⟨79, _⟩ => ⟨S4x8192x8192, .f32⟩
  | .hbm, ⟨80, _⟩ => ⟨S_, .f32⟩
  | .hbm, ⟨81, _⟩ => ⟨S4x8192x8192, .f32⟩
  | .hbm, ⟨82, _⟩ => ⟨S4x8192x8192, .f32⟩
  | .hbm, ⟨83, _⟩ => ⟨S_, .f32⟩
  | .hbm, ⟨84, _⟩ => ⟨S4x8192x8192, .f32⟩
  | .hbm, ⟨85, _⟩ => ⟨S4x8192x8192, .f32⟩
  | .hbm, ⟨86, _⟩ => ⟨S4x8192x192, .f32⟩
  | .hbm, ⟨87, _⟩ => ⟨S8192x4x192, .f32⟩
  | .hbm, ⟨88, _⟩ => ⟨S4x8192x192, .f32⟩
  | .hbm, ⟨89, _⟩ => ⟨S8192x4x192, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩

abbrev nD : Nat := 1
abbrev τ : Topo := Topo.v7x

variable {F : FTy → Type} [FloatOps F]
-- ==== Kernel2.lean ====
abbrev S8192x4x192 : Shape := ⟨3, ![8192, 4, 192]⟩
abbrev S8192x4x128 : Shape := ⟨3, ![8192, 4, 128]⟩
abbrev S_ : Shape := ⟨0, ![]⟩
abbrev S8192x4x256 : Shape := ⟨3, ![8192, 4, 256]⟩
abbrev S8192x1024 : Shape := ⟨2, ![8192, 1024]⟩
abbrev S8192x512 : Shape := ⟨2, ![8192, 512]⟩
abbrev S32x8192 : Shape := ⟨2, ![32, 8192]⟩
abbrev S512x256 : Shape := ⟨2, ![512, 256]⟩
abbrev S8192x256 : Shape := ⟨2, ![8192, 256]⟩
abbrev S8192x128 : Shape := ⟨2, ![8192, 128]⟩
abbrev S512x128 : Shape := ⟨2, ![512, 128]⟩
abbrev S8x512 : Shape := ⟨2, ![8, 512]⟩
abbrev S512x512 : Shape := ⟨2, ![512, 512]⟩
abbrev S128x512 : Shape := ⟨2, ![128, 512]⟩
abbrev S512 : Shape := ⟨1, ![512]⟩
abbrev S1x512 : Shape := ⟨2, ![1, 512]⟩

abbrev nBuf : Space → Nat
  | .hbm => 24
  | .vmem => 15
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x4x192, .f32⟩
  | .hbm, ⟨8, _⟩ => ⟨S8192x4x192, .f32⟩
  | .hbm, ⟨9, _⟩ => ⟨S_, .i32⟩
  | .hbm, ⟨10, _⟩ => ⟨S_, .f32⟩
  | .hbm, ⟨11, _⟩ => ⟨S8192x4x256, .f32⟩
  | .hbm, ⟨12, _⟩ => ⟨S8192x1024, .f32⟩
  | .hbm, ⟨13, _⟩ => ⟨S8192x1024, .bf16⟩
  | .hbm, ⟨14, _⟩ => ⟨S_, .i32⟩
  | .hbm, ⟨15, _⟩ => ⟨S_, .f32⟩
  | .hbm, ⟨16, _⟩ => ⟨S8192x4x256, .f32⟩
  | .hbm, ⟨17, _⟩ => ⟨S8192x1024, .f32⟩
  | .hbm, ⟨18, _⟩ => ⟨S8192x1024, .bf16⟩
  | .hbm, ⟨19, _⟩ => ⟨S8192x512, .f32⟩
  | .hbm, ⟨20, _⟩ => ⟨S8192x512, .bf16⟩
  | .hbm, ⟨21, _⟩ => ⟨S8192x512, .f32⟩
  | .hbm, ⟨22, _⟩ => ⟨S32x8192, .f32⟩
  | .hbm, ⟨23, _⟩ => ⟨S8192x4x128, .f32⟩
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | .local _ .vmem, ⟨8, _⟩ => ⟨S8x512, .f32⟩
  | .local _ .vmem, ⟨9, _⟩ => ⟨S8x512, .f32⟩
  | .local _ .vmem, ⟨10, _⟩ => ⟨S512x512, .f32⟩
  | .local _ .vmem, ⟨11, _⟩ => ⟨S512x512, .f32⟩
  | .local _ .vmem, ⟨12, _⟩ => ⟨S8x512, .f32⟩
  | .local _ .vmem, ⟨13, _⟩ => ⟨S8x512, .f32⟩
  | .local _ .vmem, ⟨14, _⟩ => ⟨S128x512, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 : BitVec 32 :=
  let c0_i32 : BitVec 32 := 0#32
  c0_i32
@[reducible] def k0_t1_loop (i : grid0.Coords) : Scf.Loop 32 :=
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_21 : BitVec 32 := 1#32
  ⟨c0_i32_19, v43, c1_i32_21⟩
def k0_mult2 (i : grid0.Coords) (k0_t1 : Fin (k0_t1_loop i).trips) : BitVec 32 :=
  let c2_i32_52 : BitVec 32 := 2#32
  let c0_i32_19 : BitVec 32 := 0#32
  let c1_i32_21 : BitVec 32 := 1#32
  let arg12 : BitVec 32 := Scf.iv c0_i32_19 c1_i32_21 k0_t1
  let v83 : BitVec 32 := Scalar.muli c2_i32_52 arg12
  let c1_i32_53 : BitVec 32 := 1#32
  let v84 : BitVec 32 := Scalar.addi v83 c1_i32_53
  let c512_i32 : BitVec 32 := 512#32
  let v85 : BitVec 32 := Scalar.muli v84 c512_i32
  v85
def k0_off1 (i : grid0.Coords) (k0_t1 : Fin (k0_t1_loop i).trips) (c1_i32_53 : BitVec 32) : Fin 2 → Nat :=
  let c2_i32_52 : BitVec 32 := 2#32
  let c0_i32_19 : BitVec 32 := 0#32
  let c1_i32_21 : BitVec 32 := 1#32
  let arg12 : BitVec 32 := Scf.iv c0_i32_19 c1_i32_21 k0_t1
  let v83 : BitVec 32 := Scalar.muli c2_i32_52 arg12
  let v84 : BitVec 32 := Scalar.addi v83 c1_i32_53
  let c512_i32 : BitVec 32 := 512#32
  let v85 : BitVec 32 := Scalar.muli v84 c512_i32
  let v86 : BitVec 32 := v85
  let v87 : Index := Scalar.indexCast v86
  let c0_54 : Index := 0#32
  ![v87.toNat, 0]
def k0_mult3 (i : grid0.Coords) (k0_t1 : Fin (k0_t1_loop i).trips) : BitVec 32 :=
  let c2_i32_52 : BitVec 32 := 2#32
  let c0_i32_19 : BitVec 32 := 0#32
  let c1_i32_21 : BitVec 32 := 1#32
  let arg12 : BitVec 32 := Scf.iv c0_i32_19 c1_i32_21 k0_t1
  let v83 : BitVec 32 := Scalar.muli c2_i32_52 arg12
  let c512_i32_70 : BitVec 32 := 512#32
  let v119 : BitVec 32 := Scalar.muli v83 c512_i32_70
  v119
def k0_off2 (i : grid0.Coords) (k0_t1 : Fin (k0_t1_loop i).trips) : Fin 2 → Nat :=
  let c2_i32_52 : BitVec 32 := 2#32
  let c0_i32_19 : BitVec 32 := 0#32
  let c1_i32_21 : BitVec 32 := 1#32
  let arg12 : BitVec 32 := Scf.iv c0_i32_19 c1_i32_21 k0_t1
  let v83 : BitVec 32 := Scalar.muli c2_i32_52 arg12
  let c512_i32_70 : BitVec 32 := 512#32
  let v119 : BitVec 32 := Scalar.muli v83 c512_i32_70
  let v120 : BitVec 32 := v119
  let v121 : Index := Scalar.indexCast v120
  let c0_71 : Index := 0#32
  ![v121.toNat, 0]
def k0_mult4 (i : grid0.Coords) (k0_t1 : Fin (k0_t1_loop i).trips) : BitVec 32 :=
  let c2_i32_52 : BitVec 32 := 2#32
  let c0_i32_19 : BitVec 32 := 0#32
  let c1_i32_21 : BitVec 32 := 1#32
  let arg12 : BitVec 32 := Scf.iv c0_i32_19 c1_i32_21 k0_t1
  let v83 : BitVec 32 := Scalar.muli c2_i32_52 arg12
  let c2_i32_77 : BitVec 32 := 2#32
  let v133 : BitVec 32 := Scalar.addi v83 c2_i32_77
  let c512_i32_78 : BitVec 32 := 512#32
  let v134 : BitVec 32 := Scalar.muli v133 c512_i32_78
  v134
def k0_mult5 (i : grid0.Coords) (k0_t1 : Fin (k0_t1_loop i).trips) : BitVec 32 :=
  let c2_i32_52 : BitVec 32 := 2#32
  let c0_i32_19 : BitVec 32 := 0#32
  let c1_i32_21 : BitVec 32 := 1#32
  let arg12 : BitVec 32 := Scf.iv c0_i32_19 c1_i32_21 k0_t1
  let v83 : BitVec 32 := Scalar.muli c2_i32_52 arg12
  let c1_i32_83 : BitVec 32 := 1#32
  let v143 : BitVec 32 := Scalar.addi v83 c1_i32_83
  let c512_i32_96 : BitVec 32 := 512#32
  let v169 : BitVec 32 := Scalar.muli v143 c512_i32_96
  v169
def k0_off3 (i : grid0.Coords) (k0_t1 : Fin (k0_t1_loop i).trips) : Fin 2 → Nat :=
  let c2_i32_52 : BitVec 32 := 2#32
  let c0_i32_19 : BitVec 32 := 0#32
  let c1_i32_21 : BitVec 32 := 1#32
  let arg12 : BitVec 32 := Scf.iv c0_i32_19 c1_i32_21 k0_t1
  let v83 : BitVec 32 := Scalar.muli c2_i32_52 arg12
  let c1_i32_83 : BitVec 32 := 1#32
  let v143 : BitVec 32 := Scalar.addi v83 c1_i32_83
  let c512_i32_96 : BitVec 32 := 512#32
  let v169 : BitVec 32 := Scalar.muli v143 c512_i32_96
  let v170 : BitVec 32 := v169
  let v171 : Index := Scalar.indexCast v170
  let c0_97 : Index := 0#32
  ![v171.toNat, 0]
@[reducible] def k0_t2_loop (i : grid0.Coords) : Scf.Loop 32 :=
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let v40 : BitVec 32 := Scalar.addi c0_i32_19 v39
  let c1_i32_22 : BitVec 32 := 1#32
  ⟨v43, v40, c1_i32_22⟩
def k0_mult6 (i : grid0.Coords) (k0_t2 : Fin (k0_t2_loop i).trips) : BitVec 32 :=
  let c2_i32_52 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v83 : BitVec 32 := Scalar.muli c2_i32_52 arg12
  let c1_i32_53 : BitVec 32 := 1#32
  let v84 : BitVec 32 := Scalar.addi v83 c1_i32_53
  let c512_i32 : BitVec 32 := 512#32
  let v85 : BitVec 32 := Scalar.muli v84 c512_i32
  v85
def k0_off4 (i : grid0.Coords) (k0_t2 : Fin (k0_t2_loop i).trips) (c1_i32_53 : BitVec 32) : Fin 2 → Nat :=
  let c2_i32_52 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v83 : BitVec 32 := Scalar.muli c2_i32_52 arg12
  let v84 : BitVec 32 := Scalar.addi v83 c1_i32_53
  let c512_i32 : BitVec 32 := 512#32
  let v85 : BitVec 32 := Scalar.muli v84 c512_i32
  let v86 : BitVec 32 := v85
  let v87 : Index := Scalar.indexCast v86
  let c0_54 : Index := 0#32
  ![v87.toNat, 0]
def k0_mult7 (i : grid0.Coords) (k0_t2 : Fin (k0_t2_loop i).trips) : BitVec 32 :=
  let c2_i32_52 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v83 : BitVec 32 := Scalar.muli c2_i32_52 arg12
  let c512_i32_70 : BitVec 32 := 512#32
  let v119 : BitVec 32 := Scalar.muli v83 c512_i32_70
  v119
def k0_off5 (i : grid0.Coords) (k0_t2 : Fin (k0_t2_loop i).trips) : Fin 2 → Nat :=
  let c2_i32_52 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v83 : BitVec 32 := Scalar.muli c2_i32_52 arg12
  let c512_i32_70 : BitVec 32 := 512#32
  let v119 : BitVec 32 := Scalar.muli v83 c512_i32_70
  let v120 : BitVec 32 := v119
  let v121 : Index := Scalar.indexCast v120
  let c0_71 : Index := 0#32
  ![v121.toNat, 0]
def k0_mult8 (i : grid0.Coords) (k0_t2 : Fin (k0_t2_loop i).trips) : BitVec 32 :=
  let c2_i32_52 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v83 : BitVec 32 := Scalar.muli c2_i32_52 arg12
  let c2_i32_77 : BitVec 32 := 2#32
  let v133 : BitVec 32 := Scalar.addi v83 c2_i32_77
  let c512_i32_78 : BitVec 32 := 512#32
  let v134 : BitVec 32 := Scalar.muli v133 c512_i32_78
  v134
def k0_mult9 (i : grid0.Coords) (k0_t2 : Fin (k0_t2_loop i).trips) : BitVec 32 :=
  let c2_i32_52 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v83 : BitVec 32 := Scalar.muli c2_i32_52 arg12
  let c1_i32_83 : BitVec 32 := 1#32
  let v143 : BitVec 32 := Scalar.addi v83 c1_i32_83
  let c512_i32_96 : BitVec 32 := 512#32
  let v169 : BitVec 32 := Scalar.muli v143 c512_i32_96
  v169
def k0_off6 (i : grid0.Coords) (k0_t2 : Fin (k0_t2_loop i).trips) : Fin 2 → Nat :=
  let c2_i32_52 : BitVec 32 := 2#32
  let c0_i32_19 : BitVec 32 := 0#32
  let arg1 : BitVec 32 := BitVec.ofNat 32 (i 1).val
  let c0_i32_13 : BitVec 32 := 0#32
  let v23 : BitVec 1 := Scalar.cmpi .sgt arg1 c0_i32_13
  let v24 : BitVec 32 := Scalar.extui v23
  let c0_i32_14 : BitVec 32 := 0#32
  let v25 : BitVec 1 := Scalar.cmpi .slt arg1 c0_i32_14
  let v26 : BitVec 32 := Scalar.extui v25
  let v27 : BitVec 32 := Scalar.subi v24 v26
  let c2_i32 : BitVec 32 := 2#32
  let c0_i32_15 : BitVec 32 := 0#32
  let v28 : BitVec 1 := Scalar.cmpi .sgt c2_i32 c0_i32_15
  let v29 : BitVec 32 := Scalar.extui v28
  let c0_i32_16 : BitVec 32 := 0#32
  let v30 : BitVec 1 := Scalar.cmpi .slt c2_i32 c0_i32_16
  let v31 : BitVec 32 := Scalar.extui v30
  let v32 : BitVec 32 := Scalar.subi v29 v31
  let v33 : BitVec 1 := Scalar.cmpi .ne v27 v32
  let v34 : BitVec 32 := Scalar.remsi arg1 c2_i32
  let c0_i32_17 : BitVec 32 := 0#32
  let v35 : BitVec 1 := Scalar.cmpi .ne v34 c0_i32_17
  let v36 : BitVec 1 := Scalar.andi v33 v35
  let v22 : BitVec 32 := Scalar.divsi arg1 c2_i32
  let c1_i32 : BitVec 32 := 1#32
  let v37 : BitVec 32 := Scalar.subi v22 c1_i32
  let v38 : BitVec 32 := Scalar.select v36 v37 v22
  let v39 : BitVec 32 := Scalar.subi v38 c0_i32_19
  let c1_i32_20 : BitVec 32 := 1#32
  let v41 : BitVec 32 := Scalar.divsi v39 c1_i32_20
  let v42 : BitVec 32 := Scalar.muli v41 c1_i32_20
  let v43 : BitVec 32 := Scalar.addi c0_i32_19 v42
  let c1_i32_22 : BitVec 32 := 1#32
  let arg12 : BitVec 32 := Scf.iv v43 c1_i32_22 k0_t2
  let v83 : BitVec 32 := Scalar.muli c2_i32_52 arg12
  let c1_i32_83 : BitVec 32 := 1#32
  let v143 : BitVec 32 := Scalar.addi v83 c1_i32_83
  let c512_i32_96 : BitVec 32 := 512#32
  let v169 : BitVec 32 := Scalar.muli v143 c512_i32_96
  let v170 : BitVec 32 := v169
  let v171 : Index := Scalar.indexCast v170
  let c0_97 : Index := 0#32
  ![v171.toNat, 0]
def k0_cond1 (i : grid0.Coords) : BitVec 1 :=
  let arg1 : BitVec 32 := BitVec.ofNat 32 (i 1).val
  let c2_i32_23 : BitVec 32 := 2#32
  let c0_i32_24 : BitVec 32 := 0#32
  let v44 : BitVec 1 := Scalar.cmpi .eq c2_i32_23 c0_i32_24
  let c1_i32_25 : BitVec 32 := 1#32
  let v45 : BitVec 32 := Scalar.select v44 c1_i32_25 c2_i32_23
  let v46 : BitVec 32 := Scalar.remsi arg1 v45
  let c0_i32_27 : BitVec 32 := 0#32
  let v48 : BitVec 1 := Scalar.cmpi .slt v46 c0_i32_27
  let c0_i32_28 : BitVec 32 := 0#32
  let v49 : BitVec 1 := Scalar.cmpi .slt v45 c0_i32_28
  let v50 : BitVec 1 := Scalar.xori v48 v49
  let c0_i32_26 : BitVec 32 := 0#32
  let v47 : BitVec 1 := Scalar.cmpi .ne v46 c0_i32_26
  let v51 : BitVec 1 := Scalar.andi v50 v47
  let v52 : BitVec 32 := Scalar.addi v46 v45
  let v53 : BitVec 32 := Scalar.select v51 v52 v46
  let c0_i32_29 : BitVec 32 := 0#32
  let v54 : BitVec 1 := Scalar.cmpi .eq v53 c0_i32_29
  let v55 : BitVec 32 := Scalar.extui v54
  let c0_i32_30 : BitVec 32 := 0#32
  let v56 : BitVec 1 := Scalar.cmpi .ne v55 c0_i32_30
  v56

def k0_mult10 (i : grid0.Coords) : BitVec 32 :=
  let arg1 : BitVec 32 := BitVec.ofNat 32 (i 1).val
  let c512_i32 : BitVec 32 := 512#32
  let v113 : BitVec 32 := Scalar.muli arg1 c512_i32
  v113
def k0_off7 (i : grid0.Coords) : Fin 2 → Nat :=
  let arg1 : BitVec 32 := BitVec.ofNat 32 (i 1).val
  let c512_i32 : BitVec 32 := 512#32
  let v113 : BitVec 32 := Scalar.muli arg1 c512_i32
  let v114 : BitVec 32 := v113
  let v115 : Index := Scalar.indexCast v114
  let c0_65 : Index := 0#32
  ![v115.toNat, 0]
def k0_cond2 (i : grid0.Coords) : BitVec 1 :=
  let arg1 : BitVec 32 := BitVec.ofNat 32 (i 1).val
  let c2_i32_31 : BitVec 32 := 2#32
  let c0_i32_32 : BitVec 32 := 0#32
  let v57 : BitVec 1 := Scalar.cmpi .eq c2_i32_31 c0_i32_32
  let c1_i32_33 : BitVec 32 := 1#32
  let v58 : BitVec 32 := Scalar.select v57 c1_i32_33 c2_i32_31
  let v59 : BitVec 32 := Scalar.remsi arg1 v58
  let c0_i32_35 : BitVec 32 := 0#32
  let v61 : BitVec 1 := Scalar.cmpi .slt v59 c0_i32_35
  let c0_i32_36 : BitVec 32 := 0#32
  let v62 : BitVec 1 := Scalar.cmpi .slt v58 c0_i32_36
  let v63 : BitVec 1 := Scalar.xori v61 v62
  let c0_i32_34 : BitVec 32 := 0#32
  let v60 : BitVec 1 := Scalar.cmpi .ne v59 c0_i32_34
  let v64 : BitVec 1 := Scalar.andi v63 v60
  let v65 : BitVec 32 := Scalar.addi v59 v58
  let v66 : BitVec 32 := Scalar.select v64 v65 v59
  let c1_i32_37 : BitVec 32 := 1#32
  let v67 : BitVec 1 := Scalar.cmpi .eq v66 c1_i32_37
  let v68 : BitVec 32 := Scalar.extui v67
  let c0_i32_38 : BitVec 32 := 0#32
  let v69 : BitVec 1 := Scalar.cmpi .ne v68 c0_i32_38
  v69

def k0_mult11 (i : grid0.Coords) : BitVec 32 :=
  let arg1 : BitVec 32 := BitVec.ofNat 32 (i 1).val
  let c512_i32 : BitVec 32 := 512#32
  let v83 : BitVec 32 := Scalar.muli arg1 c512_i32
  v83
def k0_off8 (i : grid0.Coords) : Fin 2 → Nat :=
  let arg1 : BitVec 32 := BitVec.ofNat 32 (i 1).val
  let c512_i32 : BitVec 32 := 512#32
  let v83 : BitVec 32 := Scalar.muli arg1 c512_i32
  let v84 : BitVec 32 := v83
  let v85 : Index := Scalar.indexCast v84
  let c0_52 : Index := 0#32
  ![v85.toNat, 0]
def k0_mult12 (i : grid0.Coords) : BitVec 32 :=
  let arg1 : BitVec 32 := BitVec.ofNat 32 (i 1).val
  let c1_i32_56 : BitVec 32 := 1#32
  let v92 : BitVec 32 := Scalar.subi arg1 c1_i32_56
  let c512_i32_69 : BitVec 32 := 512#32
  let v118 : BitVec 32 := Scalar.muli v92 c512_i32_69
  v118
def k0_off9 (i : grid0.Coords) : Fin 2 → Nat :=
  let arg1 : BitVec 32 := BitVec.ofNat 32 (i 1).val
  let c1_i32_56 : BitVec 32 := 1#32
  let v92 : BitVec 32 := Scalar.subi arg1 c1_i32_56
  let c512_i32_69 : BitVec 32 := 512#32
  let v118 : BitVec 32 := Scalar.muli v92 c512_i32_69
  let v119 : BitVec 32 := v118
  let v120 : Index := Scalar.indexCast v119
  let c0_70 : Index := 0#32
  ![v120.toNat, 0]
def k0_mult13 (i : grid0.Coords) : BitVec 32 :=
  let arg1 : BitVec 32 := BitVec.ofNat 32 (i 1).val
  let c512_i32_89 : BitVec 32 := 512#32
  let v162 : BitVec 32 := Scalar.muli arg1 c512_i32_89
  v162
def k0_off10 (i : grid0.Coords) : Fin 2 → Nat :=
  let arg1 : BitVec 32 := BitVec.ofNat 32 (i 1).val
  let c512_i32_89 : BitVec 32 := 512#32
  let v162 : BitVec 32 := Scalar.muli arg1 c512_i32_89
  let v163 : BitVec 32 := v162
  let v164 : Index := Scalar.indexCast v163
  let c0_90 : Index := 0#32
  ![v164.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "log2e" => some (((Real.log 2)⁻¹ : ℝ) : EReal)
  | "masked" => some ⊥
  | _ => none
-- ==== Reference2Ideal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x8x8192 : Shape := ⟨3, ![4, 8, 8192]⟩
abbrev S32x8192 : Shape := ⟨2, ![32, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S4x8192x8192, .f32⟩
  | .hbm, ⟨4, _⟩ => ⟨S_, .f32⟩
  | .hbm, ⟨5, _⟩ => ⟨S4x8192x8192, .f32⟩
  | .hbm, ⟨6, _⟩ => ⟨S4x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S1x8192x8192, .i1⟩
  | .hbm, ⟨14, _⟩ => ⟨S_, .f32⟩
  | .hbm, ⟨15, _⟩ => ⟨S_, .f32⟩
  | .hbm, ⟨16, _⟩ => ⟨S4x8192x8192, .i1⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S_, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S4x8192x8192, .f32⟩
  | .hbm, ⟨28, _⟩ => ⟨S_, .f32⟩
  | .hbm, ⟨29, _⟩ => ⟨S4x8192x8192, .f32⟩
  | .hbm, ⟨30, _⟩ => ⟨S4x8192x8192, .f32⟩
  | .hbm, ⟨31, _⟩ => ⟨S8192, .i32⟩
  | .hbm, ⟨32, _⟩ => ⟨S1x8192, .i32⟩
  | .hbm, ⟨33, _⟩ => ⟨S8192x1, .i32⟩
  | .hbm, ⟨34, _⟩ => ⟨S8192x8192, .i32⟩
  | .hbm, ⟨35, _⟩ => ⟨S8192x8192, .i32⟩
  | .hbm, ⟨36, _⟩ => ⟨S8192x8192, .i1⟩
  | .hbm, ⟨37, _⟩ => ⟨S1x8192x8192, .i1⟩
  | .hbm, ⟨38, _⟩ => ⟨S_, .f32⟩
  | .hbm, ⟨39, _⟩ => ⟨S_, .f32⟩
  | .hbm, ⟨40, _⟩ => ⟨S4x8192x8192, .i1⟩
  | .hbm, ⟨41, _⟩ => ⟨S4x8192x8192, .f32⟩
  | .hbm, ⟨42, _⟩ => ⟨S4x8192x8192, .f32⟩
  | .hbm, ⟨43, _⟩ => ⟨S_, .f32⟩
  | .hbm, ⟨44, _⟩ => ⟨S4x8192, .f32⟩
  | .hbm, ⟨45, _⟩ => ⟨S_, .f32⟩
  | .hbm, ⟨46, _⟩ => ⟨S4x8192, .f32⟩
  | .hbm, ⟨47, _⟩ => ⟨S4x8192, .f32⟩
  | .hbm, ⟨48, _⟩ => ⟨S4x8192x1, .f32⟩
  | .hbm, ⟨49, _⟩ => ⟨S4x8192x8192, .f32⟩
  | .hbm, ⟨50, _⟩ => ⟨S4x8192x8192, .f32⟩
  | .hbm, ⟨51, _⟩ => ⟨S4x8192x8192, .f32⟩
  | .hbm, ⟨52, _⟩ => ⟨S_, .f32⟩
  | .hbm, ⟨53, _⟩ => ⟨S4x8192, .f32⟩
  | .hbm, ⟨54, _⟩ => ⟨S4x8192x1, .f32⟩
  | .hbm, ⟨55, _⟩ => ⟨S4x8192x8192, .f32⟩
  | .hbm, ⟨56, _⟩ => ⟨S4x8192x8192, .f32⟩
  | .hbm, ⟨57, _⟩ => ⟨S4x128x8192, .f32⟩
  | .hbm, ⟨58, _⟩ => ⟨S8192x4x128, .f32⟩
  | .hbm, ⟨59, _⟩ => ⟨S4x8x8192, .f32⟩
  | .hbm, ⟨60, _⟩ => ⟨S32x8192, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Kernel3.lean ====
abbrev S8192x512 : Shape := ⟨2, ![8192, 512]⟩
abbrev S8192x3008 : Shape := ⟨2, ![8192, 3008]⟩
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S3x512 : Shape := ⟨2, ![3, 512]⟩
abbrev S1x512 : Shape := ⟨2, ![1, 512]⟩
abbrev S1x1024 : Shape := ⟨2, ![1, 1024]⟩
abbrev S8192x448 : Shape := ⟨2, ![8192, 448]⟩
abbrev S_ : Shape := ⟨0, ![]⟩
abbrev S8192x64 : Shape := ⟨2, ![8192, 64]⟩
abbrev S8192x3072 : Shape := ⟨2, ![8192, 3072]⟩
abbrev S8x512 : Shape := ⟨2, ![8, 512]⟩
abbrev S32x8192 : Shape := ⟨2, ![32, 8192]⟩
abbrev S1x128 : Shape := ⟨2, ![1, 128]⟩
abbrev S256x512 : Shape := ⟨2, ![256, 512]⟩
abbrev S8x1024 : Shape := ⟨2, ![8, 1024]⟩
abbrev S256x256 : Shape := ⟨2, ![256, 256]⟩
abbrev S32x256 : Shape := ⟨2, ![32, 256]⟩
abbrev S256 : Shape := ⟨1, ![256]⟩
abbrev S256x1 : Shape := ⟨2, ![256, 1]⟩
abbrev S512x1024 : Shape := ⟨2, ![512, 1024]⟩
abbrev S1 : Shape := ⟨1, ![1]⟩
abbrev S1x1 : Shape := ⟨2, ![1, 1]⟩
abbrev S1024 : Shape := ⟨1, ![1024]⟩
abbrev S512 : Shape := ⟨1, ![512]⟩
abbrev S256x128 : Shape := ⟨2, ![256, 128]⟩
abbrev S128x256 : Shape := ⟨2, ![128, 256]⟩
abbrev S8x256 : Shape := ⟨2, ![8, 256]⟩

abbrev nBuf : Space → Nat
  | .hbm => 40
  | .vmem => 43
  | .smem => 0
  | _ => 0

abbrev bufTy : (tb : Table) → Fin (tcTables nBuf tb) → BufTy
  | .hbm, ⟨0, _⟩ => ⟨S8192x512, .f32⟩
  | .hbm, ⟨1, _⟩ => ⟨S8192x3008, .f32⟩
  | .hbm, ⟨2, _⟩ => ⟨S8192x1024, .f32⟩
  | .hbm, ⟨3, _⟩ => ⟨S8192x256, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S256x1024, .f32⟩
  | .hbm, ⟨8, _⟩ => ⟨S3x512, .f32⟩
  | .hbm, ⟨9, _⟩ => ⟨S1x512, .f32⟩
  | .hbm, ⟨10, _⟩ => ⟨S1x512, .f32⟩
  | .hbm, ⟨11, _⟩ => ⟨S1x1024, .f32⟩
  | .hbm, ⟨12, _⟩ => ⟨S8192x448, .f32⟩
  | .hbm, ⟨13, _⟩ => ⟨S_, .f32⟩
  | .hbm, ⟨14, _⟩ => ⟨S8192x64, .f32⟩
  | .hbm, ⟨15, _⟩ => ⟨S8192x512, .f32⟩
  | .hbm, ⟨16, _⟩ => ⟨S8192x1024, .f32⟩
  | .hbm, ⟨17, _⟩ => ⟨S8192x512, .f32⟩
  | .hbm, ⟨18, _⟩ => ⟨S8192x512, .f32⟩
  | .hbm, ⟨19, _⟩ => ⟨S8192x3072, .f32⟩
  | .hbm, ⟨20, _⟩ => ⟨S_, .i32⟩
  | .hbm, ⟨21, _⟩ => ⟨S_, .f32⟩
  | .hbm, ⟨22, _⟩ => ⟨S8x512, .f32⟩
  | .hbm, ⟨23, _⟩ => ⟨S1024x1024, .bf16⟩
  | .hbm, ⟨24, _⟩ => ⟨S1024x1024, .bf16⟩
  | .hbm, ⟨25, _⟩ => ⟨S256x1024, .bf16⟩
  | .hbm, ⟨26, _⟩ => ⟨S8192x1024, .f32⟩
  | .hbm, ⟨27, _⟩ => ⟨S8192x512, .bf16⟩
  | .hbm, ⟨28, _⟩ => ⟨S32x8192, .f32⟩
  | .hbm, ⟨29, _⟩ => ⟨S8192x512, .bf16⟩
  | .hbm, ⟨30, _⟩ => ⟨S8192x1024, .bf16⟩
  | .hbm, ⟨31, _⟩ => ⟨S8192x512, .f32⟩
  | .hbm, ⟨32, _⟩ => ⟨S1024x1024, .f32⟩
  | .hbm, ⟨33, _⟩ => ⟨S1024x1024, .f32⟩
  | .hbm, ⟨34, _⟩ => ⟨S256x1024, .f32⟩
  | .hbm, ⟨35, _⟩ => ⟨S8x512, .f32⟩
  | .hbm, ⟨36, _⟩ => ⟨S1x512, .f32⟩
  | .hbm, ⟨37, _⟩ => ⟨S1x512, .f32⟩
  | .hbm, ⟨38, _⟩ => ⟨S1x1024, .f32⟩
  | .hbm, ⟨39, _⟩ => ⟨S1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1024, .f32⟩
  | .local _ .vmem, ⟨10, _⟩ => ⟨S256x1024, .f32⟩
  | .local _ .vmem, ⟨11, _⟩ => ⟨S256x1024, .f32⟩
  | .local _ .vmem, ⟨12, _⟩ => ⟨S256x256, .f32⟩
  | .local _ .vmem, ⟨13, _⟩ => ⟨S256x256, .f32⟩
  | .local _ .vmem, ⟨14, _⟩ => ⟨S256x1024, .f32⟩
  | .local _ .vmem, ⟨15, _⟩ => ⟨S256x1024, .f32⟩
  | .local _ .vmem, ⟨16, _⟩ => ⟨S1024x1024, .bf16⟩
  | .local _ .vmem, ⟨17, _⟩ => ⟨S1024x1024, .bf16⟩
  | .local _ .vmem, ⟨18, _⟩ => ⟨S256x1024, .bf16⟩
  | .local _ .vmem, ⟨19, _⟩ => ⟨S8x512, .f32⟩
  | .local _ .vmem, ⟨20, _⟩ => ⟨S1x512, .f32⟩
  | .local _ .vmem, ⟨21, _⟩ => ⟨S1x512, .f32⟩
  | .local _ .vmem, ⟨22, _⟩ => ⟨S1x1024, .f32⟩
  | .local _ .vmem, ⟨23, _⟩ => ⟨S256x1024, .f32⟩
  | .local _ .vmem, ⟨24, _⟩ => ⟨S256x1024, .f32⟩
  | .local _ .vmem, ⟨25, _⟩ => ⟨S256x512, .bf16⟩
  | .local _ .vmem, ⟨26, _⟩ => ⟨S256x512, .bf16⟩
  | .local _ .vmem, ⟨27, _⟩ => ⟨S32x256, .f32⟩
  | .local _ .vmem, ⟨28, _⟩ => ⟨S32x256, .f32⟩
  | .local _ .vmem, ⟨29, _⟩ => ⟨S256x512, .bf16⟩
  | .local _ .vmem, ⟨30, _⟩ => ⟨S256x512, .bf16⟩
  | .local _ .vmem, ⟨31, _⟩ => ⟨S256x1024, .bf16⟩
  | .local _ .vmem, ⟨32, _⟩ => ⟨S256x1024, .bf16⟩
  | .local _ .vmem, ⟨33, _⟩ => ⟨S256x512, .f32⟩
  | .local _ .vmem, ⟨34, _⟩ => ⟨S256x512, .f32⟩
  | .local _ .vmem, ⟨35, _⟩ => ⟨S1024x1024, .f32⟩
  | .local _ .vmem, ⟨36, _⟩ => ⟨S1024x1024, .f32⟩
  | .local _ .vmem, ⟨37, _⟩ => ⟨S256x1024, .f32⟩
  | .local _ .vmem, ⟨38, _⟩ => ⟨S8x512, .f32⟩
  | .local _ .vmem, ⟨39, _⟩ => ⟨S1x512, .f32⟩
  | .local _ .vmem, ⟨40, _⟩ => ⟨S1x512, .f32⟩
  | .local _ .vmem, ⟨41, _⟩ => ⟨S1x1024, .f32⟩
  | .local _ .vmem, ⟨42, _⟩ => ⟨S1x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v11_2 : Ref sig .tc := ⟨.hbm, 28, rfl⟩
abbrev main_v11_3 : Ref sig .tc := ⟨.hbm, 29, rfl⟩
abbrev main_v11_4 : Ref sig .tc := ⟨.hbm, 30, rfl⟩
abbrev main_v11_5 : Ref sig .tc := ⟨.hbm, 31, rfl⟩
abbrev main_v11_6 : Ref sig .tc := ⟨.hbm, 32, rfl⟩
abbrev main_v11_7 : Ref sig .tc := ⟨.hbm, 33, rfl⟩
abbrev main_v11_8 : Ref sig .tc := ⟨.hbm, 34, rfl⟩
abbrev main_v11_9 : Ref sig .tc := ⟨.hbm, 35, rfl⟩
abbrev main_v11_10 : Ref sig .tc := ⟨.hbm, 36, rfl⟩
abbrev main_v11_11 : Ref sig .tc := ⟨.hbm, 37, rfl⟩
abbrev main_v11_12 : Ref sig .tc := ⟨.hbm, 38, rfl⟩
abbrev main_v11_13 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg24_0 : Ref sig .tc := ⟨.vmem, 38, rfl⟩
abbrev cc0_stg25_0 : Ref sig .tc := ⟨.vmem, 39, rfl⟩
abbrev cc0_stg26_0 : Ref sig .tc := ⟨.vmem, 40, rfl⟩
abbrev cc0_stg27_0 : Ref sig .tc := ⟨.vmem, 41, rfl⟩
abbrev cc0_stg28_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34
abbrev cc0_sem21_0 : DmaSem sig := 35
abbrev cc0_sem22_0 : DmaSem sig := 36
abbrev cc0_sem23_0 : DmaSem sig := 37
abbrev cc0_sem24_0 : DmaSem sig := 38
abbrev cc0_sem25_0 : DmaSem sig := 39
abbrev cc0_sem26_0 : DmaSem sig := 40
abbrev cc0_sem27_0 : DmaSem sig := 41
abbrev cc0_sem28_0 : DmaSem sig := 42

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1024x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== Reference3Ideal.lean ====
abbrev S8192x512 : Shape := ⟨2, ![8192, 512]⟩
abbrev S8192x3008 : Shape := ⟨2, ![8192, 3008]⟩
abbrev S8192x1024 : Shape := ⟨2, ![8192, 1024]⟩
abbrev S8192x256 : Shape := ⟨2, ![8192, 256]⟩
abbrev S1024x1024 : Shape := ⟨2, ![1024, 1024]⟩
abbrev S256x1024 : Shape := ⟨2, ![256, 1024]⟩
abbrev S3x512 : Shape := ⟨2, ![3, 512]⟩
abbrev S1x512 : Shape := ⟨2, ![1, 512]⟩
abbrev S1x1024 : Shape := ⟨2, ![1, 1024]⟩
abbrev S_ : Shape := ⟨0, ![]⟩
abbrev S8194x512 : Shape := ⟨2, ![8194, 512]⟩
abbrev S512 : Shape := ⟨1, ![512]⟩
abbrev S8192 : Shape := ⟨1, ![8192]⟩
abbrev S8192x1 : Shape := ⟨2, ![8192, 1]⟩
abbrev S1024x256 : Shape := ⟨2, ![1024, 256]⟩
abbrev S1024 : Shape := ⟨1, ![1024]⟩
abbrev S8192x4x128 : Shape := ⟨3, ![8192, 4, 128]⟩
abbrev S8192x4 : Shape := ⟨2, ![8192, 4]⟩
abbrev S4x8192 : Shape := ⟨2, ![4, 8192]⟩
abbrev S4x8x8192 : Shape := ⟨3, ![4, 8, 8192]⟩
abbrev S32x8192 : Shape := ⟨2, ![32, 8192]⟩
abbrev S8x512 : Shape := ⟨2, ![8, 512]⟩
abbrev S1x128 : Shape := ⟨2, ![1, 128]⟩

abbrev nBuf : Space → Nat
  | .hbm => 313
  | .vmem => 0
  | .smem => 0
  | _ => 0

abbrev hbmTy0_0 (i : Nat) : BufTy := match i % 128 with
  | 0 => ⟨S8192x512, .f32⟩
  | 1 => ⟨S8192x3008, .f32⟩
  | 2 => ⟨S8192x1024, .f32⟩
  | 3 => ⟨S8192x256, .f32⟩
  | 4 => ⟨S8192x1024, .f32⟩
  | 5 => ⟨S1024x1024, .f32⟩
  | 6 => ⟨S1024x1024, .f32⟩
  | 7 => ⟨S256x1024, .f32⟩
  | 8 => ⟨S3x512, .f32⟩
  | 9 => ⟨S1x512, .f32⟩
  | 10 => ⟨S1x512, .f32⟩
  | 11 => ⟨S1x1024, .f32⟩
  | 12 => ⟨S8192x512, .f32⟩
  | 13 => ⟨S8192x512, .f32⟩
  | 14 => ⟨S8192x512, .f32⟩
  | 15 => ⟨S8192x512, .f32⟩
  | 16 => ⟨S8192x512, .f32⟩
  | 17 => ⟨S8192x512, .f32⟩
  | 18 => ⟨S_, .i32⟩
  | 19 => ⟨S_, .f32⟩
  | 20 => ⟨S8194x512, .f32⟩
  | 21 => ⟨S1x512, .f32⟩
  | 22 => ⟨S512, .f32⟩
  | 23 => ⟨S8192x512, .f32⟩
  | 24 => ⟨S1x512, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S1x512, .f32⟩
  | 31 => ⟨S512, .f32⟩
  | 32 => ⟨S8192x512, .f32⟩
  | 33 => ⟨S1x512, .f32⟩
  | 34 => ⟨S8192x512, .f32⟩
  | 35 => ⟨S8192x512, .f32⟩
  | 36 => ⟨S8192x512, .f32⟩
  | 37 => ⟨S1x512, .f32⟩
  | 38 => ⟨S512, .f32⟩
  | 39 => ⟨S8192x512, .f32⟩
  | 40 => ⟨S1x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S_, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x512, .f32⟩
  | 74 => ⟨S8192x512, .f32⟩
  | 75 => ⟨S8192x512, .f32⟩
  | 76 => ⟨S8192x512, .f32⟩
  | 77 => ⟨S8192x512, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S_, .f32⟩
  | 84 => ⟨S8192x512, .f32⟩
  | 85 => ⟨S8192x512, .f32⟩
  | 86 => ⟨S_, .f32⟩
  | 87 => ⟨S8192x512, .f32⟩
  | 88 => ⟨S8192x512, .f32⟩
  | 89 => ⟨S8192x512, .f32⟩
  | 90 => ⟨S8192x512, .f32⟩
  | 91 => ⟨S8192x512, .f32⟩
  | 92 => ⟨S8192x512, .f32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S_, .f32⟩
  | 100 => ⟨S8192x1, .f32⟩
  | 101 => ⟨S8192x1, .f32⟩
  | 102 => ⟨S8192x1, .f32⟩
  | 103 => ⟨S8192x1, .f32⟩
  | 104 => ⟨S_, .f32⟩
  | 105 => ⟨S8192x1, .f32⟩
  | 106 => ⟨S8192x1, .f32⟩
  | 107 => ⟨S8192x512, .f32⟩
  | 108 => ⟨S8192x512, .f32⟩
  | 109 => ⟨S8192x512, .f32⟩
  | 110 => ⟨S8192x512, .f32⟩
  | 111 => ⟨S8192x1024, .f32⟩
  | 112 => ⟨S8192x1024, .f32⟩
  | 113 => ⟨S8192x1024, .f32⟩
  | 114 => ⟨S8192x1024, .f32⟩
  | 115 => ⟨S_, .f32⟩
  | 116 => ⟨S8192, .f32⟩
  | 117 => ⟨S8192x1, .f32⟩
  | 118 => ⟨S_, .f32⟩
  | 119 => ⟨S8192x1, .f32⟩
  | 120 => ⟨S8192x1, .f32⟩
  | 121 => ⟨S_, .f32⟩
  | 122 => ⟨S8192x1, .f32⟩
  | 123 => ⟨S8192x1, .f32⟩
  | 124 => ⟨S8192x1, .f32⟩
  | 125 => ⟨S8192x1, .f32⟩
  | 126 => ⟨S_, .f32⟩
  | 127 => ⟨S8192x1, .f32⟩
  | _ => ⟨S8192x512, .f32⟩

abbrev hbmTy0_1 (i : Nat) : BufTy := match i % 128 with
  | 0 => ⟨S8192x1, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S8192x1024, .f32⟩
  | 10 => ⟨S8192x1024, .f32⟩
  | 11 => ⟨S_, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S_, .f32⟩
  | 27 => ⟨S8192, .f32⟩
  | 28 => ⟨S_, .f32⟩
  | 29 => ⟨S8192, .f32⟩
  | 30 => ⟨S8192, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S8192, .f32⟩
  | 39 => ⟨S_, .f32⟩
  | 40 => ⟨S8192, .f32⟩
  | 41 => ⟨S8192, .f32⟩
  | 42 => ⟨S8192x1024, .f32⟩
  | 43 => ⟨S8192x1024, .f32⟩
  | 44 => ⟨S8192x1024, .f32⟩
  | 45 => ⟨S8192x1024, .f32⟩
  | 46 => ⟨S1024x256, .f32⟩
  | 47 => ⟨S256x1024, .f32⟩
  | 48 => ⟨S8192x1024, .f32⟩
  | 49 => ⟨S1024x1024, .f32⟩
  | 50 => ⟨S1024x1024, .f32⟩
  | 51 => ⟨S8192x1024, .f32⟩
  | 52 => ⟨S8192x1024, .f32⟩
  | 53 => ⟨S_, .f32⟩
  | 54 => ⟨S1024, .f32⟩
  | 55 => ⟨S1x1024, .f32⟩
  | 56 => ⟨S8192x1024, .f32⟩
  | 57 => ⟨S8192x1024, .f32⟩
  | 58 => ⟨S8192x1024, .f32⟩
  | 59 => ⟨S_, .f32⟩
  | 60 => ⟨S8192, .f32⟩
  | 61 => ⟨S8192x1, .f32⟩
  | 62 => ⟨S8192x1024, .f32⟩
  | 63 => ⟨S8192x1024, .f32⟩
  | 64 => ⟨S8192x1024, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S1024x1024, .f32⟩
  | 77 => ⟨S1024x1024, .f32⟩
  | 78 => ⟨S8192x1024, .f32⟩
  | 79 => ⟨S8192x512, .f32⟩
  | 80 => ⟨S8192x512, .f32⟩
  | 81 => ⟨S8192x512, .f32⟩
  | 82 => ⟨S_, .f32⟩
  | 83 => ⟨S512, .f32⟩
  | 84 => ⟨S1x512, .f32⟩
  | 85 => ⟨S8192x512, .f32⟩
  | 86 => ⟨S8192x512, .f32⟩
  | 87 => ⟨S8192x512, .f32⟩
  | 88 => ⟨S_, .f32⟩
  | 89 => ⟨S8192, .f32⟩
  | 90 => ⟨S8192x1, .f32⟩
  | 91 => ⟨S8192x512, .f32⟩
  | 92 => ⟨S8192x512, .f32⟩
  | 93 => ⟨S8192x1, .f32⟩
  | 94 => ⟨S_, .f32⟩
  | 95 => ⟨S8192x1, .f32⟩
  | 96 => ⟨S8192x1, .f32⟩
  | 97 => ⟨S_, .f32⟩
  | 98 => ⟨S8192, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S8192x512, .f32⟩
  | 113 => ⟨S_, .f32⟩
  | 114 => ⟨S512, .f32⟩
  | 115 => ⟨S1x512, .f32⟩
  | 116 => ⟨S8192x512, .f32⟩
  | 117 => ⟨S8192x512, .f32⟩
  | 118 => ⟨S8192x512, .f32⟩
  | 119 => ⟨S_, .f32⟩
  | 120 => ⟨S8192, .f32⟩
  | 121 => ⟨S8192x1, .f32⟩
  | 122 => ⟨S8192x512, .f32⟩
  | 123 => ⟨S8192x512, .f32⟩
  | 124 => ⟨S8192x1, .f32⟩
  | 125 => ⟨S_, .f32⟩
  | 126 => ⟨S8192x1, .f32⟩
  | 127 => ⟨S8192x1, .f32⟩
  | _ => ⟨S8192x512, .f32⟩

abbrev hbmTy0_2 (i : Nat) : BufTy := match i % 128 with
  | 0 => ⟨S_, .f32⟩
  | 1 => ⟨S8192, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S8192x512, .f32⟩
  | 14 => ⟨S_, .f32⟩
  | 15 => ⟨S512, .f32⟩
  | 16 => ⟨S1x512, .f32⟩
  | 17 => ⟨S_, .f32⟩
  | 18 => ⟨S512, .f32⟩
  | 19 => ⟨S1x512, .f32⟩
  | 20 => ⟨S_, .f32⟩
  | 21 => ⟨S3x512, .f32⟩
  | 22 => ⟨S8192x512, .f32⟩
  | 23 => ⟨S_, .f32⟩
  | 24 => ⟨S512, .f32⟩
  | 25 => ⟨S1x512, .f32⟩
  | 26 => ⟨S_, .f32⟩
  | 27 => ⟨S512, .f32⟩
  | 28 => ⟨S1x512, .f32⟩
  | 29 => ⟨S_, .f32⟩
  | 30 => ⟨S3x512, .f32⟩
  | 31 => ⟨S3x512, .f32⟩
  | 32 => ⟨S8192x512, .f32⟩
  | 33 => ⟨S_, .f32⟩
  | 34 => ⟨S512, .f32⟩
  | 35 => ⟨S1x512, .f32⟩
  | 36 => ⟨S_, .f32⟩
  | 37 => ⟨S512, .f32⟩
  | 38 => ⟨S1x512, .f32⟩
  | 39 => ⟨S_, .f32⟩
  | 40 => ⟨S3x512, .f32⟩
  | 41 => ⟨S3x512, .f32⟩
  | 42 => ⟨S8192x512, .f32⟩
  | 43 => ⟨S8192x4x128, .f32⟩
  | 44 => ⟨S_, .f32⟩
  | 45 => ⟨S8192x4, .f32⟩
  | 46 => ⟨S8192x512, .bf16⟩
  | 47 => ⟨S4x8192, .f32⟩
  | 48 => ⟨S4x8x8192, .f32⟩
  | 49 => ⟨S32x8192, .f32⟩
  | 50 => ⟨S8192x512, .bf16⟩
  | 51 => ⟨S8192x1024, .f32⟩
  | 52 => ⟨S8192x1024, .bf16⟩
  | 53 => ⟨S_, .i32⟩
  | 54 => ⟨S_, .f32⟩
  | 55 => ⟨S8x512, .f32⟩
  | 56 => ⟨S1x128, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call1_v0 : Ref sig .tc := ⟨.hbm, 44, rfl⟩
abbrev main_call1_v1 : Ref sig .tc := ⟨.hbm, 45, rfl⟩
abbrev main_call1_cst : Ref sig .tc := ⟨.hbm, 46, rfl⟩
abbrev main_call1_v2 : Ref sig .tc := ⟨.hbm, 47, rfl⟩
abbrev main_call1_v3 : Ref sig .tc := ⟨.hbm, 48, rfl⟩
abbrev main_call1_cst_0 : Ref sig .tc := ⟨.hbm, 49, rfl⟩
abbrev main_call1_v4 : Ref sig .tc := ⟨.hbm, 50, rfl⟩
abbrev main_v29_2 : Ref sig .tc := ⟨.hbm, 51, rfl⟩
abbrev main_call1_cst_1 : Ref sig .tc := ⟨.hbm, 52, rfl⟩
abbrev main_call1_v6 : Ref sig .tc := ⟨.hbm, 53, rfl⟩
abbrev main_call1_v7 : Ref sig .tc := ⟨.hbm, 54, rfl⟩
abbrev main_v29_1 : Ref sig .tc := ⟨.hbm, 55, rfl⟩
abbrev main_v29_0 : Ref sig .tc := ⟨.hbm, 56, rfl⟩
abbrev main_v30 : Ref sig .tc := ⟨.hbm, 57, rfl⟩
abbrev main_v31 : Ref sig .tc := ⟨.hbm, 58, rfl⟩
abbrev main_cst_0 : Ref sig .tc := ⟨.hbm, 59, rfl⟩
abbrev main_v32 : Ref sig .tc := ⟨.hbm, 60, rfl⟩
abbrev main_v33 : Ref sig .tc := ⟨.hbm, 61, rfl⟩
abbrev main_cst_1 : Ref sig .tc := ⟨.hbm, 62, rfl⟩
abbrev main_v34 : Ref sig .tc := ⟨.hbm, 63, rfl⟩
abbrev main_v35 : Ref sig .tc := ⟨.hbm, 64, rfl⟩
abbrev main_cst_2 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_3 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_call2_v0 : Ref sig .tc := ⟨.hbm, 78, rfl⟩
abbrev main_call2_v1 : Ref sig .tc := ⟨.hbm, 79, rfl⟩
abbrev main_call2_cst : Ref sig .tc := ⟨.hbm, 80, rfl⟩
abbrev main_call2_v2 : Ref sig .tc := ⟨.hbm, 81, rfl⟩
abbrev main_call2_v3 : Ref sig .tc := ⟨.hbm, 82, rfl⟩
abbrev main_call2_cst_0 : Ref sig .tc := ⟨.hbm, 83, rfl⟩
abbrev main_call2_v4 : Ref sig .tc := ⟨.hbm, 84, rfl⟩
abbrev main_v47_2 : Ref sig .tc := ⟨.hbm, 85, rfl⟩
abbrev main_call2_cst_1 : Ref sig .tc := ⟨.hbm, 86, rfl⟩
abbrev main_call2_v6 : Ref sig .tc := ⟨.hbm, 87, rfl⟩
abbrev main_call2_v7 : Ref sig .tc := ⟨.hbm, 88, rfl⟩
abbrev main_v47_1 : Ref sig .tc := ⟨.hbm, 89, rfl⟩
abbrev main_v47_0 : Ref sig .tc := ⟨.hbm, 90, rfl⟩
abbrev main_v48 : Ref sig .tc := ⟨.hbm, 91, rfl⟩
abbrev main_v49 : Ref sig .tc := ⟨.hbm, 92, rfl⟩
abbrev main_cst_4 : Ref sig .tc := ⟨.hbm, 93, rfl⟩
abbrev main_v50 : Ref sig .tc := ⟨.hbm, 94, rfl⟩
abbrev main_v51 : Ref sig .tc := ⟨.hbm, 95, rfl⟩
abbrev main_cst_5 : Ref sig .tc := ⟨.hbm, 96, rfl⟩
abbrev main_v52 : Ref sig .tc := ⟨.hbm, 97, rfl⟩
abbrev main_v53 : Ref sig .tc := ⟨.hbm, 98, rfl⟩
abbrev main_cst_6 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_7 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_cst_8 : Ref sig .tc := ⟨.hbm, 115, rfl⟩
abbrev main_v68 : Ref sig .tc := ⟨.hbm, 116, rfl⟩
abbrev main_v69 : Ref sig .tc := ⟨.hbm, 117, rfl⟩
abbrev main_cst_9 : Ref sig .tc := ⟨.hbm, 118, rfl⟩
abbrev main_v70 : Ref sig .tc := ⟨.hbm, 119, rfl⟩
abbrev main_v71 : Ref sig .tc := ⟨.hbm, 120, rfl⟩
abbrev main_cst_10 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_cst_11 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_cst_12 : Ref sig .tc := ⟨.hbm, 136, rfl⟩
abbrev main_v85 : Ref sig .tc := ⟨.hbm, 137, rfl⟩
abbrev main_v86 : Ref sig .tc := ⟨.hbm, 138, rfl⟩
abbrev main_cst_13 : Ref sig .tc := ⟨.hbm, 139, rfl⟩
abbrev main_v87 : Ref sig .tc := ⟨.hbm, 140, rfl⟩
abbrev main_v88 : Ref sig .tc := ⟨.hbm, 141, rfl⟩
abbrev main_cst_14 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_cst_15 : Ref sig .tc := ⟨.hbm, 151, rfl⟩
abbrev main_v97 : Ref sig .tc := ⟨.hbm, 152, rfl⟩
abbrev main_v98 : Ref sig .tc := ⟨.hbm, 153, rfl⟩
abbrev main_cst_16 : Ref sig .tc := ⟨.hbm, 154, rfl⟩
abbrev main_v99 : Ref sig .tc := ⟨.hbm, 155, rfl⟩
abbrev main_cst_17 : Ref sig .tc := ⟨.hbm, 156, rfl⟩
abbrev main_v100 : Ref sig .tc := ⟨.hbm, 157, rfl⟩
abbrev main_v101 : Ref sig .tc := ⟨.hbm, 158, rfl⟩
abbrev main_cst_18 : Ref sig .tc := ⟨.hbm, 159, rfl⟩
abbrev main_v102 : Ref sig .tc := ⟨.hbm, 160, rfl⟩
abbrev main_cst_19 : Ref sig .tc := ⟨.hbm, 161, rfl⟩
abbrev main_v103 : Ref sig .tc := ⟨.hbm, 162, rfl⟩
abbrev main_cst_20 : Ref sig .tc := ⟨.hbm, 163, rfl⟩
abbrev main_cst_21 : Ref sig .tc := ⟨.hbm, 164, rfl⟩
abbrev main_v104 : Ref sig .tc := ⟨.hbm, 165, rfl⟩
abbrev main_v105 : Ref sig .tc := ⟨.hbm, 166, rfl⟩
abbrev main_cst_22 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_cst_23 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_cst_24 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_cst_25 : Ref sig .tc := ⟨.hbm, 194, rfl⟩
abbrev main_v130 : Ref sig .tc := ⟨.hbm, 195, rfl⟩
abbrev main_v131 : Ref sig .tc := ⟨.hbm, 196, rfl⟩
abbrev main_cst_26 : Ref sig .tc := ⟨.hbm, 197, rfl⟩
abbrev main_v132 : Ref sig .tc := ⟨.hbm, 198, rfl⟩
abbrev main_v133 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_cst_27 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_cst_28 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_cst_29 : Ref sig .tc := ⟨.hbm, 222, rfl⟩
abbrev main_v154 : Ref sig .tc := ⟨.hbm, 223, rfl⟩
abbrev main_v155 : Ref sig .tc := ⟨.hbm, 224, rfl⟩
abbrev main_cst_30 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_call3_v0 : Ref sig .tc := ⟨.hbm, 234, rfl⟩
abbrev main_call3_v1 : Ref sig .tc := ⟨.hbm, 235, rfl⟩
abbrev main_call3_v2 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_cst_31 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_cst_32 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_cst_33 : Ref sig .tc := ⟨.hbm, 253, rfl⟩
abbrev main_v178 : Ref sig .tc := ⟨.hbm, 254, rfl⟩
abbrev main_v179 : Ref sig .tc := ⟨.hbm, 255, rfl⟩
abbrev main_cst_34 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_call4_v0 : Ref sig .tc := ⟨.hbm, 265, rfl⟩
abbrev main_call4_v1 : Ref sig .tc := ⟨.hbm, 266, rfl⟩
abbrev main_call4_v2 : Ref sig .tc := ⟨.hbm, 267, rfl⟩
abbrev main_v188 : Ref sig .tc := ⟨.hbm, 268, rfl⟩
abbrev main_v189 : Ref sig .tc := ⟨.hbm, 269, rfl⟩
abbrev main_cst_35 : Ref sig .tc := ⟨.hbm, 270, rfl⟩
abbrev main_v190 : Ref sig .tc := ⟨.hbm, 271, rfl⟩
abbrev main_v191 : Ref sig .tc := ⟨.hbm, 272, rfl⟩
abbrev main_cst_36 : Ref sig .tc := ⟨.hbm, 273, rfl⟩
abbrev main_v192 : Ref sig .tc := ⟨.hbm, 274, rfl⟩
abbrev main_v193 : Ref sig .tc := ⟨.hbm, 275, rfl⟩
abbrev main_cst_37 : Ref sig .tc := ⟨.hbm, 276, rfl⟩
abbrev main_v194 : Ref sig .tc := ⟨.hbm, 277, rfl⟩
abbrev main_v195 : Ref sig .tc := ⟨.hbm, 278, rfl⟩
abbrev main_cst_38 : Ref sig .tc := ⟨.hbm, 279, rfl⟩
abbrev main_v196 : Ref sig .tc := ⟨.hbm, 280, rfl⟩
abbrev main_v197 : Ref sig .tc := ⟨.hbm, 281, rfl⟩
abbrev main_cst_39 : Ref sig .tc := ⟨.hbm, 282, rfl⟩
abbrev main_v198 : Ref sig .tc := ⟨.hbm, 283, rfl⟩
abbrev main_v199 : Ref sig .tc := ⟨.hbm, 284, rfl⟩
abbrev main_cst_40 : Ref sig .tc := ⟨.hbm, 285, rfl⟩
abbrev main_v200 : Ref sig .tc := ⟨.hbm, 286, rfl⟩
abbrev main_v201 : Ref sig .tc := ⟨.hbm, 287, rfl⟩
abbrev main_v202 : Ref sig .tc := ⟨.hbm, 288, rfl⟩
abbrev main_cst_41 : Ref sig .tc := ⟨.hbm, 289, rfl⟩
abbrev main_v203 : Ref sig .tc := ⟨.hbm, 290, rfl⟩
abbrev main_v204 : Ref sig .tc := ⟨.hbm, 291, rfl⟩
abbrev main_cst_42 : Ref sig .tc := ⟨.hbm, 292, rfl⟩
abbrev main_v205 : Ref sig .tc := ⟨.hbm, 293, rfl⟩
abbrev main_v206 : Ref sig .tc := ⟨.hbm, 294, rfl⟩
abbrev main_cst_43 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_cst_44 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_c_45 : Ref sig .tc := ⟨.hbm, 309, rfl⟩
abbrev main_call5_v0 : Ref sig .tc := ⟨.hbm, 310, rfl⟩
abbrev main_v219 : Ref sig .tc := ⟨.hbm, 311, rfl⟩
abbrev main_v220 : Ref sig .tc := ⟨.hbm, 312, rfl⟩

abbrev nD : Nat := 1
abbrev τ : Topo := Topo.v7x

variable {F : FTy → Type} [FloatOps F]
-- ==== Kernel4.lean ====
abbrev S8192x1024 : Shape := ⟨2, ![8192, 1024]⟩
abbrev S8192 : Shape := ⟨1, ![8192]⟩
abbrev S1x1024 : Shape := ⟨2, ![1, 1024]⟩
abbrev S1024x3008 : Shape := ⟨2, ![1024, 3008]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S1x192 : Shape := ⟨2, ![1, 192]⟩
abbrev S3x512 : Shape := ⟨2, ![3, 512]⟩
abbrev S8192x4x192 : Shape := ⟨3, ![8192, 4, 192]⟩
abbrev S8192x4x128 : Shape := ⟨3, ![8192, 4, 128]⟩
abbrev S8192x512 : Shape := ⟨2, ![8192, 512]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S8192x3008 : Shape := ⟨2, ![8192, 3008]⟩
abbrev S8192x448 : Shape := ⟨2, ![8192, 448]⟩
abbrev S8192x64 : Shape := ⟨2, ![8192, 64]⟩
abbrev S8192x3072 : Shape := ⟨2, ![8192, 3072]⟩
abbrev S1024x448 : Shape := ⟨2, ![1024, 448]⟩
abbrev S1024x64 : Shape := ⟨2, ![1024, 64]⟩
abbrev S1024x512 : Shape := ⟨2, ![1024, 512]⟩
abbrev S1024x1024 : Shape := ⟨2, ![1024, 1024]⟩
abbrev S1024x3072 : Shape := ⟨2, ![1024, 3072]⟩
abbrev S256x4x192 : Shape := ⟨3, ![256, 4, 192]⟩
abbrev S256x4x256 : Shape := ⟨3, ![256, 4, 256]⟩
abbrev S256x1024 : Shape := ⟨2, ![256, 1024]⟩
abbrev S128x4x2x128 : Shape := ⟨4, ![128, 4, 2, 128]⟩
abbrev S128x2x4x128 : Shape := ⟨4, ![128, 2, 4, 128]⟩
abbrev S8x512 : Shape := ⟨2, ![8, 512]⟩
abbrev S8192x4x256 : Shape := ⟨3, ![8192, 4, 256]⟩
abbrev S256x512 : Shape := ⟨2, ![256, 512]⟩
abbrev S256x128 : Shape := ⟨2, ![256, 128]⟩
abbrev S256x3072 : Shape := ⟨2, ![256, 3072]⟩
abbrev S256 : Shape := ⟨1, ![256]⟩
abbrev S256x1 : Shape := ⟨2, ![256, 1]⟩
abbrev S256x256 : Shape := ⟨2, ![256, 256]⟩
abbrev S128x512 : Shape := ⟨2, ![128, 512]⟩
abbrev S128 : Shape := ⟨1, ![128]⟩
abbrev S1024 : Shape := ⟨1, ![1024]⟩
abbrev S1x512 : Shape := ⟨2, ![1, 512]⟩

abbrev nBuf : Space → Nat
  | .hbm => 142
  | .vmem => 51
  | .smem => 0
  | _ => 0

abbrev hbmTy0_0 (i : Nat) : BufTy := match i % 128 with
  | 0 => ⟨S8192x1024, .f32⟩
  | 1 => ⟨S8192, .i32⟩
  | 2 => ⟨S1x1024, .f32⟩
  | 3 => ⟨S1024x3008, .f32⟩
  | 4 => ⟨S1x256, .f32⟩
  | 5 => ⟨S256x768, .f32⟩
  | 6 => ⟨S1x128, .f32⟩
  | 7 => ⟨S128x1024, .f32⟩
  | 8 => ⟨S1x192, .f32⟩
  | 9 => ⟨S1x192, .f32⟩
  | 10 => ⟨S3x512, .f32⟩
  | 11 => ⟨S8192x4x192, .f32⟩
  | 12 => ⟨S8192x4x192, .f32⟩
  | 13 => ⟨S8192x4x128, .f32⟩
  | 14 => ⟨S8192x512, .f32⟩
  | 15 => ⟨S8192x512, .f32⟩
  | 16 => ⟨S8192x512, .f32⟩
  | 17 => ⟨S8192x512, .f32⟩
  | 18 => ⟨S8192x1024, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S8192, .f32⟩
  | 36 => ⟨S8192x1, .f32⟩
  | 37 => ⟨S1x32, .f32⟩
  | 38 => ⟨S8192x32, .f32⟩
  | 39 => ⟨S8192x32, .f32⟩
  | 40 => ⟨S8192x32, .f32⟩
  | 41 => ⟨S8192x32, .f32⟩
  | 42 => ⟨S8192x32, .f32⟩
  | 43 => ⟨S_, .f32⟩
  | 44 => ⟨S8192x32, .f32⟩
  | 45 => ⟨S8192x128, .f32⟩
  | 46 => ⟨S8192x128, .f32⟩
  | 47 => ⟨S8192x32, .f32⟩
  | 48 => ⟨S8192x128, .f32⟩
  | 49 => ⟨S8192x1024, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x1, .f32⟩
  | 60 => ⟨S8192x1024, .f32⟩
  | 61 => ⟨S8192x1024, .f32⟩
  | 62 => ⟨S8192x1024, .f32⟩
  | 63 => ⟨S8192x1024, .f32⟩
  | 64 => ⟨S8192x3008, .f32⟩
  | 65 => ⟨S8192x448, .f32⟩
  | 66 => ⟨S_, .f32⟩
  | 67 => ⟨S8192x64, .f32⟩
  | 68 => ⟨S8192x512, .f32⟩
  | 69 => ⟨S8192x1024, .f32⟩
  | 70 => ⟨S8192x512, .f32⟩
  | 71 => ⟨S8192x512, .f32⟩
  | 72 => ⟨S8192x3072, .f32⟩
  | 73 => ⟨S1024x448, .f32⟩
  | 74 => ⟨S_, .f32⟩
  | 75 => ⟨S1024x64, .f32⟩
  | 76 => ⟨S1024x512, .f32⟩
  | 77 => ⟨S1024x1024, .f32⟩
  | 78 => ⟨S1024x512, .f32⟩
  | 79 => ⟨S1024x512, .f32⟩
  | 80 => ⟨S1024x3072, .f32⟩
  | 81 => ⟨S1024x3072, .bf16⟩
  | 82 => ⟨S256x4x192, .f32⟩
  | 83 => ⟨S_, .i32⟩
  | 84 => ⟨S_, .f32⟩
  | 85 => ⟨S256x4x256, .f32⟩
  | 86 => ⟨S256x1024, .f32⟩
  | 87 => ⟨S256x1024, .bf16⟩
  | 88 => ⟨S128x4x2x128, .f32⟩
  | 89 => ⟨S128x2x4x128, .f32⟩
  | 90 => ⟨S128x1024, .f32⟩
  | 91 => ⟨S128x1024, .bf16⟩
  | 92 => ⟨S_, .i32⟩
  | 93 => ⟨S_, .f32⟩
  | 94 => ⟨S8x512, .f32⟩
  | 95 => ⟨S_, .f32⟩
  | 96 => ⟨S8192x4x192, .f32⟩
  | 97 => ⟨S8192x4x192, .f32⟩
  | 98 => ⟨S_, .i32⟩
  | 99 => ⟨S_, .f32⟩
  | 100 => ⟨S8192x4x256, .f32⟩
  | 101 => ⟨S8192x1024, .f32⟩
  | 102 => ⟨S_, .f32⟩
  | 103 => ⟨S8192x4x192, .f32⟩
  | 104 => ⟨S8192x4x192, .f32⟩
  | 105 => ⟨S_, .i32⟩
  | 106 => ⟨S_, .f32⟩
  | 107 => ⟨S8192x4x256, .f32⟩
  | 108 => ⟨S8192x1024, .f32⟩
  | 109 => ⟨S8192x512, .f32⟩
  | 110 => ⟨S8192x512, .bf16⟩
  | 111 => ⟨S8192x1024, .f32⟩
  | 112 => ⟨S8192x1024, .bf16⟩
  | 113 => ⟨S_, .i32⟩
  | 114 => ⟨S_, .f32⟩
  | 115 => ⟨S1x256, .f32⟩
  | 116 => ⟨S_, .i32⟩
  | 117 => ⟨S_, .f32⟩
  | 118 => ⟨S1x256, .f32⟩
  | 119 => ⟨S8192x1024, .f32⟩
  | 120 => ⟨S1024x3072, .f32⟩
  | 121 => ⟨S256x1024, .f32⟩
  | 122 => ⟨S128x1024, .f32⟩
  | 123 => ⟨S1x1024, .f32⟩
  | 124 => ⟨S1x256, .f32⟩
  | 125 => ⟨S1x128, .f32⟩
  | 126 => ⟨S1x256, .f32⟩
  | 127 => ⟨S1x256, .f32⟩
  | _ => ⟨S8192x1024, .f32⟩

abbrev hbmTy0_1 (i : Nat) : BufTy := match i % 128 with
  | 0 => ⟨S1024x448, .f32⟩
  | 1 => ⟨S1024x512, .f32⟩
  | 2 => ⟨S1024x512, .f32⟩
  | 3 => ⟨S1024x1024, .f32⟩
  | 4 => ⟨S1024x512, .f32⟩
  | 5 => ⟨S1024x3008, .f32⟩
  | 6 => ⟨S256x4x256, .f32⟩
  | 7 => ⟨S256x4x192, .f32⟩
  | 8 => ⟨S256x768, .f32⟩
  | 9 => ⟨S128x2x4x128, .f32⟩
  | 10 => ⟨S128x4x2x128, .f32⟩
  | 11 => ⟨S128x1024, .f32⟩
  | 12 => ⟨S1x192, .f32⟩
  | 13 => ⟨S1x192, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | .local _ .vmem, ⟨14, _⟩ => ⟨S256x1024, .bf16⟩
  | .local _ .vmem, ⟨15, _⟩ => ⟨S256x1024, .bf16⟩
  | .local _ .vmem, ⟨16, _⟩ => ⟨S256x512, .f32⟩
  | .local _ .vmem, ⟨17, _⟩ => ⟨S256x512, .f32⟩
  | .local _ .vmem, ⟨18, _⟩ => ⟨S8x512, .f32⟩
  | .local _ .vmem, ⟨19, _⟩ => ⟨S8x512, .f32⟩
  | .local _ .vmem, ⟨20, _⟩ => ⟨S256x1024, .f32⟩
  | .local _ .vmem, ⟨21, _⟩ => ⟨S256x1024, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S1x1024, .f32⟩
  | .local _ .vmem, ⟨29, _⟩ => ⟨S1024x3072, .bf16⟩
  | .local _ .vmem, ⟨30, _⟩ => ⟨S1x256, .f32⟩
  | .local _ .vmem, ⟨31, _⟩ => ⟨S256x1024, .bf16⟩
  | .local _ .vmem, ⟨32, _⟩ => ⟨S1x128, .f32⟩
  | .local _ .vmem, ⟨33, _⟩ => ⟨S128x1024, .bf16⟩
  | .local _ .vmem, ⟨34, _⟩ => ⟨S1x256, .f32⟩
  | .local _ .vmem, ⟨35, _⟩ => ⟨S1x256, .f32⟩
  | .local _ .vmem, ⟨36, _⟩ => ⟨S8x512, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S128x1024, .f32⟩
  | .local _ .vmem, ⟨41, _⟩ => ⟨S1x1024, .f32⟩
  | .local _ .vmem, ⟨42, _⟩ => ⟨S1x256, .f32⟩
  | .local _ .vmem, ⟨43, _⟩ => ⟨S1x128, .f32⟩
  | .local _ .vmem, ⟨44, _⟩ => ⟨S1x256, .f32⟩
  | .local _ .vmem, ⟨45, _⟩ => ⟨S1x256, .f32⟩
  | .local _ .vmem, ⟨46, _⟩ => ⟨S256x3072, .bf16⟩
  | .local _ .vmem, ⟨47, _⟩ => ⟨S256x3072, .bf16⟩
  | .local _ .vmem, ⟨48, _⟩ => ⟨S256x1024, .bf16⟩
  | .local _ .vmem, ⟨49, _⟩ => ⟨S256x1024, .bf16⟩
  | .local _ .vmem, ⟨50, _⟩ => ⟨S1024x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_cst_2 : Ref sig .tc := ⟨.hbm, 29, rfl⟩
abbrev main_v7 : Ref sig .tc := ⟨.hbm, 30, rfl⟩
abbrev main_v8 : Ref sig .tc := ⟨.hbm, 31, rfl⟩
abbrev main_cst_3 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_v28 : Ref sig .tc := ⟨.hbm, 55, rfl⟩
abbrev main_cst_7 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c : Ref sig .tc := ⟨.hbm, 83, rfl⟩
abbrev main_call0_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_10 : Ref sig .tc := ⟨.hbm, 92, rfl⟩
abbrev main_call1_v0 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_c_12 : Ref sig .tc := ⟨.hbm, 98, rfl⟩
abbrev main_call2_v0 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_v66 : Ref sig .tc := ⟨.hbm, 104, rfl⟩
abbrev main_c_14 : Ref sig .tc := ⟨.hbm, 105, rfl⟩
abbrev main_call3_v0 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_15 : Ref sig .tc := ⟨.hbm, 113, rfl⟩
abbrev main_call4_v0 : Ref sig .tc := ⟨.hbm, 114, rfl⟩
abbrev main_v73 : Ref sig .tc := ⟨.hbm, 115, rfl⟩
abbrev main_c_16 : Ref sig .tc := ⟨.hbm, 116, rfl⟩
abbrev main_call5_v0 : Ref sig .tc := ⟨.hbm, 117, rfl⟩
abbrev main_v74 : Ref sig .tc := ⟨.hbm, 118, rfl⟩
abbrev main_v75_0 : Ref sig .tc := ⟨.hbm, 119, rfl⟩
abbrev main_v75_1 : Ref sig .tc := ⟨.hbm, 120, rfl⟩
abbrev main_v75_2 : Ref sig .tc := ⟨.hbm, 121, rfl⟩
abbrev main_v75_3 : Ref sig .tc := ⟨.hbm, 122, rfl⟩
abbrev main_v75_4 : Ref sig .tc := ⟨.hbm, 123, rfl⟩
abbrev main_v75_5 : Ref sig .tc := ⟨.hbm, 124, rfl⟩
abbrev main_v75_6 : Ref sig .tc := ⟨.hbm, 125, rfl⟩
abbrev main_v75_7 : Ref sig .tc := ⟨.hbm, 126, rfl⟩
abbrev main_v75_8 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_stg22_0 : Ref sig .tc := ⟨.vmem, 36, rfl⟩
abbrev cc0_stg23_0 : Ref sig .tc := ⟨.vmem, 37, rfl⟩
abbrev cc0_stg23_1 : Ref sig .tc := ⟨.vmem, 38, rfl⟩
abbrev cc0_stg24_0 : Ref sig .tc := ⟨.vmem, 39, rfl⟩
abbrev cc0_stg25_0 : Ref sig .tc := ⟨.vmem, 40, rfl⟩
abbrev cc0_stg26_0 : Ref sig .tc := ⟨.vmem, 41, rfl⟩
abbrev cc0_stg27_0 : Ref sig .tc := ⟨.vmem, 42, rfl⟩
abbrev cc0_stg28_0 : Ref sig .tc := ⟨.vmem, 43, rfl⟩
abbrev cc0_stg29_0 : Ref sig .tc := ⟨.vmem, 44, rfl⟩
abbrev cc0_stg30_0 : Ref sig .tc := ⟨.vmem, 45, rfl⟩
abbrev cc0_scratch0 : Ref sig .tc := ⟨.vmem, 46, rfl⟩
abbrev cc0_scratch1 : Ref sig .tc := ⟨.vmem, 47, rfl⟩
abbrev cc0_scratch2 : Ref sig .tc := ⟨.vmem, 48, rfl⟩
abbrev cc0_scratch3 : Ref sig .tc := ⟨.vmem, 49, rfl⟩
abbrev cc0_scratch4 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem21_0 : DmaSem sig := 35
abbrev cc0_sem22_0 : DmaSem sig := 36
abbrev cc0_sem23_0 : DmaSem sig := 37
abbrev cc0_sem23_1 : DmaSem sig := 38
abbrev cc0_sem24_0 : DmaSem sig := 39
abbrev cc0_sem25_0 : DmaSem sig := 40
abbrev cc0_sem26_0 : DmaSem sig := 41
abbrev cc0_sem27_0 : DmaSem sig := 42
abbrev cc0_sem28_0 : DmaSem sig := 43
abbrev cc0_sem29_0 : DmaSem sig := 44
abbrev cc0_sem30_0 : DmaSem sig := 45

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg0 : BitVec 32 := BitVec.ofNat 32 (i 0).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg0 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.addi v0 c1_i32
  let c32_i32 : BitVec 32 := 32#32
  let v2 : BitVec 32 := Scalar.muli v1 c32_i32
  let c1023_i32 : BitVec 32 := 1023#32
  let v3 : BitVec 32 := Scalar.minsi v2 c1023_i32
  let c0_i32 : BitVec 32 := 0#32
  let c0_i32_0 : BitVec 32 := 0#32
  ![v3.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x3072 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S256x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x256 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]
-- ==== Kernel4Ideal.lean ====
variable {F : FTy → Type} [FloatOps F] [Named F]
def κ : String → Option EReal := fun
  | "inv192" => some ((1 / 192 : ℝ) : EReal)
  | _ => none
-- ==== Reference4Ideal.lean ====
abbrev S8192x1024 : Shape := ⟨2, ![8192, 1024]⟩
abbrev S8192 : Shape := ⟨1, ![8192]⟩
abbrev S1x1024 : Shape := ⟨2, ![1, 1024]⟩
abbrev S1024x3008 : Shape := ⟨2, ![1024, 3008]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S1x192 : Shape := ⟨2, ![1, 192]⟩
abbrev S3x512 : Shape := ⟨2, ![3, 512]⟩
abbrev S8192x4x192 : Shape := ⟨3, ![8192, 4, 192]⟩
abbrev S8192x4x128 : Shape := ⟨3, ![8192, 4, 128]⟩
abbrev S8192x512 : Shape := ⟨2, ![8192, 512]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S8192x3008 : Shape := ⟨2, ![8192, 3008]⟩
abbrev S8192x256 : Shape := ⟨2, ![8192, 256]⟩
abbrev S8192x128 : Shape := ⟨2, ![8192, 128]⟩
abbrev S8192x64 : Shape := ⟨2, ![8192, 64]⟩
abbrev S8192x768 : Shape := ⟨2, ![8192, 768]⟩
abbrev S8192x4x256 : Shape := ⟨3, ![8192, 4, 256]⟩
abbrev S8192x1x64 : Shape := ⟨3, ![8192, 1, 64]⟩
abbrev S8192x4x64 : Shape := ⟨3, ![8192, 4, 64]⟩
abbrev S8192x4 : Shape := ⟨2, ![8192, 4]⟩
abbrev S8192x4x1 : Shape := ⟨3, ![8192, 4, 1]⟩
abbrev S1x1x192 : Shape := ⟨3, ![1, 1, 192]⟩
abbrev S8192x4x32 : Shape := ⟨3, ![8192, 4, 32]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S192 : Shape := ⟨1, ![192]⟩
abbrev S1024x128 : Shape := ⟨2, ![1024, 128]⟩
abbrev S128 : Shape := ⟨1, ![128]⟩
abbrev S768x256 : Shape := ⟨2, ![768, 256]⟩
abbrev S256 : Shape := ⟨1, ![256]⟩
abbrev S3008x1024 : Shape := ⟨2, ![3008, 1024]⟩
abbrev S1024 : Shape := ⟨1, ![1024]⟩

abbrev nBuf : Space → Nat
  | .hbm => 437
  | .vmem => 0
  | .smem => 0
  | _ => 0

abbrev hbmTy0_0 (i : Nat) : BufTy := match i % 128 with
  | 0 => ⟨S8192x1024, .f32⟩
  | 1 => ⟨S8192, .i32⟩
  | 2 => ⟨S1x1024, .f32⟩
  | 3 => ⟨S1024x3008, .f32⟩
  | 4 => ⟨S1x256, .f32⟩
  | 5 => ⟨S256x768, .f32⟩
  | 6 => ⟨S1x128, .f32⟩
  | 7 => ⟨S128x1024, .f32⟩
  | 8 => ⟨S1x192, .f32⟩
  | 9 => ⟨S1x192, .f32⟩
  | 10 => ⟨S3x512, .f32⟩
  | 11 => ⟨S8192x4x192, .f32⟩
  | 12 => ⟨S8192x4x192, .f32⟩
  | 13 => ⟨S8192x4x128, .f32⟩
  | 14 => ⟨S8192x512, .f32⟩
  | 15 => ⟨S8192x512, .f32⟩
  | 16 => ⟨S8192x512, .f32⟩
  | 17 => ⟨S8192x512, .f32⟩
  | 18 => ⟨S8192x1024, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S_, .f32⟩
  | 33 => ⟨S32, .f32⟩
  | 34 => ⟨S32, .f32⟩
  | 35 => ⟨S8192, .f32⟩
  | 36 => ⟨S8192x1, .f32⟩
  | 37 => ⟨S1x32, .f32⟩
  | 38 => ⟨S8192x32, .f32⟩
  | 39 => ⟨S8192x32, .f32⟩
  | 40 => ⟨S8192x32, .f32⟩
  | 41 => ⟨S8192x32, .f32⟩
  | 42 => ⟨S8192x1x32, .f32⟩
  | 43 => ⟨S8192x32, .f32⟩
  | 44 => ⟨S8192x1x32, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S8192x1024, .f32⟩
  | 63 => ⟨S8192x1024, .f32⟩
  | 64 => ⟨S8192x3008, .f32⟩
  | 65 => ⟨S8192x256, .f32⟩
  | 66 => ⟨S8192x128, .f32⟩
  | 67 => ⟨S8192x64, .f32⟩
  | 68 => ⟨S8192x512, .f32⟩
  | 69 => ⟨S8192x512, .f32⟩
  | 70 => ⟨S8192x512, .f32⟩
  | 71 => ⟨S8192x512, .f32⟩
  | 72 => ⟨S8192x512, .f32⟩
  | 73 => ⟨S8192x256, .f32⟩
  | 74 => ⟨S_, .f32⟩
  | 75 => ⟨S8192, .f32⟩
  | 76 => ⟨S8192x1, .f32⟩
  | 77 => ⟨S_, .f32⟩
  | 78 => ⟨S8192x1, .f32⟩
  | 79 => ⟨S8192x1, .f32⟩
  | 80 => ⟨S_, .f32⟩
  | 81 => ⟨S8192x1, .f32⟩
  | 82 => ⟨S8192x1, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x256, .f32⟩
  | 89 => ⟨S8192x256, .f32⟩
  | 90 => ⟨S8192x256, .f32⟩
  | 91 => ⟨S8192x256, .f32⟩
  | 92 => ⟨S8192x768, .f32⟩
  | 93 => ⟨S8192x4x192, .f32⟩
  | 94 => ⟨S8192x128, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S_, .f32⟩
  | 102 => ⟨S8192x1, .f32⟩
  | 103 => ⟨S8192x1, .f32⟩
  | 104 => ⟨S8192x1, .f32⟩
  | 105 => ⟨S8192x1, .f32⟩
  | 106 => ⟨S_, .f32⟩
  | 107 => ⟨S8192x1, .f32⟩
  | 108 => ⟨S8192x1, .f32⟩
  | 109 => ⟨S8192x128, .f32⟩
  | 110 => ⟨S8192x128, .f32⟩
  | 111 => ⟨S8192x128, .f32⟩
  | 112 => ⟨S8192x128, .f32⟩
  | 113 => ⟨S8192x1024, .f32⟩
  | 114 => ⟨S8192x4x256, .f32⟩
  | 115 => ⟨S8192x4x128, .f32⟩
  | 116 => ⟨S8192x4x128, .f32⟩
  | 117 => ⟨S8192x1x64, .f32⟩
  | 118 => ⟨S8192x4x64, .f32⟩
  | 119 => ⟨S8192x4x192, .f32⟩
  | 120 => ⟨S8192x4x192, .f32⟩
  | 121 => ⟨S_, .f32⟩
  | 122 => ⟨S8192x4, .f32⟩
  | 123 => ⟨S8192x4x1, .f32⟩
  | 124 => ⟨S_, .f32⟩
  | 125 => ⟨S8192x4x1, .f32⟩
  | 126 => ⟨S8192x4x1, .f32⟩
  | 127 => ⟨S_, .f32⟩
  | _ => ⟨S8192x1024, .f32⟩

abbrev hbmTy0_1 (i : Nat) : BufTy := match i % 128 with
  | 0 => ⟨S8192x4x1, .f32⟩
  | 1 => ⟨S8192x4x1, .f32⟩
  | 2 => ⟨S8192x4x1, .f32⟩
  | 3 => ⟨S8192x4x1, .f32⟩
  | 4 => ⟨S_, .f32⟩
  | 5 => ⟨S8192x4x1, .f32⟩
  | 6 => ⟨S8192x4x1, .f32⟩
  | 7 => ⟨S8192x4x192, .f32⟩
  | 8 => ⟨S8192x4x192, .f32⟩
  | 9 => ⟨S1x1x192, .f32⟩
  | 10 => ⟨S8192x4x192, .f32⟩
  | 11 => ⟨S8192x4x192, .f32⟩
  | 12 => ⟨S8192x4x192, .f32⟩
  | 13 => ⟨S_, .f32⟩
  | 14 => ⟨S8192x4, .f32⟩
  | 15 => ⟨S8192x4x1, .f32⟩
  | 16 => ⟨S_, .f32⟩
  | 17 => ⟨S8192x4x1, .f32⟩
  | 18 => ⟨S8192x4x1, .f32⟩
  | 19 => ⟨S_, .f32⟩
  | 20 => ⟨S8192x4x1, .f32⟩
  | 21 => ⟨S8192x4x1, .f32⟩
  | 22 => ⟨S8192x4x1, .f32⟩
  | 23 => ⟨S8192x4x1, .f32⟩
  | 24 => ⟨S_, .f32⟩
  | 25 => ⟨S8192x4x1, .f32⟩
  | 26 => ⟨S8192x4x1, .f32⟩
  | 27 => ⟨S8192x4x192, .f32⟩
  | 28 => ⟨S8192x4x192, .f32⟩
  | 29 => ⟨S1x1x192, .f32⟩
  | 30 => ⟨S8192x4x192, .f32⟩
  | 31 => ⟨S8192x4x192, .f32⟩
  | 32 => ⟨S8192x4x128, .f32⟩
  | 33 => ⟨S8192x4x64, .f32⟩
  | 34 => ⟨S8192x4x32, .f32⟩
  | 35 => ⟨S8192x4x32, .f32⟩
  | 36 => ⟨S8192x4x32, .f32⟩
  | 37 => ⟨S8192x4x32, .f32⟩
  | 38 => ⟨S8192x4x32, .f32⟩
  | 39 => ⟨S8192x4x32, .f32⟩
  | 40 => ⟨S8192x4x32, .f32⟩
  | 41 => ⟨S8192x4x32, .f32⟩
  | 42 => ⟨S8192x4x32, .f32⟩
  | 43 => ⟨S8192x4x32, .f32⟩
  | 44 => ⟨S8192x4x32, .f32⟩
  | 45 => ⟨S8192x4x32, .f32⟩
  | 46 => ⟨S8192x4x64, .f32⟩
  | 47 => ⟨S8192x4x192, .f32⟩
  | 48 => ⟨S8192x4x128, .f32⟩
  | 49 => ⟨S8192x4x64, .f32⟩
  | 50 => ⟨S8192x4x32, .f32⟩
  | 51 => ⟨S8192x4x32, .f32⟩
  | 52 => ⟨S8192x4x32, .f32⟩
  | 53 => ⟨S8192x4x32, .f32⟩
  | 54 => ⟨S8192x4x32, .f32⟩
  | 55 => ⟨S8192x4x32, .f32⟩
  | 56 => ⟨S8192x4x32, .f32⟩
  | 57 => ⟨S8192x4x32, .f32⟩
  | 58 => ⟨S8192x4x32, .f32⟩
  | 59 => ⟨S8192x4x32, .f32⟩
  | 60 => ⟨S8192x4x32, .f32⟩
  | 61 => ⟨S8192x4x32, .f32⟩
  | 62 => ⟨S8192x4x64, .f32⟩
  | 63 => ⟨S8192x4x192, .f32⟩
  | 64 => ⟨S8192x512, .f32⟩
  | 65 => ⟨S_, .f32⟩
  | 66 => ⟨S2x512, .f32⟩
  | 67 => ⟨S8194x512, .f32⟩
  | 68 => ⟨S_, .f32⟩
  | 69 => ⟨S2x512, .f32⟩
  | 70 => ⟨S1x512, .f32⟩
  | 71 => ⟨S512, .f32⟩
  | 72 => ⟨S8192x512, .f32⟩
  | 73 => ⟨S1x512, .f32⟩
  | 74 => ⟨S8192x512, .f32⟩
  | 75 => ⟨S8192x512, .f32⟩
  | 76 => ⟨S_, .f32⟩
  | 77 => ⟨S8192x512, .f32⟩
  | 78 => ⟨S8192x512, .f32⟩
  | 79 => ⟨S1x512, .f32⟩
  | 80 => ⟨S512, .f32⟩
  | 81 => ⟨S8192x512, .f32⟩
  | 82 => ⟨S1x512, .f32⟩
  | 83 => ⟨S8192x512, .f32⟩
  | 84 => ⟨S8192x512, .f32⟩
  | 85 => ⟨S8192x512, .f32⟩
  | 86 => ⟨S1x512, .f32⟩
  | 87 => ⟨S512, .f32⟩
  | 88 => ⟨S8192x512, .f32⟩
  | 89 => ⟨S1x512, .f32⟩
  | 90 => ⟨S8192x512, .f32⟩
  | 91 => ⟨S8192x512, .f32⟩
  | 92 => ⟨S8192x512, .f32⟩
  | 93 => ⟨S8192x512, .f32⟩
  | 94 => ⟨S8192x512, .f32⟩
  | 95 => ⟨S8192x512, .f32⟩
  | 96 => ⟨S8192x512, .f32⟩
  | 97 => ⟨S_, .f32⟩
  | 98 => ⟨S8194x512, .f32⟩
  | 99 => ⟨S8192x512, .f32⟩
  | 100 => ⟨S8192x512, .f32⟩
  | 101 => ⟨S_, .f32⟩
  | 102 => ⟨S8194x512, .f32⟩
  | 103 => ⟨S8194x512, .f32⟩
  | 104 => ⟨S8192x512, .f32⟩
  | 105 => ⟨S8192x512, .f32⟩
  | 106 => ⟨S_, .f32⟩
  | 107 => ⟨S8194x512, .f32⟩
  | 108 => ⟨S8194x512, .f32⟩
  | 109 => ⟨S2x512, .f32⟩
  | 110 => ⟨S8192x512, .f32⟩
  | 111 => ⟨S8192x512, .f32⟩
  | 112 => ⟨S8192x512, .f32⟩
  | 113 => ⟨S8192x4x128, .f32⟩
  | 114 => ⟨S8192x4x64, .f32⟩
  | 115 => ⟨S8192x4x32, .f32⟩
  | 116 => ⟨S8192x4x32, .f32⟩
  | 117 => ⟨S8192x4x32, .f32⟩
  | 118 => ⟨S8192x4x32, .f32⟩
  | 119 => ⟨S8192x4x32, .f32⟩
  | 120 => ⟨S8192x4x32, .f32⟩
  | 121 => ⟨S8192x4x32, .f32⟩
  | 122 => ⟨S8192x4x32, .f32⟩
  | 123 => ⟨S8192x4x32, .f32⟩
  | 124 => ⟨S8192x4x32, .f32⟩
  | 125 => ⟨S8192x4x32, .f32⟩
  | 126 => ⟨S8192x4x32, .f32⟩
  | 127 => ⟨S8192x4x32, .f32⟩
  | _ => ⟨S8192x1024, .f32⟩

abbrev hbmTy0_2 (i : Nat) : BufTy := match i % 128 with
  | 0 => ⟨S_, .f32⟩
  | 1 => ⟨S8192x4x64, .f32⟩
  | 2 => ⟨S_, .f32⟩
  | 3 => ⟨S8192x4x64, .f32⟩
  | 4 => ⟨S8192x4x64, .f32⟩
  | 5 => ⟨S_, .f32⟩
  | 6 => ⟨S8192x4x192, .f32⟩
  | 7 => ⟨S_, .f32⟩
  | 8 => ⟨S8192x4x192, .f32⟩
  | 9 => ⟨S8192x4x192, .f32⟩
  | 10 => ⟨S8192x4x128, .f32⟩
  | 11 => ⟨S8192x4x64, .f32⟩
  | 12 => ⟨S8192x4x32, .f32⟩
  | 13 => ⟨S8192x4x32, .f32⟩
  | 14 => ⟨S8192x4x32, .f32⟩
  | 15 => ⟨S8192x4x32, .f32⟩
  | 16 => ⟨S8192x4x32, .f32⟩
  | 17 => ⟨S8192x4x32, .f32⟩
  | 18 => ⟨S8192x4x32, .f32⟩
  | 19 => ⟨S8192x4x32, .f32⟩
  | 20 => ⟨S8192x4x32, .f32⟩
  | 21 => ⟨S8192x4x32, .f32⟩
  | 22 => ⟨S8192x4x32, .f32⟩
  | 23 => ⟨S8192x4x32, .f32⟩
  | 24 => ⟨S8192x4x32, .f32⟩
  | 25 => ⟨S_, .f32⟩
  | 26 => ⟨S8192x4x64, .f32⟩
  | 27 => ⟨S_, .f32⟩
  | 28 => ⟨S8192x4x64, .f32⟩
  | 29 => ⟨S8192x4x64, .f32⟩
  | 30 => ⟨S_, .f32⟩
  | 31 => ⟨S8192x4x192, .f32⟩
  | 32 => ⟨S_, .f32⟩
  | 33 => ⟨S8192x4x192, .f32⟩
  | 34 => ⟨S8192x4x192, .f32⟩
  | 35 => ⟨S8192x4x192, .f32⟩
  | 36 => ⟨S_, .f32⟩
  | 37 => ⟨S192, .f32⟩
  | 38 => ⟨S1x1x192, .f32⟩
  | 39 => ⟨S8192x4x192, .f32⟩
  | 40 => ⟨S8192x4x192, .f32⟩
  | 41 => ⟨S_, .f32⟩
  | 42 => ⟨S192, .f32⟩
  | 43 => ⟨S1x192, .f32⟩
  | 44 => ⟨S8192x4x192, .f32⟩
  | 45 => ⟨S_, .f32⟩
  | 46 => ⟨S8192x4, .f32⟩
  | 47 => ⟨S8192x4x1, .f32⟩
  | 48 => ⟨S8192x4x192, .f32⟩
  | 49 => ⟨S8192x4x192, .f32⟩
  | 50 => ⟨S8192x4x1, .f32⟩
  | 51 => ⟨S_, .f32⟩
  | 52 => ⟨S8192x4x1, .f32⟩
  | 53 => ⟨S8192x4x1, .f32⟩
  | 54 => ⟨S_, .f32⟩
  | 55 => ⟨S8192x4, .f32⟩
  | 56 => ⟨S8192x4x192, .f32⟩
  | 57 => ⟨S8192x4x192, .f32⟩
  | 58 => ⟨S8192x4x192, .f32⟩
  | 59 => ⟨S8192x4x192, .f32⟩
  | 60 => ⟨S8192x4x192, .f32⟩
  | 61 => ⟨S8192x4x192, .f32⟩
  | 62 => ⟨S_, .f32⟩
  | 63 => ⟨S192, .f32⟩
  | 64 => ⟨S1x1x192, .f32⟩
  | 65 => ⟨S8192x4x192, .f32⟩
  | 66 => ⟨S8192x4x192, .f32⟩
  | 67 => ⟨S_, .f32⟩
  | 68 => ⟨S192, .f32⟩
  | 69 => ⟨S1x192, .f32⟩
  | 70 => ⟨S8192x4x192, .f32⟩
  | 71 => ⟨S_, .f32⟩
  | 72 => ⟨S8192x4, .f32⟩
  | 73 => ⟨S8192x4x1, .f32⟩
  | 74 => ⟨S8192x4x192, .f32⟩
  | 75 => ⟨S8192x4x192, .f32⟩
  | 76 => ⟨S8192x4x1, .f32⟩
  | 77 => ⟨S_, .f32⟩
  | 78 => ⟨S8192x4x1, .f32⟩
  | 79 => ⟨S8192x4x1, .f32⟩
  | 80 => ⟨S_, .f32⟩
  | 81 => ⟨S8192x4, .f32⟩
  | 82 => ⟨S8192x4x192, .f32⟩
  | 83 => ⟨S8192x4x192, .f32⟩
  | 84 => ⟨S8192x4x192, .f32⟩
  | 85 => ⟨S8192x4x192, .f32⟩
  | 86 => ⟨S8192x4x192, .f32⟩
  | 87 => ⟨S8192x4x128, .f32⟩
  | 88 => ⟨S8192x4x64, .f32⟩
  | 89 => ⟨S_, .f32⟩
  | 90 => ⟨S8192x64, .f32⟩
  | 91 => ⟨S8192x1x64, .f32⟩
  | 92 => ⟨S_, .f32⟩
  | 93 => ⟨S8192x64, .f32⟩
  | 94 => ⟨S_, .f32⟩
  | 95 => ⟨S8192x4x256, .f32⟩
  | 96 => ⟨S_, .f32⟩
  | 97 => ⟨S8192x4x256, .f32⟩
  | 98 => ⟨S8192x4x256, .f32⟩
  | 99 => ⟨S8192x1024, .f32⟩
  | 100 => ⟨S1024x128, .f32⟩
  | 101 => ⟨S128x1024, .f32⟩
  | 102 => ⟨S8192x128, .f32⟩
  | 103 => ⟨S8192x128, .f32⟩
  | 104 => ⟨S_, .f32⟩
  | 105 => ⟨S128, .f32⟩
  | 106 => ⟨S1x128, .f32⟩
  | 107 => ⟨S8192x128, .f32⟩
  | 108 => ⟨S8192x128, .f32⟩
  | 109 => ⟨S8192x128, .f32⟩
  | 110 => ⟨S_, .f32⟩
  | 111 => ⟨S8192, .f32⟩
  | 112 => ⟨S8192x1, .f32⟩
  | 113 => ⟨S8192x128, .f32⟩
  | 114 => ⟨S8192x128, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192, .f32⟩
  | 121 => ⟨S8192x128, .f32⟩
  | 122 => ⟨S8192x128, .f32⟩
  | 123 => ⟨S8192x128, .f32⟩
  | 124 => ⟨S8192x128, .f32⟩
  | 125 => ⟨S8192x128, .f32⟩
  | 126 => ⟨S8192x768, .f32⟩
  | 127 => ⟨S768x256, .f32⟩
  | _ => ⟨S8192x1024, .f32⟩

abbrev hbmTy0_3 (i : Nat) : BufTy := match i % 128 with
  | 0 => ⟨S256x768, .f32⟩
  | 1 => ⟨S8192x256, .f32⟩
  | 2 => ⟨S8192x256, .f32⟩
  | 3 => ⟨S_, .f32⟩
  | 4 => ⟨S256, .f32⟩
  | 5 => ⟨S1x256, .f32⟩
  | 6 => ⟨S8192x256, .f32⟩
  | 7 => ⟨S8192x256, .f32⟩
  | 8 => ⟨S8192x256, .f32⟩
  | 9 => ⟨S_, .f32⟩
  | 10 => ⟨S8192, .f32⟩
  | 11 => ⟨S8192x1, .f32⟩
  | 12 => ⟨S8192x256, .f32⟩
  | 13 => ⟨S8192x256, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192, .f32⟩
  | 20 => ⟨S8192x256, .f32⟩
  | 21 => ⟨S8192x256, .f32⟩
  | 22 => ⟨S8192x256, .f32⟩
  | 23 => ⟨S8192x256, .f32⟩
  | 24 => ⟨S8192x256, .f32⟩
  | 25 => ⟨S8192x3008, .f32⟩
  | 26 => ⟨S3008x1024, .f32⟩
  | 27 => ⟨S1024x3008, .f32⟩
  | 28 => ⟨S8192x1024, .f32⟩
  | 29 => ⟨S8192x1024, .f32⟩
  | 30 => ⟨S_, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S_, .f32⟩
  | 37 => ⟨S8192, .f32⟩
  | 38 => ⟨S8192x1, .f32⟩
  | 39 => ⟨S8192x1024, .f32⟩
  | 40 => ⟨S8192x1024, .f32⟩
  | 41 => ⟨S8192x1024, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_cst : Ref sig .tc := ⟨.hbm, 20, rfl⟩
abbrev main_v1 : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_cst_1 : Ref sig .tc := ⟨.hbm, 26, rfl⟩
abbrev main_v5 : Ref sig .tc := ⟨.hbm, 27, rfl⟩
abbrev main_v6 : Ref sig .tc := ⟨.hbm, 28, rfl⟩
abbrev main_cst_2 : Ref sig .tc := ⟨.hbm, 29, rfl⟩
abbrev main_v7 : Ref sig .tc := ⟨.hbm, 30, rfl⟩
abbrev main_v8 : Ref sig .tc := ⟨.hbm, 31, rfl⟩
abbrev main_cst_3 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_4 : Ref sig .tc := ⟨.hbm, 46, rfl⟩
abbrev main_v22 : Ref sig .tc := ⟨.hbm, 47, rfl⟩
abbrev main_v23 : Ref sig .tc := ⟨.hbm, 48, rfl⟩
abbrev main_cst_5 : Ref sig .tc := ⟨.hbm, 49, rfl⟩
abbrev main_v24 : Ref sig .tc := ⟨.hbm, 50, rfl⟩
abbrev main_v25 : Ref sig .tc := ⟨.hbm, 51, rfl⟩
abbrev main_cst_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_cst_10 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_16 : Ref sig .tc := ⟨.hbm, 121, rfl⟩
abbrev main_v85 : Ref sig .tc := ⟨.hbm, 122, rfl⟩
abbrev main_v86 : Ref sig .tc := ⟨.hbm, 123, rfl⟩
abbrev main_cst_17 : Ref sig .tc := ⟨.hbm, 124, rfl⟩
abbrev main_v87 : Ref sig .tc := ⟨.hbm, 125, rfl⟩
abbrev main_v88 : Ref sig .tc := ⟨.hbm, 126, rfl⟩
abbrev main_cst_18 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_20 : Ref sig .tc := ⟨.hbm, 141, rfl⟩
abbrev main_v101 : Ref sig .tc := ⟨.hbm, 142, rfl⟩
abbrev main_v102 : Ref sig .tc := ⟨.hbm, 143, rfl⟩
abbrev main_cst_21 : Ref sig .tc := ⟨.hbm, 144, rfl⟩
abbrev main_v103 : Ref sig .tc := ⟨.hbm, 145, rfl⟩
abbrev main_v104 : Ref sig .tc := ⟨.hbm, 146, rfl⟩
abbrev main_cst_22 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_23 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_cst_24 : Ref sig .tc := ⟨.hbm, 193, rfl⟩
abbrev main_v149 : Ref sig .tc := ⟨.hbm, 194, rfl⟩
abbrev main_v150 : Ref sig .tc := ⟨.hbm, 195, rfl⟩
abbrev main_cst_25 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_cst_26 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_cst_27 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_cst_28 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_cst_29 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_cst_30 : Ref sig .tc := ⟨.hbm, 256, rfl⟩
abbrev main_v206 : Ref sig .tc := ⟨.hbm, 257, rfl⟩
abbrev main_cst_31 : Ref sig .tc := ⟨.hbm, 258, rfl⟩
abbrev main_v207 : Ref sig .tc := ⟨.hbm, 259, rfl⟩
abbrev main_v208 : Ref sig .tc := ⟨.hbm, 260, rfl⟩
abbrev main_cst_32 : Ref sig .tc := ⟨.hbm, 261, rfl⟩
abbrev main_v209 : Ref sig .tc := ⟨.hbm, 262, rfl⟩
abbrev main_cst_33 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_cst_34 : Ref sig .tc := ⟨.hbm, 281, rfl⟩
abbrev main_v227 : Ref sig .tc := ⟨.hbm, 282, rfl⟩
abbrev main_cst_35 : Ref sig .tc := ⟨.hbm, 283, rfl⟩
abbrev main_v228 : Ref sig .tc := ⟨.hbm, 284, rfl⟩
abbrev main_v229 : Ref sig .tc := ⟨.hbm, 285, rfl⟩
abbrev main_cst_36 : Ref sig .tc := ⟨.hbm, 286, rfl⟩
abbrev main_v230 : Ref sig .tc := ⟨.hbm, 287, rfl⟩
abbrev main_cst_37 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_cst_38 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_cst_39 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_cst_40 : Ref sig .tc := ⟨.hbm, 301, rfl⟩
abbrev main_v241 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_cst_41 : Ref sig .tc := ⟨.hbm, 307, rfl⟩
abbrev main_v246 : Ref sig .tc := ⟨.hbm, 308, rfl⟩
abbrev main_v247 : Ref sig .tc := ⟨.hbm, 309, rfl⟩
abbrev main_cst_42 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_cst_43 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_cst_44 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_cst_45 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_cst_46 : Ref sig .tc := ⟨.hbm, 333, rfl⟩
abbrev main_v267 : Ref sig .tc := ⟨.hbm, 334, rfl⟩
abbrev main_v268 : Ref sig .tc := ⟨.hbm, 335, rfl⟩
abbrev main_cst_47 : Ref sig .tc := ⟨.hbm, 336, rfl⟩
abbrev main_v269 : Ref sig .tc := ⟨.hbm, 337, rfl⟩
abbrev main_v270 : Ref sig .tc := ⟨.hbm, 338, rfl⟩
abbrev main_v271 : Ref sig .tc := ⟨.hbm, 339, rfl⟩
abbrev main_v272 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_cst_48 : Ref sig .tc := ⟨.hbm, 345, rfl⟩
abbrev main_v277 : Ref sig .tc := ⟨.hbm, 346, rfl⟩
abbrev main_v278 : Ref sig .tc := ⟨.hbm, 347, rfl⟩
abbrev main_cst_49 : Ref sig .tc := ⟨.hbm, 348, rfl⟩
abbrev main_v279 : Ref sig .tc := ⟨.hbm, 349, rfl⟩
abbrev main_cst_50 : Ref sig .tc := ⟨.hbm, 350, rfl⟩
abbrev main_v280 : Ref sig .tc := ⟨.hbm, 351, rfl⟩
abbrev main_cst_51 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_v284 : Ref sig .tc := ⟨.hbm, 356, rfl⟩
abbrev main_v285 : Ref sig .tc := ⟨.hbm, 357, rfl⟩
abbrev main_v286 : Ref sig .tc := ⟨.hbm, 358, rfl⟩
abbrev main_v287 : Ref sig .tc := ⟨.hbm, 359, rfl⟩
abbrev main_cst_52 : Ref sig .tc := ⟨.hbm, 360, rfl⟩
abbrev main_v288 : Ref sig .tc := ⟨.hbm, 361, rfl⟩
abbrev main_v289 : Ref sig .tc := ⟨.hbm, 362, rfl⟩
abbrev main_v290 : Ref sig .tc := ⟨.hbm, 363, rfl⟩
abbrev main_v291 : Ref sig .tc := ⟨.hbm, 364, rfl⟩
abbrev main_v292 : Ref sig .tc := ⟨.hbm, 365, rfl⟩
abbrev main_cst_53 : Ref sig .tc := ⟨.hbm, 366, rfl⟩
abbrev main_v293 : Ref sig .tc := ⟨.hbm, 367, rfl⟩
abbrev main_v294 : Ref sig .tc := ⟨.hbm, 368, rfl⟩
abbrev main_v295 : Ref sig .tc := ⟨.hbm, 369, rfl⟩
abbrev main_v296 : Ref sig .tc := ⟨.hbm, 370, rfl⟩
abbrev main_v297 : Ref sig .tc := ⟨.hbm, 371, rfl⟩
abbrev main_cst_54 : Ref sig .tc := ⟨.hbm, 372, rfl⟩
abbrev main_v298 : Ref sig .tc := ⟨.hbm, 373, rfl⟩
abbrev main_v299 : Ref sig .tc := ⟨.hbm, 374, rfl⟩
abbrev main_cst_55 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_v306 : Ref sig .tc := ⟨.hbm, 382, rfl⟩
abbrev main_v307 : Ref sig .tc := ⟨.hbm, 383, rfl⟩
abbrev main_v308 : Ref sig .tc := ⟨.hbm, 384, rfl⟩
abbrev main_v309 : Ref sig .tc := ⟨.hbm, 385, rfl⟩
abbrev main_v310 : Ref sig .tc := ⟨.hbm, 386, rfl⟩
abbrev main_cst_56 : Ref sig .tc := ⟨.hbm, 387, rfl⟩
abbrev main_v311 : Ref sig .tc := ⟨.hbm, 388, rfl⟩
abbrev main_v312 : Ref sig .tc := ⟨.hbm, 389, rfl⟩
abbrev main_v313 : Ref sig .tc := ⟨.hbm, 390, rfl⟩
abbrev main_v314 : Ref sig .tc := ⟨.hbm, 391, rfl⟩
abbrev main_v315 : Ref sig .tc := ⟨.hbm, 392, rfl⟩
abbrev main_cst_57 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_cst_58 : Ref sig .tc := ⟨.hbm, 399, rfl⟩
abbrev main_v321 : Ref sig .tc := ⟨.hbm, 400, rfl⟩
abbrev main_v322 : Ref sig .tc := ⟨.hbm, 401, rfl⟩
abbrev main_cst_59 : Ref sig .tc := ⟨.hbm, 402, rfl⟩
abbrev main_v323 : Ref sig .tc := ⟨.hbm, 403, rfl⟩
abbrev main_v324 : Ref sig .tc := ⟨.hbm, 404, rfl⟩
abbrev main_v325 : Ref sig .tc := ⟨.hbm, 405, rfl⟩
abbrev main_v326 : Ref sig .tc := ⟨.hbm, 406, rfl⟩
abbrev main_v327 : Ref sig .tc := ⟨.hbm, 407, rfl⟩
abbrev main_v328 : Ref sig .tc := ⟨.hbm, 408, rfl⟩
abbrev main_v329 : Ref sig .tc := ⟨.hbm, 409, rfl⟩
abbrev main_v330 : Ref sig .tc := ⟨.hbm, 410, rfl⟩
abbrev main_v331 : Ref sig .tc := ⟨.hbm, 411, rfl⟩
abbrev main_v332 : Ref sig .tc := ⟨.hbm, 412, rfl⟩
abbrev main_v333 : Ref sig .tc := ⟨.hbm, 413, rfl⟩
abbrev main_cst_60 : Ref sig .tc := ⟨.hbm, 414, rfl⟩
abbrev main_v334 : Ref sig .tc := ⟨.hbm, 415, rfl⟩
abbrev main_v335 : Ref sig .tc := ⟨.hbm, 416, rfl⟩
abbrev main_v336 : Ref sig .tc := ⟨.hbm, 417, rfl⟩
abbrev main_v337 : Ref sig .tc := ⟨.hbm, 418, rfl⟩
abbrev main_v338 : Ref sig .tc := ⟨.hbm, 419, rfl⟩
abbrev main_cst_61 : Ref sig .tc := ⟨.hbm, 420, rfl⟩
abbrev main_v339 : Ref sig .tc := ⟨.hbm, 421, rfl⟩
abbrev main_v340 : Ref sig .tc := ⟨.hbm, 422, rfl⟩
abbrev main_v341 : Ref sig .tc := ⟨.hbm, 423, rfl⟩
abbrev main_v342 : Ref sig .tc := ⟨.hbm, 424, rfl⟩
abbrev main_v343 : Ref sig .tc := ⟨.hbm, 425, rfl⟩
abbrev main_v344 : Ref sig .tc := ⟨.hbm, 426, rfl⟩
abbrev main_cst_62 : Ref sig .tc := ⟨.hbm, 427, rfl⟩
abbrev main_v345 : Ref sig .tc := ⟨.hbm, 428, rfl⟩
abbrev main_v346 : Ref sig .tc := ⟨.hbm, 429, rfl⟩
abbrev main_cst_63 : Ref sig .tc := ⟨.hbm, 430, rfl⟩
abbrev main_v347 : Ref sig .tc := ⟨.hbm, 431, rfl⟩
abbrev main_v348 : Ref sig .tc := ⟨.hbm, 432, rfl⟩
abbrev main_v349 : Ref sig .tc := ⟨.hbm, 433, rfl⟩
abbrev main_v350 : Ref sig .tc := ⟨.hbm, 434, rfl⟩
abbrev main_v351 : Ref sig .tc := ⟨.hbm, 435, rfl⟩
abbrev main_v352 : Ref sig .tc := ⟨.hbm, 436, rfl⟩

abbrev nD : Nat := 1
abbrev τ : Topo := Topo.v7x

variable {F : FTy → Type} [FloatOps F]
-- ==== Proof.FlashOffsets.lean ====
/-
  The printed offsets, trip counts and conditions of the attention backward body in closed form. The body at grid point
  (head, step) works on the key block `15 - step`; a row block of the queries is numbered by a value of `Fin 16` and covers
  rows `512 n … 512 n + 511`.
-/
module

public import proofs.«01_k».proof.Defs
public import proofs.«01_k».proof.Proof.Gen.KernelIdeal

@[expose] public section

set_option maxRecDepth 16384

noncomputable section

namespace Cert.Proof.Flash

open Cert.KernelIdeal Cert.KernelIdeal.Gen
open Idealize.ShloMosaic Idealize.ShloMosaic.TcCoe Idealize.ShloMosaic.Tactic

/-- The row block `n`, the last one past the end. -/
abbrev blk (n : Nat) : Fin 16 := ⟨min n 15, by omega⟩
/-- The key block of grid point `i`, which is also the first row block the point visits. -/
abbrev jOf (i : grid0.Coords) : Nat := 15 - (i 1).val

/-- The paired loop makes `(step - 1) / 2` trips; -/
theorem trips_eq : ∀ i : grid0.Coords, (k0_t1_loop i).trips = ((i 1).val - 1) / 2 := by decide +kernel
/-- the remainder loop makes none. -/
theorem trips2_eq (i : grid0.Coords) : (k0_t2_loop i).trips = 0 := Nat.le_zero.1 (k0_t2_abs i).2.1

theorem off1_eq : ∀ i : grid0.Coords, k0_off1 i = ![512 * (blk (jOf i)).val, 0] := by decide +kernel
theorem off2_eq : ∀ i : grid0.Coords, k0_off2 i = ![512 * (blk (jOf i)).val, 0] := by decide +kernel
theorem off3_eq : ∀ i : grid0.Coords, k0_off3 i = ![512 * (blk (jOf i + 1)).val, 0] := by decide +kernel
theorem off4_eq : ∀ i : grid0.Coords, k0_off4 i = ![512 * (blk (jOf i + 1)).val, 0] := by decide +kernel
theorem off5_eq : ∀ i : grid0.Coords, k0_off5 i = ![0, 512 * (blk (jOf i)).val] := by decide +kernel
theorem off6_one : ∀ (i : grid0.Coords) (k : Fin (k0_t1_loop i).trips), k0_off6 i k 1#32 = ![512 * (blk (jOf i + 1 + (2 * k.val + 1))).val, 0] := by decide +kernel
theorem off6_two : ∀ (i : grid0.Coords) (k : Fin (k0_t1_loop i).trips), k0_off6 i k 2#32 = ![512 * (blk (jOf i + 1 + 2 * (k.val + 1))).val, 0] := by decide +kernel
theorem off7_one : ∀ (i : grid0.Coords) (k : Fin (k0_t1_loop i).trips), k0_off7 i k 1#32 = ![512 * (blk (jOf i + 1 + (2 * k.val + 1))).val, 0] := by decide +kernel
theorem off7_two : ∀ (i : grid0.Coords) (k : Fin (k0_t1_loop i).trips), k0_off7 i k 2#32 = ![512 * (blk (jOf i + 1 + 2 * (k.val + 1))).val, 0] := by decide +kernel
theorem off8_eq : ∀ (i : grid0.Coords) (k : Fin (k0_t1_loop i).trips), k0_off8 i k = ![0, 512 * (blk (jOf i + 1 + 2 * k.val)).val] := by decide +kernel
theorem off9_eq : ∀ (i : grid0.Coords) (k : Fin (k0_t1_loop i).trips), k0_off9 i k = ![512 * (blk (jOf i + 1 + 2 * k.val)).val, 0] := by decide +kernel
theorem off10_eq : ∀ (i : grid0.Coords) (k : Fin (k0_t1_loop i).trips), k0_off10 i k = ![512 * (blk (jOf i + 1 + 2 * k.val)).val, 0] := by decide +kernel
theorem off11_eq : ∀ (i : grid0.Coords) (k : Fin (k0_t1_loop i).trips), k0_off11 i k = ![0, 512 * (blk (jOf i + 1 + (2 * k.val + 1))).val] := by decide +kernel

instance (i : grid0.Coords) (k : Fin (k0_t1_loop i).trips) : ClosedOff (k0_off6 i k 1#32) := ⟨_, off6_one i k⟩
instance (i : grid0.Coords) (k : Fin (k0_t1_loop i).trips) : ClosedOff (k0_off6 i k 2#32) := ⟨_, off6_two i k⟩
instance (i : grid0.Coords) (k : Fin (k0_t1_loop i).trips) : ClosedOff (k0_off7 i k 1#32) := ⟨_, off7_one i k⟩
instance (i : grid0.Coords) (k : Fin (k0_t1_loop i).trips) : ClosedOff (k0_off7 i k 2#32) := ⟨_, off7_two i k⟩
instance (i : grid0.Coords) (k : Fin (k0_t1_loop i).trips) : ClosedOff (k0_off8 i k) := ⟨_, off8_eq i k⟩
instance (i : grid0.Coords) (k : Fin (k0_t1_loop i).trips) : ClosedOff (k0_off9 i k) := ⟨_, off9_eq i k⟩
instance (i : grid0.Coords) (k : Fin (k0_t1_loop i).trips) : ClosedOff (k0_off10 i k) := ⟨_, off10_eq i k⟩
instance (i : grid0.Coords) (k : Fin (k0_t1_loop i).trips) : ClosedOff (k0_off11 i k) := ⟨_, off11_eq i k⟩

/-- The output row is zeroed at the first step of a head. -/
theorem cond1_iff : ∀ i : grid0.Coords, Scalar.cmpi .ne ((Scalar.extui (Scalar.cmpi .eq (BitVec.ofNat 32 (i 1).val) 0#32) : BitVec 32)) 0#32 = 1#1 ↔ (i 1).val = 0 := by decide +kernel
/-- Two row blocks are left after the pairs at an even step from 2 on, -/
theorem cond2_iff : ∀ i : grid0.Coords, k0_cond2 i = 1#1 ↔ ((i 1).val % 2 = 0 ∧ (i 1).val ≠ 0) := by decide +kernel
/-- and one at an odd step. -/
theorem cond3_iff : ∀ i : grid0.Coords, k0_cond3 i = 1#1 ↔ (i 1).val % 2 = 1 := by decide +kernel

end Cert.Proof.Flash
-- ==== Proof.FlashModel.lean ====
module

public import proofs.«01_k».proof.Proof.FlashOffsets
public import proofs.«01_k».proof.Proof.Gen.KernelIdeal.Skeleton
public import Idealize.ShloMosaic.Lib.WholeRead
public import Idealize.ShloMosaic.Lib.WritesUnit

/-! What one grid point of the attention's backward call computes, written without memory: the sums
    for one key block (`dk`, `dv`) and the head's running `dq`, block of query rows by block. -/

@[expose] public section

set_option maxRecDepth 16384

noncomputable section

namespace Cert.Proof.Flash

open Cert.KernelIdeal Cert.KernelIdeal.Gen
open Idealize.ShloMosaic

section Rows
variable {s : Shape} {α : Type}

/-- The sub-array of `X` at an offset. -/
def rowsOf (off size : Fin s.rank → ℕ) (h : ∀ a, off a + size a ≤ s.size a) (X : s.Idx → α) :
    Shape.Idx ⟨s.rank, size⟩ → α := fun x => X ((Rect.unit off size h).emb x)

/-- `X` with the sub-array at an offset replaced. -/
def putOf (off size : Fin s.rank → ℕ) (h : ∀ a, off a + size a ≤ s.size a) (X : s.Idx → α)
    (w : Shape.Idx ⟨s.rank, size⟩ → α) : s.Idx → α := (Rect.unit off size h).overlay X w

theorem rowsOf_putOf (off size : Fin s.rank → ℕ) (h : ∀ a, off a + size a ≤ s.size a) (X : s.Idx → α)
    (w : Shape.Idx ⟨s.rank, size⟩ → α) : rowsOf off size h (putOf off size h X w) = w :=
  funext fun x => Rect.overlay_emb (Rect.unit off size h) X w x

/-- Sub-arrays apart on one axis do not touch each other. -/
theorem rowsOf_putOf_ne (off off' size : Fin s.rank → ℕ) (h : ∀ a, off a + size a ≤ s.size a)
    (h' : ∀ a, off' a + size a ≤ s.size a) (X : s.Idx → α) (w : Shape.Idx ⟨s.rank, size⟩ → α) (a : Fin s.rank)
    (ha : off a + size a ≤ off' a ∨ off' a + size a ≤ off a) :
    rowsOf off size h (putOf off' size h' X w) = rowsOf off size h X := by
  funext x
  refine Rect.overlay_of_not_mem (Rect.unit off' size h') X w ?_
  rw [Rect.mem_set_unit]
  intro hm
  have h0 := hm a
  have hx : (x a).val < size a := (x a).isLt
  have e : ((Rect.unit off size h).emb x a).val = off a + 1 * (x a).val := rfl
  rw [e] at h0
  omega

end Rows

section Views
variable {F : FTy → Type} [FloatOps F]
variable {sg : RefSig} {κ : Kind} {sp : Space} {s : Shape} {e : EltTy}

theorem readAt_rows (v : View sg κ sp s e) (f : v.ty.Contents (Elt F)) (off size : Fin s.rank → ℕ)
    (h : ∀ a, off a + size a ≤ s.size a) :
    v.readAt (Elt F) (Rect.unit off size h).toLoadRect f = rowsOf off size h (v.read (Elt F) f) := rfl

theorem readCov_rows (v : View sg κ sp s e) (L : List (View.Piece (Elt F) s e)) (off size : Fin s.rank → ℕ)
    (h : ∀ a, off a + size a ≤ s.size a) :
    v.readCov L (Rect.unit off size h).toLoadRect = rowsOf off size h (v.read (Elt F) (v.writes (Elt F) v.junk L)) := rfl

theorem read_writes_put (v : View sg κ sp s e) (f : v.ty.Contents (Elt F)) (off size : Fin s.rank → ℕ)
    (h : ∀ a, off a + size a ≤ s.size a) (w : Shape.Idx ⟨s.rank, size⟩ → Elt F e)
    (L : List (View.Piece (Elt F) s e)) :
    v.read (Elt F) (v.writes (Elt F) f (⟨Rect.unit off size h, w⟩ :: L))
      = putOf off size h (v.read (Elt F) (v.writes (Elt F) f L)) w := by
  funext y
  by_cases hy : y ∈ (Rect.unit off size h).set
  · obtain ⟨x, rfl⟩ := (Rect.unit off size h).exists_idx_of_mem hy
    exact (View.read_writes_cons_emb v f _ w L x).trans (Rect.overlay_emb _ _ _ x).symm
  · exact (View.read_writes_cons_miss v f _ L y hy).trans (Rect.overlay_of_not_mem _ _ _ hy).symm

theorem read_writes_nil (v : View sg κ sp s e) (f : v.ty.Contents (Elt F)) :
    v.read (Elt F) (v.writes (Elt F) f []) = v.read (Elt F) f := rfl

end Views

/-- Reading the whole of a rank-two array. -/
theorem rowsOf_whole {α : Type} {a b : ℕ} (h) (X : Shape.Idx ⟨2, ![a, b]⟩ → α) :
    rowsOf (s := ⟨2, ![a, b]⟩) ![0, 0] ![a, b] h X = X := by
  funext x
  show X _ = X x
  congr 1
  funext d
  apply Fin.ext
  fin_cases d <;> exact (Nat.zero_add _).trans (Nat.one_mul _)

/-- Replacing the whole of a rank-two array. -/
theorem putOf_whole {α : Type} {a b : ℕ} (h) (X w : Shape.Idx ⟨2, ![a, b]⟩ → α) :
    putOf (s := ⟨2, ![a, b]⟩) ![0, 0] ![a, b] h X w = w := by
  funext x
  have hx : x = (Rect.unit (s := ⟨2, ![a, b]⟩) ![0, 0] ![a, b] h).emb x := by
    funext d
    apply Fin.ext
    fin_cases d <;> exact ((Nat.zero_add _).trans (Nat.one_mul _)).symm
  unfold putOf
  conv_lhs => rw [hx]
  exact Rect.overlay_emb (Rect.unit (s := ⟨2, ![a, b]⟩) ![0, 0] ![a, b] h) X w x

theorem inbQ (n : Fin 16) : ∀ a, (![512 * n.val, 0] : Fin 2 → ℕ) a + (![512, 256] : Fin 2 → ℕ) a ≤ (![8192, 256] : Fin 2 → ℕ) a := by
  intro a; fin_cases a
  · show 512 * n.val + 512 ≤ 8192; omega
  · exact Nat.le_refl _
theorem inbO (n : Fin 16) : ∀ a, (![512 * n.val, 0] : Fin 2 → ℕ) a + (![512, 128] : Fin 2 → ℕ) a ≤ (![8192, 128] : Fin 2 → ℕ) a := by
  intro a; fin_cases a
  · show 512 * n.val + 512 ≤ 8192; omega
  · exact Nat.le_refl _
theorem inbL (n : Fin 16) : ∀ a, (![0, 512 * n.val] : Fin 2 → ℕ) a + (![1, 512] : Fin 2 → ℕ) a ≤ (![8, 8192] : Fin 2 → ℕ) a := by
  intro a; fin_cases a
  · show 0 + 1 ≤ 8; omega
  · show 512 * n.val + 512 ≤ 8192; omega

/-- Row block `n` of a 256-wide array. -/
def rQ {α : Type} (n : Fin 16) (X : S8192x256.Idx → α) : S512x256.Idx → α :=
  rowsOf (s := S8192x256) ![512 * n.val, 0] S512x256.size (inbQ n) X
/-- Row block `n` of a 128-wide array. -/
def rO {α : Type} (n : Fin 16) (X : S8192x128.Idx → α) : S512x128.Idx → α :=
  rowsOf (s := S8192x128) ![512 * n.val, 0] S512x128.size (inbO n) X
/-- Column block `n` of the first row of an eight-row array. -/
def rL {α : Type} (n : Fin 16) (X : S8x8192.Idx → α) : S1x512.Idx → α :=
  rowsOf (s := S8x8192) ![0, 512 * n.val] S1x512.size (inbL n) X
/-- Row block `n` replaced. -/
def pQ {α : Type} (n : Fin 16) (X : S8192x256.Idx → α) (w : S512x256.Idx → α) : S8192x256.Idx → α :=
  putOf (s := S8192x256) ![512 * n.val, 0] S512x256.size (inbQ n) X w

section Folds
variable {α : Type}
theorem rQ_of {off : Fin 2 → ℕ} {n : Fin 16} (e : off = ![512 * n.val, 0]) (h) (X : S8192x256.Idx → α) :
    rowsOf (s := S8192x256) off ![512, 256] h X = rQ n X := by subst e; rfl
theorem rO_of {off : Fin 2 → ℕ} {n : Fin 16} (e : off = ![512 * n.val, 0]) (h) (X : S8192x128.Idx → α) :
    rowsOf (s := S8192x128) off ![512, 128] h X = rO n X := by subst e; rfl
theorem rL_of {off : Fin 2 → ℕ} {n : Fin 16} (e : off = ![0, 512 * n.val]) (h) (X : S8x8192.Idx → α) :
    rowsOf (s := S8x8192) off ![1, 512] h X = rL n X := by subst e; rfl
theorem pQ_of {off : Fin 2 → ℕ} {n : Fin 16} (e : off = ![512 * n.val, 0]) (h) (X : S8192x256.Idx → α)
    (w : S512x256.Idx → α) : putOf (s := S8192x256) off ![512, 256] h X w = pQ n X w := by subst e; rfl

/-- A row block is the same after another one is replaced. -/
theorem rQ_pQ_ne {n m : Fin 16} (hnm : n.val ≠ m.val) (X : S8192x256.Idx → α) (w : S512x256.Idx → α) :
    rQ n (pQ m X w) = rQ n X :=
  rowsOf_putOf_ne _ _ _ _ _ X w 0 (by
    show 512 * n.val + 512 ≤ 512 * m.val ∨ 512 * m.val + 512 ≤ 512 * n.val
    omega)

/-- A row block of the replaced array is the replacement. -/
theorem rQ_pQ (n : Fin 16) (X : S8192x256.Idx → α) (w : S512x256.Idx → α) : rQ n (pQ n X w) = w :=
  rowsOf_putOf _ _ _ X w

end Folds

variable {F : FTy → Type} [FloatOps F] [Named F]

/-- The three gradients under way: this key block's `dk` and `dv`, and the head's `dq`. -/
structure Acc (F : FTy → Type) [FloatOps F] where
  dk : S512x256.Idx → Elt F .f32
  dv : S512x128.Idx → Elt F .f32
  dq : S8192x256.Idx → Elt F .f32

section Step
variable (K : FVec F S512x256 .bf16) (V : FVec F S512x128 .bf16)
  (Q : S8192x256.Idx → Elt F .bf16) (O : S8192x128.Idx → Elt F .bf16) (L D : S8x8192.Idx → Elt F .f32)

/-- Scores of the key block against row block `n`. -/
abbrev scoreAt (n : Fin 16) : FVec F S512x512 .f32 := k0_pay9 K (rQ n Q)
/-- Cotangent products of the value block against row block `n`. -/
abbrev dpAt (n : Fin 16) : FVec F S512x512 .f32 := k0_pay10 V (rO n O)

/-- One unmasked row block. -/
def blkStep (n : Fin 16) (a : Acc F) : Acc F where
  dk := k0_pay14 (k0_pay12 (scoreAt K Q n) (rL n L) (dpAt V O n) (rL n D)) a.dk (rQ n Q)
  dv := k0_pay13 (k0_pay11 (scoreAt K Q n) (rL n L)) a.dv (rO n O)
  dq := pQ n a.dq (k0_pay15 K (k0_pay12 (scoreAt K Q n) (rL n L) (dpAt V O n) (rL n D)) (rQ n a.dq))

theorem blkStep_dq (n : Fin 16) (a : Acc F) : (blkStep K V Q O L D n a).dq
    = pQ n a.dq (k0_pay15 K (k0_pay12 (scoreAt K Q n) (rL n L) (dpAt V O n) (rL n D)) (rQ n a.dq)) := by simp only [blkStep]

/-- The row block on the diagonal, masked to its lower triangle. -/
def blkFirst (n : Fin 16) (a : Acc F) : Acc F where
  dk := k0_pay68 (k0_pay66 (scoreAt K Q n) (rL n L) (dpAt V O n) (rL n D)) a.dk (rQ n Q)
  dv := k0_pay67 (k0_pay65 (scoreAt K Q n) (rL n L)) a.dv (rO n O)
  dq := pQ n a.dq (k0_pay69 K (k0_pay66 (scoreAt K Q n) (rL n L) (dpAt V O n) (rL n D)) (rQ n a.dq))

/-- The diagonal block `j` and the `n` blocks after it. -/
def accN (j : Nat) (a : Acc F) : Nat → Acc F
  | 0 => blkFirst K V Q O L D (blk j) a
  | n + 1 => blkStep K V Q O L D (blk (j + 1 + n)) (accN j a n)

end Step

/-- What a grid point starts from: zero sums, and a zero `dq` at a head's first point. -/
def acc0 (i : grid0.Coords) (X8 : S8192x256.Idx → Elt F .f32) : Acc F where
  dk := k0_pay57
  dv := k0_pay58
  dq := if (i 1).val = 0 then k0_pay56 else X8

end Cert.Proof.Flash
-- ==== Proof.FlashTrip.lean ====
module

public import proofs.«01_k».proof.Proof.FlashModel
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Affine
public import Idealize.ShloMosaic.Lib.Tactic
public import Idealize.ShloMosaic.Lib.WholeRead

/-! One trip of the paired loop over row blocks: it takes the sums two blocks further. -/

@[expose] public section

set_option maxRecDepth 16384
set_option maxHeartbeats 4000000

noncomputable section

namespace Cert.Proof.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ
abbrev 𝒱₀ : Variants := Variants.none

section Trip
variable (c : Dev nD) (i : grid0.Coords)
  (arg2 : Memref sig .tc .vmem S512x256 .bf16) (harg2 : arg2.IsWhole)
  (arg3 : Memref sig .tc .vmem S512x128 .bf16) (harg3 : arg3.IsWhole)
  (arg4 : Memref sig .tc .vmem S8192x256 .bf16) (harg4 : arg4.IsWhole)
  (arg5 : Memref sig .tc .vmem S8192x128 .bf16) (harg5 : arg5.IsWhole)
  (arg6 : Memref sig .tc .vmem S8x8192 .f32) (harg6 : arg6.IsWhole)
  (arg7 : Memref sig .tc .vmem S8x8192 .f32) (harg7 : arg7.IsWhole)
  (arg8 : Memref sig .tc .vmem S8192x256 .f32) (harg8 : arg8.IsWhole)
  (arg9 : Memref sig .tc .vmem S512x256 .f32) (harg9 : arg9.IsWhole)
  (arg10 : Memref sig .tc .vmem S512x128 .f32) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S512x512 .f32) (harg13 : arg13.IsWhole)
  (arg14 : Memref sig .tc .vmem S512x512 .f32) (harg14 : arg14.IsWhole)
  (v0 : BitVec 32) (K : FVec F S512x256 .bf16) (V : FVec F S512x128 .bf16)
  (Q : S8192x256.Idx → Elt F .bf16) (O : S8192x128.Idx → Elt F .bf16) (L D : S8x8192.Idx → Elt F .f32) (a : Acc F)

/-- What stands in the buffers before trip `t`: the sums over `2 t` blocks after the diagonal, and the next block's products. -/
def tripInv (t : ℕ) (_ : Unit) : sProp 𝕄 :=
  iprop(owns (c : Thread nD τ) arg4 fullShare Q ∗ owns (c : Thread nD τ) arg5 fullShare O ∗ owns (c : Thread nD τ) arg6 fullShare L ∗ owns (c : Thread nD τ) arg7 fullShare D
    ∗ owns (c : Thread nD τ) arg8 fullShare (accN K V Q O L D (jOf i) a (2 * t)).dq
    ∗ owns (c : Thread nD τ) arg9 fullShare (accN K V Q O L D (jOf i) a (2 * t)).dk
    ∗ owns (c : Thread nD τ) arg10 fullShare (accN K V Q O L D (jOf i) a (2 * t)).dv
    ∗ (∃ X, owns (c : Thread nD τ) arg11 fullShare X) ∗ (∃ X, owns (c : Thread nD τ) arg12 fullShare X)
    ∗ owns (c : Thread nD τ) arg13 fullShare (scoreAt K Q (blk (jOf i + 1 + 2 * t)))
    ∗ owns (c : Thread nD τ) arg14 fullShare (dpAt V O (blk (jOf i + 1 + 2 * t))))

/-- Reads of what the model's loads read, at the model's offsets. -/
theorem trip_step (k : Fin (k0_t1_loop i).trips) :
    tripInv c i arg4 arg5 arg6 arg7 arg8 arg9 arg10 arg11 arg12 arg13 arg14 K V Q O L D a k.val ()
      ⊢ wp frame (wpE (defs₀ (F := F)) 𝒱₀ (c : Thread nD τ) none) Set.univ
        (k0_t1_body i arg2 harg2 arg3 harg3 arg4 harg4 arg5 harg5 arg6 harg6 arg7 harg7 arg8 harg8 arg9 harg9 arg10 harg10 arg11 harg11 arg12 harg12 arg13 harg13 arg14 harg14 v0 K V k ())
        (tripInv c i arg4 arg5 arg6 arg7 arg8 arg9 arg10 arg11 arg12 arg13 arg14 K V Q O L D a (k.val + 1)) := by
  unfold tripInv owns
  iintro ⟨⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%X11, %f11, %h11, H11⟩, ⟨%X12, %f12, %h12, H12⟩, ⟨%f13, %h13, H13⟩, ⟨%f14, %h14, H14⟩⟩
  sl_unfold [k0_t1_body]
  sl_exec
  sl_step
  isplitl [H4]
  · iexists _; isplitr
    · ipureintro; exact h4
    · iexact H4
  isplitl [H5]
  · iexists _; isplitr
    · ipureintro; exact h5
    · iexact H5
  isplitl [H6]
  · iexists _; isplitr
    · ipureintro; exact h6
    · iexact H6
  isplitl [H7]
  · iexists _; isplitr
    · ipureintro; exact h7
    · iexact H7
  isplitl [H8]
  · iexists _; isplitr; pick_goal 2
    · iexact H8
    · ipureintro; sl_unfold_run_names
      simp only [read_writes_put, readAt_rows, readCov_rows, read_writes_nil, rowsOf_whole, putOf_whole, rQ_of (off6_one i k), rQ_of (off6_two i k), rQ_of (off9_eq i k), rQ_of (off10_eq i k), pQ_of (off6_one i k), pQ_of (off10_eq i k), rO_of (off7_one i k), rO_of (off7_two i k), rO_of (off9_eq i k), rO_of (off10_eq i k), rL_of (off8_eq i k), rL_of (off11_eq i k), h4, h5, h6, h7, h8, h9, h10, h13, h14]
      rfl
  isplitl [H9]
  · iexists _; isplitr; pick_goal 2
    · iexact H9
    · ipureintro; sl_unfold_run_names
      simp only [read_writes_put, readAt_rows, readCov_rows, read_writes_nil, rowsOf_whole, putOf_whole, rQ_of (off6_one i k), rQ_of (off6_two i k), rQ_of (off9_eq i k), rQ_of (off10_eq i k), pQ_of (off6_one i k), pQ_of (off10_eq i k), rO_of (off7_one i k), rO_of (off7_two i k), rO_of (off9_eq i k), rO_of (off10_eq i k), rL_of (off8_eq i k), rL_of (off11_eq i k), h4, h5, h6, h7, h8, h9, h10, h13, h14]
      rfl
  isplitl [H10]
  · iexists _; isplitr; pick_goal 2
    · iexact H10
    · ipureintro; sl_unfold_run_names
      simp only [read_writes_put, readAt_rows, readCov_rows, read_writes_nil, rowsOf_whole, putOf_whole, rQ_of (off6_one i k), rQ_of (off6_two i k), rQ_of (off9_eq i k), rQ_of (off10_eq i k), pQ_of (off6_one i k), pQ_of (off10_eq i k), rO_of (off7_one i k), rO_of (off7_two i k), rO_of (off9_eq i k), rO_of (off10_eq i k), rL_of (off8_eq i k), rL_of (off11_eq i k), h4, h5, h6, h7, h8, h9, h10, h13, h14]
      rfl
  isplitl [H11]
  · iexists _, _; isplitr; pick_goal 2
    · iexact H11
    · ipureintro; rfl
  isplitl [H12]
  · iexists _, _; isplitr; pick_goal 2
    · iexact H12
    · ipureintro; rfl
  isplitl [H13]
  · iexists _; isplitr; pick_goal 2
    · iexact H13
    · ipureintro; sl_unfold_run_names
      simp only [read_writes_put, readAt_rows, readCov_rows, read_writes_nil, rowsOf_whole, putOf_whole, rQ_of (off6_one i k), rQ_of (off6_two i k), rQ_of (off9_eq i k), rQ_of (off10_eq i k), pQ_of (off6_one i k), pQ_of (off10_eq i k), rO_of (off7_one i k), rO_of (off7_two i k), rO_of (off9_eq i k), rO_of (off10_eq i k), rL_of (off8_eq i k), rL_of (off11_eq i k), h4, h5, h6, h7, h8, h9, h10, h13, h14]
      rfl
  iexists _; isplitr; pick_goal 2
  · iexact H14
  · ipureintro; sl_unfold_run_names
    simp only [read_writes_put, readAt_rows, readCov_rows, read_writes_nil, rowsOf_whole, putOf_whole, rQ_of (off6_one i k), rQ_of (off6_two i k), rQ_of (off9_eq i k), rQ_of (off10_eq i k), pQ_of (off6_one i k), pQ_of (off10_eq i k), rO_of (off7_one i k), rO_of (off7_two i k), rO_of (off9_eq i k), rO_of (off10_eq i k), rL_of (off8_eq i k), rL_of (off11_eq i k), h4, h5, h6, h7, h8, h9, h10, h13, h14]
    rfl
end Trip
end Cert.Proof.Flash
-- ==== Proof.FlashBody.lean ====
module

public import proofs.«01_k».proof.Proof.FlashTrip
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Affine
public import Idealize.ShloMosaic.Lib.Tactic
public import Idealize.ShloMosaic.Lib.WholeRead

/-! One grid point of the attention's backward call. -/

@[expose] public section

set_option maxRecDepth 16384
set_option maxHeartbeats 2000000

noncomputable section

namespace Cert.Proof.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section Body
variable (c : Dev nD) (i : grid0.Coords)
  (arg2 : Memref sig .tc .vmem S512x256 .bf16) (harg2 : arg2.IsWhole)
  (arg3 : Memref sig .tc .vmem S512x128 .bf16) (harg3 : arg3.IsWhole)
  (arg4 : Memref sig .tc .vmem S8192x256 .bf16) (harg4 : arg4.IsWhole)
  (arg5 : Memref sig .tc .vmem S8192x128 .bf16) (harg5 : arg5.IsWhole)
  (arg6 : Memref sig .tc .vmem S8x8192 .f32) (harg6 : arg6.IsWhole)
  (arg7 : Memref sig .tc .vmem S8x8192 .f32) (harg7 : arg7.IsWhole)
  (arg8 : Memref sig .tc .vmem S8192x256 .f32) (harg8 : arg8.IsWhole)
  (arg9 : Memref sig .tc .vmem S512x256 .f32) (harg9 : arg9.IsWhole)
  (arg10 : Memref sig .tc .vmem S512x128 .f32) (harg10 : arg10.IsWhole)
  (arg11 : Memref sig .tc .vmem S512x512 .f32) (harg11 : arg11.IsWhole)
  (arg12 : Memref sig .tc .vmem S512x512 .f32) (harg12 : arg12.IsWhole)
  (arg13 : Memref sig .tc .vmem S512x512 .f32) (harg13 : arg13.IsWhole)
  (arg14 : Memref sig .tc .vmem S512x512 .f32) (harg14 : arg14.IsWhole)
  (X2 : S512x256.Idx → Elt F .bf16) (X3 : S512x128.Idx → Elt F .bf16)
  (Q : S8192x256.Idx → Elt F .bf16) (O : S8192x128.Idx → Elt F .bf16) (L D : S8x8192.Idx → Elt F .f32)
  (X8 : S8192x256.Idx → Elt F .f32)

/-- The sums a grid point ends with. -/
abbrev accOut : Acc F := accN (k0_pay59 X2) (k0_pay60 X3) Q O L D (jOf i) (acc0 i X8) (i 1).val

/-- What a grid point starts from. -/
def bodyIn : sProp 𝕄 :=
  iprop(owns (c : Thread nD τ) arg2 fullShare X2 ∗ owns (c : Thread nD τ) arg3 fullShare X3 ∗ owns (c : Thread nD τ) arg4 fullShare Q ∗ owns (c : Thread nD τ) arg5 fullShare O ∗ owns (c : Thread nD τ) arg6 fullShare L ∗ owns (c : Thread nD τ) arg7 fullShare D
    ∗ owns (c : Thread nD τ) arg8 fullShare X8
    ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X))
/-- What a grid point ends with. -/
def bodyOut : sProp 𝕄 :=
  iprop(owns (c : Thread nD τ) arg2 fullShare X2 ∗ owns (c : Thread nD τ) arg3 fullShare X3 ∗ owns (c : Thread nD τ) arg4 fullShare Q ∗ owns (c : Thread nD τ) arg5 fullShare O ∗ owns (c : Thread nD τ) arg6 fullShare L ∗ owns (c : Thread nD τ) arg7 fullShare D
    ∗ owns (c : Thread nD τ) arg8 fullShare (accOut i X2 X3 Q O L D X8).dq ∗ owns (c : Thread nD τ) arg9 fullShare (accOut i X2 X3 Q O L D X8).dk ∗ owns (c : Thread nD τ) arg10 fullShare (accOut i X2 X3 Q O L D X8).dv
    ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X))

/-- A head's first grid point: `dq` starts at zero, and the diagonal block is the last one. -/
theorem body_zero (hz : (i 1).val = 0) :
    bodyIn c arg2 arg3 arg4 arg5 arg6 arg7 arg8 arg9 arg10 arg11 arg12 arg13 arg14 X2 X3 Q O L D X8
      ⊢ wp frame (wpE (defs₀ (F := F)) 𝒱₀ (c : Thread nD τ) none) Set.univ
        (cc0_flash_bwd_skel i arg2 harg2 arg3 harg3 arg4 harg4 arg5 harg5 arg6 harg6 arg7 harg7 arg8 harg8 arg9 harg9 arg10 harg10 arg11 harg11 arg12 harg12 arg13 harg13 arg14 harg14)
        (fun _ => bodyOut c i arg2 arg3 arg4 arg5 arg6 arg7 arg8 arg9 arg10 arg11 arg12 arg13 arg14 X2 X3 Q O L D X8) := by
  have hs : accOut i X2 X3 Q O L D X8 = blkFirst (k0_pay59 X2) (k0_pay60 X3) Q O L D (blk (jOf i)) ⟨k0_pay57, k0_pay58, k0_pay56⟩ := by
    unfold accOut acc0; rw [hz, if_pos rfl]; rfl
  rw [bodyOut, hs]
  have hc1 := (cond1_iff i).mpr hz
  have hc2 : ¬ k0_cond2 i = 1#1 := fun h => ((cond2_iff i).mp h).2 hz
  have hc3 : ¬ k0_cond3 i = 1#1 := fun h => by have := (cond3_iff i).mp h; omega
  have ht1 : (k0_t1_loop i).trips = 0 := by rw [trips_eq, hz]
  have ht2 := trips2_eq i
  unfold bodyIn owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%X9, %f9, %h9, H9⟩, ⟨%X10, %f10, %h10, H10⟩, ⟨%X11, %f11, %h11, H11⟩, ⟨%X12, %f12, %h12, H12⟩, ⟨%X13, %f13, %h13, H13⟩, ⟨%X14, %f14, %h14, H14⟩⟩
  sl_unfold [cc0_flash_bwd_skel]
  sl_exec
  sl_step
  isplitl [H2]
  · iexists _; isplitr
    · ipureintro; exact h2
    · iexact H2
  isplitl [H3]
  · iexists _; isplitr
    · ipureintro; exact h3
    · iexact H3
  isplitl [H4]
  · iexists _; isplitr
    · ipureintro; exact h4
    · iexact H4
  isplitl [H5]
  · iexists _; isplitr
    · ipureintro; exact h5
    · iexact H5
  isplitl [H6]
  · iexists _; isplitr
    · ipureintro; exact h6
    · iexact H6
  isplitl [H7]
  · iexists _; isplitr
    · ipureintro; exact h7
    · iexact H7
  isplitl [H8]
  · iexists _; isplitr; pick_goal 2
    · iexact H8
    · ipureintro; sl_unfold_run_names
      simp only [read_writes_put, readAt_rows, readCov_rows, read_writes_nil, rowsOf_whole, putOf_whole, rQ_of (off1_eq i), rQ_of (off3_eq i), pQ_of (off1_eq i), rO_of (off2_eq i), rO_of (off4_eq i), rL_of (off5_eq i), h2, h3, h4, h5, h6, h7, h8]
      rfl
  isplitl [H9]
  · iexists _; isplitr; pick_goal 2
    · iexact H9
    · ipureintro; sl_unfold_run_names
      simp only [read_writes_put, readAt_rows, readCov_rows, read_writes_nil, rowsOf_whole, putOf_whole, rQ_of (off1_eq i), rQ_of (off3_eq i), pQ_of (off1_eq i), rO_of (off2_eq i), rO_of (off4_eq i), rL_of (off5_eq i), h2, h3, h4, h5, h6, h7, h8]
      rfl
  isplitl [H10]
  · iexists _; isplitr; pick_goal 2
    · iexact H10
    · ipureintro; sl_unfold_run_names
      simp only [read_writes_put, readAt_rows, readCov_rows, read_writes_nil, rowsOf_whole, putOf_whole, rQ_of (off1_eq i), rQ_of (off3_eq i), pQ_of (off1_eq i), rO_of (off2_eq i), rO_of (off4_eq i), rL_of (off5_eq i), h2, h3, h4, h5, h6, h7, h8]
      rfl
  isplitl [H11]
  · iexists _, _; isplitr; pick_goal 2
    · iexact H11
    · ipureintro; rfl
  isplitl [H12]
  · iexists _, _; isplitr; pick_goal 2
    · iexact H12
    · ipureintro; rfl
  isplitl [H13]
  · iexists _, _; isplitr; pick_goal 2
    · iexact H13
    · ipureintro; rfl
  iexists _, _; isplitr; pick_goal 2
  · iexact H14
  · ipureintro; rfl

/-- Any other grid point of a head. -/
theorem body_pos (hz : (i 1).val ≠ 0) :
    bodyIn c arg2 arg3 arg4 arg5 arg6 arg7 arg8 arg9 arg10 arg11 arg12 arg13 arg14 X2 X3 Q O L D X8
      ⊢ wp frame (wpE (defs₀ (F := F)) 𝒱₀ (c : Thread nD τ) none) Set.univ
        (cc0_flash_bwd_skel i arg2 harg2 arg3 harg3 arg4 harg4 arg5 harg5 arg6 harg6 arg7 harg7 arg8 harg8 arg9 harg9 arg10 harg10 arg11 harg11 arg12 harg12 arg13 harg13 arg14 harg14)
        (fun _ => bodyOut c i arg2 arg3 arg4 arg5 arg6 arg7 arg8 arg9 arg10 arg11 arg12 arg13 arg14 X2 X3 Q O L D X8) := by
  have hc1 := mt (cond1_iff i).mp hz
  have ha : acc0 (F := F) i X8 = ⟨k0_pay57, k0_pay58, X8⟩ := by unfold acc0; rw [if_neg hz]
  have ht1 := trips_eq i
  have ht2 := trips2_eq i
  have hi : (i 1).val < 16 := (i 1).isLt
  unfold bodyIn owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%X9, %f9, %h9, H9⟩, ⟨%X10, %f10, %h10, H10⟩, ⟨%X11, %f11, %h11, H11⟩, ⟨%X12, %f12, %h12, H12⟩, ⟨%X13, %f13, %h13, H13⟩, ⟨%X14, %f14, %h14, H14⟩⟩
  sl_unfold [cc0_flash_bwd_skel]
  sl_exec
  sl_for (tripInv c i arg4 arg5 arg6 arg7 arg8 arg9 arg10 arg11 arg12 arg13 arg14 (k0_pay59 X2) (k0_pay60 X3) Q O L D (acc0 i X8)) $$ [H4 H5 H6 H7 H8 H9 H10 H11 H12 H13 H14]
  · intro k acc
    have hK : k0_pay59 (F := F) (arg2.view.readAt (Elt F) (Rect.unit (s := S512x256) ![0, 0] S512x256.size inb_S512x256_S512x256_0_0).toLoadRect f2) = k0_pay59 X2 := by
      simp only [readAt_rows, rowsOf_whole, h2]
    have hV : k0_pay60 (F := F) (arg3.view.readAt (Elt F) (Rect.unit (s := S512x128) ![0, 0] S512x128.size inb_S512x128_S512x128_0_0).toLoadRect f3) = k0_pay60 X3 := by
      simp only [readAt_rows, rowsOf_whole, h3]
    rw [← hK, ← hV]
    exact trip_step c i arg2 harg2 arg3 harg3 arg4 harg4 arg5 harg5 arg6 harg6 arg7 harg7 arg8 harg8 arg9 harg9 arg10 harg10 arg11 harg11 arg12 harg12 arg13 harg13 arg14 harg14 (Scalar.subi 15#32 (BitVec.ofNat 32 (i 1).val)) _ _ Q O L D _ k
  · rw [ha]
    unfold tripInv owns
    isplitl [H4]
    · iexists _; isplitr
      · ipureintro; exact h4
      · iexact H4
    isplitl [H5]
    · iexists _; isplitr
      · ipureintro; exact h5
      · iexact H5
    isplitl [H6]
    · iexists _; isplitr
      · ipureintro; exact h6
      · iexact H6
    isplitl [H7]
    · iexists _; isplitr
      · ipureintro; exact h7
      · iexact H7
    isplitl [H8]
    · iexists _; isplitr; pick_goal 2
      · iexact H8
      · ipureintro; sl_unfold_run_names
        simp only [read_writes_put, readAt_rows, readCov_rows, read_writes_nil, rowsOf_whole, putOf_whole, rQ_of (off1_eq i), rQ_of (off3_eq i), pQ_of (off1_eq i), rO_of (off2_eq i), rO_of (off4_eq i), rL_of (off5_eq i), h2, h3, h4, h5, h6, h7, h8]
        rfl
    isplitl [H9]
    · iexists _; isplitr; pick_goal 2
      · iexact H9
      · ipureintro; sl_unfold_run_names
        simp only [read_writes_put, readAt_rows, readCov_rows, read_writes_nil, rowsOf_whole, putOf_whole, rQ_of (off1_eq i), rQ_of (off3_eq i), pQ_of (off1_eq i), rO_of (off2_eq i), rO_of (off4_eq i), rL_of (off5_eq i), h2, h3, h4, h5, h6, h7, h8]
        rfl
    isplitl [H10]
    · iexists _; isplitr; pick_goal 2
      · iexact H10
      · ipureintro; sl_unfold_run_names
        simp only [read_writes_put, readAt_rows, readCov_rows, read_writes_nil, rowsOf_whole, putOf_whole, rQ_of (off1_eq i), rQ_of (off3_eq i), pQ_of (off1_eq i), rO_of (off2_eq i), rO_of (off4_eq i), rL_of (off5_eq i), h2, h3, h4, h5, h6, h7, h8]
        rfl
    isplitl [H11]
    · iexists _, _; isplitr; pick_goal 2
      · iexact H11
      · ipureintro; rfl
    isplitl [H12]
    · iexists _, _; isplitr; pick_goal 2
      · iexact H12
      · ipureintro; rfl
    isplitl [H13]
    · iexists _; isplitr; pick_goal 2
      · iexact H13
      · ipureintro; sl_unfold_run_names
        simp only [read_writes_put, readAt_rows, readCov_rows, read_writes_nil, rowsOf_whole, putOf_whole, rQ_of (off1_eq i), rQ_of (off3_eq i), pQ_of (off1_eq i), rO_of (off2_eq i), rO_of (off4_eq i), rL_of (off5_eq i), h2, h3, h4, h5, h6, h7, h8]
        rfl
    iexists _; isplitr; pick_goal 2
    · iexact H14
    · ipureintro; sl_unfold_run_names
      simp only [read_writes_put, readAt_rows, readCov_rows, read_writes_nil, rowsOf_whole, putOf_whole, rQ_of (off1_eq i), rQ_of (off3_eq i), pQ_of (off1_eq i), rO_of (off2_eq i), rO_of (off4_eq i), rL_of (off5_eq i), h2, h3, h4, h5, h6, h7, h8]
      rfl
  iintro %acc HI
  unfold tripInv owns
  icases HI with ⟨⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, ⟨%Y11, %g11, %e11, H11⟩, ⟨%Y12, %g12, %e12, H12⟩, ⟨%g13, %e13, H13⟩, ⟨%g14, %e14, H14⟩⟩
  have hT : Scf.trips (k0_t1_loop i).lb (k0_t1_loop i).ub (k0_t1_loop i).st = (k0_t1_loop i).trips := rfl
  rw [hT] at e8 e9 e10 e13 e14
  have hj : jOf i + (i 1).val = 15 := by unfold jOf; omega
  set T := (k0_t1_loop i).trips with hTd
  rcases Nat.mod_two_eq_zero_or_one (i 1).val with hp | hp
  · have hc2 := (cond2_iff i).mpr ⟨hp, hz⟩
    have hc3 : ¬ k0_cond3 i = 1#1 := fun h => by have := (cond3_iff i).mp h; omega
    have hs : accOut i X2 X3 Q O L D X8 = blkStep (k0_pay59 X2) (k0_pay60 X3) Q O L D (blk (jOf i + 1 + (2 * T + 1)))
        (blkStep (k0_pay59 X2) (k0_pay60 X3) Q O L D (blk (jOf i + 1 + 2 * T)) (accN (k0_pay59 X2) (k0_pay60 X3) Q O L D (jOf i) (acc0 i X8) (2 * T))) :=
      congrArg (accN (k0_pay59 X2) (k0_pay60 X3) Q O L D (jOf i) (acc0 i X8)) (by omega : (i 1).val = 2 * T + 1 + 1)
    have hb : (blk (jOf i + 1 + 2 * T)).val = 14 := by show min _ _ = _; omega
    have hb' : (blk (jOf i + 1 + (2 * T + 1))).val = 15 := by show min _ _ = _; omega
    have r14 : (![7168, 0] : Fin 2 → ℕ) = ![512 * (blk (jOf i + 1 + 2 * T)).val, 0] := by rw [hb]
    have l14 : (![0, 7168] : Fin 2 → ℕ) = ![0, 512 * (blk (jOf i + 1 + 2 * T)).val] := by rw [hb]
    have r15 : (![7680, 0] : Fin 2 → ℕ) = ![512 * (blk (jOf i + 1 + (2 * T + 1))).val, 0] := by rw [hb']
    have l15 : (![0, 7680] : Fin 2 → ℕ) = ![0, 512 * (blk (jOf i + 1 + (2 * T + 1))).val] := by rw [hb']
    generalize accN (k0_pay59 X2) (k0_pay60 X3) Q O L D (jOf i) (acc0 i X8) (2 * T) = A at e8 e9 e10 hs
    have hrow : rQ (blk (jOf i + 1 + (2 * T + 1))) (blkStep (k0_pay59 X2) (k0_pay60 X3) Q O L D (blk (jOf i + 1 + 2 * T)) A).dq
        = rQ (blk (jOf i + 1 + (2 * T + 1))) A.dq := rQ_pQ_ne (by omega) _ _
    rw [bodyOut, hs]
    unfold owns
    sl_exec
    sl_step
    isplitl [H2]
    · iexists _; isplitr
      · ipureintro; exact h2
      · iexact H2
    isplitl [H3]
    · iexists _; isplitr
      · ipureintro; exact h3
      · iexact H3
    isplitl [H4]
    · iexists _; isplitr
      · ipureintro; exact e4
      · iexact H4
    isplitl [H5]
    · iexists _; isplitr
      · ipureintro; exact e5
      · iexact H5
    isplitl [H6]
    · iexists _; isplitr
      · ipureintro; exact e6
      · iexact H6
    isplitl [H7]
    · iexists _; isplitr
      · ipureintro; exact e7
      · iexact H7
    isplitl [H8]
    · iexists _; isplitr; pick_goal 2
      · iexact H8
      · ipureintro; sl_unfold_run_names
        simp only [read_writes_put, readAt_rows, readCov_rows, read_writes_nil, rowsOf_whole, putOf_whole, rQ_of r15, rO_of r15, rL_of l15, pQ_of r15, h2, h3, e4, e5, e6, e7, e8, e9, e10, e13, e14, rQ_of r14, rO_of r14, rL_of l14, pQ_of r14]
        rw [blkStep_dq, hrow, blkStep_dq]
        rfl
    isplitl [H9]
    · iexists _; isplitr; pick_goal 2
      · iexact H9
      · ipureintro; sl_unfold_run_names
        simp only [read_writes_put, readAt_rows, readCov_rows, read_writes_nil, rowsOf_whole, putOf_whole, rQ_of r15, rO_of r15, rL_of l15, pQ_of r15, h2, h3, e4, e5, e6, e7, e8, e9, e10, e13, e14, rQ_of r14, rO_of r14, rL_of l14, pQ_of r14]
        rfl
    isplitl [H10]
    · iexists _; isplitr; pick_goal 2
      · iexact H10
      · ipureintro; sl_unfold_run_names
        simp only [read_writes_put, readAt_rows, readCov_rows, read_writes_nil, rowsOf_whole, putOf_whole, rQ_of r15, rO_of r15, rL_of l15, pQ_of r15, h2, h3, e4, e5, e6, e7, e8, e9, e10, e13, e14, rQ_of r14, rO_of r14, rL_of l14, pQ_of r14]
        rfl
    isplitl [H11]
    · iexists _, _; isplitr; pick_goal 2
      · iexact H11
      · ipureintro; rfl
    isplitl [H12]
    · iexists _, _; isplitr; pick_goal 2
      · iexact H12
      · ipureintro; rfl
    isplitl [H13]
    · iexists _, _; isplitr; pick_goal 2
      · iexact H13
      · ipureintro; rfl
    iexists _, _; isplitr; pick_goal 2
    · iexact H14
    · ipureintro; rfl
  · have hc2 : ¬ k0_cond2 i = 1#1 := fun h => by have := ((cond2_iff i).mp h).1; omega
    have hc3 := (cond3_iff i).mpr hp
    have hs : accOut i X2 X3 Q O L D X8 = blkStep (k0_pay59 X2) (k0_pay60 X3) Q O L D (blk (jOf i + 1 + 2 * T))
        (accN (k0_pay59 X2) (k0_pay60 X3) Q O L D (jOf i) (acc0 i X8) (2 * T)) :=
      congrArg (accN (k0_pay59 X2) (k0_pay60 X3) Q O L D (jOf i) (acc0 i X8)) (by omega : (i 1).val = 2 * T + 1)
    have hb : (blk (jOf i + 1 + 2 * T)).val = 15 := by show min _ _ = _; omega
    have r15 : (![7680, 0] : Fin 2 → ℕ) = ![512 * (blk (jOf i + 1 + 2 * T)).val, 0] := by rw [hb]
    have l15 : (![0, 7680] : Fin 2 → ℕ) = ![0, 512 * (blk (jOf i + 1 + 2 * T)).val] := by rw [hb]
    generalize accN (k0_pay59 X2) (k0_pay60 X3) Q O L D (jOf i) (acc0 i X8) (2 * T) = A at e8 e9 e10 hs
    rw [bodyOut, hs]
    unfold owns
    sl_exec
    sl_step
    isplitl [H2]
    · iexists _; isplitr
      · ipureintro; exact h2
      · iexact H2
    isplitl [H3]
    · iexists _; isplitr
      · ipureintro; exact h3
      · iexact H3
    isplitl [H4]
    · iexists _; isplitr
      · ipureintro; exact e4
      · iexact H4
    isplitl [H5]
    · iexists _; isplitr
      · ipureintro; exact e5
      · iexact H5
    isplitl [H6]
    · iexists _; isplitr
      · ipureintro; exact e6
      · iexact H6
    isplitl [H7]
    · iexists _; isplitr
      · ipureintro; exact e7
      · iexact H7
    isplitl [H8]
    · iexists _; isplitr; pick_goal 2
      · iexact H8
      · ipureintro; sl_unfold_run_names
        simp only [read_writes_put, readAt_rows, readCov_rows, read_writes_nil, rowsOf_whole, putOf_whole, rQ_of r15, rO_of r15, rL_of l15, pQ_of r15, h2, h3, e4, e5, e6, e7, e8, e9, e10, e13, e14]
        rfl
    isplitl [H9]
    · iexists _; isplitr; pick_goal 2
      · iexact H9
      · ipureintro; sl_unfold_run_names
        simp only [read_writes_put, readAt_rows, readCov_rows, read_writes_nil, rowsOf_whole, putOf_whole, rQ_of r15, rO_of r15, rL_of l15, pQ_of r15, h2, h3, e4, e5, e6, e7, e8, e9, e10, e13, e14]
        rfl
    isplitl [H10]
    · iexists _; isplitr; pick_goal 2
      · iexact H10
      · ipureintro; sl_unfold_run_names
        simp only [read_writes_put, readAt_rows, readCov_rows, read_writes_nil, rowsOf_whole, putOf_whole, rQ_of r15, rO_of r15, rL_of l15, pQ_of r15, h2, h3, e4, e5, e6, e7, e8, e9, e10, e13, e14]
        rfl
    isplitl [H11]
    · iexists _, _; isplitr; pick_goal 2
      · iexact H11
      · ipureintro; rfl
    isplitl [H12]
    · iexists _, _; isplitr; pick_goal 2
      · iexact H12
      · ipureintro; rfl
    isplitl [H13]
    · iexists _, _; isplitr; pick_goal 2
      · iexact H13
      · ipureintro; rfl
    iexists _, _; isplitr; pick_goal 2
    · iexact H14
    · ipureintro; rfl
end Body
end Cert.Proof.Flash
-- ==== Proof.FlashRun.lean ====
module

public import proofs.«01_k».proof.Proof.FlashBody
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Affine
public import Idealize.ShloMosaic.Lib.Pipeline.FrameBody
public import Idealize.ShloMosaic.Lib.Tactic
public import Idealize.ShloMosaic.Lib.WholeRead

/-! The run of the attention's backward call: what each grid point leaves, and the launch over all of them. -/

@[expose] public section

set_option maxRecDepth 16384
set_option maxHeartbeats 2000000

noncomputable section

namespace Cert.Proof.Flash

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Position `t` of the launch is step `t mod 16` of its head. -/
theorem step_val : ∀ t : Fin cfg0.N, (grid0.coords t 1).val = t.val % 16 :=
  (by decide +kernel : ∀ t : Fin grid0.N, (grid0.coords t 1).val = t.val % 16)

/-- The sums grid point `t` ends with, its `dq` rows starting at `X8`. -/
def accFrom (c : Dev nD) (t : Fin cfg0.N) (X8 : S8192x256.Idx → Elt F .f32) : Acc F :=
  accOut (grid0.coords t) (iblk m c 0 t) (iblk m c 1 t) (iblk m c 2 t) (iblk m c 3 t) (iblk m c 4 t) (iblk m c 5 t) X8

/-- At a head's first step what `dq`'s buffer held before is not read. -/
theorem accFrom_first (c : Dev nD) (t : Fin cfg0.N) (h : t.val % 16 = 0) (X Y : S8192x256.Idx → Elt F .f32) :
    accFrom m c t X = accFrom m c t Y := by
  have h1 : acc0 (F := F) (grid0.coords t) X = acc0 (grid0.coords t) Y := by
    unfold acc0; rw [if_pos ((step_val t).trans h), if_pos ((step_val t).trans h)]
  unfold accFrom accOut; rw [h1]

/-- The sums after position `n` of the launch. -/
def accAt (c : Dev nD) : (n : ℕ) → n < cfg0.N → Acc F
  | 0, hn => accFrom m c ⟨0, hn⟩ k0_pay56
  | n + 1, hn => accFrom m c ⟨n + 1, hn⟩ (accAt c n (Nat.lt_of_succ_lt hn)).dq

/-- What the launch's arrays and buffers hold: the region's entry, then what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (accAt m c t.val t.isLt).dq
    | ⟨7, _⟩ => (accAt m c t.val t.isLt).dk
    | ⟨8, _⟩ => (accAt m c t.val t.isLt).dv
    | ⟨_ + 9, h⟩ => absurd h (Nat.not_lt.2 (Nat.le_add_left _ _))
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

theorem dats_dq (c : Dev nD) (t : Fin cfg0.N) : (dats m 0 c).after 6 t = (accAt m c t.val t.isLt).dq := by
  dsimp only [dats]

theorem dats_dk (c : Dev nD) (t : Fin cfg0.N) : (dats m 0 c).after 7 t = (accAt m c t.val t.isLt).dk := by
  dsimp only [dats]

theorem dats_dv (c : Dev nD) (t : Fin cfg0.N) : (dats m 0 c).after 8 t = (accAt m c t.val t.isLt).dv := by
  dsimp only [dats]

/-- Past a head's first step `dq`'s buffer holds what the step before left. -/
theorem dats_before_dq (c : Dev nD) (t : Fin cfg0.N) (h : ¬ t.val % 16 = 0) (d) :
    (dats m 0 c).before 6 t d = (accAt m c (t.val - 1) (Nat.lt_of_le_of_lt (Nat.sub_le _ _) t.isLt)).dq := by
  have hN : t.val < 64 := lt_of_lt_of_eq t.isLt (show cfg0.N = 64 from N_0)
  rw [Dat.before_out_kept _ 6 rfl t (by omega) (Bool.eq_false_iff.mpr fun h' => by have := (flush0_6 _).mp h'; dsimp only at this; omega)
    (fun _ => rfl) (fun _ _ => rfl)]
  dsimp only [dats]

/-- So at every position the body, started at what the buffer holds, leaves the recorded sums. -/
theorem accFrom_before (c : Dev nD) (t : Fin cfg0.N) (d) :
    accFrom m c t ((dats m 0 c).before 6 t d) = accAt m c t.val t.isLt := by
  by_cases h : t.val % 16 = 0
  · obtain ⟨n, hn⟩ := t
    cases n with
    | zero => exact accFrom_first m c _ h _ _
    | succ n => exact accFrom_first m c _ h _ _
  · rw [dats_before_dq m c t h]
    obtain ⟨n, hn⟩ := t
    cases n with
    | zero => exact absurd rfl h
    | succ n => rfl

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (dats_A m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (dats_A m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (dats_A m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (dats_A m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (dats_A m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (dats_A m c 5) (after_5 m c) t d

/-- A grid point, whichever step it is. -/
theorem body_any (c : Dev nD) (t : Fin cfg0.N) (X8 : S8192x256.Idx → Elt F .f32) :
    bodyIn c (st0_0 t) (st0_1 t) (st0_2 t) (st0_3 t) (st0_4 t) (st0_5 t) (st0_6 t) (st0_7 t) (st0_8 t) (Memref.whole cc0_scratch0) (Memref.whole cc0_scratch1) (Memref.whole cc0_scratch2) (Memref.whole cc0_scratch3) (iblk m c 0 t) (iblk m c 1 t) (iblk m c 2 t) (iblk m c 3 t) (iblk m c 4 t) (iblk m c 5 t) X8
      ⊢ wp frame (wpE (defs₀ (F := F)) 𝒱₀ (c : Thread nD τ) none) Set.univ (bodyAt0 t)
        (fun _ => bodyOut c (grid0.coords t) (st0_0 t) (st0_1 t) (st0_2 t) (st0_3 t) (st0_4 t) (st0_5 t) (st0_6 t) (st0_7 t) (st0_8 t) (Memref.whole cc0_scratch0) (Memref.whole cc0_scratch1) (Memref.whole cc0_scratch2) (Memref.whole cc0_scratch3) (iblk m c 0 t) (iblk m c 1 t) (iblk m c 2 t) (iblk m c 3 t) (iblk m c 4 t) (iblk m c 5 t) X8) := by
  unfold bodyAt0
  rw [cc0_flash_bwd_eq_skeleton]
  by_cases hz : (grid0.coords t 1).val = 0
  · exact body_zero c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) _ _ _ _ _ _ X8 hz
  · exact body_pos c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) _ _ _ _ _ _ X8 hz

set_option maxHeartbeats 4000000 in
/-- The body at position `t`, its windows one by one and the scratch buffers taken out of the rest of the memory. -/
theorem sound_body (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))
    ⊢ wp frame (wpE (defs₀ (F := F)) 𝒱₀ c none) Set.univ (bodyAt0 t) (fun _ =>
      iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))) := by
  simp only [before_0, before_1, before_2, before_3, before_4, before_5]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, dats_dq, dats_dk, dats_dv]
  unfold Pipeline.ΦA
  rw [scopedRest0_eq]
  iintro ⟨⟨⟨⟨%g0, S0⟩, ⟨%g1, S1⟩, ⟨%g2, S2⟩, ⟨%g3, S3⟩⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (wp_wand_r Idealize.ShloMosaic.frame (wpE (defs₀ (F := F)) 𝒱₀ (c : Thread nD τ) none) Set.univ)
  isplitl [H0 H1 H2 H3 H4 H5 H6 H7 H8 S0 S1 S2 S3]
  · iapply (body_any m c t ((dats m 0 c).before 6 t d6))
    unfold bodyIn
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [S0]; · iexists g0; rw [owns_whole]; iexact S0
    isplitl [S1]; · iexists g1; rw [owns_whole]; iexact S1
    isplitl [S2]; · iexists g2; rw [owns_whole]; iexact S2
    iexists g3; rw [owns_whole]; iexact S3
  · rw [← accFrom_before m c t d6, after_0, after_1, after_2, after_3, after_4, after_5]
    iintro %_ HB
    unfold bodyOut
    icases HB with ⟨H0, H1, H2, H3, H4, H5, H6, H7, H8, ⟨%g0', S0⟩, ⟨%g1', S1⟩, ⟨%g2', S2⟩, ⟨%g3', S3⟩⟩
    unfold accFrom
    isplitl [S0 S1 S2 S3 HR]
    · isplitl [S0 S1 S2 S3]
      · isplitl [S0]; · iexists g0'; iapply (Entails.of_eq (owns_whole (c : Thread nD τ) cc0_scratch0 fullShare g0')); iexact S0
        isplitl [S1]; · iexists g1'; iapply (Entails.of_eq (owns_whole (c : Thread nD τ) cc0_scratch1 fullShare g1')); iexact S1
        isplitl [S2]; · iexists g2'; iapply (Entails.of_eq (owns_whole (c : Thread nD τ) cc0_scratch2 fullShare g2')); iexact S2
        iexists g3'; iapply (Entails.of_eq (owns_whole (c : Thread nD τ) cc0_scratch3 fullShare g3')); iexact S3
      iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body table's row at position `t`. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, body_row]
  exact triple_restated (sound_body m c t) rfl .rfl fun _ => .rfl

set_option backward.isDefEq.respectTransparency.types false in
/-- The launch, at any values: it ends with the arrays at the recorded contents, the host lines after it done, and
    every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun _ w => by fin_cases w <;> rfl)
    (howed := fun _ _ => rfl) (V₀ := V0 m) (opss := [hostOps1]) (hsub := sfx_sub) (hfresh := sfx_fresh) (hkeep := sfx_keeps)
    (hmain := hmain m 𝒱₀) (hA := dats_A m) (hΦ := fun _ _ => rfl)

/-- The frame at any values: the arguments end as they were launched and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r (h : _ ∧ _) => ⟨fun c =>
    ⟨((h.1 c).2 main_arg0 (Pipeline.mem_restRefs_of main_arg0 (by decide) (by decide))).trans (W_main_arg0 m _ c),
      ((h.1 c).2 main_arg1 (Pipeline.mem_restRefs_of main_arg1 (by decide) (by decide))).trans (W_main_arg1 m _ c),
      ((h.1 c).2 main_arg2 (Pipeline.mem_restRefs_of main_arg2 (by decide) (by decide))).trans (W_main_arg2 m _ c),
      ((h.1 c).2 main_arg3 (Pipeline.mem_restRefs_of main_arg3 (by decide) (by decide))).trans (W_main_arg3 m _ c)⟩, h.2⟩)
    (run_main m ρ)

end Cert.Proof.Flash

end
-- ==== Proof.FlashFrames.lean ====
module

public import proofs.«01_k».proof.Proof.FlashRun
public import proofs.«01_k».proof.Defs
public import Idealize.ShloMosaic.Lib.Tactic
public import proofs.«01_k».proof.Proof.Gen.Kernel

/-! The two frames of the attention's backward call: the run holds at any values, so at bits and at extended reals. -/

@[expose] public section

set_option maxRecDepth 16384

noncomputable section

namespace Cert.Proof.Flash

open Idealize.ShloMosaic Idealize.ShloMosaic.TcCoe Idealize.ShloMosaic.Tactic Idealize.SL Idealize.SL.Sem

/-- At bits a named constant is the word the kernel spells. -/
@[reducible] def bitsNamed : Named Bits where
  named _ _ {φ} bits := FloatOps.ofBits (F := Bits) φ bits

theorem main_bits : Cert.Kernel.main (F := Bits) = Cert.KernelIdeal.main (F := Bits) := by sl_kernel_rfl
theorem defs_bits : Cert.Kernel.defs (F := Bits) = @Cert.KernelIdeal.defs Bits _ bitsNamed _ := by sl_kernel_rfl

theorem frame_kernel : Cert.quiescent_Kernel := fun m ρ _ => by
  rw [main_bits, defs_bits]
  exact @frame_any Bits _ bitsNamed m ρ

theorem frame_kernelIdeal : Cert.quiescent_KernelIdeal := fun m ρ _ => frame_any (F := Ideal) m ρ

theorem preserved : Cert.preserves_Kernel_KernelIdeal :=
  IdealRules.named_const.statement Cert.KernelIdeal.κ "masked" .f32 0xF149F2CA#32 ⊥ rfl

end Cert.Proof.Flash

end
-- ==== Proof.FlashMath.lean ====
module

public import Idealize.ShloMosaic.PureOps.Ideal.Laws
public import Idealize.ShloMosaic.Lib.ValueIdxCore

/-! The gradient of one attention head over the reals: what both programs compute, and the identities that join the two
    ways of writing it. -/

@[expose] public section

noncomputable section

namespace Cert.Proof.Flash

open Idealize.ShloMosaic

/-! ## Arrays of reals -/

/-- The rank-2 array of extended reals whose elements are the reals `f`. -/
abbrev up2 {n0 n1 : Nat} (f : Fin n0 → Fin n1 → ℝ) : (⟨2, ![n0, n1]⟩ : Shape).Idx → EReal := fun i => (f (i 0) (i 1) : EReal)

/-- The rank-3 array of extended reals whose elements are the reals `f`. -/
abbrev up3 {n0 n1 n2 : Nat} (f : Fin n0 → Fin n1 → Fin n2 → ℝ) : (⟨3, ![n0, n1, n2]⟩ : Shape).Idx → EReal :=
  fun i => (f (i 0) (i 1) (i 2) : EReal)

/-- A finite sum of reals is the same sum in the extended reals. -/
theorem sum_coe {ι : Type*} [Fintype ι] (f : ι → ℝ) : ∑ k, (f k : EReal) = ((∑ k, f k : ℝ) : EReal) := by
  classical
  have h : ∀ s : Finset ι, ∑ k ∈ s, (f k : EReal) = ((∑ k ∈ s, f k : ℝ) : EReal) := fun s => by
    induction s using Finset.induction_on with
    | empty => simp
    | insert a s ha ih => rw [Finset.sum_insert ha, Finset.sum_insert ha, ih, EReal.coe_add]
  exact h _

/-- So is a finite sum of products. -/
theorem sum_mul_coe {ι : Type*} [Fintype ι] (f g : ι → ℝ) :
    ∑ k, (f k : EReal) * (g k : EReal) = ((∑ k, f k * g k : ℝ) : EReal) := by
  rw [← sum_coe]; exact Finset.sum_congr rfl fun k _ => (EReal.coe_mul _ _).symm

/-- The greatest of a list of values that are real or `⊥`, one of them real at least, is real. -/
theorem foldl_max_coe {ι : Type*} (l : List ι) (f : ι → EReal) (htop : ∀ i ∈ l, f i ≠ ⊤) (z : EReal) (hz : z ≠ ⊤)
    (hbot : z ≠ ⊥ ∨ ∃ i ∈ l, f i ≠ ⊥) : ∃ r : ℝ, l.foldl (fun a i => max a (f i)) z = (r : EReal) := by
  induction l generalizing z with
  | nil =>
    rcases hbot with h | ⟨i, hi, _⟩
    · exact ⟨z.toReal, (EReal.coe_toReal hz h).symm⟩
    · exact absurd hi (List.not_mem_nil)
  | cons a l ih =>
    rw [List.foldl_cons]
    refine ih (fun i hi => htop i (List.mem_cons_of_mem _ hi)) _ ?_ ?_
    · rcases max_choice z (f a) with h | h <;> rw [h]
      · exact hz
      · exact htop a List.mem_cons_self
    · rcases hbot with h | ⟨i, hi, h⟩
      · exact Or.inl fun e => h (le_bot_iff.mp (e ▸ le_max_left z (f a)))
      · rcases List.mem_cons.mp hi with rfl | hi
        · exact Or.inl fun e => h (le_bot_iff.mp (e ▸ le_max_right z (f i)))
        · exact Or.inr ⟨i, hi, h⟩

/-- Comparing two small naturals as 32-bit words. -/
theorem sle_small {a b : ℕ} (ha : a < 8192) (hb : b < 8192) :
    IntOp.cmpi .sle (BitVec.ofNat 32 a) (BitVec.ofNat 32 b) = if a ≤ b then 1#1 else 0#1 := by
  have e : ∀ {n : ℕ}, n < 8192 → (BitVec.ofNat 32 n).toInt = n := fun {n} hn => by
    rw [BitVec.toInt_ofNat', Int.bmod_eq_of_le] <;> omega
  show BitVec.ofBool ((BitVec.ofNat 32 a).sle (BitVec.ofNat 32 b)) = _
  rw [BitVec.sle, e ha, e hb]
  by_cases h : a ≤ b
  · rw [if_pos h, decide_eq_true (by exact_mod_cast h)]; rfl
  · rw [if_neg h, decide_eq_false (by exact_mod_cast h)]; rfl

/-! ## Rows in blocks of 512 -/

/-- Row `b` of block `n`. -/
def row (n : Fin 16) (b : Fin 512) : Fin 8192 := ⟨n.val * 512 + b.val, by omega⟩

/-- The rows of block `n`, summed as all rows with a test. -/
theorem sum_row {M : Type*} [AddCommMonoid M] (n : Fin 16) (f : Fin 8192 → M) :
    ∑ b, f (row n b) = ∑ r : Fin 8192, if r.val / 512 = n.val then f r else 0 := by
  rw [← Finset.sum_filter]
  refine Finset.sum_nbij' (fun b => row n b) (fun r => ⟨r.val % 512, Nat.mod_lt _ (by norm_num)⟩) ?_ ?_ ?_ ?_ ?_
  · intro b _; rw [Finset.mem_filter]; refine ⟨Finset.mem_univ _, ?_⟩; show (n.val * 512 + b.val) / 512 = n.val; omega
  · intro r _; exact Finset.mem_univ _
  · intro b _; apply Fin.ext; show (n.val * 512 + b.val) % 512 = b.val; omega
  · intro r hr; have h := (Finset.mem_filter.mp hr).2; apply Fin.ext; show n.val * 512 + r.val % 512 = r.val; omega
  · intro b _; rfl

/-- All rows, block by block. -/
theorem sum_rows {M : Type*} [AddCommMonoid M] (f : Fin 8192 → M) : ∑ r, f r = ∑ n, ∑ b, f (row n b) := by
  simp_rw [sum_row]
  rw [Finset.sum_comm]
  refine Finset.sum_congr rfl fun r _ => ?_
  rw [Finset.sum_eq_single (⟨r.val / 512, by omega⟩ : Fin 16)]
  · simp
  · intro n _ hn; rw [if_neg]; intro e; exact hn (Fin.ext e.symm)
  · intro h; exact absurd (Finset.mem_univ _) h

/-- One more block of rows. -/
theorem sum_upto_succ (n : Fin 16) (m : Nat) (hn : n.val = m + 1) (f : Fin 8192 → ℝ) :
    (∑ r : Fin 8192, if r.val / 512 ≤ m then f r else 0) + ∑ b, f (row n b)
      = ∑ r : Fin 8192, if r.val / 512 ≤ m + 1 then f r else 0 := by
  rw [sum_row, ← Finset.sum_add_distrib]
  refine Finset.sum_congr rfl fun r _ => ?_
  rw [hn]
  by_cases h : r.val / 512 ≤ m
  · rw [if_pos h, if_neg (show ¬ r.val / 512 = m + 1 by omega), if_pos (show r.val / 512 ≤ m + 1 by omega), add_zero]
  · by_cases h' : r.val / 512 = m + 1
    · rw [if_neg h, if_pos h', if_pos (by omega), zero_add]
    · rw [if_neg h, if_neg h', if_neg (by omega), add_zero]

/-- The first block, where nothing before it counts. -/
theorem sum_upto_first (n : Fin 16) (f : Fin 8192 → ℝ) (hf : ∀ r : Fin 8192, r.val / 512 < n.val → f r = 0) :
    ∑ b, f (row n b) = ∑ r : Fin 8192, if r.val / 512 ≤ n.val then f r else 0 := by
  rw [sum_row]
  refine Finset.sum_congr rfl fun r _ => ?_
  by_cases h : r.val / 512 = n.val
  · rw [if_pos h, if_pos (by omega)]
  · rw [if_neg h]
    by_cases h' : r.val / 512 ≤ n.val
    · rw [if_pos h', hf r (by omega)]
    · rw [if_neg h']

/-! ## The softmax of one row and its gradient -/

section softmax
variable {N : Nat} (x dp : Fin N → ℝ) (q : Fin N)

/-- The exponentials of the row's scores up to column `q`, shifted by `m`; nothing after it. -/
def expo (m : ℝ) (k : Fin N) : ℝ := if k ≤ q then Real.exp (x k - m) else 0

/-- The row's probabilities. -/
def soft (k : Fin N) : ℝ := expo x q 0 k / ∑ k', expo x q 0 k'

/-- The gradient of the row's scores, given the gradient `dp` of its probabilities. -/
def dsoft (k : Fin N) : ℝ := soft x q k * (dp k - ∑ k', soft x q k' * dp k')

theorem expo_nonneg (m : ℝ) (k : Fin N) : 0 ≤ expo x q m k := by
  unfold expo; split
  · exact (Real.exp_pos _).le
  · exact le_rfl

/-- The row's sum is positive: its own column counts. -/
theorem sum_expo_pos (m : ℝ) : 0 < ∑ k, expo x q m k := by
  refine lt_of_lt_of_le (Real.exp_pos (x q - m)) ?_
  have h : Real.exp (x q - m) = expo x q m q := by unfold expo; rw [if_pos le_rfl]
  rw [h]
  exact Finset.single_le_sum (fun k _ => expo_nonneg x q m k) (Finset.mem_univ q)

theorem expo_shift (m : ℝ) (k : Fin N) : expo x q m k = expo x q 0 k * Real.exp (-m) := by
  unfold expo; split
  · rw [← Real.exp_add]; ring_nf
  · rw [zero_mul]

/-- The probabilities do not depend on the shift. -/
theorem soft_eq (m : ℝ) (k : Fin N) : expo x q m k / ∑ k', expo x q m k' = soft x q k := by
  have h : ∑ k', expo x q m k' = (∑ k', expo x q 0 k') * Real.exp (-m) := by
    rw [Finset.sum_mul]; exact Finset.sum_congr rfl fun k' _ => expo_shift x q m k'
  rw [h, expo_shift, soft, mul_div_mul_right _ _ (Real.exp_pos _).ne']

theorem soft_of_lt (k : Fin N) (h : q < k) : soft x q k = 0 := by
  unfold soft expo; rw [if_neg (not_le.mpr h), zero_div]

theorem dsoft_of_lt (k : Fin N) (h : q < k) : dsoft x dp q k = 0 := by
  unfold dsoft; rw [soft_of_lt x q k h, zero_mul]

/-- The gradient written with the unnormalised exponentials, the quotient's two terms apart. -/
theorem dsoft_quotient (m : ℝ) (k : Fin N) :
    (dp k / (∑ k', expo x q m k') + -(∑ k', dp k' * (1 / ((∑ k', expo x q m k') * ∑ k', expo x q m k')) * expo x q m k'))
      * expo x q m k = dsoft x dp q k := by
  have hl := (sum_expo_pos x q m).ne'
  unfold dsoft
  simp_rw [← soft_eq x q m]
  generalize (∑ k', expo x q m k') = l at hl ⊢
  have h : ∑ k', dp k' * (1 / (l * l)) * expo x q m k' = (∑ k', expo x q m k' / l * dp k') / l := by
    rw [Finset.sum_div]; refine Finset.sum_congr rfl fun k' _ => ?_; field_simp
  rw [h]; field_simp; ring

/-- A base-2 exponential of the scores over `log 2`, less the row's base-2 log-sum, is the probability. -/
theorem soft_of_lse (m : ℝ) (k : Fin N) (h : k ≤ q) :
    Real.rpow 2 (x k / Real.log 2 - (m + Real.log (∑ k', expo x q m k')) / Real.log 2) = soft x q k := by
  have h2 : Real.log 2 ≠ 0 := (Real.log_pos (by norm_num)).ne'
  have hl := sum_expo_pos x q m
  show (2 : ℝ) ^ (_ : ℝ) = _
  rw [← soft_eq x q m, Real.rpow_def_of_pos (by norm_num), ← sub_div, mul_div_cancel₀ _ h2]
  have e : expo x q m k = Real.exp (x k - m) := if_pos h
  rw [e, show x k - (m + Real.log (∑ k', expo x q m k')) = (x k - m) - Real.log (∑ k', expo x q m k') by ring,
    Real.exp_sub, Real.exp_log hl]

end softmax

/-! ## One attention with four heads -/

/-- The scores' scale, as the constant of both programs. -/
def scale : ℝ := (Ideal.ofBits .f32 0x3D93CD3A#32).toReal

theorem scale_coe : Ideal.ofBits .f32 0x3D93CD3A#32 = (scale : EReal) := by
  refine (EReal.coe_toReal ?_ ?_).symm <;>
    · simp [Ideal.ofBits, Ideal.ieee, -EReal.coe_mul]

section attention
variable (Q K : Fin 8192 → Fin 4 → Fin 192 → ℝ) (V O : Fin 8192 → Fin 4 → Fin 128 → ℝ)

/-- The scaled scores of a head. -/
def score (h : Fin 4) (q k : Fin 8192) : ℝ := (∑ d, Q q h d * K k h d) * scale
/-- The gradient of a head's probabilities. -/
def dprob (h : Fin 4) (q k : Fin 8192) : ℝ := ∑ e, O q h e * V k h e
/-- A head's probabilities. -/
def prob (h : Fin 4) (q k : Fin 8192) : ℝ := soft (score Q K h q) q k
/-- The gradient of a head's scaled scores. -/
def dscore (h : Fin 4) (q k : Fin 8192) : ℝ := dsoft (score Q K h q) (dprob V O h q) q k

/-- The gradient of the queries. -/
def gradQ (q : Fin 8192) (h : Fin 4) (d : Fin 192) : ℝ := ∑ k, dscore Q K V O h q k * scale * K k h d
/-- The gradient of the keys. -/
def gradK (k : Fin 8192) (h : Fin 4) (d : Fin 192) : ℝ := ∑ q, dscore Q K V O h q k * scale * Q q h d
/-- The gradient of the values. -/
def gradV (k : Fin 8192) (h : Fin 4) (e : Fin 128) : ℝ := ∑ q, O q h e * prob Q K h q k

/-- The row sum of the output times its gradient is the row sum of the probabilities times theirs. -/
theorem delta_eq (h : Fin 4) (q : Fin 8192) :
    ∑ e, O q h e * (∑ k, V k h e * prob Q K h q k) = ∑ k, prob Q K h q k * dprob V O h q k := by
  simp_rw [dprob, Finset.mul_sum]
  rw [Finset.sum_comm]
  refine Finset.sum_congr rfl fun k _ => Finset.sum_congr rfl fun e _ => by ring

end attention

end Cert.Proof.Flash

end
-- ==== Proof.FlashRef.lean ====
module

public import proofs.«01_k».proof.Proof.FlashMath
public import proofs.«01_k».proof.Proof.Gen.ReferenceIdeal.Run
public import proofs.«01_k».proof.Proof.Gen.ReferenceIdeal.Read
public import Idealize.ShloMosaic.Lib.Pointwise

/-! The reference's three results over the reals: the gradients of the queries, the keys and the values. -/

@[expose] public section

set_option maxRecDepth 16384

noncomputable section

namespace Cert.Proof.Flash

open Cert.ReferenceIdeal Cert.ReferenceIdeal.Gen Cert.ReferenceIdeal.Read
open Idealize.ShloMosaic

variable (Q K : Fin 8192 → Fin 4 → Fin 192 → ℝ) (V O : Fin 8192 → Fin 4 → Fin 128 → ℝ)

theorem ref_score : val_main_v2 (F := Ideal) (up3 Q) (up3 K) = up3 (score Q K) := by
  funext i
  rw [val_main_v2_apply, val_main_v0_apply, val_main_v1_apply, val_main_cst_apply]
  refine Eq.trans (congrArg₂ (· * ·) (sum_mul_coe (fun d => Q (i 1) (i 0) d) (fun d => K (i 2) (i 0) d)) scale_coe) ?_
  exact (EReal.coe_mul _ _).symm

theorem ref_mask (i : S4x8192x8192.Idx) :
    val_main_v10_1 (F := Ideal) i = if (i 2).val ≤ (i 1).val then 1#1 else 0#1 := by
  rw [val_main_v10_1_apply, val_main_v9_apply, val_main_v8_apply, val_main_v6_apply, val_main_v4_apply, val_main_v3_apply,
    val_main_v7_apply, val_main_v5_apply, val_main_v3_apply]
  exact sle_small (i 2).isLt (i 1).isLt

theorem neg_inf_bot : Ideal.ofBits .f32 0xFF800000#32 = ⊥ := by simp [Ideal.ofBits, Ideal.ieee]

theorem ref_masked (i : S4x8192x8192.Idx) : val_main_v10_0 (F := Ideal) (up3 Q) (up3 K) i
    = if (i 2).val ≤ (i 1).val then up3 (score Q K) i else ⊥ := by
  rw [val_main_v10_0_apply, ref_mask, ref_score, val_main_call0_v2_apply, val_main_call0_v0_apply, val_main_cst_0_apply]
  split
  · rfl
  · exact neg_inf_bot

/-- A row's greatest score is a real number: the row's own column is not masked. -/
theorem max_rows (f : S4x8192x8192.Idx → EReal) (s : Fin 4 → Fin 8192 → Fin 8192 → ℝ)
    (hf : ∀ i, f i = if (i 2).val ≤ (i 1).val then up3 s i else ⊥) (init : S_.Idx → EReal)
    (hi : ∀ i, init i = ⊥) (h) (hu) :
    ∃ mx : Fin 4 → Fin 8192 → ℝ,
      Host.reduce (s := S4x8192x8192) (axes := [2]) (t := S4x8192) (u := S_) (FloatOps.maximumf (F := Ideal) (φ := .f32)) f init h hu = up2 mx := by
  suffices H : ∀ j : S4x8192.Idx, ∃ r : ℝ,
      Host.reduce (s := S4x8192x8192) (axes := [2]) (t := S4x8192) (u := S_) (FloatOps.maximumf (F := Ideal) (φ := .f32)) f init h hu j = (r : EReal) by
    choose r hr using H
    refine ⟨fun a b => r (ix2 a b), funext fun j => ?_⟩
    rw [hr, up2, ← eq_ix2 j]
  intro j
  refine foldl_max_coe _ (fun n => f (S4x8192x8192.rowMajor.symm n)) (fun n _ => ?_) _ ?_ (Or.inr ?_)
  · show f _ ≠ ⊤
    rw [hf]; split
    · exact EReal.coe_ne_top _
    · exact bot_ne_top
  · rw [hi]; exact bot_ne_top
  · refine ⟨S4x8192x8192.rowMajor (ix3 (j 0) (j 1) (j 1)), ?_, ?_⟩
    · rw [List.mem_filter]
      refine ⟨List.mem_finRange _, ?_⟩
      rw [Equiv.symm_apply_apply, decide_eq_true_eq, Shape.ReducesTo.drop_eq_drop h (by decide)]
      funext a
      apply Fin.ext
      match a with
      | ⟨0, _⟩ => rfl
      | ⟨1, _⟩ => rfl
    · show f (S4x8192x8192.rowMajor.symm (S4x8192x8192.rowMajor _)) ≠ ⊥
      rw [Equiv.symm_apply_apply]
      exact ne_of_eq_of_ne ((hf _).trans (if_pos (le_refl (j 1).val))) (EReal.coe_ne_bot _)

/-- Dividing reals. -/
theorem div_real {x y : ℝ} (h : y ≠ 0) : Ideal.div (x : EReal) (y : EReal) = ((x / y : ℝ) : EReal) := by
  rw [Ideal.div_coe h, ← EReal.coe_mul, mul_one_div]

theorem ref_max : ∃ mx : Fin 4 → Fin 8192 → ℝ, val_main_v18 (F := Ideal) (up3 Q) (up3 K) = up2 mx := by
  obtain ⟨mx, h⟩ := max_rows _ (score Q K) (ref_masked Q K) (val_main_cst_1 (F := Ideal)) (fun _ => neg_inf_bot)
    reducesTo_S4x8192x8192_S4x8192_d2 h_S_
  refine ⟨mx, funext fun j => ?_⟩
  rw [val_main_v18_apply, val_main_v17_apply, val_main_cst_3_apply]
  unfold val_main_v11
  rw [h]
  exact (congrArg (max · _) neg_inf_bot).trans (max_eq_right bot_le)

section shifted
variable (mx : Fin 4 → Fin 8192 → ℝ) (hmx : val_main_v18 (F := Ideal) (up3 Q) (up3 K) = up2 mx)
include hmx

theorem ref_expo : val_main_v31 (F := Ideal) (up3 Q) (up3 K)
    = up3 (fun h q k => expo (score Q K h q) q (mx h q) k) := by
  funext i
  rw [val_main_v31_apply, val_main_v30_apply, ref_masked, val_main_v29_apply, val_main_v28_apply, hmx]
  by_cases h : (i 2).val ≤ (i 1).val
  · rw [if_pos h]
    have e : expo (score Q K (i 0) (i 1)) (i 1) (mx (i 0) (i 1)) (i 2)
        = Real.exp (score Q K (i 0) (i 1) (i 2) - mx (i 0) (i 1)) := if_pos h
    exact ((congrArg Ideal.exp (EReal.coe_sub _ _).symm).trans (Ideal.exp_coe _)).trans (congrArg _ e.symm)
  · rw [if_neg h]
    have e : expo (score Q K (i 0) (i 1)) (i 1) (mx (i 0) (i 1)) (i 2) = 0 := if_neg h
    exact ((congrArg Ideal.exp (EReal.bot_sub ((mx (i 0) (i 1) : ℝ) : EReal))).trans Ideal.exp_bot).trans (congrArg Real.toEReal e.symm)

/-- The sum of a row's exponentials. -/
def rowSum (h : Fin 4) (q : Fin 8192) : ℝ := ∑ k, expo (score Q K h q) q (mx h q) k

theorem ref_sum : val_main_v32 (F := Ideal) (up3 Q) (up3 K) = up2 (rowSum Q K mx) := by
  funext j
  rw [val_main_v32_apply, ref_expo Q K mx hmx, val_main_cst_9_apply]
  exact (congrArg₂ (· + ·) Ideal.ofBits_zero_f32 (sum_coe _)).trans (zero_add _)

theorem ref_prob : val_main_v35 (F := Ideal) (up3 Q) (up3 K) = up3 (prob Q K) := by
  funext i
  rw [val_main_v35_apply, ref_expo Q K mx hmx, val_main_v34_apply, val_main_v33_apply, ref_sum Q K mx hmx]
  refine (div_real (sum_expo_pos _ _ _).ne').trans ?_
  exact congrArg _ (soft_eq (score Q K (i 0) (i 1)) (i 1) (mx (i 0) (i 1)) (i 2))

theorem ref_dprob : val_main_v42 (F := Ideal) (up3 V) (up3 O) = up3 (dprob V O) := by
  funext i
  rw [val_main_v42_apply]
  simp_rw [val_main_v41_apply]
  exact sum_mul_coe (fun e => O (i 1) (i 0) e) (fun e => V (i 2) (i 0) e)

theorem ref_quot : val_main_v48 (F := Ideal) (up3 Q) (up3 K) (up3 V) (up3 O)
    = up2 fun h q => ∑ k, dprob V O h q k * (1 / (rowSum Q K mx h q * rowSum Q K mx h q)) * expo (score Q K h q) q (mx h q) k := by
  funext j
  rw [val_main_v48_apply, val_main_cst_11_apply]
  refine (congrArg₂ (· + ·) Ideal.ofBits_zero_f32 ?_).trans (zero_add _)
  refine (Finset.sum_congr rfl fun k _ => ?_).trans (sum_coe _)
  rw [val_main_v47_apply, val_main_v46_apply, ref_dprob Q K V O mx hmx, ref_expo Q K mx hmx, val_main_v45_apply,
    val_main_v38_apply, val_main_v37_apply, val_main_cst_10_apply, val_main_v36_apply, val_main_v33_apply,
    ref_sum Q K mx hmx]
  have hl := (sum_expo_pos (score Q K (j 0) (j 1)) (j 1) (mx (j 0) (j 1))).ne'
  have e1 : Ideal.ofBits .f32 0x3F800000#32 = ((1 : ℝ) : EReal) := by
    simp [Ideal.ofBits, Ideal.ieee, -EReal.coe_mul]; norm_num
  refine Eq.trans (b := ((dprob V O (j 0) (j 1) k : ℝ) : EReal) * ((1 / (rowSum Q K mx (j 0) (j 1) * rowSum Q K mx (j 0) (j 1)) : ℝ) : EReal)
    * ((expo (score Q K (j 0) (j 1)) (j 1) (mx (j 0) (j 1)) k : ℝ) : EReal)) ?_ ?_
  · exact congrArg (fun z : EReal => ((dprob V O (j 0) (j 1) k : ℝ) : EReal) * z
      * ((expo (score Q K (j 0) (j 1)) (j 1) (mx (j 0) (j 1)) k : ℝ) : EReal))
      ((congrArg₂ Ideal.div e1 (EReal.coe_mul _ _).symm).trans (div_real (mul_ne_zero hl hl)))
  · exact ((congrArg (· * _) (EReal.coe_mul _ _).symm)).trans (EReal.coe_mul _ _).symm

theorem ref_dscore : val_main_v57 (F := Ideal) (up3 Q) (up3 K) (up3 V) (up3 O) = up3 (dscore Q K V O) := by
  funext i
  rw [val_main_v57_apply, ref_mask]
  by_cases h : (i 2).val ≤ (i 1).val
  · rw [if_pos h]
    refine Eq.trans (b := val_main_v56 (F := Ideal) (up3 Q) (up3 K) (up3 V) (up3 O) i) rfl ?_
    rw [val_main_v56_apply, val_main_v55_apply, val_main_v52_apply, val_main_v54_apply, val_main_v53_apply,
      ref_dprob Q K V O mx hmx, ref_expo Q K mx hmx, val_main_v51_apply, val_main_v33_apply, ref_sum Q K mx hmx,
      val_main_cst_12_apply, Fin.sum_univ_one, val_main_v50_apply, val_main_v49_apply, ref_quot Q K V O mx hmx]
    have hl := (sum_expo_pos (score Q K (i 0) (i 1)) (i 1) (mx (i 0) (i 1))).ne'
    have ej : idx_main_v49 (idx_main_v53 (idx_main_v54 i) 0) = ix2 (i 0) (i 1) := by
      have h1 : (i 1).val < 8192 := (i 1).isLt
      funext a
      apply Fin.ext
      match a with
      | ⟨0, _⟩ => show (((i 0).val * 8192 + (i 1).val) * 1 + 0) / 8192 = (i 0).val; omega
      | ⟨1, _⟩ => show (((i 0).val * 8192 + (i 1).val) * 1 + 0) % 8192 = (i 1).val; omega
    rw [ej]
    refine Eq.trans ?_ (congrArg Real.toEReal (dsoft_quotient (score Q K (i 0) (i 1)) (dprob V O (i 0) (i 1)) (i 1) (mx (i 0) (i 1)) (i 2)))
    refine Eq.trans ?_ (EReal.coe_mul _ _).symm
    refine congrArg (· * _) (Eq.trans ?_ (EReal.coe_add _ _).symm)
    refine congrArg₂ (· + ·) (div_real hl) ?_
    refine (congrArg (· + _) Ideal.ofBits_zero_f32).trans ((zero_add _).trans ?_)
    exact (EReal.coe_neg _).symm
  · rw [if_neg h, val_main_call1_v0_apply, val_main_call1_cst_apply]
    refine Eq.trans (b := Ideal.ofBits .f32 0x00000000#32) rfl (Ideal.ofBits_zero_f32.trans ?_)
    exact congrArg Real.toEReal (dsoft_of_lt (score Q K (i 0) (i 1)) (dprob V O (i 0) (i 1)) (i 1) (i 2) (not_le.mp h)).symm

theorem ref_scaled (i : S4x8192x8192.Idx) : val_main_v59 (F := Ideal) (up3 Q) (up3 K) (up3 V) (up3 O) i
    = ((dscore Q K V O (i 0) (i 1) (i 2) * scale : ℝ) : EReal) := by
  rw [val_main_v59_apply, ref_dscore Q K V O mx hmx, val_main_v58_apply, val_main_cst_13_apply]
  exact (congrArg (_ * ·) scale_coe).trans (EReal.coe_mul _ _).symm

end shifted

/-- The reference's gradient of the queries. -/
theorem ref_gradQ : val_main_v63 (F := Ideal) (up3 Q) (up3 K) (up3 V) (up3 O) = up3 (gradQ Q K V O) := by
  obtain ⟨mx, hmx⟩ := ref_max Q K
  funext i
  rw [val_main_v63_apply, val_main_v62_apply]
  simp_rw [ref_scaled Q K V O mx hmx]
  exact sum_mul_coe (fun k => dscore Q K V O (i 1) (i 0) k * scale) (fun k => K k (i 1) (i 2))

/-- The reference's gradient of the keys. -/
theorem ref_gradK : val_main_v61 (F := Ideal) (up3 Q) (up3 K) (up3 V) (up3 O) = up3 (gradK Q K V O) := by
  obtain ⟨mx, hmx⟩ := ref_max Q K
  funext i
  rw [val_main_v61_apply, val_main_v60_apply]
  simp_rw [ref_scaled Q K V O mx hmx]
  exact sum_mul_coe (fun q => dscore Q K V O (i 1) q (i 0) * scale) (fun q => Q q (i 1) (i 2))

/-- The reference's gradient of the values. -/
theorem ref_gradV : val_main_v44 (F := Ideal) (up3 Q) (up3 K) (up3 O) = up3 (gradV Q K O) := by
  obtain ⟨mx, hmx⟩ := ref_max Q K
  funext i
  rw [val_main_v44_apply, val_main_v43_apply, ref_prob Q K mx hmx]
  simp_rw [val_main_v41_apply]
  exact sum_mul_coe (fun q => O q (i 1) (i 2)) (fun q => prob Q K (i 1) q (i 0))

end Cert.Proof.Flash

end
-- ==== Proof.FlashHost.lean ====
module

public import proofs.«01_k».proof.Proof.FlashRef
public import proofs.«01_k».proof.Proof.Gen.KernelIdeal.Launch
public import proofs.«01_k».proof.Proof.Gen.KernelIdeal.Frame
public import Idealize.ShloMosaic.Lib.StableHlo.Run
public import Idealize.ShloMosaic.Lib.Pointwise

/-! The arrays the host hands the attention's backward call: the padded queries and keys, the values and the gradient of
    the output with their heads side by side, and each row's saved log-sum and row sum. -/

@[expose] public section

set_option maxRecDepth 16384

noncomputable section

namespace Cert.Proof.Flash

open Cert.KernelIdeal Cert.KernelIdeal.Gen
open Idealize.ShloMosaic Idealize.ShloMosaic.TcCoe Idealize.ShloMosaic.StableHlo

/-! ## The host's operations -/

/-- `log 2`. -/
def hLn2 : S_.Idx → EReal := Host.log (F := Ideal) (φ := .f32) (constant (F := Ideal) S_ .f32 0x40000000#32)

/-- The scale of the scores, in units of `log 2`. -/
def hUnit : S_.Idx → EReal := Host.divf (F := Ideal) (φ := .f32) (constant (F := Ideal) S_ .f32 0x3D93CD3A#32) hLn2

section ops
variable (s e : FVec Ideal S4x8192x8192 .f32) (mx l : FVec Ideal S4x8192 .f32) (x : FVec Ideal S8192x4x192 .f32)
  (a o : FVec Ideal S8192x4x128 .f32)

/-- A row's greatest score. -/
def hMax : FVec Ideal S4x8192 .f32 :=
  Host.reduce FloatOps.maximumf s (constant (F := Ideal) S_ .f32 0xFF800000#32) reducesTo_S4x8192x8192_S4x8192_d2 h_S_

/-- A row of numbers, at every key. -/
def hSpread : FVec Ideal S4x8192x8192 .f32 :=
  broadcastInDim S4x8192x8192 ![0, 1, 2] bcast_S4x8192x1_S4x8192x8192_0_1_2
    (broadcastInDim S4x8192x1 ![0, 1] bcast_S4x8192_S4x8192x1_0_1 l)

/-- The exponentials of the shifted scores. -/
def hExpo : FVec Ideal S4x8192x8192 .f32 := Host.exp (subf s (hSpread mx))

/-- A row's sum. -/
def hSum : FVec Ideal S4x8192 .f32 :=
  Host.reduceAdd e (constant (F := Ideal) S_ .f32 0x00000000#32) reducesTo_S4x8192x8192_S4x8192_d2 h_S_

/-- A row's saved log-sum, in units of `log 2`. -/
def hLse : FVec Ideal S4x8192 .f32 := Host.divf (addf mx (Host.log l)) (broadcastInDim S4x8192 ![] bcast_S_S4x8192 hLn2)

/-- The attention's output of the probabilities `e`. -/
def hOut : FVec Ideal S8192x4x128 .f32 :=
  transpose S8192x4x128 [2, 0, 1] (Host.dotGeneral (φ₁ := .f32) (φ₂ := .f32) (F := Ideal) dot_S8192x4x128_S4x8192x8192_S4x128x8192_0_2_2_1_1_0 none a e)
    transposes_S4x128x8192_S8192x4x128_2_0_1

/-- A row's sum of gradient times output. -/
def hDelta : FVec Ideal S4x8192 .f32 :=
  transpose S4x8192 [1, 0] (Host.reduceAdd (mulf a o) (constant (F := Ideal) S_ .f32 0x00000000#32) reducesTo_S8192x4x128_S8192x4_d2 h_S_)
    transposes_S8192x4_S4x8192_1_0

/-- The heads side by side, each padded with zeros to 256 columns. -/
def hPad : FVec Ideal S8192x1024 .bf16 :=
  truncf .bf16 (shapeCast S8192x1024 (pad S8192x4x256 ![0, 0, 0] ![0, 0, 64] ![0, 0, 0] x
    (sitofp (F := Ideal) .f32 (constantI S_ 32 0#32)) pads_S8192x4x192_S8192x4x256_000_000_0640 h_S_)) bitsLt_bf16_f32

/-- The scaled queries. -/
def hScaled : FVec Ideal S8192x4x192 .f32 := mulf x (broadcastInDim S8192x4x192 ![] bcast_S_S8192x4x192 hUnit)

/-- The heads side by side. -/
def hHeads : FVec Ideal S8192x512 .bf16 := truncf .bf16 (shapeCast S8192x512 a) bitsLt_bf16_f32

/-- A row of numbers, eight times over. -/
def hRows : FVec Ideal S32x8192 .f32 := shapeCast S32x8192 (broadcastInDim S4x8x8192 ![0, 2] bcast_S4x8192_S4x8x8192_0_2 l)

end ops

/-- The masked scores: the reference computes the same. -/
abbrev hScore (q k : FVec Ideal S8192x4x192 .f32) : FVec Ideal S4x8192x8192 .f32 :=
  Cert.ReferenceIdeal.Read.val_main_v10_0 (F := Ideal) q k

/-! ## What the call's operands hold -/

variable (m : (ℓ : Loc nD τ sig) → Buf (Elt Ideal) ℓ)

/-- Every operand of the call, and `log 2`, read through the host's operations. -/
theorem operands (c : Dev nD) :
    (V m c main_v0 = hLn2)
    ∧ (V m c main_v38 = hPad (m (c, Proc.tc.devRef main_arg1)))
    ∧ (V m c main_v35 = hPad (hScaled (m (c, Proc.tc.devRef main_arg0))))
    ∧ (V m c main_v40 = hHeads (m (c, Proc.tc.devRef main_arg2)))
    ∧ (V m c main_v42 = hHeads (m (c, Proc.tc.devRef main_arg3)))
    ∧ (V m c main_v44 = (fun s : FVec Ideal S4x8192x8192 .f32 => hRows (hLse (hMax s) (hSum (hExpo s (hMax s)))))
        (hScore (m (c, Proc.tc.devRef main_arg0)) (m (c, Proc.tc.devRef main_arg1))))
    ∧ (V m c main_v46 = (fun s : FVec Ideal S4x8192x8192 .f32 => hRows (hDelta (m (c, Proc.tc.devRef main_arg3)) (hOut
          (Host.divf (hExpo s (hMax s)) (hSpread (hSum (hExpo s (hMax s))))) (m (c, Proc.tc.devRef main_arg2)))))
        (hScore (m (c, Proc.tc.devRef main_arg0)) (m (c, Proc.tc.devRef main_arg1)))) := by
  refine ⟨?_, ?_, ?_, ?_, ?_, ?_, ?_⟩ <;>
  · show StableHlo.after _ _ _ = _
    simp only [hostOps0, hostOps0_1, hostOps0_2, hostOps0_3, hostOps0_4, hostOps0_5, hostOps0_6, List.flatten_cons,
      List.flatten_nil, List.append_nil, List.cons_append, List.nil_append, TRef.nullary, TRef.ternary, TRef.unary,
      TRef.binary, TRef.toBuf, TRef.ofBuf, cast_eq]
    after_results_simp
    rfl

/-! ## The host's operations over the reals -/

theorem ln2_pos : (0 : ℝ) < Real.log 2 := Real.log_pos (by norm_num)

theorem hLn2_up (i) : hLn2 i = ((Real.log 2 : ℝ) : EReal) := by
  have e : Ideal.ofBits .f32 0x40000000#32 = ((2 : ℝ) : EReal) := by simp [Ideal.ofBits, Ideal.ieee, -EReal.coe_mul]; norm_num
  exact (congrArg Ideal.log e).trans (if_neg (show ¬ (2:ℝ) ≤ 0 by norm_num))

theorem hUnit_up (i) : hUnit i = ((scale / Real.log 2 : ℝ) : EReal) :=
  (congrArg₂ Ideal.div scale_coe (hLn2_up i)).trans (div_real ln2_pos.ne')

variable (Q K : Fin 8192 → Fin 4 → Fin 192 → ℝ) (V O : Fin 8192 → Fin 4 → Fin 128 → ℝ)
  (p : Fin 4 → Fin 8192 → Fin 8192 → ℝ) (l mx : Fin 4 → Fin 8192 → ℝ)

theorem hSpread_up : hSpread (up2 l) = up3 fun h q _ => l h q := by
  funext j
  idx_vars j
  pointwise [hSpread]
  rfl

theorem hSum_up : hSum (up3 p) = up2 fun h q => ∑ k, p h q k := by
  funext j
  idx_vars j
  pointwise [hSum]
  exact sum_coe _

theorem hLse_up (hl : ∀ h q, 0 < l h q) : hLse (up2 mx) (up2 l) = up2 fun h q => (mx h q + Real.log (l h q)) / Real.log 2 := by
  funext j
  idx_vars j
  pointwise [hLse]
  have e : Ideal.log ((l j0 j1 : ℝ) : EReal) = ((Real.log (l j0 j1) : ℝ) : EReal) := if_neg (not_le.mpr (hl j0 j1))
  exact (congrArg₂ Ideal.div ((congrArg (_ + ·) e).trans (EReal.coe_add _ _).symm) (hLn2_up ix0)).trans (div_real ln2_pos.ne')

theorem hOut_up : hOut (up3 p) (up3 V) = up3 fun q h e => ∑ k, V k h e * p h q k := by
  funext j
  idx_vars j
  pointwise [hOut]
  exact sum_mul_coe _ _

theorem hDelta_up : hDelta (up3 V) (up3 O) = up2 fun h q => ∑ e, V q h e * O q h e := by
  funext j
  idx_vars j
  pointwise [hDelta]
  exact sum_mul_coe _ _

/-- Arrays with the heads side by side, 128 columns each. -/
def beside128 (f : Fin 8192 → Fin 4 → Fin 128 → ℝ) (r : Fin 8192) (c : Fin 512) : ℝ :=
  f r ⟨c.val / 128, by omega⟩ ⟨c.val % 128, by omega⟩

/-- The head of a row, eight rows to a head. -/
def head8 (r : Fin 32) : Fin 4 := ⟨r.val / 8, by omega⟩

/-- The heads side by side, each followed by zeros up to 256 columns. -/
def padded (r : Fin 8192) (c : Fin 1024) : ℝ :=
  if h : c.val % 256 < 192 then Q r ⟨c.val / 256, by omega⟩ ⟨c.val % 256, h⟩ else 0

theorem hPad_up : hPad (up3 Q) = up2 (padded Q) := by
  funext j
  idx_vars j
  pointwise [hPad]
  have hj := j1.isLt
  by_cases h : j1.val % 256 < 192
  · have e : padded Q j0 j1 = Q j0 ⟨j1.val / 256, by omega⟩ ⟨j1.val % 256, h⟩ := dif_pos h
    exact (dif_pos ⟨by omega, h⟩).trans (congrArg Real.toEReal e.symm)
  · have e : padded Q j0 j1 = 0 := dif_neg h
    refine (dif_neg (fun h' => h h'.2)).trans (Eq.trans ?_ (congrArg Real.toEReal e.symm))
    show (((0#32 : BitVec 32).toInt : ℝ) : EReal) = ((0 : ℝ) : EReal)
    simp

theorem hScaled_up : hScaled (up3 Q) = up3 fun r h d => Q r h d * (scale / Real.log 2) := by
  funext j
  idx_vars j
  pointwise [hScaled]
  exact (congrArg (_ * ·) (hUnit_up ix0)).trans (EReal.coe_mul _ _).symm

theorem hHeads_up : hHeads (up3 V) = up2 (beside128 V) := by
  funext j
  idx_vars j
  pointwise [hHeads]
  rfl

theorem hRows_up : hRows (up2 l) = up2 fun r q => l (head8 r) q := by
  funext j
  idx_vars j
  pointwise [hRows]
  rfl

theorem hExpo_up : hExpo (hScore (up3 Q) (up3 K)) (up2 mx) = up3 fun h q k => expo (score Q K h q) q (mx h q) k := by
  have hs : hSpread (up2 mx) = _ := hSpread_up mx
  unfold hExpo
  rw [hs]
  funext i
  refine Eq.trans (congrArg (fun z => Ideal.exp (z - _)) (ref_masked Q K i)) ?_
  beta_reduce
  by_cases h : (i 2).val ≤ (i 1).val
  · rw [if_pos h]
    have e : expo (score Q K (i 0) (i 1)) (i 1) (mx (i 0) (i 1)) (i 2)
        = Real.exp (score Q K (i 0) (i 1) (i 2) - mx (i 0) (i 1)) := if_pos h
    exact ((congrArg Ideal.exp (EReal.coe_sub _ _).symm).trans (Ideal.exp_coe _)).trans (congrArg _ e.symm)
  · rw [if_neg h]
    have e : expo (score Q K (i 0) (i 1)) (i 1) (mx (i 0) (i 1)) (i 2) = 0 := if_neg h
    exact ((congrArg Ideal.exp (EReal.bot_sub ((mx (i 0) (i 1) : ℝ) : EReal))).trans Ideal.exp_bot).trans (congrArg Real.toEReal e.symm)

/-- The call's operands over the reals. `L` is each row's saved log-sum. -/
theorem operands_up (c : Dev nD) (h0 : m (c, Proc.tc.devRef main_arg0) = up3 Q) (h1 : m (c, Proc.tc.devRef main_arg1) = up3 K)
    (h2 : m (c, Proc.tc.devRef main_arg2) = up3 V) (h3 : m (c, Proc.tc.devRef main_arg3) = up3 O) :
    ∃ L : Fin 4 → Fin 8192 → ℝ,
      (∀ h (q k : Fin 8192), k ≤ q → Real.rpow 2 (score Q K h q k / Real.log 2 - L h q) = prob Q K h q k)
      ∧ Cert.KernelIdeal.Gen.V m c main_v38 = up2 (padded K)
      ∧ Cert.KernelIdeal.Gen.V m c main_v35 = up2 (padded fun r h d => Q r h d * (scale / Real.log 2))
      ∧ Cert.KernelIdeal.Gen.V m c main_v40 = up2 (beside128 V)
      ∧ Cert.KernelIdeal.Gen.V m c main_v42 = up2 (beside128 O)
      ∧ Cert.KernelIdeal.Gen.V m c main_v44 = up2 (fun r q => L (head8 r) q)
      ∧ Cert.KernelIdeal.Gen.V m c main_v46 = up2 (fun r q =>
          ∑ k, prob Q K (head8 r) q k * dprob V O (head8 r) q k) := by
  obtain ⟨-, e38, e35, e40, e42, e44, e46⟩ := operands m c
  obtain ⟨mx, hmx⟩ := max_rows (hScore (up3 Q) (up3 K)) (score Q K) (ref_masked Q K)
    (constant (F := Ideal) S_ .f32 0xFF800000#32) (fun _ => neg_inf_bot) reducesTo_S4x8192x8192_S4x8192_d2 h_S_
  have emx : hMax (hScore (up3 Q) (up3 K)) = up2 mx := hmx
  have el : hSum (hExpo (hScore (up3 Q) (up3 K)) (hMax (hScore (up3 Q) (up3 K))))
      = up2 fun h q => ∑ k, expo (score Q K h q) q (mx h q) k := by
    rw [emx, hExpo_up]; exact hSum_up _
  refine ⟨fun h q => (mx h q + Real.log (∑ k, expo (score Q K h q) q (mx h q) k)) / Real.log 2,
    fun h q k hk => soft_of_lse (score Q K h q) q (mx h q) k hk, ?_, ?_, ?_, ?_, ?_, ?_⟩
  · exact e38.trans ((congrArg hPad h1).trans (hPad_up K))
  · exact e35.trans ((congrArg (fun x => hPad (hScaled x)) h0).trans ((congrArg hPad (hScaled_up Q)).trans (hPad_up _)))
  · exact e40.trans ((congrArg hHeads h2).trans (hHeads_up V))
  · exact e42.trans ((congrArg hHeads h3).trans (hHeads_up O))
  · rw [e44, h0, h1]
    beta_reduce
    rw [el, emx]
    exact (congrArg hRows (hLse_up _ _ fun h q => sum_expo_pos _ _ _)).trans (hRows_up _)
  · rw [e46, h0, h1, h2, h3]
    beta_reduce
    rw [el, emx, hExpo_up]
    have ep : Host.divf (F := Ideal) (φ := .f32) (up3 fun h q k => expo (score Q K h q) q (mx h q) k)
        (hSpread (up2 fun h q => ∑ k, expo (score Q K h q) q (mx h q) k)) = up3 (prob Q K) := by
      rw [show hSpread (up2 fun h q => ∑ k, expo (score Q K h q) q (mx h q) k) = _ from hSpread_up _]
      funext i
      exact (div_real (sum_expo_pos _ _ _).ne').trans
        (congrArg _ (soft_eq (score Q K (i 0) (i 1)) (i 1) (mx (i 0) (i 1)) (i 2)))
    have eo : hOut (up3 (prob Q K)) (up3 V) = up3 _ := hOut_up V (prob Q K)
    have ed : hDelta (up3 O) (up3 fun q h e => ∑ k, V k h e * prob Q K h q k) = up2 _ := hDelta_up O _
    refine Eq.trans (congrArg (fun z => hRows (hDelta (up3 O) (hOut z (up3 V)))) ep) ?_
    beta_reduce
    rw [eo, ed]
    refine (hRows_up _).trans ?_
    funext i
    exact congrArg Real.toEReal (delta_eq Q K V O _ _)

end Cert.Proof.Flash

end
-- ==== Proof.FlashBlocks.lean ====
module

public import proofs.«01_k».proof.Proof.FlashMath
public import proofs.«01_k».proof.Proof.FlashModel
public import Idealize.ShloMosaic.Lib.Pointwise

/-! One grid point of the attention's backward call over the reals: the tiles it computes, and the sums it leaves. -/

@[expose] public section

set_option maxRecDepth 16384

noncomputable section

namespace Cert.Proof.Flash

open Cert.KernelIdeal Cert.KernelIdeal.Gen
open Idealize.ShloMosaic

/-! ## The operations of a tile -/

section tiles
variable (k : Fin 512 → Fin 256 → ℝ) (v : Fin 512 → Fin 128 → ℝ) (q : Fin 512 → Fin 256 → ℝ) (o : Fin 512 → Fin 128 → ℝ)
  (s p : Fin 512 → Fin 512 → ℝ) (l dl : Fin 1 → Fin 512 → ℝ) (x : Fin 512 → Fin 256 → ℝ) (y : Fin 512 → Fin 128 → ℝ)

theorem tile_score : k0_pay9 (F := Ideal) (up2 k) (up2 q) = up2 fun a b => ∑ d, k a d * q b d := by
  funext j
  idx_vars j
  pointwise [k0_pay9]
  exact sum_mul_coe _ _

theorem tile_dprob : k0_pay10 (F := Ideal) (up2 v) (up2 o) = up2 fun a b => ∑ e, v a e * o b e := by
  funext j
  idx_vars j
  pointwise [k0_pay10]
  exact sum_mul_coe _ _

theorem tile_prob : k0_pay11 (F := Ideal) (up2 s) (up2 l) = up2 fun a b => Real.rpow 2 (s a b - l 0 b) := by
  funext j
  idx_vars j
  pointwise [k0_pay11]
  exact (congrArg Ideal.exp2 (EReal.coe_sub _ _).symm).trans (Ideal.exp2_coe _)

theorem tile_dscore : k0_pay12 (F := Ideal) (up2 s) (up2 l) (up2 p) (up2 dl)
    = up2 fun a b => Real.rpow 2 (s a b - l 0 b) * (p a b - dl 0 b) := by
  funext j
  idx_vars j
  pointwise [k0_pay12]
  rw [tile_prob]
  exact (congrArg (_ * ·) (EReal.coe_sub _ _).symm).trans (EReal.coe_mul _ _).symm

theorem tile_dv : k0_pay13 (F := Ideal) (up2 p) (up2 y) (up2 o) = up2 fun a e => y a e + ∑ b, p a b * o b e := by
  funext j
  idx_vars j
  pointwise [k0_pay13]
  exact (congrArg (_ + ·) (sum_mul_coe _ _)).trans (EReal.coe_add _ _).symm

theorem tile_dk : k0_pay14 (F := Ideal) (up2 p) (up2 x) (up2 q) = up2 fun a d => x a d + ∑ b, p a b * q b d := by
  funext j
  idx_vars j
  pointwise [k0_pay14]
  exact (congrArg (_ + ·) (sum_mul_coe _ _)).trans (EReal.coe_add _ _).symm

theorem tile_dq : k0_pay15 (F := Ideal) (up2 k) (up2 p) (up2 x) = up2 fun b d => x b d + ∑ a, p a b * k a d := by
  funext j
  idx_vars j
  pointwise [k0_pay15]
  exact (congrArg (_ + ·) (sum_mul_coe _ _)).trans (EReal.coe_add _ _).symm

theorem masked_bot : (Named.named (F := Ideal) κ "masked" (φ := .f32) 0xF149F2CA#32 : EReal) = ⊥ := rfl

theorem tile_prob_first : k0_pay65 (F := Ideal) (up2 s) (up2 l)
    = up2 fun a b => if a ≤ b then Real.rpow 2 (s a b - l 0 b) else 0 := by
  funext j
  idx_vars j
  pointwise [k0_pay65]
  rw [sle_small (by omega) (by omega)]
  by_cases h : j0.val ≤ j1.val
  · rw [if_pos h]
    refine Eq.trans ((congrArg Ideal.exp2 (EReal.coe_sub _ _).symm).trans (Ideal.exp2_coe (s j0 j1 - l 0 j1))) ?_
    exact congrArg Real.toEReal (if_pos (show j0 ≤ j1 from h)).symm
  · rw [if_neg h]
    refine Eq.trans ((congrArg Ideal.exp2 (EReal.bot_sub ((l 0 j1 : ℝ) : EReal))).trans Ideal.exp2_bot) ?_
    exact congrArg Real.toEReal (if_neg (show ¬ j0 ≤ j1 from h)).symm

theorem tile_dscore_first : k0_pay66 (F := Ideal) (up2 s) (up2 l) (up2 p) (up2 dl)
    = up2 fun a b => (if a ≤ b then Real.rpow 2 (s a b - l 0 b) else 0) * (p a b - dl 0 b) := by
  funext j
  idx_vars j
  pointwise [k0_pay66]
  rw [tile_prob_first]
  exact (congrArg (_ * ·) (EReal.coe_sub _ _).symm).trans (EReal.coe_mul _ _).symm

theorem tile_dv_first : k0_pay67 (F := Ideal) = k0_pay13 := rfl
theorem tile_dk_first : k0_pay68 (F := Ideal) = k0_pay14 := rfl
theorem tile_dq_first : k0_pay69 (F := Ideal) = k0_pay15 := rfl

end tiles

/-! ## Row blocks of arrays of reals -/

theorem rQ_up (n : Fin 16) (f : Fin 8192 → Fin 256 → ℝ) : rQ n (up2 f) = up2 fun b d => f (row n b) d := by
  funext x
  exact congrArg Real.toEReal (congrArg₂ f (Fin.ext (by show 512 * n.val + 1 * (x 0).val = n.val * 512 + (x 0).val; omega))
    (Fin.ext (by show 0 + 1 * (x 1).val = (x 1).val; omega)))

theorem rO_up (n : Fin 16) (f : Fin 8192 → Fin 128 → ℝ) : rO n (up2 f) = up2 fun b d => f (row n b) d := by
  funext x
  exact congrArg Real.toEReal (congrArg₂ f (Fin.ext (by show 512 * n.val + 1 * (x 0).val = n.val * 512 + (x 0).val; omega))
    (Fin.ext (by show 0 + 1 * (x 1).val = (x 1).val; omega)))

theorem rL_up (n : Fin 16) (f : Fin 8 → Fin 8192 → ℝ) : rL n (up2 f) = up2 fun _ b => f 0 (row n b) := by
  funext x
  have h0 : (x 0).val < 1 := (x 0).isLt
  exact congrArg Real.toEReal (congrArg₂ f (Fin.ext (by show 0 + 1 * (x 0).val = 0; omega))
    (Fin.ext (by show 512 * n.val + 1 * (x 1).val = n.val * 512 + (x 1).val; omega)))

theorem pQ_up (n : Fin 16) (f : Fin 8192 → Fin 256 → ℝ) (w : Fin 8192 → Fin 256 → ℝ) :
    pQ n (up2 f) (up2 fun b d => w (row n b) d) = up2 fun r d => if r.val / 512 = n.val then w r d else f r d := by
  funext x
  obtain ⟨r, d, rfl⟩ : ∃ r d, x = ix2 r d := ⟨x 0, x 1, eq_ix2 x⟩
  by_cases h : r.val / 512 = n.val
  · refine Eq.trans ?_ (congrArg Real.toEReal (if_pos h).symm)
    have e : ix2 r d = (Rect.unit (s := S8192x256) ![512 * n.val, 0] S512x256.size (inbQ n)).emb
        (ix2 (⟨r.val % 512, Nat.mod_lt _ (by norm_num)⟩ : Fin 512) d) := by
      funext a
      apply Fin.ext
      match a with
      | ⟨0, _⟩ => show r.val = 512 * n.val + 1 * (r.val % 512); omega
      | ⟨1, _⟩ => show d.val = 0 + 1 * d.val; omega
    unfold pQ putOf
    rw [e]
    refine (Rect.overlay_emb _ _ _ _).trans ?_
    refine congrArg Real.toEReal (congrArg₂ w (Fin.ext ?_) (Fin.ext ?_))
    · show n.val * 512 + r.val % 512 = 512 * n.val + 1 * (r.val % 512)
      omega
    · show d.val = 0 + 1 * d.val
      omega
  · refine Eq.trans ?_ (congrArg Real.toEReal (if_neg h).symm)
    refine (Rect.overlay_of_not_mem _ _ _ ?_).trans rfl
    rw [Rect.mem_set_unit]
    intro hm
    have h0 := hm 0
    have h1 : 512 * n.val ≤ r.val ∧ r.val < 512 * n.val + 512 := h0
    omega

/-! ## One grid point -/

section point
variable (j : Fin 16) (k : Fin 512 → Fin 256 → ℝ) (v : Fin 512 → Fin 128 → ℝ) (q : Fin 8192 → Fin 256 → ℝ)
  (o : Fin 8192 → Fin 128 → ℝ) (l dl : Fin 8 → Fin 8192 → ℝ)

/-- The probabilities of key row `a` of block `j` in every query row. -/
def tprob (a : Fin 512) (r : Fin 8192) : ℝ := if row j a ≤ r then Real.rpow 2 ((∑ d, k a d * q r d) - l 0 r) else 0
/-- The gradient of its scores. -/
def tds (a : Fin 512) (r : Fin 8192) : ℝ := tprob j k q l a r * ((∑ e, v a e * o r e) - dl 0 r)

/-- Sums of reals under way. -/
abbrev accUp (dk : Fin 512 → Fin 256 → ℝ) (dv : Fin 512 → Fin 128 → ℝ) (dq : Fin 8192 → Fin 256 → ℝ) : Acc Ideal :=
  ⟨up2 dk, up2 dv, up2 dq⟩

variable (dk : Fin 512 → Fin 256 → ℝ) (dv : Fin 512 → Fin 128 → ℝ) (dq : Fin 8192 → Fin 256 → ℝ)

theorem tprob_row (n : Fin 16) (h : j.val < n.val) (a b : Fin 512) :
    tprob j k q l a (row n b) = Real.rpow 2 ((∑ d, k a d * q (row n b) d) - l 0 (row n b)) :=
  if_pos (by show j.val * 512 + a.val ≤ n.val * 512 + b.val; omega)

theorem tprob_diag (a b : Fin 512) :
    tprob j k q l a (row j b) = if a ≤ b then Real.rpow 2 ((∑ d, k a d * q (row j b) d) - l 0 (row j b)) else 0 := by
  have e : row j a ≤ row j b ↔ a ≤ b := by
    show j.val * 512 + a.val ≤ j.val * 512 + b.val ↔ a.val ≤ b.val
    omega
  unfold tprob
  simp only [e]

theorem tprob_before (a : Fin 512) (r : Fin 8192) (h : r.val / 512 < j.val) : tprob j k q l a r = 0 :=
  if_neg (by show ¬ j.val * 512 + a.val ≤ r.val; omega)

theorem tds_before (a : Fin 512) (r : Fin 8192) (h : r.val / 512 < j.val) : tds j k v q o l dl a r = 0 := by
  unfold tds; rw [tprob_before j k q l a r h, zero_mul]

/-- What one row block adds. -/
abbrev accAdd (n : Fin 16) : Acc Ideal :=
  accUp (fun a d => dk a d + ∑ b, tds j k v q o l dl a (row n b) * q (row n b) d)
    (fun a e => dv a e + ∑ b, tprob j k q l a (row n b) * o (row n b) e)
    (fun r d => if r.val / 512 = n.val then dq r d + ∑ a, tds j k v q o l dl a r * k a d else dq r d)

theorem step_up (n : Fin 16) (h : j.val < n.val) :
    blkStep (up2 k) (up2 v) (up2 q) (up2 o) (up2 l) (up2 dl) n (accUp dk dv dq) = accAdd j k v q o l dl dk dv dq n := by
  have ep : (fun a b => Real.rpow 2 ((∑ d, k a d * q (row n b) d) - l 0 (row n b))) = fun a b => tprob j k q l a (row n b) :=
    funext fun a => funext fun b => (tprob_row j k q l n h a b).symm
  have ed : (fun a b => Real.rpow 2 ((∑ d, k a d * q (row n b) d) - l 0 (row n b)) * ((∑ e, v a e * o (row n b) e) - dl 0 (row n b)))
      = fun a b => tds j k v q o l dl a (row n b) :=
    funext fun a => funext fun b => by unfold tds; rw [tprob_row j k q l n h a b]
  unfold blkStep scoreAt dpAt
  rw [rQ_up, rQ_up, rO_up, rL_up, rL_up, tile_score, tile_dprob, tile_dscore, tile_prob, ep, ed, tile_dk, tile_dv, tile_dq]
  exact congrArg (Acc.mk _ _) (pQ_up n dq (fun r d => dq r d + ∑ a, tds j k v q o l dl a r * k a d))

theorem first_up :
    blkFirst (up2 k) (up2 v) (up2 q) (up2 o) (up2 l) (up2 dl) j (accUp dk dv dq) = accAdd j k v q o l dl dk dv dq j := by
  have ep : (fun a b => if a ≤ b then Real.rpow 2 ((∑ d, k a d * q (row j b) d) - l 0 (row j b)) else 0)
      = fun a b => tprob j k q l a (row j b) :=
    funext fun a => funext fun b => (tprob_diag j k q l a b).symm
  have ed : (fun a b => (if a ≤ b then Real.rpow 2 ((∑ d, k a d * q (row j b) d) - l 0 (row j b)) else 0)
        * ((∑ e, v a e * o (row j b) e) - dl 0 (row j b)))
      = fun a b => tds j k v q o l dl a (row j b) :=
    funext fun a => funext fun b => by unfold tds; rw [tprob_diag j k q l a b]
  unfold blkFirst scoreAt dpAt
  rw [tile_dk_first, tile_dv_first, tile_dq_first, rQ_up, rQ_up, rO_up, rL_up, rL_up, tile_score, tile_dprob,
    tile_dscore_first, tile_prob_first, ep, ed, tile_dk, tile_dv, tile_dq]
  exact congrArg (Acc.mk _ _) (pQ_up j dq (fun r d => dq r d + ∑ a, tds j k v q o l dl a r * k a d))

/-- The sums after the diagonal block and the `n` blocks after it, starting from zero sums. -/
theorem accN_up (n : ℕ) (h : j.val + n < 16) :
    accN (up2 k) (up2 v) (up2 q) (up2 o) (up2 l) (up2 dl) j.val (accUp (fun _ _ => 0) (fun _ _ => 0) dq) n
      = accUp (fun a d => ∑ r : Fin 8192, if r.val / 512 ≤ j.val + n then tds j k v q o l dl a r * q r d else 0)
          (fun a e => ∑ r : Fin 8192, if r.val / 512 ≤ j.val + n then tprob j k q l a r * o r e else 0)
          (fun r d => if r.val / 512 ≤ j.val + n then dq r d + ∑ a, tds j k v q o l dl a r * k a d else dq r d) := by
  induction n with
  | zero =>
    have eb : blk j.val = j := Fin.ext (by show min j.val 15 = j.val; omega)
    unfold accN
    rw [eb, first_up]
    unfold accAdd accUp
    congr 1
    · refine congrArg up2 (funext fun a => funext fun d => ?_)
      rw [zero_add]
      exact sum_upto_first j (fun r => tds j k v q o l dl a r * q r d) fun r hr => by
        rw [tds_before j k v q o l dl a r hr, zero_mul]
    · refine congrArg up2 (funext fun a => funext fun e => ?_)
      rw [zero_add]
      exact sum_upto_first j (fun r => tprob j k q l a r * o r e) fun r hr => by
        rw [tprob_before j k q l a r hr, zero_mul]
    · refine congrArg up2 (funext fun r => funext fun d => ?_)
      by_cases h1 : r.val / 512 = j.val
      · rw [if_pos h1, if_pos (by omega)]
      · rw [if_neg h1]
        by_cases h2 : r.val / 512 ≤ j.val + 0
        · rw [if_pos h2]
          refine (add_zero (dq r d)).symm.trans (congrArg (dq r d + ·) (Finset.sum_eq_zero fun a _ => ?_).symm)
          rw [tds_before j k v q o l dl a r (by omega), zero_mul]
        · rw [if_neg h2]
  | succ n ih =>
    have eb : (blk (j.val + 1 + n)).val = j.val + n + 1 := by show min (j.val + 1 + n) 15 = j.val + n + 1; omega
    unfold accN
    rw [ih (by omega), step_up j k v q o l dl _ _ _ (blk (j.val + 1 + n)) (by omega)]
    unfold accAdd accUp
    congr 1
    · exact congrArg up2 (funext fun a => funext fun d =>
        sum_upto_succ _ _ eb (fun r => tds j k v q o l dl a r * q r d))
    · exact congrArg up2 (funext fun a => funext fun e =>
        sum_upto_succ _ _ eb (fun r => tprob j k q l a r * o r e))
    · refine congrArg up2 (funext fun r => funext fun d => ?_)
      rw [eb]
      beta_reduce
      by_cases h1 : r.val / 512 = j.val + n + 1
      · rw [if_pos h1, if_neg (show ¬ r.val / 512 ≤ j.val + n by omega), if_pos (show r.val / 512 ≤ j.val + (n + 1) by omega)]
      · rw [if_neg h1]
        by_cases h2 : r.val / 512 ≤ j.val + n
        · rw [if_pos h2, if_pos (show r.val / 512 ≤ j.val + (n + 1) by omega)]
        · rw [if_neg h2, if_neg (show ¬ r.val / 512 ≤ j.val + (n + 1) by omega)]

/-- The sums after every block that `j` meets. -/
theorem accN_all : accN (up2 k) (up2 v) (up2 q) (up2 o) (up2 l) (up2 dl) j.val (accUp (fun _ _ => 0) (fun _ _ => 0) dq) (15 - j.val)
      = accUp (fun a d => ∑ r, tds j k v q o l dl a r * q r d) (fun a e => ∑ r, tprob j k q l a r * o r e)
          (fun r d => dq r d + ∑ a, tds j k v q o l dl a r * k a d) := by
  rw [accN_up j k v q o l dl dq (15 - j.val) (by omega)]
  have hr : ∀ r : Fin 8192, r.val / 512 ≤ j.val + (15 - j.val) := fun r => by omega
  simp only [hr, if_true]

end point

end Cert.Proof.Flash

end
-- ==== Proof.FlashAcc.lean ====
module

public import proofs.«01_k».proof.Proof.FlashHost
public import proofs.«01_k».proof.Proof.FlashBlocks
public import proofs.«01_k».proof.Proof.FlashRun
public import Idealize.ShloMosaic.Lib.Pipeline.ValueKit

/-! The sums of the attention's backward call over the reals, after each position of the launch. -/

@[expose] public section

set_option maxRecDepth 16384

noncomputable section

namespace Cert.Proof.Flash

open Cert.KernelIdeal Cert.KernelIdeal.Gen
open Idealize.ShloMosaic Idealize.ShloMosaic.TcCoe Idealize.ShloMosaic.Pipeline

/-! ## Columns and positions -/

/-- Column `d` of head `h`, heads 256 columns wide. -/
def col256 (h : Fin 4) (d : Fin 256) : Fin 1024 := ⟨h.val * 256 + d.val, by omega⟩
/-- Column `e` of head `h`, heads 128 columns wide. -/
def col128 (h : Fin 4) (e : Fin 128) : Fin 512 := ⟨h.val * 128 + e.val, by omega⟩
theorem col128_head (h : Fin 4) (e : Fin 128) : (⟨(col128 h e).val / 128, by omega⟩ : Fin 4) = h := Fin.ext (by
  show (h.val * 128 + e.val) / 128 = h.val; omega)
theorem col128_at (h : Fin 4) (e : Fin 128) : (⟨(col128 h e).val % 128, by omega⟩ : Fin 128) = e := Fin.ext (by
  show (h.val * 128 + e.val) % 128 = e.val; omega)

theorem beside128_col (f : Fin 8192 → Fin 4 → Fin 128 → ℝ) (r h e) : beside128 f r (col128 h e) = f r h e :=
  congrArg₂ (f r) (col128_head h e) (col128_at h e)

/-- The head of position `n`. -/
def headOf (n : ℕ) (hn : n < 64) : Fin 4 := ⟨n / 16, by omega⟩
/-- The block of keys of step `s` of a head: the last block first. -/
def blockOf (s : ℕ) : Fin 16 := ⟨15 - s % 16, by omega⟩

theorem pos_lt (t : Fin cfg0.N) : t.val < 64 := lt_of_lt_of_eq t.isLt N_0

section wide
variable (x : Fin 8192 → Fin 4 → Fin 192 → ℝ) (h : Fin 4)

/-- A head's columns, followed by zeros. -/
def wide (r : Fin 8192) (d : Fin 256) : ℝ := if hd : d.val < 192 then x r h ⟨d.val, hd⟩ else 0

theorem padded_col (r : Fin 8192) (d : Fin 256) : padded x r (col256 h d) = wide x h r d := by
  have e1 : (h.val * 256 + d.val) / 256 = h.val := by omega
  have e2 : (h.val * 256 + d.val) % 256 = d.val := by omega
  unfold padded wide
  simp only [col256, e1, e2]

/-- The zeros do not count in a product of rows. -/
theorem wide_dot (y : Fin 8192 → Fin 4 → Fin 192 → ℝ) (r s : Fin 8192) :
    ∑ d, wide x h r d * wide y h s d = ∑ d, x r h d * y s h d := by
  refine (Fin.sum_univ_add (a := 192) (b := 64) (fun d : Fin 256 => wide x h r d * wide y h s d)).trans ?_
  refine (congrArg₂ (· + ·) (Finset.sum_congr rfl fun d _ => ?_) (Finset.sum_eq_zero fun d _ => ?_)).trans (add_zero _)
  · have hd : (Fin.castAdd 64 d).val < 192 := d.isLt
    exact congrArg₂ (· * ·) (dif_pos hd) (dif_pos hd)
  · have hd : ¬ (Fin.natAdd 192 d).val < 192 := by simp
    rw [show wide x h r (Fin.natAdd 192 d) = 0 from dif_neg hd, zero_mul]

end wide

section values
variable (Q K : Fin 8192 → Fin 4 → Fin 192 → ℝ) (V O : Fin 8192 → Fin 4 → Fin 128 → ℝ) (L : Fin 4 → Fin 8192 → ℝ)
  (hL : ∀ h (q k : Fin 8192), k ≤ q → Real.rpow 2 (score Q K h q k / Real.log 2 - L h q) = prob Q K h q k)

/-- The queries, scaled. -/
abbrev scaledQ : Fin 8192 → Fin 4 → Fin 192 → ℝ := fun r h d => Q r h d * (scale / Real.log 2)

theorem wide_score (h : Fin 4) (q k : Fin 8192) :
    ∑ d, wide K h k d * wide (scaledQ Q) h q d = score Q K h q k / Real.log 2 := by
  rw [wide_dot, score, mul_div_assoc, Finset.sum_mul]
  exact Finset.sum_congr rfl fun d _ => by ring

include hL in
/-- The tile's probabilities are the head's. -/
theorem tprob_eq (h : Fin 4) (j : Fin 16) (a : Fin 512) (r : Fin 8192) :
    tprob j (fun a d => wide K h (row j a) d) (wide (scaledQ Q) h) (fun _ r => L h r) a r = prob Q K h r (row j a) := by
  unfold tprob
  split
  · rename_i hr
    rw [wide_score]; exact hL h r (row j a) hr
  · rename_i hr
    exact (soft_of_lt _ _ _ (not_le.mp hr)).symm

include hL in
/-- The tile's gradients of the scores are the head's. -/
theorem tds_eq (h : Fin 4) (j : Fin 16) (a : Fin 512) (r : Fin 8192) :
    tds j (fun a d => wide K h (row j a) d) (fun a e => V (row j a) h e) (wide (scaledQ Q) h) (fun r e => O r h e)
      (fun _ r => L h r) (fun _ r => ∑ k, prob Q K h r k * dprob V O h r k) a r = dscore Q K V O h r (row j a) := by
  unfold tds
  rw [tprob_eq Q K L hL]
  refine congrArg (fun z : ℝ => prob Q K h r (row j a) * (z - ∑ k, prob Q K h r k * dprob V O h r k)) ?_
  exact Finset.sum_congr rfl fun e _ => mul_comm _ _

/-- What one block of keys adds to the gradient of the queries. -/
def partQ (h : Fin 4) (r : Fin 8192) (d : Fin 256) (j : Fin 16) : ℝ :=
  ∑ a, dscore Q K V O h r (row j a) * wide K h (row j a) d

/-- The gradient of the queries after step `s`. -/
def uptoQ (h : Fin 4) (s : ℕ) (r : Fin 8192) (d : Fin 256) : ℝ :=
  ∑ s' ∈ Finset.range (s + 1), partQ Q K V O h r d (blockOf s')

/-- After the last step it is the whole sum. -/
theorem uptoQ_last (h : Fin 4) (r : Fin 8192) (d : Fin 256) :
    uptoQ Q K V O h 15 r d = ∑ k, dscore Q K V O h r k * wide K h k d := by
  rw [sum_rows, uptoQ, Finset.sum_range (n := 15 + 1)]
  refine Fintype.sum_equiv Fin.revPerm _ _ fun s => ?_
  have e : blockOf s.val = Fin.revPerm s := Fin.ext (by
    have := s.isLt
    show 15 - s.val % 16 = 15 + 1 - (s.val + 1); omega)
  rw [e]; rfl

variable (m : (ℓ : Loc nD τ sig) → Buf (Elt Ideal) ℓ) (c : Dev nD)
  (e38 : Cert.KernelIdeal.Gen.V m c main_v38 = up2 (padded K))
  (e35 : Cert.KernelIdeal.Gen.V m c main_v35 = up2 (padded (scaledQ Q)))
  (e40 : Cert.KernelIdeal.Gen.V m c main_v40 = up2 (beside128 V))
  (e42 : Cert.KernelIdeal.Gen.V m c main_v42 = up2 (beside128 O))
  (e44 : Cert.KernelIdeal.Gen.V m c main_v44 = up2 (fun r q => L (head8 r) q))
  (e46 : Cert.KernelIdeal.Gen.V m c main_v46 = up2 (fun r q =>
    ∑ k, prob Q K (head8 r) q k * dprob V O (head8 r) q k))

theorem index_t : ∀ t : Fin cfg0.N, win0_0.index t = ![15 - t.val % 16, t.val / 16] ∧ win0_1.index t = ![15 - t.val % 16, t.val / 16]
    ∧ win0_2.index t = ![0, t.val / 16] ∧ win0_3.index t = ![0, t.val / 16] ∧ win0_4.index t = ![t.val / 16, 0]
    ∧ win0_5.index t = ![t.val / 16, 0] :=
  (by decide +kernel : ∀ t : Fin grid0.N, _)

include e38 in
theorem block_k (t : Fin cfg0.N) : iblk m c 0 t
    = up2 fun a d => wide K (headOf t.val (pos_lt t)) (row (blockOf t.val) a) d := by
  funext y
  have e : (win0_0.blk t).view.emb y = ix2 (row (blockOf t.val) (y 0)) (col256 (headOf t.val (pos_lt t)) (y 1)) := by
    blk_ext [(index_t t).1, row, col256, headOf, blockOf]
  blk_simp [iblk]
  rw [e38, e]
  exact congrArg Real.toEReal (padded_col K _ _ _)

include e40 in
theorem block_v (t : Fin cfg0.N) : iblk m c 1 t
    = up2 fun a e => V (row (blockOf t.val) a) (headOf t.val (pos_lt t)) e := by
  funext y
  have e : (win0_1.blk t).view.emb y = ix2 (row (blockOf t.val) (y 0)) (col128 (headOf t.val (pos_lt t)) (y 1)) := by
    blk_ext [(index_t t).2.1, row, col128, headOf, blockOf]
  blk_simp [iblk]
  rw [e40, e]
  exact congrArg Real.toEReal (beside128_col V _ _ _)

include e35 in
theorem block_q (t : Fin cfg0.N) : iblk m c 2 t = up2 (wide (scaledQ Q) (headOf t.val (pos_lt t))) := by
  funext y
  have e : (win0_2.blk t).view.emb y = ix2 (y 0) (col256 (headOf t.val (pos_lt t)) (y 1)) := by
    blk_ext [(index_t t).2.2.1, col256, headOf]
  blk_simp [iblk]
  rw [e35, e]
  exact congrArg Real.toEReal (padded_col _ _ _ _)

include e42 in
theorem block_o (t : Fin cfg0.N) : iblk m c 3 t = up2 fun r e => O r (headOf t.val (pos_lt t)) e := by
  funext y
  have e : (win0_3.blk t).view.emb y = ix2 (y 0) (col128 (headOf t.val (pos_lt t)) (y 1)) := by
    blk_ext [(index_t t).2.2.2.1, col128, headOf]
  blk_simp [iblk]
  rw [e42, e]
  exact congrArg Real.toEReal (beside128_col O _ _ _)

/-- Row `b` of head `h`, heads eight rows apart. -/
def row8 (h : Fin 4) (b : Fin 8) : Fin 32 := ⟨h.val * 8 + b.val, by omega⟩

theorem row8_head (h : Fin 4) (b : Fin 8) : head8 (row8 h b) = h := Fin.ext (by
  show (h.val * 8 + b.val) / 8 = h.val; omega)

include e44 in
theorem block_l (t : Fin cfg0.N) : iblk m c 4 t = up2 fun _ r => L (headOf t.val (pos_lt t)) r := by
  funext y
  have e : (win0_4.blk t).view.emb y = ix2 (row8 (headOf t.val (pos_lt t)) (y 0)) (y 1) := by
    blk_ext [(index_t t).2.2.2.2.1, row8, headOf]
  blk_simp [iblk]
  rw [e44, e]
  exact congrArg Real.toEReal (congrArg (L · _) (row8_head _ _))

include e46 in
theorem block_d (t : Fin cfg0.N) : iblk m c 5 t = up2 fun _ r =>
    ∑ k, prob Q K (headOf t.val (pos_lt t)) r k * dprob V O (headOf t.val (pos_lt t)) r k := by
  funext y
  have e : (win0_5.blk t).view.emb y = ix2 (row8 (headOf t.val (pos_lt t)) (y 0)) (y 1) := by
    blk_ext [(index_t t).2.2.2.2.2, row8, headOf]
  blk_simp [iblk]
  rw [e46, e]
  exact congrArg Real.toEReal (congrArg (fun h => ∑ k, prob Q K h _ k * dprob V O h _ k) (row8_head _ _))

include hL e38 e35 e40 e42 e44 e46 in
/-- One grid point: its block's gradients, and its part of the gradient of the queries added to `dq`. -/
theorem accFrom_up (t : Fin cfg0.N) (X : S8192x256.Idx → EReal) (dq : Fin 8192 → Fin 256 → ℝ)
    (hX : (acc0 (F := Ideal) (grid0.coords t) X).dq = up2 dq) : accFrom m c t X
    = accUp (fun a d => ∑ r, dscore Q K V O (headOf t.val (pos_lt t)) r (row (blockOf t.val) a) * wide (scaledQ Q) (headOf t.val (pos_lt t)) r d)
        (fun a e => ∑ r, prob Q K (headOf t.val (pos_lt t)) r (row (blockOf t.val) a) * O r (headOf t.val (pos_lt t)) e)
        (fun r d => dq r d + partQ Q K V O (headOf t.val (pos_lt t)) r d (blockOf t.val)) := by
  have hz : acc0 (F := Ideal) (grid0.coords t) X = accUp (fun _ _ => 0) (fun _ _ => 0) dq := by
    have z1 : (k0_pay57 (F := Ideal)) = up2 fun _ _ => 0 := funext fun _ => Ideal.ofBits_zero_f32
    have z2 : (k0_pay58 (F := Ideal)) = up2 fun _ _ => 0 := funext fun _ => Ideal.ofBits_zero_f32
    have e : acc0 (F := Ideal) (grid0.coords t) X = (⟨k0_pay57 (F := Ideal), k0_pay58 (F := Ideal), (acc0 (F := Ideal) (grid0.coords t) X).dq⟩ : Acc Ideal) := rfl
    rw [e, hX, z1, z2]
  have h59 : k0_pay59 (iblk m c 0 t) = _ := (shapeCast_self _ _).trans (block_k K m c e38 t)
  have h60 : k0_pay60 (iblk m c 1 t) = _ := (shapeCast_self _ _).trans (block_v V m c e40 t)
  have hs : (grid0.coords t 1).val = t.val % 16 := step_val t
  have hj : jOf (grid0.coords t) = (blockOf t.val).val := congrArg (15 - ·) hs
  have hn : (grid0.coords t 1).val = 15 - (blockOf t.val).val := hs.trans (show t.val % 16 = 15 - (15 - t.val % 16) by omega)
  unfold accFrom accOut
  rw [h59, h60, block_q Q m c e35 t, block_o O m c e42 t, block_l L m c e44 t, block_d Q K V O m c e46 t, hz, hj, hn, accN_all]
  simp only [tds_eq Q K V O L hL, tprob_eq Q K L hL]
  rfl

include hL e38 e35 e40 e42 e44 e46 in
/-- The sums after every position. -/
theorem accAt_up : ∀ (n : ℕ) (hn : n < cfg0.N), accAt m c n hn
    = accUp (fun a d => ∑ r, dscore Q K V O (headOf n (pos_lt ⟨n, hn⟩)) r (row (blockOf n) a) * wide (scaledQ Q) (headOf n (pos_lt ⟨n, hn⟩)) r d)
        (fun a e => ∑ r, prob Q K (headOf n (pos_lt ⟨n, hn⟩)) r (row (blockOf n) a) * O r (headOf n (pos_lt ⟨n, hn⟩)) e)
        (uptoQ Q K V O (headOf n (pos_lt ⟨n, hn⟩)) (n % 16)) := by
  have first : ∀ (t : Fin cfg0.N) (X : S8192x256.Idx → EReal), t.val % 16 = 0 →
      (acc0 (F := Ideal) (grid0.coords t) X).dq = up2 fun _ _ => 0 := fun t X h =>
    (if_pos ((step_val t).trans h)).trans (funext fun _ => Ideal.ofBits_zero_f32)
  have start : ∀ (n : ℕ) (hn : n < cfg0.N), n % 16 = 0 → (fun r d => 0 + partQ Q K V O (headOf n (pos_lt ⟨n, hn⟩)) r d (blockOf n))
      = uptoQ Q K V O (headOf n (pos_lt ⟨n, hn⟩)) (n % 16) := fun n hn h => by
    funext r d
    rw [h, uptoQ, Finset.sum_range_one, zero_add, show blockOf n = blockOf 0 from Fin.ext (congrArg (15 - ·) h)]
  intro n
  induction n with
  | zero =>
    intro hn
    exact (accFrom_up Q K V O L hL m c e38 e35 e40 e42 e44 e46 ⟨0, hn⟩ _ _ (first _ _ rfl)).trans
      (congrArg (accUp _ _) (start 0 hn rfl))
  | succ n ih =>
    intro hn
    by_cases h : (n + 1) % 16 = 0
    · exact (accFrom_up Q K V O L hL m c e38 e35 e40 e42 e44 e46 ⟨n + 1, hn⟩ _ _ (first _ _ h)).trans
        (congrArg (accUp _ _) (start (n + 1) hn h))
    · have hX : (acc0 (F := Ideal) (grid0.coords ⟨n + 1, hn⟩) (accAt m c n (Nat.lt_of_succ_lt hn)).dq).dq
          = up2 (uptoQ Q K V O (headOf n (pos_lt ⟨n, Nat.lt_of_succ_lt hn⟩)) (n % 16)) :=
        (if_neg (fun h' => h ((step_val ⟨n + 1, hn⟩).symm.trans h'))).trans (congrArg Acc.dq (ih (Nat.lt_of_succ_lt hn)))
      refine (accFrom_up Q K V O L hL m c e38 e35 e40 e42 e44 e46 ⟨n + 1, hn⟩ _ _ hX).trans (congrArg (accUp _ _) ?_)
      have eh : headOf n (pos_lt ⟨n, Nat.lt_of_succ_lt hn⟩) = headOf (n + 1) (pos_lt ⟨n + 1, hn⟩) := Fin.ext (by
        show n / 16 = (n + 1) / 16; omega)
      have es : (n + 1) % 16 = n % 16 + 1 := by omega
      funext r d
      rw [eh, es, uptoQ, uptoQ, Finset.sum_range_succ (n := n % 16 + 1)]
      refine congrArg (fun z => _ + partQ Q K V O _ r d z) (Fin.ext ?_)
      show 15 - (n + 1) % 16 = 15 - (n % 16 + 1) % 16; omega

end values

end Cert.Proof.Flash

end
-- ==== Proof.FlashTail.lean ====
module

public import proofs.«01_k».proof.Proof.FlashAcc

/-! The three arrays the attention's backward call leaves, and the host's operations after it. -/

@[expose] public section

set_option maxRecDepth 16384

noncomputable section

namespace Cert.Proof.Flash

open Cert.KernelIdeal Cert.KernelIdeal.Gen
open Idealize.ShloMosaic Idealize.ShloMosaic.TcCoe Idealize.ShloMosaic.Pipeline Idealize.ShloMosaic.StableHlo

/-! ## The arrays -/

theorem col256_head (h : Fin 4) (d : Fin 256) : (⟨(col256 h d).val / 256, by omega⟩ : Fin 4) = h := Fin.ext (by
  show (h.val * 256 + d.val) / 256 = h.val; omega)
theorem col256_at (h : Fin 4) (d : Fin 256) : (⟨(col256 h d).val % 256, by omega⟩ : Fin 256) = d := Fin.ext (by
  show (h.val * 256 + d.val) % 256 = d.val; omega)

/-- Arrays with the heads side by side, 256 columns each. -/
def beside256 (f : Fin 8192 → Fin 4 → Fin 256 → ℝ) (r : Fin 8192) (c : Fin 1024) : ℝ :=
  f r ⟨c.val / 256, by omega⟩ ⟨c.val % 256, by omega⟩
theorem beside256_col (f : Fin 8192 → Fin 4 → Fin 256 → ℝ) (r h d) : beside256 f r (col256 h d) = f r h d :=
  congrArg₂ (f r) (col256_head h d) (col256_at h d)
theorem index_out : ∀ t : Fin cfg0.N, win0_6.index t = ![0, t.val / 16] ∧ win0_7.index t = ![15 - t.val % 16, t.val / 16]
    ∧ win0_8.index t = ![15 - t.val % 16, t.val / 16] :=
  (by decide +kernel : ∀ t : Fin grid0.N, _)

section arrays
variable (Q K : Fin 8192 → Fin 4 → Fin 192 → ℝ) (V O : Fin 8192 → Fin 4 → Fin 128 → ℝ)
variable (m : (ℓ : Loc nD τ sig) → Buf (Elt Ideal) ℓ) (c : Dev nD)
  (hm0 : m (c, Proc.tc.devRef main_arg0) = up3 Q) (hm1 : m (c, Proc.tc.devRef main_arg1) = up3 K)
  (hm2 : m (c, Proc.tc.devRef main_arg2) = up3 V) (hm3 : m (c, Proc.tc.devRef main_arg3) = up3 O)
include hm0 hm1 hm2 hm3

theorem arr_dq : (dats m 0 c).arrAt 6 cfg0.N
    = up2 (beside256 fun r h d => ∑ k, dscore Q K V O h r k * wide K h k d) := by
  obtain ⟨L, hL, e38, e35, e40, e42, e44, e46⟩ := operands_up m Q K V O c hm0 hm1 hm2 hm3
  refine (dats m 0 c).arrAt_eq_of_covers 6 _ (by decide +kernel) fun t hf y => ?_
  have h15 : t.val % 16 = 15 := (flush0_6 t).mp hf
  blk_simp
  have e : (win0_6.blk t).view.emb y = ix2 (y 0) (col256 (headOf t.val (pos_lt t)) (y 1)) := by
    blk_ext [(index_out t).1, col256, headOf]
  rw [dats_dq, accAt_up Q K V O L hL m c e38 e35 e40 e42 e44 e46, e, h15]
  exact congrArg Real.toEReal ((uptoQ_last Q K V O _ _ _).trans (beside256_col (fun r h d => ∑ k, dscore Q K V O h r k * wide K h k d) _ _ _).symm)

theorem arr_dk : (dats m 0 c).arrAt 7 cfg0.N
    = up2 (beside256 fun r h d => ∑ q, dscore Q K V O h q r * wide (scaledQ Q) h q d) := by
  obtain ⟨L, hL, e38, e35, e40, e42, e44, e46⟩ := operands_up m Q K V O c hm0 hm1 hm2 hm3
  refine (dats m 0 c).arrAt_eq_of_covers 7 _ (by decide +kernel) fun t hf y => ?_
  blk_simp
  have e : (win0_7.blk t).view.emb y = ix2 (row (blockOf t.val) (y 0)) (col256 (headOf t.val (pos_lt t)) (y 1)) := by
    blk_ext [(index_out t).2.1, row, blockOf, col256, headOf]
  rw [dats_dk, accAt_up Q K V O L hL m c e38 e35 e40 e42 e44 e46, e]
  exact congrArg Real.toEReal (beside256_col (fun r h d => ∑ q, dscore Q K V O h q r * wide (scaledQ Q) h q d) _ _ _).symm

theorem arr_dv : (dats m 0 c).arrAt 8 cfg0.N
    = up2 (beside128 fun r h e => ∑ q, prob Q K h q r * O q h e) := by
  obtain ⟨L, hL, e38, e35, e40, e42, e44, e46⟩ := operands_up m Q K V O c hm0 hm1 hm2 hm3
  refine (dats m 0 c).arrAt_eq_of_covers 8 _ (by decide +kernel) fun t hf y => ?_
  blk_simp
  have e : (win0_8.blk t).view.emb y = ix2 (row (blockOf t.val) (y 0)) (col128 (headOf t.val (pos_lt t)) (y 1)) := by
    blk_ext [(index_out t).2.2, row, blockOf, col128, headOf]
  rw [dats_dv, accAt_up Q K V O L hL m c e38 e35 e40 e42 e44 e46, e]
  exact congrArg Real.toEReal (beside128_col (fun r h e => ∑ q, prob Q K h q r * O q h e) _ _ _).symm

end arrays

/-! ## The host's operations after the call -/

/-- Scale, split the heads, and cut each to its 192 columns. -/
def tHeads (x : FVec Ideal S8192x1024 .f32) (s : FVec Ideal S_ .f32) : FVec Ideal S8192x4x192 .f32 :=
  extractStridedSlice S8192x4x192 ![0, 0, 0]
    (shapeCast S8192x4x256 (mulf x (broadcastInDim S8192x1024 ![] bcast_S_S8192x1024 s))) slices_S8192x4x256_S8192x4x192_0_0_0

/-- Split the heads. -/
def tSplit (x : FVec Ideal S8192x512 .f32) : FVec Ideal S8192x4x128 .f32 := shapeCast S8192x4x128 x

theorem tHeads_up (f : Fin 8192 → Fin 4 → Fin 256 → ℝ) (s : FVec Ideal S_ .f32) (z : ℝ) (hs : s ix0 = (z : EReal)) :
    tHeads (up2 (beside256 f)) s = up3 fun r h d => f r h ⟨d.val, by omega⟩ * z := by
  funext j
  idx_vars j
  pointwise [tHeads]
  refine Eq.trans (congrArg₂ (· * ·) (congrArg Real.toEReal ?_) hs) (EReal.coe_mul _ _).symm
  exact beside256_col f j0 j1 ⟨j2.val, by omega⟩

theorem tSplit_up (f : Fin 8192 → Fin 4 → Fin 128 → ℝ) : tSplit (up2 (beside128 f)) = up3 f := by
  funext j
  idx_vars j
  pointwise [tSplit]
  exact congrArg Real.toEReal (beside128_col f j0 j1 j2)

/-- The three results, read through the host's operations. -/
theorem tail (m : (ℓ : Loc nD τ sig) → Buf (Elt Ideal) ℓ) (c : Dev nD) :
    (Pipeline.afterTail₀ cfgs (dats m) 0 (V0 m) [hostOps1] c main_v51
      = tHeads ((dats m 0 c).arrAt 6 cfg0.N) (constant (F := Ideal) S_ .f32 0x3D93CD3A#32))
    ∧ (Pipeline.afterTail₀ cfgs (dats m) 0 (V0 m) [hostOps1] c main_v55 = tHeads ((dats m 0 c).arrAt 7 cfg0.N) hLn2)
    ∧ (Pipeline.afterTail₀ cfgs (dats m) 0 (V0 m) [hostOps1] c main_v56 = tSplit ((dats m 0 c).arrAt 8 cfg0.N)) := by
  have arr : ∀ w, withArrays spec0 c (V0 m c) (fun w => (dats m 0 c).arrAt w cfg0.N) (Proc.devRef .tc (arrRef spec0 w))
      = (dats m 0 c).arrAt w cfg0.N := fun w => withArrays_arr spec0 (by decide) c _ (fun w => (dats m 0 c).arrAt w cfg0.N) w
  have ln2 : withArrays spec0 c (V0 m c) (fun w => (dats m 0 c).arrAt w cfg0.N) (Proc.devRef .tc main_v0) = hLn2 :=
    (withArrays_of_ne spec0 c (V0 m c) _ main_v0 (by exact (by decide : ∀ w, arrRef spec0 w ≠ main_v0))).trans
      (operands m c).1
  refine ⟨?_, ?_, ?_⟩ <;> unfold Pipeline.afterTail₀ <;>
    simp only [hostOps1, List.flatten_cons, List.flatten_nil, List.append_nil, List.cons_append, List.nil_append] <;>
    after_results_simp
  · exact congrArg (fun x => tHeads x _) (arr 6)
  · exact congrArg₂ tHeads (arr 7) ln2
  · exact congrArg tSplit (arr 8)

/-! ## The results -/

section results
variable (Q K : Fin 8192 → Fin 4 → Fin 192 → ℝ) (V O : Fin 8192 → Fin 4 → Fin 128 → ℝ)
variable (m : (ℓ : Loc nD τ sig) → Buf (Elt Ideal) ℓ) (c : Dev nD)
  (hm0 : m (c, Proc.tc.devRef main_arg0) = up3 Q) (hm1 : m (c, Proc.tc.devRef main_arg1) = up3 K)
  (hm2 : m (c, Proc.tc.devRef main_arg2) = up3 V) (hm3 : m (c, Proc.tc.devRef main_arg3) = up3 O)
include hm0 hm1 hm2 hm3

theorem result_dq : Pipeline.afterTail₀ cfgs (dats m) 0 (V0 m) [hostOps1] c main_v51 = up3 (gradQ Q K V O) := by
  rw [(tail m c).1, arr_dq Q K V O m c hm0 hm1 hm2 hm3]
  refine (tHeads_up _ _ scale scale_coe).trans (congrArg up3 ?_)
  funext r h d
  rw [Finset.sum_mul]
  refine Finset.sum_congr rfl fun k _ => ?_
  rw [show wide K h k ⟨d.val, by omega⟩ = K k h d from dif_pos d.isLt]
  ring

theorem result_dk : Pipeline.afterTail₀ cfgs (dats m) 0 (V0 m) [hostOps1] c main_v55 = up3 (gradK Q K V O) := by
  rw [(tail m c).2.1, arr_dk Q K V O m c hm0 hm1 hm2 hm3]
  refine (tHeads_up _ _ (Real.log 2) (hLn2_up _)).trans (congrArg up3 ?_)
  funext r h d
  rw [Finset.sum_mul]
  refine Finset.sum_congr rfl fun q _ => ?_
  rw [show wide (scaledQ Q) h q ⟨d.val, by omega⟩ = Q q h d * (scale / Real.log 2) from dif_pos d.isLt]
  have := ln2_pos.ne'
  field_simp

theorem result_dv : Pipeline.afterTail₀ cfgs (dats m) 0 (V0 m) [hostOps1] c main_v56 = up3 (gradV Q K O) := by
  rw [(tail m c).2.2, arr_dv Q K V O m c hm0 hm1 hm2 hm3]
  refine (tSplit_up _).trans (congrArg up3 ?_)
  funext r h e
  exact Finset.sum_congr rfl fun q _ => mul_comm _ _

end results

end Cert.Proof.Flash

end
-- ==== Proof.FlashFinite.lean ====
module

public import proofs.«01_k».proof.Proof.FlashMath
public import proofs.«01_k».proof.Proof.Gen.Pre_finite
public import Idealize.ShloMosaic.Lib.ReduceAll
public import Idealize.ShloMosaic.Lib.Pointwise

/-! The precondition: every element of every argument is a real number. -/

@[expose] public section

set_option maxRecDepth 16384

noncomputable section

namespace Cert.Proof.Flash

open Cert.Pre_finite Cert.Pre_finite.Facts Idealize.ShloMosaic

/-- An extended real below `+∞` in absolute value is real. -/
theorem real_of_abs {x : EReal} (h : max x (-x) < ⊤) : ∃ r : ℝ, x = (r : EReal) := by
  refine ⟨x.toReal, (EReal.coe_toReal ?_ ?_).symm⟩
  · rintro rfl; simp at h
  · rintro rfl; simp at h

theorem inf_top : Ideal.ofBits .f32 0x7F800000#32 = ⊤ := by simp [Ideal.ofBits, Ideal.ieee]

instance : Subsingleton S_.Idx := ⟨fun i j => funext fun a => a.elim0⟩

/-- Four bits put beside each other are read back at their places. -/
theorem beside_bits (b0 b1 b2 b3 : IVec S_ 1) (f : S_.BroadcastsInDim S1 (![] : Fin 0 → Fin S1.rank))
    (g : Shape.Concatenates [S1, S1, S1, S1] S4 0)
    (e : ∀ i, concatenate S4 0 [⟨S1, broadcastInDim S1 ![] f b0⟩, ⟨S1, broadcastInDim S1 ![] f b1⟩, ⟨S1, broadcastInDim S1 ![] f b2⟩,
      ⟨S1, broadcastInDim S1 ![] f b3⟩] g i = 1#1) :
    b0 ix0 = 1#1 ∧ b1 ix0 = 1#1 ∧ b2 ix0 = 1#1 ∧ b3 ix0 = 1#1 := by
  have e0 := e (ix1 0)
  have e1 := e (ix1 1)
  have e2 := e (ix1 2)
  have e3 := e (ix1 3)
  pointwise at e0 e1 e2 e3
  exact ⟨e0, e1, e2, e3⟩

/-- An array whose elements are all below `+∞` in absolute value is an array of reals. -/
theorem reals_of_test {n0 n1 n2 : Nat} (x top : FVec Ideal ⟨3, ![n0, n1, n2]⟩ .f32) (ht : ∀ i, top i = Ideal.ofBits .f32 0x7F800000#32)
    (e : ∀ i, cmpf .olt (Host.absf x) top i = 1#1) : ∃ f : Fin n0 → Fin n1 → Fin n2 → ℝ, x = up3 f := by
  have H : ∀ i, ∃ r : ℝ, x i = (r : EReal) := fun i => by
    have hc : BitVec.ofBool (decide (max (x i) (-x i) < top i)) = 1#1 := e i
    rw [ht, inf_top] at hc
    refine real_of_abs ?_
    by_contra hn
    rw [decide_eq_false hn] at hc
    exact absurd hc (by decide)
  choose f hf using H
  exact ⟨fun a b c => f (ix3 a b c), funext fun i => (congrArg x (eq_ix3 i)).trans (hf _)⟩

/-- Where the precondition is one, every argument is an array of reals. -/
theorem reals (a0 a1 : FVec Ideal S8192x4x192 .f32) (a2 a3 : FVec Ideal S8192x4x128 .f32)
    (h : fn (F := Ideal) a0 a1 a2 a3 = fun _ => 1#1) :
    ∃ (Q K : Fin 8192 → Fin 4 → Fin 192 → ℝ) (V O : Fin 8192 → Fin 4 → Fin 128 → ℝ),
      a0 = up3 Q ∧ a1 = up3 K ∧ a2 = up3 V ∧ a3 = up3 O := by
  have h0 := congrFun h ix0
  unfold fn fn_part1 at h0
  dsimp only at h0
  obtain ⟨t0, t1, t2, t3⟩ := beside_bits _ _ _ _ _ _ (Host.reduce_andi_all _ _ _ _ _ h0)
  obtain ⟨Q, hQ⟩ := reals_of_test a0 _ (fun _ => rfl) (Host.reduce_andi_all _ _ _ _ _ t0)
  obtain ⟨K, hK⟩ := reals_of_test a1 _ (fun _ => rfl) (Host.reduce_andi_all _ _ _ _ _ t1)
  obtain ⟨V, hV⟩ := reals_of_test a2 _ (fun _ => rfl) (Host.reduce_andi_all _ _ _ _ _ t2)
  obtain ⟨O, hO⟩ := reals_of_test a3 _ (fun _ => rfl) (Host.reduce_andi_all _ _ _ _ _ t3)
  exact ⟨Q, K, V, O, hQ, hK, hV, hO⟩

end Cert.Proof.Flash

end
-- ==== Proof.FwdModel.lean ====
module

public import proofs.«01_k».proof.Proof.FlashModel
public import proofs.«01_k».proof.Proof.Gen.Kernel2Ideal.Skeleton

/-! What one grid point of the attention's forward call computes, written without memory. The body at
    grid point (head, `n`) works on the query block `n`: it goes through the key blocks `0 … n`, the
    last of them masked, and keeps the running maximum, the running sum and the weighted values. -/

@[expose] public section

set_option maxRecDepth 16384

noncomputable section

namespace Cert.Proof.Fwd

open Cert.Kernel2Ideal Cert.Kernel2Ideal.Gen
open Cert.Proof.Flash (blk rowsOf rQ rO rQ_of rO_of)
open Idealize.ShloMosaic Idealize.ShloMosaic.TcCoe Idealize.ShloMosaic.Tactic

/-! ## The printed offsets, trip counts and conditions in closed form -/

/-- The query block of grid point `i`. -/
abbrev nOf (i : grid0.Coords) : Nat := (i 1).val

/-- The paired loop makes half as many trips as there are blocks before the diagonal; -/
theorem trips_eq : ∀ i : grid0.Coords, (k0_t1_loop i).trips = nOf i / 2 := by decide +kernel
/-- the remainder loop makes none. -/
theorem trips2_eq (i : grid0.Coords) : (k0_t2_loop i).trips = 0 := Nat.le_zero.1 (k0_t2_abs i).2.1

theorem off1_one : ∀ (i : grid0.Coords) (k : Fin (k0_t1_loop i).trips), k0_off1 i k 1#32 = ![512 * (blk (2 * k.val + 1)).val, 0] := by decide +kernel
theorem off1_two : ∀ (i : grid0.Coords) (k : Fin (k0_t1_loop i).trips), k0_off1 i k 2#32 = ![512 * (blk (2 * (k.val + 1))).val, 0] := by decide +kernel
theorem off2_eq : ∀ (i : grid0.Coords) (k : Fin (k0_t1_loop i).trips), k0_off2 i k = ![512 * (blk (2 * k.val)).val, 0] := by decide +kernel
theorem off3_eq : ∀ (i : grid0.Coords) (k : Fin (k0_t1_loop i).trips), k0_off3 i k = ![512 * (blk (2 * k.val + 1)).val, 0] := by decide +kernel
theorem off7_eq : ∀ i : grid0.Coords, k0_off7 i = ![512 * (blk (nOf i)).val, 0] := by decide +kernel
theorem off8_eq : ∀ i : grid0.Coords, k0_off8 i = ![512 * (blk (nOf i)).val, 0] := by decide +kernel
/-- (Read at odd points only.) -/
theorem off9_eq : ∀ i : grid0.Coords, nOf i ≠ 0 → k0_off9 i = ![512 * (blk (nOf i - 1)).val, 0] := by decide +kernel
theorem off10_eq : ∀ i : grid0.Coords, k0_off10 i = ![512 * (blk (nOf i)).val, 0] := by decide +kernel

instance (i : grid0.Coords) (k : Fin (k0_t1_loop i).trips) : ClosedOff (k0_off1 i k 1#32) := ⟨_, off1_one i k⟩
instance (i : grid0.Coords) (k : Fin (k0_t1_loop i).trips) : ClosedOff (k0_off1 i k 2#32) := ⟨_, off1_two i k⟩
instance (i : grid0.Coords) (k : Fin (k0_t1_loop i).trips) : ClosedOff (k0_off2 i k) := ⟨_, off2_eq i k⟩
instance (i : grid0.Coords) (k : Fin (k0_t1_loop i).trips) : ClosedOff (k0_off3 i k) := ⟨_, off3_eq i k⟩

/-- At an even point one block is left after the pairs, -/
theorem cond1_iff : ∀ i : grid0.Coords, k0_cond1 i = 1#1 ↔ nOf i % 2 = 0 := by decide +kernel
/-- and two at an odd one. -/
theorem cond2_iff : ∀ i : grid0.Coords, k0_cond2 i = 1#1 ↔ nOf i % 2 = 1 := by decide +kernel

/-! ## The sums -/

variable {F : FTy → Type} [FloatOps F] [Named F]

/-- The running maximum, the running sum and the weighted values. -/
structure Sums (F : FTy → Type) [FloatOps F] where
  m : S8x512.Idx → Elt F .f32
  l : S8x512.Idx → Elt F .f32
  acc : S128x512.Idx → Elt F .f32

/-- Before any key block. -/
def start : Sums F where
  m := k0_pay49
  l := k0_pay50
  acc := k0_pay51

/-- The sums one key block further: its scores `s`, its values `v`. -/
def upd (s : S512x512.Idx → Elt F .f32) (v : S512x128.Idx → Elt F .bf16) (a : Sums F) : Sums F where
  m := k0_pay12 (k0_pay6 s a.m)
  l := k0_pay9 s a.m a.l
  acc := k0_pay11 (k0_pay8 s a.m) (k0_pay10 s a.m a.acc) v

section Step
variable (Q : S512x256.Idx → Elt F .bf16) (K : S8192x256.Idx → Elt F .bf16) (V : S8192x128.Idx → Elt F .bf16)

/-- The scores of key block `n`. -/
abbrev scoreAt (n : Fin 16) : FVec F S512x512 .f32 := k0_pay53 Q (rQ n K)

/-- The sums after the first `n` key blocks, none of them masked. -/
def sumsN : Nat → Sums F
  | 0 => start
  | n + 1 => upd (scoreAt Q K (blk n)) (rO (blk n) V) (sumsN n)

/-- The sums after the block on the diagonal, which is masked. -/
def sumsLast (n : Nat) : Sums F := upd (k0_pay29 (scoreAt Q K (blk n))) (rO (blk n) V) (sumsN Q K V n)

/-- The two results of a grid point. -/
def outO (n : Nat) : S512x128.Idx → Elt F .f32 :=
  k0_pay3 (sumsLast Q K V n).acc (rowsOf (s := S8x512) ![0, 0] S1x512.size inb_S8x512_S1x512_0_0 (sumsLast Q K V n).l)
def outL (n : Nat) : S8x512.Idx → Elt F .f32 := k0_pay4 (sumsLast Q K V n).m (sumsLast Q K V n).l

end Step

end Cert.Proof.Fwd
-- ==== Proof.FwdTrip.lean ====
module

public import proofs.«01_k».proof.Proof.FwdModel
public import proofs.«01_k».proof.Proof.Gen.Kernel2Ideal.Launch
public import proofs.«01_k».proof.Proof.Gen.Kernel2Ideal.Skeleton
public import Idealize.ShloMosaic.Lib.Affine
public import Idealize.ShloMosaic.Lib.Tactic
public import Idealize.ShloMosaic.Lib.WholeRead

/-! One trip of the forward loop: it takes the sums two key blocks further. -/

@[expose] public section

set_option maxRecDepth 16384
set_option maxHeartbeats 4000000

noncomputable section

namespace Cert.Proof.Fwd

open Cert.Kernel2Ideal Cert.Kernel2Ideal.Gen
open Cert.Proof.Flash (blk rowsOf rQ rO rQ_of rO_of readAt_rows readCov_rows read_writes_put read_writes_nil rowsOf_whole putOf_whole)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ
abbrev 𝒱₀ : Variants := Variants.none

section Trip
variable (c : Dev nD) (i : grid0.Coords)
  (arg2 : Memref sig .tc .vmem S512x256 .bf16) (harg2 : arg2.IsWhole)
  (arg3 : Memref sig .tc .vmem S8192x256 .bf16) (harg3 : arg3.IsWhole)
  (arg4 : Memref sig .tc .vmem S8192x128 .bf16) (harg4 : arg4.IsWhole)
  (arg5 : Memref sig .tc .vmem S512x128 .f32) (harg5 : arg5.IsWhole)
  (arg6 : Memref sig .tc .vmem S8x512 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S8x512 .f32) (harg9 : arg9.IsWhole)
  (arg10 : Memref sig .tc .vmem S8x512 .f32) (harg10 : arg10.IsWhole)
  (arg11 : Memref sig .tc .vmem S128x512 .f32) (harg11 : arg11.IsWhole)
  (w1 w22 w27 w32 : BitVec 32)
  (Q : FVec F S512x256 .bf16) (K : S8192x256.Idx → Elt F .bf16) (V : S8192x128.Idx → Elt F .bf16)

/-- What stands in the buffers before trip `t`: the sums over the first `2 t` key blocks, and the scores of the next. -/
def tripInv (t : ℕ) (_ : Unit) : sProp 𝕄 :=
  iprop(owns (c : Thread nD τ) arg3 fullShare K ∗ owns (c : Thread nD τ) arg4 fullShare V
    ∗ owns (c : Thread nD τ) arg7 fullShare (scoreAt Q K (blk (2 * t)))
    ∗ (∃ X, owns (c : Thread nD τ) arg8 fullShare X)
    ∗ owns (c : Thread nD τ) arg9 fullShare (sumsN Q K V (2 * t)).m
    ∗ owns (c : Thread nD τ) arg10 fullShare (sumsN Q K V (2 * t)).l
    ∗ owns (c : Thread nD τ) arg11 fullShare (sumsN Q K V (2 * t)).acc)

theorem trip_step (k : Fin (k0_t1_loop i).trips) :
    tripInv c arg3 arg4 arg7 arg8 arg9 arg10 arg11 Q K V k.val ()
      ⊢ wp frame (wpE (defs₀ (F := F)) 𝒱₀ (c : Thread nD τ) none) Set.univ
        (k0_t1_body i arg2 harg2 arg3 harg3 arg4 harg4 arg5 harg5 arg6 harg6 arg7 harg7 arg8 harg8 arg9 harg9 arg10 harg10 arg11 harg11 w1 (k0_pay52 Q) 2#32 w22 w27 w32 k ())
        (tripInv c arg3 arg4 arg7 arg8 arg9 arg10 arg11 Q K V (k.val + 1)) := by
  unfold tripInv owns
  iintro ⟨⟨%f3, %h3, H3⟩, ⟨%f4, %h4, H4⟩, ⟨%f7, %h7, H7⟩, ⟨%X8, %f8, %h8, H8⟩, ⟨%f9, %h9, H9⟩, ⟨%f10, %h10, H10⟩, ⟨%f11, %h11, H11⟩⟩
  sl_unfold [k0_t1_body]
  sl_exec
  sl_step
  isplitl [H3]
  · iexists _; isplitr; pick_goal 2
    · iexact H3
    · ipureintro; exact h3
  isplitl [H4]
  · iexists _; isplitr; pick_goal 2
    · iexact H4
    · ipureintro; exact h4
  isplitl [H7]
  · iexists _; isplitr; pick_goal 2
    · iexact H7
    · ipureintro; sl_unfold_run_names
      simp only [read_writes_put, readAt_rows, readCov_rows, read_writes_nil, rowsOf_whole, putOf_whole, rQ_of (off1_one i k), rQ_of (off1_two i k), rO_of (off2_eq i k), rO_of (off3_eq i k), h3, h4, h7, h9, h10, h11]
      rfl
  isplitl [H8]
  · iexists _, _; isplitr; pick_goal 2
    · iexact H8
    · ipureintro; rfl
  isplitl [H9]
  · iexists _; isplitr; pick_goal 2
    · iexact H9
    · ipureintro; sl_unfold_run_names
      simp only [read_writes_put, readAt_rows, readCov_rows, read_writes_nil, rowsOf_whole, putOf_whole, rQ_of (off1_one i k), rQ_of (off1_two i k), rO_of (off2_eq i k), rO_of (off3_eq i k), h3, h4, h7, h9, h10, h11]
      rfl
  isplitl [H10]
  · iexists _; isplitr; pick_goal 2
    · iexact H10
    · ipureintro; sl_unfold_run_names
      simp only [read_writes_put, readAt_rows, readCov_rows, read_writes_nil, rowsOf_whole, putOf_whole, rQ_of (off1_one i k), rQ_of (off1_two i k), rO_of (off2_eq i k), rO_of (off3_eq i k), h3, h4, h7, h9, h10, h11]
      rfl
  iexists _; isplitr; pick_goal 2
  · iexact H11
  · ipureintro; sl_unfold_run_names
    simp only [read_writes_put, readAt_rows, readCov_rows, read_writes_nil, rowsOf_whole, putOf_whole, rQ_of (off1_one i k), rQ_of (off1_two i k), rO_of (off2_eq i k), rO_of (off3_eq i k), h3, h4, h7, h9, h10, h11]
    rfl

end Trip
end Cert.Proof.Fwd
-- ==== Proof.FwdBody.lean ====
module

public import proofs.«01_k».proof.Proof.FwdTrip
public import proofs.«01_k».proof.Proof.Gen.Kernel2Ideal.Launch
public import proofs.«01_k».proof.Proof.Gen.Kernel2Ideal.Skeleton
public import Idealize.ShloMosaic.Lib.Affine
public import Idealize.ShloMosaic.Lib.Tactic
public import Idealize.ShloMosaic.Lib.WholeRead

/-! One grid point of the attention's forward call. -/

@[expose] public section

set_option maxRecDepth 16384
set_option maxHeartbeats 4000000

noncomputable section

namespace Cert.Proof.Fwd

open Cert.Kernel2Ideal Cert.Kernel2Ideal.Gen
open Cert.Proof.Flash (blk rowsOf rQ rO rQ_of rO_of readAt_rows readCov_rows read_writes_put read_writes_nil rowsOf_whole putOf_whole)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first key block is read at a literal offset. -/
theorem blk0 : (![0, 0] : Fin 2 → ℕ) = ![512 * (blk (2 * 0)).val, 0] := rfl

section Body
variable (c : Dev nD) (i : grid0.Coords)
  (arg2 : Memref sig .tc .vmem S512x256 .bf16) (harg2 : arg2.IsWhole)
  (arg3 : Memref sig .tc .vmem S8192x256 .bf16) (harg3 : arg3.IsWhole)
  (arg4 : Memref sig .tc .vmem S8192x128 .bf16) (harg4 : arg4.IsWhole)
  (arg5 : Memref sig .tc .vmem S512x128 .f32) (harg5 : arg5.IsWhole)
  (arg6 : Memref sig .tc .vmem S8x512 .f32) (harg6 : arg6.IsWhole)
  (arg7 : Memref sig .tc .vmem S512x512 .f32) (harg7 : arg7.IsWhole)
  (arg8 : Memref sig .tc .vmem S512x512 .f32) (harg8 : arg8.IsWhole)
  (arg9 : Memref sig .tc .vmem S8x512 .f32) (harg9 : arg9.IsWhole)
  (arg10 : Memref sig .tc .vmem S8x512 .f32) (harg10 : arg10.IsWhole)
  (arg11 : Memref sig .tc .vmem S128x512 .f32) (harg11 : arg11.IsWhole)
  (Q : S512x256.Idx → Elt F .bf16) (K : S8192x256.Idx → Elt F .bf16) (V : S8192x128.Idx → Elt F .bf16)

/-- What a grid point starts from. -/
def bodyIn : sProp 𝕄 :=
  iprop(owns (c : Thread nD τ) arg2 fullShare Q ∗ owns (c : Thread nD τ) arg3 fullShare K ∗ owns (c : Thread nD τ) arg4 fullShare V
    ∗ (∃ X, owns (c : Thread nD τ) arg5 fullShare X) ∗ (∃ X, owns (c : Thread nD τ) arg6 fullShare X) ∗ (∃ X, owns (c : Thread nD τ) arg7 fullShare X) ∗ (∃ X, owns (c : Thread nD τ) arg8 fullShare X)
    ∗ (∃ X, owns (c : Thread nD τ) arg9 fullShare X) ∗ (∃ X, owns (c : Thread nD τ) arg10 fullShare X) ∗ (∃ X, owns (c : Thread nD τ) arg11 fullShare X))
/-- What a grid point ends with. -/
def bodyOut : sProp 𝕄 :=
  iprop(owns (c : Thread nD τ) arg2 fullShare Q ∗ owns (c : Thread nD τ) arg3 fullShare K ∗ owns (c : Thread nD τ) arg4 fullShare V
    ∗ owns (c : Thread nD τ) arg5 fullShare (outO Q K V (nOf i)) ∗ owns (c : Thread nD τ) arg6 fullShare (outL Q K V (nOf i)) ∗ (∃ X, owns (c : Thread nD τ) arg7 fullShare X) ∗ (∃ X, owns (c : Thread nD τ) arg8 fullShare X)
    ∗ (∃ X, owns (c : Thread nD τ) arg9 fullShare X) ∗ (∃ X, owns (c : Thread nD τ) arg10 fullShare X) ∗ (∃ X, owns (c : Thread nD τ) arg11 fullShare X))

theorem body_point :
    bodyIn c arg2 arg3 arg4 arg5 arg6 arg7 arg8 arg9 arg10 arg11 Q K V
      ⊢ wp frame (wpE (defs₀ (F := F)) 𝒱₀ (c : Thread nD τ) none) Set.univ
        (cc0_flash_fwd_skel i arg2 harg2 arg3 harg3 arg4 harg4 arg5 harg5 arg6 harg6 arg7 harg7 arg8 harg8 arg9 harg9 arg10 harg10 arg11 harg11)
        (fun _ => bodyOut c i arg2 arg3 arg4 arg5 arg6 arg7 arg8 arg9 arg10 arg11 Q K V) := by
  have ht1 := trips_eq i
  have ht2 := trips2_eq i
  have hi : nOf i < 16 := (i 1).isLt
  unfold bodyIn owns
  iintro ⟨⟨%f2, %h2, H2⟩, ⟨%f3, %h3, H3⟩, ⟨%f4, %h4, H4⟩, ⟨%X5, %f5, %h5, H5⟩, ⟨%X6, %f6, %h6, H6⟩, ⟨%X7, %f7, %h7, H7⟩, ⟨%X8, %f8, %h8, H8⟩, ⟨%X9, %f9, %h9, H9⟩, ⟨%X10, %f10, %h10, H10⟩, ⟨%X11, %f11, %h11, H11⟩⟩
  sl_unfold [cc0_flash_fwd_skel]
  sl_exec
  sl_for (tripInv c arg3 arg4 arg7 arg8 arg9 arg10 arg11 Q K V) $$ [H3 H4 H7 H8 H9 H10 H11]
  · intro k acc
    have hQ : Q = arg2.view.readAt (Elt F) (Rect.unit (s := S512x256) ![0, 0] S512x256.size inb_S512x256_S512x256_0_0).toLoadRect f2 := by
      simp only [readAt_rows, rowsOf_whole, h2]
    rw [hQ]
    exact trip_step c i arg2 harg2 arg3 harg3 arg4 harg4 arg5 harg5 arg6 harg6 arg7 harg7 arg8 harg8 arg9 harg9 arg10 harg10 arg11 harg11 _ _ _ _ _ K V k
  · unfold tripInv owns
    isplitl [H3]
    · iexists _; isplitr; pick_goal 2
      · iexact H3
      · ipureintro; exact h3
    isplitl [H4]
    · iexists _; isplitr; pick_goal 2
      · iexact H4
      · ipureintro; exact h4
    isplitl [H7]
    · iexists _; isplitr; pick_goal 2
      · iexact H7
      · ipureintro; sl_unfold_run_names
        simp only [read_writes_put, readAt_rows, readCov_rows, read_writes_nil, rowsOf_whole, putOf_whole, rQ_of blk0, h2, h3, h7, h9, h10, h11]
    isplitl [H8]
    · iexists _, _; isplitr; pick_goal 2
      · iexact H8
      · ipureintro; rfl
    isplitl [H9]
    · iexists _; isplitr; pick_goal 2
      · iexact H9
      · ipureintro; sl_unfold_run_names
        simp only [read_writes_put, readAt_rows, readCov_rows, read_writes_nil, rowsOf_whole, putOf_whole, rQ_of blk0, h2, h3, h7, h9, h10, h11]
        rfl
    isplitl [H10]
    · iexists _; isplitr; pick_goal 2
      · iexact H10
      · ipureintro; sl_unfold_run_names
        simp only [read_writes_put, readAt_rows, readCov_rows, read_writes_nil, rowsOf_whole, putOf_whole, rQ_of blk0, h2, h3, h7, h9, h10, h11]
        rfl
    iexists _; isplitr; pick_goal 2
    · iexact H11
    · ipureintro; sl_unfold_run_names
      simp only [read_writes_put, readAt_rows, readCov_rows, read_writes_nil, rowsOf_whole, putOf_whole, rQ_of blk0, h2, h3, h7, h9, h10, h11]
      rfl
  iintro %acc HI
  unfold tripInv owns
  icases HI with ⟨⟨%g3, %e3, H3⟩, ⟨%g4, %e4, H4⟩, ⟨%g7, %e7, H7⟩, ⟨%Y8, %g8, %e8, H8⟩, ⟨%g9, %e9, H9⟩, ⟨%g10, %e10, H10⟩, ⟨%g11, %e11, H11⟩⟩
  have hT : Scf.trips (k0_t1_loop i).lb (k0_t1_loop i).ub (k0_t1_loop i).st = (k0_t1_loop i).trips := rfl
  rw [hT, ht1] at e7 e9 e10 e11
  rcases Nat.mod_two_eq_zero_or_one (nOf i) with hp | hp
  · have hc1 := (cond1_iff i).mpr hp
    have hc2 : ¬ k0_cond2 i = 1#1 := fun h => by have := (cond2_iff i).mp h; omega
    rw [show 2 * (nOf i / 2) = nOf i by omega] at e7 e9 e10 e11
    unfold bodyOut outO outL sumsLast
    generalize sumsN Q K V (nOf i) = A at e9 e10 e11 ⊢
    unfold owns
    sl_exec
    sl_step
    isplitl [H2]
    · iexists _; isplitr; pick_goal 2
      · iexact H2
      · ipureintro; exact h2
    isplitl [H3]
    · iexists _; isplitr; pick_goal 2
      · iexact H3
      · ipureintro; exact e3
    isplitl [H4]
    · iexists _; isplitr; pick_goal 2
      · iexact H4
      · ipureintro; exact e4
    isplitl [H5]
    · iexists _; isplitr; pick_goal 2
      · iexact H5
      · ipureintro; sl_unfold_run_names
        simp only [read_writes_put, readAt_rows, readCov_rows, read_writes_nil, rowsOf_whole, putOf_whole, rO_of (off7_eq i), h2, e3, e4, e7, e9, e10, e11]
        rfl
    isplitl [H6]
    · iexists _; isplitr; pick_goal 2
      · iexact H6
      · ipureintro; sl_unfold_run_names
        simp only [read_writes_put, readAt_rows, readCov_rows, read_writes_nil, rowsOf_whole, putOf_whole, rO_of (off7_eq i), h2, e3, e4, e7, e9, e10, e11]
        rfl
    isplitl [H7]
    · iexists _, _; isplitr; pick_goal 2
      · iexact H7
      · ipureintro; rfl
    isplitl [H8]
    · iexists _, _; isplitr; pick_goal 2
      · iexact H8
      · ipureintro; rfl
    isplitl [H9]
    · iexists _, _; isplitr; pick_goal 2
      · iexact H9
      · ipureintro; rfl
    isplitl [H10]
    · iexists _, _; isplitr; pick_goal 2
      · iexact H10
      · ipureintro; rfl
    iexists _, _; isplitr; pick_goal 2
    · iexact H11
    · ipureintro; rfl
  · have hc1 : ¬ k0_cond1 i = 1#1 := fun h => by have := (cond1_iff i).mp h; omega
    have hc2 := (cond2_iff i).mpr hp
    have hn : nOf i ≠ 0 := fun h => by rw [h] at hp; exact absurd hp (by decide)
    rw [show 2 * (nOf i / 2) = nOf i - 1 by omega] at e7 e9 e10 e11
    unfold bodyOut outO outL sumsLast
    have hs : sumsN Q K V (nOf i) = upd (scoreAt Q K (blk (nOf i - 1))) (rO (blk (nOf i - 1)) V) (sumsN Q K V (nOf i - 1)) :=
      congrArg (sumsN Q K V) (by omega : nOf i = nOf i - 1 + 1)
    rw [hs]
    generalize sumsN Q K V (nOf i - 1) = A at e9 e10 e11 ⊢
    unfold owns
    sl_exec
    sl_step
    isplitl [H2]
    · iexists _; isplitr; pick_goal 2
      · iexact H2
      · ipureintro; exact h2
    isplitl [H3]
    · iexists _; isplitr; pick_goal 2
      · iexact H3
      · ipureintro; exact e3
    isplitl [H4]
    · iexists _; isplitr; pick_goal 2
      · iexact H4
      · ipureintro; exact e4
    isplitl [H5]
    · iexists _; isplitr; pick_goal 2
      · iexact H5
      · ipureintro; sl_unfold_run_names
        simp only [read_writes_put, readAt_rows, readCov_rows, read_writes_nil, rowsOf_whole, putOf_whole, rQ_of (off8_eq i), rO_of (off9_eq i hn), rO_of (off10_eq i), h2, e3, e4, e7, e9, e10, e11]
        rfl
    isplitl [H6]
    · iexists _; isplitr; pick_goal 2
      · iexact H6
      · ipureintro; sl_unfold_run_names
        simp only [read_writes_put, readAt_rows, readCov_rows, read_writes_nil, rowsOf_whole, putOf_whole, rQ_of (off8_eq i), rO_of (off9_eq i hn), rO_of (off10_eq i), h2, e3, e4, e7, e9, e10, e11]
        rfl
    isplitl [H7]
    · iexists _, _; isplitr; pick_goal 2
      · iexact H7
      · ipureintro; rfl
    isplitl [H8]
    · iexists _, _; isplitr; pick_goal 2
      · iexact H8
      · ipureintro; rfl
    isplitl [H9]
    · iexists _, _; isplitr; pick_goal 2
      · iexact H9
      · ipureintro; rfl
    isplitl [H10]
    · iexists _, _; isplitr; pick_goal 2
      · iexact H10
      · ipureintro; rfl
    iexists _, _; isplitr; pick_goal 2
    · iexact H11
    · ipureintro; rfl

end Body
end Cert.Proof.Fwd
-- ==== Proof.FwdRun.lean ====
module

public import proofs.«01_k».proof.Proof.FwdBody
public import proofs.«01_k».proof.Proof.Gen.Kernel2Ideal.Frame.Runs
public import Idealize.ShloMosaic.Lib.Pipeline.FrameBody

/-! The run of the attention's forward call: what each grid point leaves, and the launch over all of them. -/

@[expose] public section

set_option maxRecDepth 16384
set_option maxHeartbeats 2000000

noncomputable section

namespace Cert.Proof.Fwd

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Position `t` of the launch works on query block `t mod 16` of its head. -/
theorem step_val : ∀ t : Fin cfg0.N, (grid0.coords t 1).val = t.val % 16 :=
  (by decide +kernel : ∀ t : Fin grid0.N, (grid0.coords t 1).val = t.val % 16)

/-- What the launch's arrays and buffers hold: the region's entry, then what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (iblk m c 0 t) (iblk m c 1 t) (iblk m c 2 t) (nOf (grid0.coords t))
    | ⟨4, _⟩ => outL (iblk m c 0 t) (iblk m c 1 t) (iblk m c 2 t) (nOf (grid0.coords t))
    | ⟨_ + 5, h⟩ => absurd h (Nat.not_lt.2 (Nat.le_add_left _ _))
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

theorem dats_o (c : Dev nD) (t : Fin cfg0.N) : (dats m 0 c).after 3 t = outO (iblk m c 0 t) (iblk m c 1 t) (iblk m c 2 t) (nOf (grid0.coords t)) := by
  dsimp only [dats]

theorem dats_l (c : Dev nD) (t : Fin cfg0.N) : (dats m 0 c).after 4 t = outL (iblk m c 0 t) (iblk m c 1 t) (iblk m c 2 t) (nOf (grid0.coords t)) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (dats_A m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (dats_A m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (dats_A m c 2) (after_2 m c) t d

/-- A grid point at its staged buffers. -/
theorem body_any (c : Dev nD) (t : Fin cfg0.N) :
    bodyIn c (st0_0 t) (st0_1 t) (st0_2 t) (st0_3 t) (st0_4 t) (Memref.whole cc0_scratch0) (Memref.whole cc0_scratch1) (Memref.whole cc0_scratch2) (Memref.whole cc0_scratch3) (Memref.whole cc0_scratch4) (iblk m c 0 t) (iblk m c 1 t) (iblk m c 2 t)
      ⊢ wp frame (wpE (defs₀ (F := F)) 𝒱₀ (c : Thread nD τ) none) Set.univ (bodyAt0 t)
        (fun _ => bodyOut c (grid0.coords t) (st0_0 t) (st0_1 t) (st0_2 t) (st0_3 t) (st0_4 t) (Memref.whole cc0_scratch0) (Memref.whole cc0_scratch1) (Memref.whole cc0_scratch2) (Memref.whole cc0_scratch3) (Memref.whole cc0_scratch4) (iblk m c 0 t) (iblk m c 1 t) (iblk m c 2 t)) := by
  unfold bodyAt0
  rw [cc0_flash_fwd_eq_skeleton]
  exact body_point c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) _ _ _

set_option maxHeartbeats 4000000 in
/-- The body at position `t`, its windows one by one and the scratch buffers taken out of the rest of the memory. -/
theorem sound_body (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
    ⊢ wp frame (wpE (defs₀ (F := F)) 𝒱₀ c none) Set.univ (bodyAt0 t) (fun _ =>
      iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))) := by
  simp only [before_0, before_1, before_2]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, dats_o, dats_l]
  unfold Pipeline.ΦA
  rw [scopedRest0_eq]
  iintro ⟨⟨⟨⟨%g0, S0⟩, ⟨%g1, S1⟩, ⟨%g2, S2⟩, ⟨%g3, S3⟩, ⟨%g4, S4⟩⟩, HR⟩, Ho, ⟨%d0, H0⟩, ⟨%d1, H1⟩, ⟨%d2, H2⟩, ⟨%d3, H3⟩, ⟨%d4, H4⟩⟩
  iapply (wp_wand_r Idealize.ShloMosaic.frame (wpE (defs₀ (F := F)) 𝒱₀ (c : Thread nD τ) none) Set.univ)
  isplitl [H0 H1 H2 H3 H4 S0 S1 S2 S3 S4]
  · iapply (body_any m c t)
    unfold bodyIn
    isplitl [H0]; · iexact H0
    isplitl [H1]; · iexact H1
    isplitl [H2]; · iexact H2
    isplitl [H3]; · iexists _; iexact H3
    isplitl [H4]; · iexists _; iexact H4
    isplitl [S0]; · iexists g0; rw [owns_whole]; iexact S0
    isplitl [S1]; · iexists g1; rw [owns_whole]; iexact S1
    isplitl [S2]; · iexists g2; rw [owns_whole]; iexact S2
    isplitl [S3]; · iexists g3; rw [owns_whole]; iexact S3
    iexists g4; rw [owns_whole]; iexact S4
  · rw [after_0, after_1, after_2]
    iintro %_ HB
    unfold bodyOut
    icases HB with ⟨H0, H1, H2, H3, H4, ⟨%g0', S0⟩, ⟨%g1', S1⟩, ⟨%g2', S2⟩, ⟨%g3', S3⟩, ⟨%g4', S4⟩⟩
    isplitl [S0 S1 S2 S3 S4 HR]
    · isplitl [S0 S1 S2 S3 S4]
      · isplitl [S0]; · iexists g0'; iapply (Entails.of_eq (owns_whole (c : Thread nD τ) cc0_scratch0 fullShare g0')); iexact S0
        isplitl [S1]; · iexists g1'; iapply (Entails.of_eq (owns_whole (c : Thread nD τ) cc0_scratch1 fullShare g1')); iexact S1
        isplitl [S2]; · iexists g2'; iapply (Entails.of_eq (owns_whole (c : Thread nD τ) cc0_scratch2 fullShare g2')); iexact S2
        isplitl [S3]; · iexists g3'; iapply (Entails.of_eq (owns_whole (c : Thread nD τ) cc0_scratch3 fullShare g3')); iexact S3
        iexists g4'; iapply (Entails.of_eq (owns_whole (c : Thread nD τ) cc0_scratch4 fullShare g4')); iexact S4
      iexact HR
    isplitl [Ho]; · iexact Ho
    isplitl [H0]; · iexact H0
    isplitl [H1]; · iexact H1
    isplitl [H2]; · iexact H2
    isplitl [H3]; · iexact H3
    iexact H4

/-- The body table's row at position `t`. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, body_row]
  exact triple_restated (sound_body m c t) rfl .rfl fun _ => .rfl

set_option backward.isDefEq.respectTransparency.types false in
/-- The launch, at any values: it ends with the arrays at the recorded contents, the host lines after it done, and
    every semaphore at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun _ w => by fin_cases w <;> rfl)
    (howed := fun _ _ => rfl) (V₀ := V0 m) (opss := [hostOps1]) (hsub := sfx_sub) (hfresh := sfx_fresh) (hkeep := sfx_keeps)
    (hmain := hmain m 𝒱₀) (hA := dats_A m) (hΦ := fun _ _ => rfl)

/-- The frame at any values: the arguments end as they were launched and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r (h : _ ∧ _) => ⟨fun c =>
    ⟨((h.1 c).2 main_arg0 (Pipeline.mem_restRefs_of main_arg0 (by decide) (by decide))).trans (W_main_arg0 m _ c),
      ((h.1 c).2 main_arg1 (Pipeline.mem_restRefs_of main_arg1 (by decide) (by decide))).trans (W_main_arg1 m _ c),
      ((h.1 c).2 main_arg2 (Pipeline.mem_restRefs_of main_arg2 (by decide) (by decide))).trans (W_main_arg2 m _ c)⟩, h.2⟩)
    (run_main m ρ)

end Cert.Proof.Fwd

end
-- ==== Proof.FwdFrames.lean ====
module

public import proofs.«01_k».proof.Proof.FwdRun
public import proofs.«01_k».proof.Defs
public import Idealize.ShloMosaic.Lib.Tactic
public import proofs.«01_k».proof.Proof.Gen.Kernel2

/-! The two frames of the attention's forward call: the run holds at any values, so at bits and at extended reals. -/

@[expose] public section

set_option maxRecDepth 16384

noncomputable section

namespace Cert.Proof.Fwd

open Idealize.ShloMosaic Idealize.ShloMosaic.TcCoe Idealize.ShloMosaic.Tactic Idealize.SL Idealize.SL.Sem

/-- At bits a named constant is the word the kernel spells. -/
@[reducible] def bitsNamed : Named Bits where
  named _ _ {φ} bits := FloatOps.ofBits (F := Bits) φ bits

theorem main_bits : Cert.Kernel2.main (F := Bits) = Cert.Kernel2Ideal.main (F := Bits) := by sl_kernel_rfl
theorem defs_bits : Cert.Kernel2.defs (F := Bits) = @Cert.Kernel2Ideal.defs Bits _ bitsNamed _ := by sl_kernel_rfl

theorem frame_kernel : Cert.quiescent_Kernel2 := fun m ρ _ => by
  rw [main_bits, defs_bits]
  exact @frame_any Bits _ bitsNamed m ρ

theorem frame_kernelIdeal : Cert.quiescent_Kernel2Ideal := fun m ρ _ => frame_any (F := Ideal) m ρ

theorem preserved : Cert.preserves_Kernel2_Kernel2Ideal :=
  ⟨IdealRules.named_const.statement Cert.Kernel2Ideal.κ "masked" .f32 0xF149F2CA#32 ⊥ rfl,
    IdealRules.named_const.statement Cert.Kernel2Ideal.κ "log2e" .f32 0x3FB8AA3B#32 _ rfl⟩

end Cert.Proof.Fwd

end
-- ==== Proof.FwdRef.lean ====
module

public import proofs.«01_k».proof.Proof.FlashRef
public import proofs.«01_k».proof.Proof.FlashHost
public import proofs.«01_k».proof.Proof.Gen.Reference2Ideal.Run
public import proofs.«01_k».proof.Proof.Gen.Reference2Ideal.Read

/-! The forward reference's two results over the reals: the attention's output, and each row's log-sum. Its scores and its
    probabilities are those of the gradients' reference. -/

@[expose] public section

set_option maxRecDepth 16384

noncomputable section

namespace Cert.Proof.Fwd

open Cert.Reference2Ideal Cert.Reference2Ideal.Gen Cert.Reference2Ideal.Read
open Cert.Proof.Flash
open Idealize.ShloMosaic

variable (Q K : Fin 8192 → Fin 4 → Fin 192 → ℝ) (V : Fin 8192 → Fin 4 → Fin 128 → ℝ)

/-- The attention's output. -/
def outputOf (q : Fin 8192) (h : Fin 4) (e : Fin 128) : ℝ := ∑ k, V k h e * prob Q K h q k

/-- A row's log-sum, in units of `log 2`. -/
def logSum (h : Fin 4) (q : Fin 8192) : ℝ := Real.log (∑ k, expo (score Q K h q) q 0 k) / Real.log 2

theorem same_masked (x y : S8192x4x192.Idx → EReal) :
    val_main_v10 (F := Ideal) x y = Cert.ReferenceIdeal.Read.val_main_v10_0 (F := Ideal) x y := rfl

theorem same_prob (x y : S8192x4x192.Idx → EReal) :
    val_main_v38 (F := Ideal) x y = Cert.ReferenceIdeal.Read.val_main_v35 (F := Ideal) x y := rfl

/-- The forward reference's output. -/
theorem ref_output : val_main_v40 (F := Ideal) (up3 Q) (up3 K) (up3 V) = up3 (outputOf Q K V) := by
  obtain ⟨mx, hmx⟩ := ref_max Q K
  funext i
  rw [val_main_v40_apply, val_main_v39_apply, same_prob, ref_prob Q K mx hmx]
  exact sum_mul_coe (fun k => V k (i 1) (i 2)) (fun k => prob Q K (i 1) (i 0) k)

theorem ref_expo0 (i : S4x8192x8192.Idx) : val_main_v11 (F := Ideal) (up3 Q) (up3 K) i
    = ((expo (score Q K (i 0) (i 1)) (i 1) 0 (i 2) : ℝ) : EReal) := by
  rw [val_main_v11_apply, same_masked, ref_masked]
  by_cases h : (i 2).val ≤ (i 1).val
  · rw [if_pos h]
    have e : expo (score Q K (i 0) (i 1)) (i 1) 0 (i 2) = Real.exp (score Q K (i 0) (i 1) (i 2) - 0) := if_pos h
    exact (Ideal.exp_coe _).trans (congrArg Real.toEReal ((congrArg Real.exp (sub_zero _).symm).trans e.symm))
  · rw [if_neg h]
    have e : expo (score Q K (i 0) (i 1)) (i 1) 0 (i 2) = 0 := if_neg h
    exact Ideal.exp_bot.trans (congrArg Real.toEReal e.symm)

theorem ref_rowSum (j : S4x8192.Idx) : val_main_v12 (F := Ideal) (up3 Q) (up3 K) j
    = ((∑ k, expo (score Q K (j 0) (j 1)) (j 1) 0 k : ℝ) : EReal) := by
  rw [val_main_v12_apply, val_main_cst_1_apply]
  simp_rw [ref_expo0]
  exact (congrArg₂ (· + ·) Ideal.ofBits_zero_f32 (sum_coe fun k => expo (score Q K (j 0) (j 1)) (j 1) 0 k)).trans (zero_add _)

theorem ref_ln2 (i : S_.Idx) : val_main_v14 (F := Ideal) i = ((Real.log 2 : ℝ) : EReal) := hLn2_up i

theorem ref_log (j : S4x8192.Idx) : val_main_v16 (F := Ideal) (up3 Q) (up3 K) j = ((logSum Q K (j 0) (j 1) : ℝ) : EReal) := by
  rw [val_main_v16_apply, val_main_v13_apply, ref_rowSum, val_main_v15_apply, ref_ln2]
  have hp := sum_expo_pos (score Q K (j 0) (j 1)) (j 1) 0
  have el : Ideal.log ((∑ k, expo (score Q K (j 0) (j 1)) (j 1) 0 k : ℝ) : EReal)
      = ((Real.log (∑ k, expo (score Q K (j 0) (j 1)) (j 1) 0 k) : ℝ) : EReal) := if_neg (not_le.mpr hp)
  exact (congrArg (Ideal.div · _) el).trans (div_real ln2_pos.ne')

/-- The forward reference's log-sums, each head's eight times. -/
theorem ref_logSum : val_main_v42 (F := Ideal) (up3 Q) (up3 K) = up2 fun r q => logSum Q K (head8 r) q := by
  funext i
  rw [val_main_v42_apply, val_main_v41_apply, ref_log]
  have h1 : (i 1).val < 8192 := (i 1).isLt
  refine congrArg Real.toEReal (congrArg₂ (logSum Q K) (Fin.ext ?_) (Fin.ext ?_))
  · show ((i 0).val * 8192 + (i 1).val) / 65536 = (i 0).val / 8; omega
  · show ((i 0).val * 8192 + (i 1).val) % 8192 = (i 1).val; omega

end Cert.Proof.Fwd

end
-- ==== Proof.FwdBlocks.lean ====
module

public import proofs.«01_k».proof.Proof.FlashMath
public import proofs.«01_k».proof.Proof.FlashBlocks
public import proofs.«01_k».proof.Proof.FlashHost
public import proofs.«01_k».proof.Proof.FwdModel
public import Idealize.ShloMosaic.Lib.Pointwise
public import Mathlib.Data.Finset.Fold

/-! One grid point of the attention's forward call over the reals: the tiles it computes, and what it leaves. The running
    maximum is some real number: neither result depends on it. -/

@[expose] public section

set_option maxRecDepth 16384

noncomputable section

namespace Cert.Proof.Fwd

open Cert.Kernel2Ideal Cert.Kernel2Ideal.Gen
open Cert.Proof.Flash
open Idealize.ShloMosaic

/-! ## The operations of a tile -/

/-- The greatest of values below `⊤`, one of them not `⊥`, is real. -/
theorem max_fold_coe {ι : Type*} [Fintype ι] (f : ι → EReal) (mu : EReal) (hmu : mu ≠ ⊤) (hf : ∀ a, f a ≠ ⊤)
    (hb : ∃ a, f a ≠ ⊥) : ∃ r : ℝ, max mu (Finset.fold max ⊥ f Finset.univ) = (r : EReal) := by
  refine ⟨_, (EReal.coe_toReal (ne_of_lt (max_lt (lt_top_iff_ne_top.mpr hmu) ?_)) (ne_of_gt (lt_max_of_lt_right ?_))).symm⟩
  · exact (Finset.fold_max_lt _).mpr ⟨bot_lt_top, fun a _ => lt_top_iff_ne_top.mpr (hf a)⟩
  · obtain ⟨a, ha⟩ := hb
    exact (Finset.lt_fold_max _).mpr (Or.inr ⟨a, Finset.mem_univ a, bot_lt_iff_ne_bot.mpr ha⟩)

/-- A score, or `⊥` where `M` fails. -/
def pick (M : Fin 512 → Fin 512 → Prop) [∀ a b, Decidable (M a b)] (s : Fin 512 → Fin 512 → ℝ) (a b : Fin 512) : EReal :=
  if M a b then (s a b : EReal) else ⊥

/-- A tile of scores, those outside `M` masked. -/
abbrev maskedUp (M : Fin 512 → Fin 512 → Prop) [∀ a b, Decidable (M a b)] (s : Fin 512 → Fin 512 → ℝ) :
    S512x512.Idx → EReal := fun i => pick M s (i 0) (i 1)

section tiles
variable (M : Fin 512 → Fin 512 → Prop) [∀ a b, Decidable (M a b)] (s : Fin 512 → Fin 512 → ℝ) (mu : Fin 512 → EReal)
  (r c l : Fin 512 → ℝ) (x : Fin 128 → Fin 512 → ℝ) (v : Fin 512 → Fin 128 → ℝ)

/-- The tile's base-2 exponentials, shifted by `r`. -/
def tp (a b : Fin 512) : ℝ := if M a b then Real.rpow 2 (s a b - r b) else 0

theorem tile_max (hM : ∀ b, ∃ a, M a b) (hmu : ∀ b, mu b ≠ ⊤) :
    ∃ r : Fin 512 → ℝ, k0_pay6 (F := Ideal) (maskedUp M s) (fun i => mu (i 1)) = up2 fun _ b => r b := by
  have h : ∀ b, ∃ r : ℝ, max (mu b) (Finset.fold max ⊥ (fun a => maskedUp M s (ix2 a b)) Finset.univ) = (r : EReal) := fun b => by
    refine max_fold_coe _ _ (hmu b) (fun a => ?_) ?_
    · show (if M a b then (s a b : EReal) else ⊥) ≠ ⊤
      split
      · exact EReal.coe_ne_top _
      · exact bot_ne_top
    · obtain ⟨a, ha⟩ := hM b
      exact ⟨a, ne_of_eq_of_ne (if_pos ha) (EReal.coe_ne_bot _)⟩
  choose r hr using h
  refine ⟨r, ?_⟩
  funext j
  idx_vars j
  pointwise [k0_pay6]
  rw [neg_inf_bot]
  exact hr j1

section shifted
variable (m : S8x512.Idx → EReal) (hm : m = fun i => mu (i 1))
  (hr : k0_pay6 (F := Ideal) (maskedUp M s) m = up2 fun _ b => r b)
  (hc : ∀ b, Ideal.exp2 (mu b - r b) = (c b : EReal))
include hr

theorem tile_p : k0_pay8 (F := Ideal) (maskedUp M s) m = up2 (tp M s r) := by
  funext j
  idx_vars j
  pointwise [k0_pay8]
  rw [hr]
  show Ideal.exp2 (pick M s j0 j1 - (r j1 : EReal)) = ((tp M s r j0 j1 : ℝ) : EReal)
  unfold pick tp
  split
  · exact (congrArg Ideal.exp2 (EReal.coe_sub _ _).symm).trans (Ideal.exp2_coe _)
  · exact (congrArg Ideal.exp2 (EReal.bot_sub ((r j1 : ℝ) : EReal))).trans Ideal.exp2_bot

include hm hc

theorem tile_alpha : k0_pay7 (F := Ideal) (maskedUp M s) m = up2 fun _ b => c b := by
  funext j
  idx_vars j
  pointwise [k0_pay7]
  rw [hr, hm]
  exact hc j1

theorem tile_l : k0_pay9 (F := Ideal) (maskedUp M s) m (up2 fun _ b => l b) = up2 fun _ b => c b * l b + ∑ a, tp M s r a b := by
  funext j
  idx_vars j
  pointwise [k0_pay9]
  rw [tile_p M s r m hr, tile_alpha M s mu r c m hm hr hc]
  exact (congrArg₂ (· + ·) (EReal.coe_mul _ _).symm (sum_coe _)).trans (EReal.coe_add _ _).symm

theorem tile_acc : k0_pay11 (F := Ideal) (k0_pay8 (F := Ideal) (maskedUp M s) m) (k0_pay10 (F := Ideal) (maskedUp M s) m (up2 x)) (up2 v)
    = up2 fun e b => c b * x e b + ∑ a, v a e * tp M s r a b := by
  rw [tile_p M s r m hr]
  funext j
  idx_vars j
  pointwise [k0_pay11]
  have e : k0_pay10 (F := Ideal) (maskedUp M s) m (up2 x) (ix2 j0 j1) = ((c j1 * x j0 j1 : ℝ) : EReal) := by
    pointwise [k0_pay10]
    rw [tile_alpha M s mu r c m hm hr hc]
    exact (EReal.coe_mul _ _).symm
  exact (congrArg₂ (· + ·) e (sum_mul_coe _ _)).trans (EReal.coe_add _ _).symm

end shifted

theorem tile_score (q k : Fin 512 → Fin 256 → ℝ) : k0_pay53 (F := Ideal) (up2 q) (up2 k) = up2 fun a b => ∑ d, k a d * q b d := by
  funext j
  idx_vars j
  pointwise [k0_pay53]
  have e : k0_pay52 (F := Ideal) (up2 q) = up2 q := by
    funext i
    idx_vars i
    pointwise [k0_pay52]
  rw [e]
  exact sum_mul_coe _ _

theorem tile_masked : k0_pay29 (F := Ideal) (up2 s) = maskedUp (fun a b => a ≤ b) s := by
  funext j
  idx_vars j
  pointwise [k0_pay29]
  rw [sle_small (by omega) (by omega)]
  show _ = pick (fun a b => a ≤ b) s j0 j1
  unfold pick
  by_cases h : j0.val ≤ j1.val
  · rw [if_pos h, if_pos (show j0 ≤ j1 from h)]
    rfl
  · rw [if_neg h, if_neg (show ¬ j0 ≤ j1 from h)]
    rfl

end tiles

/-! ## The sums over the key blocks -/

section point
variable (q : Fin 512 → Fin 256 → ℝ) (k : Fin 8192 → Fin 256 → ℝ) (v : Fin 8192 → Fin 128 → ℝ)

/-- The score of query `b` and key `r`. -/
def sc (b : Fin 512) (r : Fin 8192) : ℝ := ∑ d, k r d * q b d

/-- The sums over the first `B b` keys of query `b`, shifted by some real number. -/
def Upto (B : Fin 512 → Nat) (A : Sums Ideal) : Prop :=
  ∃ mx : Fin 512 → ℝ, (A.m = up2 fun _ b => mx b)
    ∧ (A.l = up2 fun _ b => ∑ r : Fin 8192, if r.val < B b then Real.rpow 2 (sc q k b r - mx b) else 0)
    ∧ (A.acc = up2 fun e b => ∑ r : Fin 8192, if r.val < B b then v r e * Real.rpow 2 (sc q k b r - mx b) else 0)

/-- Part of one more block of keys. -/
theorem sum_below (n : Fin 16) (B : Nat) (h1 : 512 * n.val ≤ B) (h2 : B ≤ 512 * n.val + 512) (f : Fin 8192 → ℝ) :
    (∑ r : Fin 8192, if r.val < 512 * n.val then f r else 0) + (∑ a : Fin 512, if 512 * n.val + a.val < B then f (row n a) else 0)
      = ∑ r : Fin 8192, if r.val < B then f r else 0 := by
  have e : ∀ a : Fin 512, (if 512 * n.val + a.val < B then f (row n a) else 0)
      = (fun r : Fin 8192 => if r.val < B then f r else 0) (row n a) := fun a => by
    have hr : (row n a).val = 512 * n.val + a.val := by show n.val * 512 + a.val = _; omega
    show _ = if (row n a).val < B then f (row n a) else 0
    rw [hr]
  rw [Finset.sum_congr rfl fun a _ => e a, sum_row n fun r : Fin 8192 => if r.val < B then f r else 0, ← Finset.sum_add_distrib]
  refine Finset.sum_congr rfl fun r _ => ?_
  by_cases h : r.val < 512 * n.val
  · rw [if_pos h, if_neg (show ¬ r.val / 512 = n.val by omega), if_pos (show r.val < B by omega), add_zero]
  · rw [if_neg h, zero_add]
    by_cases h' : r.val < B
    · rw [if_pos (show r.val / 512 = n.val by omega)]
    · rw [if_neg h', ite_self]

/-- The sums so far, scaled to a new shift, with one block more. -/
theorem sum_shift (n : Fin 16) (B : Nat) (h1 : 512 * n.val ≤ B) (h2 : B ≤ 512 * n.val + 512) (x w : Fin 8192 → ℝ) (mx r : ℝ) :
    Real.rpow 2 (mx - r) * (∑ j : Fin 8192, if j.val < 512 * n.val then w j * Real.rpow 2 (x j - mx) else 0)
        + (∑ a : Fin 512, if 512 * n.val + a.val < B then w (row n a) * Real.rpow 2 (x (row n a) - r) else 0)
      = ∑ j : Fin 8192, if j.val < B then w j * Real.rpow 2 (x j - r) else 0 := by
  refine Eq.trans (congrArg (· + _) ?_) (sum_below n B h1 h2 fun j => w j * Real.rpow 2 (x j - r))
  rw [Finset.mul_sum]
  refine Finset.sum_congr rfl fun j _ => ?_
  rw [mul_ite, mul_zero, mul_left_comm]
  have e : Real.rpow 2 (mx - r) * Real.rpow 2 (x j - mx) = Real.rpow 2 (x j - r) :=
    (Real.rpow_add (by norm_num) _ _).symm.trans (congrArg (Real.rpow 2) (by ring))
  rw [e]

/-- The first block: nothing yet. -/
theorem sum_shift_first (n : Fin 16) (hn : n.val = 0) (B : Nat) (h2 : B ≤ 512 * n.val + 512) (x w : Fin 8192 → ℝ) (r : ℝ) :
    0 * 0 + (∑ a : Fin 512, if 512 * n.val + a.val < B then w (row n a) * Real.rpow 2 (x (row n a) - r) else 0)
      = ∑ j : Fin 8192, if j.val < B then w j * Real.rpow 2 (x j - r) else 0 := by
  refine Eq.trans (congrArg (· + _) ?_) (sum_below n B (by omega) h2 fun j => w j * Real.rpow 2 (x j - r))
  rw [zero_mul]
  exact (Finset.sum_eq_zero fun j _ => if_neg (by omega)).symm

theorem start_up : (start (F := Ideal)).m = (fun i => ⊥) ∧ (start (F := Ideal)).l = up2 (fun _ _ => 0)
    ∧ (start (F := Ideal)).acc = up2 (fun _ _ => 0) := by
  refine ⟨funext fun j => ?_, funext fun j => ?_, funext fun j => ?_⟩
  · idx_vars j
    show k0_pay49 (F := Ideal) (ix2 j0 j1) = _
    pointwise [k0_pay49]
    rfl
  · idx_vars j
    show k0_pay50 (F := Ideal) (ix2 j0 j1) = _
    pointwise [k0_pay50]
    rfl
  · idx_vars j
    show k0_pay51 (F := Ideal) (ix2 j0 j1) = _
    pointwise [k0_pay51]
    rfl

theorem upd_m (s : S512x512.Idx → Elt Ideal .f32) (w : S512x128.Idx → Elt Ideal .bf16) (A : Sums Ideal) : (upd s w A).m = k0_pay6 s A.m := by
  funext i
  idx_vars i
  show k0_pay12 (F := Ideal) (k0_pay6 s A.m) (ix2 i0 i1) = _
  pointwise [k0_pay12]
theorem upd_l (s : S512x512.Idx → Elt Ideal .f32) (w : S512x128.Idx → Elt Ideal .bf16) (A : Sums Ideal) :
    (upd s w A).l = k0_pay9 s A.m A.l := rfl
theorem upd_acc (s : S512x512.Idx → Elt Ideal .f32) (w : S512x128.Idx → Elt Ideal .bf16) (A : Sums Ideal) :
    (upd s w A).acc = k0_pay11 (k0_pay8 s A.m) (k0_pay10 s A.m A.acc) w := rfl
theorem sumsN_succ (Q : S512x256.Idx → Elt Ideal .bf16) (K : S8192x256.Idx → Elt Ideal .bf16) (V : S8192x128.Idx → Elt Ideal .bf16) (n : Nat) :
    sumsN Q K V (n + 1) = upd (scoreAt Q K (blk n)) (rO (blk n) V) (sumsN Q K V n) := rfl

/-- A sum with every weight one. -/
theorem sum_one {ι : Type*} [Fintype ι] (P : ι → Prop) [DecidablePred P] (f : ι → ℝ) :
    (∑ j, if P j then f j else 0) = ∑ j, if P j then 1 * f j else 0 := by
  simp only [one_mul]

theorem sum_tp (B : Fin 512 → Nat) (n : Fin 16) (s : Fin 512 → Fin 512 → ℝ) (r : Fin 512 → ℝ) (w : Fin 512 → ℝ) (b : Fin 512) :
    ∑ a, w a * tp (fun a b => 512 * n.val + a.val < B b) s r a b
      = ∑ a : Fin 512, if 512 * n.val + a.val < B b then w a * Real.rpow 2 (s a b - r b) else 0 := by
  refine Finset.sum_congr rfl fun a _ => ?_
  unfold tp
  rw [mul_ite, mul_zero]

theorem sum_tp_one (B : Fin 512 → Nat) (n : Fin 16) (s : Fin 512 → Fin 512 → ℝ) (r : Fin 512 → ℝ) (b : Fin 512) :
    ∑ a, tp (fun a b => 512 * n.val + a.val < B b) s r a b
      = ∑ a : Fin 512, if 512 * n.val + a.val < B b then 1 * Real.rpow 2 (s a b - r b) else 0 := by
  rw [← sum_tp B n s r (fun _ => 1) b]
  simp only [one_mul]

/-- One more block, as far as key `B b` of query `b`. -/
theorem upd_up (n : Fin 16) (B : Fin 512 → Nat) (hB : ∀ b, 512 * n.val < B b ∧ B b ≤ 512 * n.val + 512)
    (A : Sums Ideal) (hA : (n.val = 0 ∧ A = start) ∨ Upto q k v (fun _ => 512 * n.val) A) :
    Upto q k v B (upd (maskedUp (fun a b => 512 * n.val + a.val < B b) fun a b => sc q k b (row n a)) (up2 fun a e => v (row n a) e) A) := by
  have hM : ∀ b, ∃ a : Fin 512, 512 * n.val + a.val < B b := fun b => ⟨0, (hB b).1⟩
  rcases hA with ⟨hn, rfl⟩ | ⟨mx, hm, hl, hx⟩
  · obtain ⟨hm, hl, hx⟩ := start_up
    obtain ⟨r, hr⟩ := tile_max (fun a b => 512 * n.val + a.val < B b) (fun a b => sc q k b (row n a)) (fun _ => ⊥) hM (fun _ => bot_ne_top)
    rw [← hm] at hr
    have hc : ∀ b, Ideal.exp2 (⊥ - (r b : EReal)) = ((0 : ℝ) : EReal) := fun b => (congrArg Ideal.exp2 (EReal.bot_sub _)).trans Ideal.exp2_bot
    refine ⟨r, (upd_m _ _ _).trans hr, ?_, ?_⟩
    · rw [upd_l, hl, tile_l _ _ (fun _ => ⊥) r (fun _ => 0) (fun _ => 0) _ hm hr hc]
      funext i
      idx_vars i
      refine congrArg Real.toEReal ?_
      show 0 * 0 + ∑ a, tp (fun a b => 512 * n.val + a.val < B b) (fun a b => sc q k b (row n a)) r a i1 = _
      rw [sum_tp_one]
      exact (sum_shift_first n hn (B i1) (hB _).2 (sc q k i1) (fun _ => 1) (r i1)).trans (sum_one _ _).symm
    · rw [upd_acc, hx, tile_acc _ _ (fun _ => ⊥) r (fun _ => 0) (fun _ _ => 0) _ _ hm hr hc]
      funext i
      idx_vars i
      refine congrArg Real.toEReal ?_
      show 0 * 0 + ∑ a, v (row n a) i0 * tp (fun a b => 512 * n.val + a.val < B b) (fun a b => sc q k b (row n a)) r a i1 = _
      rw [sum_tp B n _ r (fun a => v (row n a) i0) i1]
      exact sum_shift_first n hn (B i1) (hB _).2 (sc q k i1) (fun j => v j i0) (r i1)
  · obtain ⟨r, hr⟩ := tile_max (fun a b => 512 * n.val + a.val < B b) (fun a b => sc q k b (row n a)) (fun b => (mx b : EReal)) hM (fun _ => EReal.coe_ne_top _)
    have hm' : A.m = fun i => ((mx (i 1) : ℝ) : EReal) := hm
    rw [← hm'] at hr
    have hc : ∀ b, Ideal.exp2 ((mx b : EReal) - (r b : EReal)) = ((Real.rpow 2 (mx b - r b) : ℝ) : EReal) := fun b =>
      (congrArg Ideal.exp2 (EReal.coe_sub _ _).symm).trans (Ideal.exp2_coe _)
    refine ⟨r, (upd_m _ _ _).trans hr, ?_, ?_⟩
    · rw [upd_l, hl, tile_l _ _ (fun b => (mx b : EReal)) r _ _ _ hm' hr hc]
      funext i
      idx_vars i
      refine congrArg Real.toEReal ?_
      refine Eq.trans ?_ ((sum_shift n (B i1) (hB _).1.le (hB _).2 (sc q k i1) (fun _ => 1) (mx i1) (r i1)).trans (sum_one _ _).symm)
      exact congrArg₂ (fun x y : ℝ => Real.rpow 2 (mx i1 - r i1) * x + y) (sum_one (fun j : Fin 8192 => j.val < 512 * n.val) _)
        (sum_tp_one B n (fun a b => sc q k b (row n a)) r i1)
    · rw [upd_acc, hx, tile_acc _ _ (fun b => (mx b : EReal)) r _ _ _ _ hm' hr hc]
      funext i
      idx_vars i
      refine congrArg Real.toEReal ?_
      refine Eq.trans ?_ (sum_shift n (B i1) (hB _).1.le (hB _).2 (sc q k i1) (fun j => v j i0) (mx i1) (r i1))
      exact congrArg (fun y : ℝ => Real.rpow 2 (mx i1 - r i1) * _ + y)
        (sum_tp B n (fun a b => sc q k b (row n a)) r (fun a => v (row n a) i0) i1)

theorem scoreAt_up (n : Fin 16) : scoreAt (F := Ideal) (up2 q) (up2 k) n = up2 fun a b => sc q k b (row n a) := by
  unfold scoreAt
  rw [rQ_up]
  exact tile_score q _

/-- The sums after `n` blocks, none of them masked. -/
theorem sumsN_up : ∀ n, n ≤ 15 → (n = 0 ∧ sumsN (F := Ideal) (up2 q) (up2 k) (up2 v) n = start)
    ∨ Upto q k v (fun _ => 512 * n) (sumsN (F := Ideal) (up2 q) (up2 k) (up2 v) n)
  | 0, _ => Or.inl ⟨rfl, rfl⟩
  | n + 1, h => by
    have ih := sumsN_up n (by omega)
    have hb : (blk n).val = n := Nat.min_eq_left (by omega)
    refine Or.inr ?_
    rw [sumsN_succ]
    have hu := upd_up q k v (blk n) (fun _ => 512 * (n + 1)) (fun b => by rw [hb]; omega) (sumsN (up2 q) (up2 k) (up2 v) n) (by rw [hb]; exact ih)
    rw [scoreAt_up, rO_up]
    refine Eq.mp (congrArg (fun t => Upto q k v _ (upd t _ _)) (funext fun i => ?_)) hu
    have hi : (i 0).val < 512 := (i 0).isLt
    exact if_pos (show 512 * (blk n).val + (i 0).val < 512 * (n + 1) by rw [hb]; omega)

/-- And after the masked one. -/
theorem sumsLast_up (n : Fin 16) : Upto q k v (fun b => 512 * n.val + b.val + 1) (sumsLast (F := Ideal) (up2 q) (up2 k) (up2 v) n.val) := by
  have hb : blk n.val = n := Fin.ext (Nat.min_eq_left (by omega))
  have hu := upd_up q k v n (fun b => 512 * n.val + b.val + 1) (fun b => by omega) _ (sumsN_up q k v n.val (by omega))
  unfold sumsLast
  rw [hb, scoreAt_up, rO_up, tile_masked]
  refine Eq.mp (congrArg (fun t => Upto q k v _ (upd t _ _)) (funext fun i => ?_)) hu
  exact if_congr (by show 512 * n.val + (i 0).val < 512 * n.val + (i 1).val + 1 ↔ (i 0).val ≤ (i 1).val; omega) rfl rfl

/-! ## The two results -/

variable (x : Fin 512 → Fin 8192 → ℝ)

/-- The base-2 exponentials of scores over `log 2` are exponentials of the scores. -/
theorem rpow_expo (hx : ∀ b r, sc q k b r = x b r / Real.log 2) (n : Fin 16) (b : Fin 512) (mx : ℝ) (r : Fin 8192) :
    (if r.val < 512 * n.val + b.val + 1 then Real.rpow 2 (sc q k b r - mx) else 0) = expo (x b) (row n b) (mx * Real.log 2) r := by
  have h2 : Real.log 2 ≠ 0 := ln2_pos.ne'
  refine if_congr (by show _ ↔ r.val ≤ n.val * 512 + b.val; omega) ?_ rfl
  rw [hx]
  refine (Real.rpow_def_of_pos (by norm_num) _).trans (congrArg Real.exp ?_)
  field_simp

theorem outO_up (hx : ∀ b r, sc q k b r = x b r / Real.log 2) (n : Fin 16) : outO (F := Ideal) (up2 q) (up2 k) (up2 v) n.val
    = up2 fun b e => ∑ r, v r e * soft (x b) (row n b) r := by
  obtain ⟨mx, -, hl, ha⟩ := sumsLast_up q k v n
  unfold outO
  rw [hl, ha]
  funext j
  idx_vars j
  pointwise [k0_pay3]
  have el : (∑ r : Fin 8192, if r.val < 512 * n.val + j0.val + 1 then Real.rpow 2 (sc q k j0 r - mx j0) else 0)
      = ∑ r, expo (x j0) (row n j0) (mx j0 * Real.log 2) r := Finset.sum_congr rfl fun r _ => rpow_expo q k x hx n j0 (mx j0) r
  have hp := sum_expo_pos (x j0) (row n j0) (mx j0 * Real.log 2)
  have e0 : (rowsOf (s := S8x512) ![0, 0] S1x512.size inb_S8x512_S1x512_0_0
      (up2 fun _ b => ∑ r : Fin 8192, if r.val < 512 * n.val + b.val + 1 then Real.rpow 2 (sc q k b r - mx b) else 0)) (ix2 0 j0)
      = ((∑ r, expo (x j0) (row n j0) (mx j0 * Real.log 2) r : ℝ) : EReal) := by
    rw [← el]
    have hj : (Rect.unit (s := S8x512) ![0, 0] S1x512.size inb_S8x512_S1x512_0_0).emb (ix2 0 j0) 1 = j0 :=
      Fin.ext (by show 0 + 1 * j0.val = j0.val; omega)
    show ((∑ r : Fin 8192, if r.val < 512 * n.val + ((Rect.unit (s := S8x512) ![0, 0] S1x512.size inb_S8x512_S1x512_0_0).emb (ix2 0 j0) 1).val + 1
      then Real.rpow 2 (sc q k ((Rect.unit (s := S8x512) ![0, 0] S1x512.size inb_S8x512_S1x512_0_0).emb (ix2 0 j0) 1) r
        - mx ((Rect.unit (s := S8x512) ![0, 0] S1x512.size inb_S8x512_S1x512_0_0).emb (ix2 0 j0) 1)) else 0 : ℝ) : EReal) = _
    rw [hj]
  refine (congrArg (Ideal.div _) e0).trans ((div_real hp.ne').trans (congrArg Real.toEReal ?_))
  rw [Finset.sum_div]
  refine Finset.sum_congr rfl fun r _ => ?_
  show (if r.val < 512 * n.val + j0.val + 1 then v r j1 * Real.rpow 2 (sc q k j0 r - mx j0) else 0) / _ = v r j1 * soft (x j0) (row n j0) r
  rw [← soft_eq (x j0) (row n j0) (mx j0 * Real.log 2) r, ← rpow_expo q k x hx n j0 (mx j0) r, ← mul_div_assoc, mul_ite, mul_zero]

theorem outL_up (hx : ∀ b r, sc q k b r = x b r / Real.log 2) (n : Fin 16) : outL (F := Ideal) (up2 q) (up2 k) (up2 v) n.val
    = up2 fun _ b => Real.log (∑ r, expo (x b) (row n b) 0 r) / Real.log 2 := by
  obtain ⟨mx, hm, hl, -⟩ := sumsLast_up q k v n
  unfold outL
  rw [hl, hm]
  funext j
  idx_vars j
  pointwise [k0_pay4]
  have el : (∑ r : Fin 8192, if r.val < 512 * n.val + j1.val + 1 then Real.rpow 2 (sc q k j1 r - mx j1) else 0)
      = (∑ r, expo (x j1) (row n j1) 0 r) * Real.exp (-(mx j1 * Real.log 2)) := by
    rw [Finset.sum_mul]
    exact Finset.sum_congr rfl fun r _ => (rpow_expo q k x hx n j1 (mx j1) r).trans (expo_shift _ _ _ r)
  have hp := sum_expo_pos (x j1) (row n j1) 0
  have e : Ideal.log ((∑ r : Fin 8192, if r.val < 512 * n.val + j1.val + 1 then Real.rpow 2 (sc q k j1 r - mx j1) else 0 : ℝ) : EReal)
      = ((Real.log (∑ r, expo (x j1) (row n j1) 0 r) - mx j1 * Real.log 2 : ℝ) : EReal) := by
    rw [el]
    refine (if_neg (not_le.mpr (mul_pos hp (Real.exp_pos _)))).trans (congrArg Real.toEReal ?_)
    rw [Real.log_mul hp.ne' (Real.exp_pos _).ne', Real.log_exp]
    ring
  refine (congrArg (fun z : EReal => ((mx j1 : ℝ) : EReal) + z * _) e).trans ?_
  refine ((congrArg (((mx j1 : ℝ) : EReal) + ·) (EReal.coe_mul _ _).symm).trans (EReal.coe_add _ _).symm).trans (congrArg Real.toEReal ?_)
  have h2 : Real.log 2 ≠ 0 := ln2_pos.ne'
  show mx j1 + _ * (Real.log 2)⁻¹ = Real.log (∑ r, expo (x j1) (row n j1) 0 r) / Real.log 2
  field_simp
  ring

end point

end Cert.Proof.Fwd

end
-- ==== Proof.FwdTail.lean ====
module

public import proofs.«01_k».proof.Proof.FlashAcc
public import proofs.«01_k».proof.Proof.FlashTail
public import proofs.«01_k».proof.Proof.FwdBlocks
public import proofs.«01_k».proof.Proof.FwdRun
public import proofs.«01_k».proof.Proof.FwdRef

/-! The arrays the host hands the attention's forward call, the two it leaves, and the host's operation after it. -/

@[expose] public section

set_option maxRecDepth 16384

noncomputable section

namespace Cert.Proof.Fwd

open Cert.Kernel2Ideal Cert.Kernel2Ideal.Gen
open Cert.Proof.Flash (up2 up3 padded scaledQ beside128 beside128_col wide wide_score padded_col col256 col128 row head8 hPad hScaled
  hHeads hPad_up hScaled_up hHeads_up tSplit tSplit_up score prob soft)
open Idealize.ShloMosaic Idealize.ShloMosaic.TcCoe Idealize.ShloMosaic.Pipeline Idealize.ShloMosaic.StableHlo

variable (m : (ℓ : Loc nD τ sig) → Buf (Elt Ideal) ℓ) (c : Dev nD)

/-- The call's operands, read through the host's operations. -/
theorem operands : (V m c main_v6 = hPad (hScaled (m (c, Proc.tc.devRef main_arg0))))
    ∧ (V m c main_v9 = hPad (m (c, Proc.tc.devRef main_arg1)))
    ∧ (V m c main_v11 = hHeads (m (c, Proc.tc.devRef main_arg2))) := by
  refine ⟨?_, ?_, ?_⟩ <;>
  · show StableHlo.after _ _ _ = _
    simp only [hostOps0, hostOps0_1, hostOps0_2, hostOps0_3, hostOps0_4, List.flatten_cons, List.flatten_nil, List.append_nil,
      List.cons_append, List.nil_append, TRef.nullary, TRef.ternary, TRef.unary, TRef.binary, TRef.toBuf, TRef.ofBuf, cast_eq]
    after_results_simp
    rfl

/-- The host's operation after the call. -/
theorem tail : Pipeline.afterTail₀ cfgs (dats m) 0 (V0 m) [hostOps1] c main_v13 = tSplit ((dats m 0 c).arrAt 3 cfg0.N) := by
  unfold Pipeline.afterTail₀
  simp only [hostOps1, List.flatten_cons, List.flatten_nil, List.append_nil, List.cons_append, List.nil_append]
  after_results_simp
  exact congrArg tSplit (withArrays_arr spec0 (by decide) c _ (fun w => (dats m 0 c).arrAt w cfg0.N) 3)

theorem pos_lt (t : Fin cfg0.N) : t.val < 64 := lt_of_lt_of_eq t.isLt N_0

/-- The head of a position, and its block of queries. -/
def headAt (t : Fin cfg0.N) : Fin 4 := ⟨t.val / 16, by have := pos_lt t; omega⟩
def blockAt (t : Fin cfg0.N) : Fin 16 := ⟨t.val % 16, Nat.mod_lt _ (by norm_num)⟩
/-- Row `b` of head `h`, heads eight rows apart. -/
def row8 (h : Fin 4) (b : Fin 8) : Fin 32 := ⟨h.val * 8 + b.val, by omega⟩
theorem row8_head (h : Fin 4) (b : Fin 8) : head8 (row8 h b) = h := Fin.ext (by
  show (h.val * 8 + b.val) / 8 = h.val; omega)

theorem index_t : ∀ t : Fin cfg0.N, win0_0.index t = ![t.val % 16, t.val / 16] ∧ win0_1.index t = ![0, t.val / 16]
    ∧ win0_2.index t = ![0, t.val / 16] ∧ win0_3.index t = ![t.val % 16, t.val / 16] ∧ win0_4.index t = ![t.val / 16, t.val % 16] :=
  (by decide +kernel : ∀ t : Fin grid0.N, _)

section arrays
variable (Q K : Fin 8192 → Fin 4 → Fin 192 → ℝ) (X : Fin 8192 → Fin 4 → Fin 128 → ℝ)
  (hm0 : m (c, Proc.tc.devRef main_arg0) = up3 Q) (hm1 : m (c, Proc.tc.devRef main_arg1) = up3 K)
  (hm2 : m (c, Proc.tc.devRef main_arg2) = up3 X)

include hm0 in
theorem block_q (t : Fin cfg0.N) : iblk m c 0 t = up2 fun b d => wide (scaledQ Q) (headAt t) (row (blockAt t) b) d := by
  have e6 : V m c main_v6 = up2 (padded (scaledQ Q)) :=
    (operands m c).1.trans ((congrArg (fun x => hPad (hScaled x)) hm0).trans ((congrArg hPad (hScaled_up Q)).trans (hPad_up _)))
  funext y
  have e : (win0_0.blk t).view.emb y = ix2 (row (blockAt t) (y 0)) (col256 (headAt t) (y 1)) := by
    blk_ext [(index_t t).1, row, col256, headAt, blockAt]
  blk_simp [iblk]
  rw [e6, e]
  exact congrArg Real.toEReal (padded_col _ _ _ _)

include hm1 in
theorem block_k (t : Fin cfg0.N) : iblk m c 1 t = up2 (wide K (headAt t)) := by
  have e9 : V m c main_v9 = up2 (padded K) := (operands m c).2.1.trans ((congrArg hPad hm1).trans (hPad_up K))
  funext y
  have e : (win0_1.blk t).view.emb y = ix2 (y 0) (col256 (headAt t) (y 1)) := by
    blk_ext [(index_t t).2.1, col256, headAt]
  blk_simp [iblk]
  rw [e9, e]
  exact congrArg Real.toEReal (padded_col _ _ _ _)

include hm2 in
theorem block_v (t : Fin cfg0.N) : iblk m c 2 t = up2 fun r e => X r (headAt t) e := by
  have e11 : V m c main_v11 = up2 (beside128 X) := (operands m c).2.2.trans ((congrArg hHeads hm2).trans (hHeads_up X))
  funext y
  have e : (win0_2.blk t).view.emb y = ix2 (y 0) (col128 (headAt t) (y 1)) := by
    blk_ext [(index_t t).2.2.1, col128, headAt]
  blk_simp [iblk]
  rw [e11, e]
  exact congrArg Real.toEReal (beside128_col X _ _ _)

theorem point_score (t : Fin cfg0.N) (b : Fin 512) (r : Fin 8192) :
    sc (fun b d => wide (scaledQ Q) (headAt t) (row (blockAt t) b) d) (wide K (headAt t)) b r
      = (fun b => score Q K (headAt t) (row (blockAt t) b)) b r / Real.log 2 :=
  wide_score Q K (headAt t) (row (blockAt t) b) r

theorem nOf_at (t : Fin cfg0.N) : nOf (grid0.coords t) = (blockAt t).val := step_val t

include hm0 hm1 hm2

theorem arr_o : (dats m 0 c).arrAt 3 cfg0.N = up2 (beside128 (outputOf Q K X)) := by
  refine (dats m 0 c).arrAt_eq_of_covers 3 _ (by decide +kernel) fun t hf y => ?_
  blk_simp
  have e : (win0_3.blk t).view.emb y = ix2 (row (blockAt t) (y 0)) (col128 (headAt t) (y 1)) := by
    blk_ext [(index_t t).2.2.2.1, row, blockAt, col128, headAt]
  rw [dats_o, nOf_at, block_q m c Q hm0, block_k m c K hm1, block_v m c X hm2,
    outO_up _ _ _ (fun b => score Q K (headAt t) (row (blockAt t) b)) (point_score Q K t) (blockAt t), e]
  exact congrArg Real.toEReal (beside128_col (outputOf Q K X) _ _ _).symm

theorem arr_l : (dats m 0 c).arrAt 4 cfg0.N = up2 fun r q => logSum Q K (head8 r) q := by
  refine (dats m 0 c).arrAt_eq_of_covers 4 _ (by decide +kernel) fun t hf y => ?_
  blk_simp
  have e : (win0_4.blk t).view.emb y = ix2 (row8 (headAt t) (y 0)) (row (blockAt t) (y 1)) := by
    blk_ext [(index_t t).2.2.2.2, row, blockAt, row8, headAt]
  rw [dats_l, nOf_at, block_q m c Q hm0, block_k m c K hm1, block_v m c X hm2,
    outL_up _ _ _ (fun b => score Q K (headAt t) (row (blockAt t) b)) (point_score Q K t) (blockAt t), e]
  exact congrArg Real.toEReal (congrArg (fun h => logSum Q K h (row (blockAt t) (y 1))) (row8_head (headAt t) (y 0)).symm)

/-- The output. -/
theorem result_o : Pipeline.afterTail₀ cfgs (dats m) 0 (V0 m) [hostOps1] c main_v13 = up3 (outputOf Q K X) := by
  rw [tail m c, arr_o m c Q K X hm0 hm1 hm2]
  exact tSplit_up _

end arrays

end Cert.Proof.Fwd

end
-- ==== Proof.FwdFinite.lean ====
module

public import proofs.«01_k».proof.Proof.FlashFinite
public import proofs.«01_k».proof.Proof.Gen.Pre_finite3

/-! The forward call's precondition: every element of every argument is a real number. -/

@[expose] public section

set_option maxRecDepth 16384

noncomputable section

namespace Cert.Proof.Fwd

open Cert.Pre_finite3 Cert.Pre_finite3.Facts Idealize.ShloMosaic
open Cert.Proof.Flash (up3 reals_of_test)

instance : Subsingleton S_.Idx := ⟨fun i j => funext fun a => a.elim0⟩

/-- Three bits put beside each other are read back at their places. -/
theorem beside_bits (b0 b1 b2 : IVec S_ 1) (f : S_.BroadcastsInDim S1 (![] : Fin 0 → Fin S1.rank))
    (g : Shape.Concatenates [S1, S1, S1] S3 0)
    (e : ∀ i, concatenate S3 0 [⟨S1, broadcastInDim S1 ![] f b0⟩, ⟨S1, broadcastInDim S1 ![] f b1⟩,
      ⟨S1, broadcastInDim S1 ![] f b2⟩] g i = 1#1) : b0 ix0 = 1#1 ∧ b1 ix0 = 1#1 ∧ b2 ix0 = 1#1 := by
  have e0 := e (ix1 0)
  have e1 := e (ix1 1)
  have e2 := e (ix1 2)
  pointwise at e0 e1 e2
  exact ⟨e0, e1, e2⟩

/-- Where the precondition is one, every argument is an array of reals. -/
theorem reals (a0 a1 : FVec Ideal S8192x4x192 .f32) (a2 : FVec Ideal S8192x4x128 .f32)
    (h : fn (F := Ideal) a0 a1 a2 = fun _ => 1#1) :
    ∃ (Q K : Fin 8192 → Fin 4 → Fin 192 → ℝ) (V : Fin 8192 → Fin 4 → Fin 128 → ℝ), a0 = up3 Q ∧ a1 = up3 K ∧ a2 = up3 V := by
  have h0 := congrFun h ix0
  unfold fn at h0
  dsimp only at h0
  obtain ⟨t0, t1, t2⟩ := beside_bits _ _ _ _ _ (Host.reduce_andi_all _ _ _ _ _ h0)
  obtain ⟨Q, hQ⟩ := reals_of_test a0 _ (fun _ => rfl) (Host.reduce_andi_all _ _ _ _ _ t0)
  obtain ⟨K, hK⟩ := reals_of_test a1 _ (fun _ => rfl) (Host.reduce_andi_all _ _ _ _ _ t1)
  obtain ⟨V, hV⟩ := reals_of_test a2 _ (fun _ => rfl) (Host.reduce_andi_all _ _ _ _ _ t2)
  exact ⟨Q, K, V, hQ, hK, hV⟩

end Cert.Proof.Fwd

end
-- ==== Proof.MidModel.lean ====
module

public import proofs.«01_k».proof.Proof.FlashModel
public import proofs.«01_k».proof.Proof.Gen.Kernel3Ideal.Skeleton

/-! What one grid point of the layer's middle computes, written without memory: the blocks it reads, the
    values it passes on, the six blocks it leaves and its addends to the eight running sums. -/

@[expose] public section

set_option maxRecDepth 16384

noncomputable section

namespace Cert.Proof.Mid

open Cert.Kernel3Ideal Cert.Kernel3Ideal.Gen
open Cert.Proof.Flash (rowsOf putOf rowsOf_putOf_ne)
open Idealize.ShloMosaic Idealize.ShloMosaic.TcCoe Idealize.ShloMosaic.Tactic

variable {F : FTy → Type} [FloatOps F]

/-- The blocks a grid point reads, and its position: the attention's output and its gate, the convolution's
    factors and gates, the factors' eight rows before, the residual, the features, the target, the three weights
    and the four vectors. -/
structure Blocks (F : FTy → Type) [FloatOps F] where
  pos : BitVec 32
  o : S256x512.Idx → Elt F .f32
  za : S256x512.Idx → Elt F .f32
  ccx : S256x1024.Idx → Elt F .f32
  cbzc : S256x1024.Idx → Elt F .f32
  prev : S8x1024.Idx → Elt F .f32
  x : S256x1024.Idx → Elt F .f32
  p : S256x256.Idx → Elt F .f32
  t : S256x1024.Idx → Elt F .f32
  wo : S1024x1024.Idx → Elt F .bf16
  wg : S1024x1024.Idx → Elt F .bf16
  wp : S256x1024.Idx → Elt F .bf16
  cw : S8x512.Idx → Elt F .f32
  ga : S1x512.Idx → Elt F .f32
  gc : S1x512.Idx → Elt F .f32
  gp : S1x1024.Idx → Elt F .f32

section Values
variable (X : Blocks F)

/-! The values passed on, under the names they are printed with. -/

def v5 : FVec F S256x512 .f32 := k0_pay11 X.za
def v7 : FVec F S256x512 .f32 := k0_pay12 (rowsOf (s := S256x1024) ![0, 0] S256x512.size inb_S256x1024_S256x512_0_0 X.ccx)
def v9 : FVec F S256x512 .f32 := k0_pay13 (rowsOf (s := S256x1024) ![0, 512] S256x512.size inb_S256x1024_S256x512_0_512 X.ccx)
def v11 : FVec F S256x512 .f32 := k0_pay14 (rowsOf (s := S256x1024) ![0, 0] S256x512.size inb_S256x1024_S256x512_0_0 X.cbzc)
def v13 : FVec F S256x512 .f32 := k0_pay15 (rowsOf (s := S256x1024) ![0, 512] S256x512.size inb_S256x1024_S256x512_0_512 X.cbzc)
def v18 : FVec F S1x512 .f32 := k0_pay16 (rowsOf (s := S8x512) ![0, 0] S1x512.size inb_S8x512_S1x512_0_0 X.cw)
def v20 : FVec F S1x512 .f32 := k0_pay17 (rowsOf (s := S8x512) ![1, 0] S1x512.size inb_S8x512_S1x512_1_0 X.cw)
def v22 : FVec F S1x512 .f32 := k0_pay18 (rowsOf (s := S8x512) ![2, 0] S1x512.size inb_S8x512_S1x512_2_0 X.cw)
def v24 : FVec F S256x256 .bf16 := k0_pay19 X.p
def v26 : FVec F S256x1024 .bf16 := k0_pay20 X.wp
def v27 : FVec F S256x1024 .f32 := k0_pay21 (v24 X) (v26 X) (constant S256x1024 .f32 0x00000000#32)
def v28 : FVec F S256x512 .f32 := k0_pay22 (v5 X)
def v29 : FVec F S256x512 .f32 := k0_pay23 (v5 X)
def v38 : FVec F S256x1 .f32 := k0_pay25 X.o (v5 X)
def v40 : FVec F S256x512 .f32 := k0_pay26 X.o (v5 X)
def v43 : FVec F S256x512 .bf16 := k0_pay27 X.o (v5 X) X.ga
def v48 : FVec F S256x1024 .f32 := k0_pay28 X.o (v5 X) X.ga X.x (rowsOf (s := S1024x1024) ![0, 0] S512x1024.size inb_S1024x1024_S512x1024_0_0 X.wo)
def v49 : FVec F S256x512 .f32 := k0_pay29 (v7 X) (v9 X)
def v66 : FVec F S256x512 .f32 := k0_pay31 X.pos (v7 X) (v9 X) (rowsOf (s := S8x1024) ![0, 0] S8x512.size inb_S8x1024_S8x512_0_0 X.prev) (rowsOf (s := S8x1024) ![0, 512] S8x512.size inb_S8x1024_S8x512_0_512 X.prev)
def v69 : FVec F S256x512 .f32 := k0_pay32 X.pos (rowsOf (s := S8x1024) ![0, 0] S8x512.size inb_S8x1024_S8x512_0_0 X.prev) (rowsOf (s := S8x1024) ![0, 512] S8x512.size inb_S8x1024_S8x512_0_512 X.prev)
def v73 : FVec F S256x512 .f32 := k0_pay33 (v49 X) (iota .tc S256x512 32 [0] iota_S256x512_d0_w32) (v69 X)
def v81 : FVec F S256x512 .f32 := k0_pay34 (v18 X) (v20 X) (v22 X) (v49 X) (v66 X) (iota .tc S256x512 32 [0] iota_S256x512_d0_w32) (v69 X)
def v82 : FVec F S256x512 .f32 := k0_pay35 (v13 X)
def v83 : FVec F S256x512 .f32 := k0_pay36 (v13 X)
def v93 : FVec F S256x1 .f32 := k0_pay38 (v11 X) (v13 X) (v18 X) (v20 X) (v22 X) (v49 X) (v66 X) (iota .tc S256x512 32 [0] iota_S256x512_d0_w32) (v69 X)
def v95 : FVec F S256x512 .f32 := k0_pay39 (v11 X) (v13 X) (v18 X) (v20 X) (v22 X) (v49 X) (v66 X) (iota .tc S256x512 32 [0] iota_S256x512_d0_w32) (v69 X)
def v99 : FVec F S256x1024 .bf16 := k0_pay41 (v11 X) (v13 X) X.gc (v18 X) (v20 X) (v22 X) (v43 X) (v49 X) (v66 X) (iota .tc S256x512 32 [0] iota_S256x512_d0_w32) (v69 X)
def v103 : FVec F S256x1024 .f32 := k0_pay42 (v11 X) (v13 X) X.gc (v18 X) (v20 X) (v22 X) (v48 X) (v49 X) (v66 X) (iota .tc S256x512 32 [0] iota_S256x512_d0_w32) (v69 X) (rowsOf (s := S1024x1024) ![512, 0] S512x1024.size inb_S1024x1024_S512x1024_512_0 X.wo)
def v111 : FVec F S256x1 .f32 := k0_pay43 (v11 X) (v13 X) X.gc (v18 X) (v20 X) (v22 X) (v48 X) (v49 X) (v66 X) (iota .tc S256x512 32 [0] iota_S256x512_d0_w32) (v69 X) (rowsOf (s := S1024x1024) ![512, 0] S512x1024.size inb_S1024x1024_S512x1024_512_0 X.wo)
def v113 : FVec F S256x1024 .f32 := k0_pay44 (v11 X) (v13 X) X.gc (v18 X) (v20 X) (v22 X) (v48 X) (v49 X) (v66 X) (iota .tc S256x512 32 [0] iota_S256x512_d0_w32) (v69 X) (rowsOf (s := S1024x1024) ![512, 0] S512x1024.size inb_S1024x1024_S512x1024_512_0 X.wo)
def v116 : FVec F S256x1024 .bf16 := k0_pay45 (v11 X) (v13 X) X.gc X.gp (v18 X) (v20 X) (v22 X) (v48 X) (v49 X) (v66 X) (iota .tc S256x512 32 [0] iota_S256x512_d0_w32) (v69 X) (rowsOf (s := S1024x1024) ![512, 0] S512x1024.size inb_S1024x1024_S512x1024_512_0 X.wo)
def v138 : FVec F S256x1024 .f32 := k0_pay49 (v27 X) (v103 X) (v116 X) X.wg X.t
def v144 : FVec F S256x1024 .bf16 := k0_pay50 (v27 X) (v103 X) (v116 X) X.wg X.t
def v147 : FVec F S256x1024 .f32 := k0_pay51 (v27 X) (v103 X) (v116 X) X.wg X.t X.wg
def v184 : FVec F S256x1024 .f32 := k0_pay57 X.gp (v111 X) (v113 X) (v138 X) (v147 X) X.wo
def v217 : FVec F S256x512 .f32 := k0_pay63 X.ga (v38 X) (v40 X) (v184 X)
def v229 : FVec F S256x512 .f32 := k0_pay64 X.gc (v93 X) (v95 X) (v184 X)
def v230 : FVec F S256x512 .f32 := k0_pay65 X.ga (v29 X) (v38 X) (v40 X) (v184 X)
def v231 : FVec F S256x512 .bf16 := k0_pay66 X.ga (v29 X) (v38 X) (v40 X) (v184 X)
def v284 : FVec F S256x512 .f32 := k0_pay72 (v11 X) (v83 X) (v229 X)

/-! The blocks a grid point leaves. -/

/-- The four row blocks of an array, put one after the other. -/
def put18 {α : Type} (Y : S32x256.Idx → α) (a b c d : S8x256.Idx → α) : S32x256.Idx → α :=
  putOf (s := S32x256) ![24, 0] S8x256.size inb_S32x256_S8x256_24_0 (putOf (s := S32x256) ![16, 0] S8x256.size inb_S32x256_S8x256_16_0 (putOf (s := S32x256) ![8, 0] S8x256.size inb_S32x256_S8x256_8_0 (putOf (s := S32x256) ![0, 0] S8x256.size inb_S32x256_S8x256_0_0 Y a) b) c) d
/-- The two column blocks of an array, put one after the other. -/
def put20 {α : Type} (Y : S256x1024.Idx → α) (a b : S256x512.Idx → α) : S256x1024.Idx → α :=
  putOf (s := S256x1024) ![0, 512] S256x512.size inb_S256x1024_S256x512_0_512 (putOf (s := S256x1024) ![0, 0] S256x512.size inb_S256x1024_S256x512_0_0 Y a) b
def out_dx2 : S256x1024.Idx → Elt F .f32 :=
  k0_pay55 X.gp (v111 X) (v113 X) (v138 X) (v147 X)
def out_do : S256x512.Idx → Elt F .bf16 :=
  v231 X
def out_delta : S32x256.Idx → Elt F .f32 :=
  put18 (fun _ => (k0_pay68 X.o (v230 X)) fun a => ⟨0, by fin_cases a <;> decide⟩) (k0_pay68 X.o (v230 X)) (k0_pay69 X.o (v230 X)) (k0_pay70 X.o (v230 X)) (k0_pay71 X.o (v230 X))
def out_dza : S256x512.Idx → Elt F .bf16 :=
  k0_pay67 X.o (v5 X) (v28 X) (v217 X)
def out_dcz : S256x1024.Idx → Elt F .bf16 :=
  put20 (fun _ => (k0_pay73 (v81 X) (v83 X) (v229 X)) fun a => ⟨0, by fin_cases a <;> decide⟩) (k0_pay73 (v81 X) (v83 X) (v229 X)) (k0_pay74 (v11 X) (v13 X) (v81 X) (v82 X) (v229 X))
def out_du : S256x512.Idx → Elt F .f32 :=
  k0_pay72 (v11 X) (v83 X) (v229 X)

/-! The running sums, a grid point further; `A` is what was there. -/

def step_dwo (A : S1024x1024.Idx → Elt F .f32) : S1024x1024.Idx → Elt F .f32 :=
  k0_pay58 X.gp (v99 X) (v111 X) (v113 X) (v138 X) (v147 X) A
def step_dwg (A : S1024x1024.Idx → Elt F .f32) : S1024x1024.Idx → Elt F .f32 :=
  k0_pay53 (v116 X) (v144 X) A
def step_dwp (A : S256x1024.Idx → Elt F .f32) : S256x1024.Idx → Elt F .f32 :=
  k0_pay52 (v24 X) (v27 X) (v103 X) (v116 X) X.wg X.t A
def step_dga (A : S1x512.Idx → Elt F .f32) : S1x512.Idx → Elt F .f32 :=
  k0_pay61 (v40 X) (v184 X) A
def step_dgc (A : S1x512.Idx → Elt F .f32) : S1x512.Idx → Elt F .f32 :=
  k0_pay62 (v95 X) (v184 X) A
def step_dgp (A : S1x1024.Idx → Elt F .f32) : S1x1024.Idx → Elt F .f32 :=
  k0_pay54 (v113 X) (v147 X) A
def step_loss (A : S1x128.Idx → Elt F .f32) : S1x128.Idx → Elt F .f32 :=
  k0_pay48 (v27 X) (v103 X) (v116 X) X.wg X.t A
/-- The three rows of the convolution's filter, put one after the other. -/
def put25 {α : Type} (A : S8x512.Idx → α) (a b c : S1x512.Idx → α) : S8x512.Idx → α :=
  putOf (s := S8x512) ![2, 0] S1x512.size inb_S8x512_S1x512_2_0 (putOf (s := S8x512) ![1, 0] S1x512.size inb_S8x512_S1x512_1_0 (putOf (s := S8x512) ![0, 0] S1x512.size inb_S8x512_S1x512_0_0 A a) b) c
def step_dcw (A : S8x512.Idx → Elt F .f32) : S8x512.Idx → Elt F .f32 :=
  put25 A
    (k0_pay75 (v11 X) (v73 X) (v83 X) (v229 X) (rowsOf (s := S8x512) ![0, 0] S1x512.size inb_S8x512_S1x512_0_0 A))
    (k0_pay1 (v66 X) (v284 X) (k0_pay76 (rowsOf (s := S8x512) ![1, 0] S1x512.size inb_S8x512_S1x512_1_0 A)))
    (k0_pay2 (v49 X) (v284 X) (rowsOf (s := S8x512) ![2, 0] S1x512.size inb_S8x512_S1x512_2_0 A))

end Values

/-! What was in a block does not matter once all of it is replaced. -/

/-- Two arrays that agree outside a sub-array agree after it is replaced. -/
theorem putOf_agree {s : Shape} {α : Type} (off size : Fin s.rank → ℕ) (h : ∀ a, off a + size a ≤ s.size a) (Y Z : s.Idx → α)
    (w : Shape.Idx ⟨s.rank, size⟩ → α) (x : s.Idx) (hx : x ∉ (Rect.unit off size h).set → Y x = Z x) :
    putOf off size h Y w x = putOf off size h Z w x := by
  unfold putOf
  by_cases hm : x ∈ (Rect.unit off size h).set
  · obtain ⟨y, rfl⟩ := (Rect.unit off size h).exists_idx_of_mem hm
    exact (Rect.overlay_emb _ _ _ y).trans (Rect.overlay_emb _ _ _ y).symm
  · rw [Rect.overlay_of_not_mem _ _ _ hm, Rect.overlay_of_not_mem _ _ _ hm]
    exact hx hm

theorem put18_any {α : Type} (Y Z : S32x256.Idx → α) (a b c d : S8x256.Idx → α) : put18 Y a b c d = put18 Z a b c d := by
  funext x
  refine putOf_agree _ _ _ _ _ _ x fun h4 => putOf_agree _ _ _ _ _ _ x fun h3 => putOf_agree _ _ _ _ _ _ x fun h2 => putOf_agree _ _ _ _ _ _ x fun h1 => ?_
  rw [Rect.mem_set_unit] at h1 h2 h3 h4
  have hr : (x 0).val < 32 := (x 0).isLt
  have hc : (x 1).val < 256 := (x 1).isLt
  exfalso
  have n1 : ¬ (x 0).val < 8 := fun h => h1 fun a => by fin_cases a; exacts [⟨Nat.zero_le _, by show (x 0).val < 0 + 8; omega⟩, ⟨Nat.zero_le _, by show (x 1).val < 0 + 256; omega⟩]
  have n2 : ¬ (8 ≤ (x 0).val ∧ (x 0).val < 16) := fun h => h2 fun a => by fin_cases a; exacts [⟨h.1, by show (x 0).val < 8 + 8; omega⟩, ⟨Nat.zero_le _, by show (x 1).val < 0 + 256; omega⟩]
  have n3 : ¬ (16 ≤ (x 0).val ∧ (x 0).val < 24) := fun h => h3 fun a => by fin_cases a; exacts [⟨h.1, by show (x 0).val < 16 + 8; omega⟩, ⟨Nat.zero_le _, by show (x 1).val < 0 + 256; omega⟩]
  have n4 : ¬ 24 ≤ (x 0).val := fun h => h4 fun a => by fin_cases a; exacts [⟨h, by show (x 0).val < 24 + 8; omega⟩, ⟨Nat.zero_le _, by show (x 1).val < 0 + 256; omega⟩]
  omega

theorem put20_any {α : Type} (Y Z : S256x1024.Idx → α) (a b : S256x512.Idx → α) : put20 Y a b = put20 Z a b := by
  funext x
  refine putOf_agree _ _ _ _ _ _ x fun h2 => putOf_agree _ _ _ _ _ _ x fun h1 => ?_
  rw [Rect.mem_set_unit] at h1 h2
  have hr : (x 0).val < 256 := (x 0).isLt
  have hc : (x 1).val < 1024 := (x 1).isLt
  exfalso
  have n1 : ¬ (x 1).val < 512 := fun h => h1 fun a => by fin_cases a; exacts [⟨Nat.zero_le _, by show (x 0).val < 0 + 256; omega⟩, ⟨Nat.zero_le _, by show (x 1).val < 0 + 512; omega⟩]
  have n2 : ¬ 512 ≤ (x 1).val := fun h => h2 fun a => by fin_cases a; exacts [⟨Nat.zero_le _, by show (x 0).val < 0 + 256; omega⟩, ⟨h, by show (x 1).val < 512 + 512; omega⟩]
  omega

/-- A row of the filter is the same after another one is replaced. -/
theorem row_put (j k : ℕ) (hj hk) (hjk : j ≠ k) {α : Type} (Y : S8x512.Idx → α) (w : S1x512.Idx → α) :
    rowsOf (s := S8x512) ![j, 0] S1x512.size hj (putOf (s := S8x512) ![k, 0] S1x512.size hk Y w) = rowsOf (s := S8x512) ![j, 0] S1x512.size hj Y :=
  rowsOf_putOf_ne _ _ _ hj hk Y w 0 (by show j + 1 ≤ k ∨ k + 1 ≤ j; omega)

/-! A running sum starts at the first grid point. -/

/-- Where a grid point finds a running sum: at zero at the first point, else as it was left. -/
def start (i : grid0.Coords) {s : Shape} (z A : s.Idx → Elt F .f32) : s.Idx → Elt F .f32 := if (i 0).val = 0 then z else A

theorem cond_iff : ∀ i : grid0.Coords, Scalar.cmpi .ne (Scalar.extui (Scalar.cmpi .eq (BitVec.ofNat 32 (i 0).val) 0#32) : BitVec 32) 0#32 = 1#1 ↔ (i 0).val = 0 := by
  decide +kernel

end Cert.Proof.Mid

end
-- ==== Proof.MidBody.lean ====
module

public import proofs.«01_k».proof.Proof.MidModel
public import proofs.«01_k».proof.Proof.Gen.Kernel3Ideal.Launch
public import proofs.«01_k».proof.Proof.Gen.Kernel3Ideal.Skeleton
public import Idealize.ShloMosaic.Lib.Affine
public import Idealize.ShloMosaic.Lib.Tactic
public import Idealize.ShloMosaic.Lib.WholeRead

/-! One grid point of the layer's middle. -/

@[expose] public section

set_option maxRecDepth 16384
set_option maxHeartbeats 8000000

noncomputable section

namespace Cert.Proof.Mid

open Cert.Kernel3Ideal Cert.Kernel3Ideal.Gen
open Cert.Proof.Flash (rowsOf putOf readAt_rows readCov_rows read_writes_put read_writes_nil rowsOf_whole putOf_whole rowsOf_putOf)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Body
variable (c : Dev nD) (i : grid0.Coords)
  (arg1 : Memref sig .tc .vmem S256x512 .f32) (harg1 : arg1.IsWhole)
  (arg2 : Memref sig .tc .vmem S256x512 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S8x1024 .f32) (harg5 : arg5.IsWhole)
  (arg6 : Memref sig .tc .vmem S256x1024 .f32) (harg6 : arg6.IsWhole)
  (arg7 : Memref sig .tc .vmem S256x256 .f32) (harg7 : arg7.IsWhole)
  (arg8 : Memref sig .tc .vmem S256x1024 .f32) (harg8 : arg8.IsWhole)
  (arg9 : Memref sig .tc .vmem S1024x1024 .bf16) (harg9 : arg9.IsWhole)
  (arg10 : Memref sig .tc .vmem S1024x1024 .bf16) (harg10 : arg10.IsWhole)
  (arg11 : Memref sig .tc .vmem S256x1024 .bf16) (harg11 : arg11.IsWhole)
  (arg12 : Memref sig .tc .vmem S8x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S1x1024 .f32) (harg15 : arg15.IsWhole)
  (arg16 : Memref sig .tc .vmem S256x1024 .f32) (harg16 : arg16.IsWhole)
  (arg17 : Memref sig .tc .vmem S256x512 .bf16) (harg17 : arg17.IsWhole)
  (arg18 : Memref sig .tc .vmem S32x256 .f32) (harg18 : arg18.IsWhole)
  (arg19 : Memref sig .tc .vmem S256x512 .bf16) (harg19 : arg19.IsWhole)
  (arg20 : Memref sig .tc .vmem S256x1024 .bf16) (harg20 : arg20.IsWhole)
  (arg21 : Memref sig .tc .vmem S256x512 .f32) (harg21 : arg21.IsWhole)
  (arg22 : Memref sig .tc .vmem S1024x1024 .f32) (harg22 : arg22.IsWhole)
  (arg23 : Memref sig .tc .vmem S1024x1024 .f32) (harg23 : arg23.IsWhole)
  (arg24 : Memref sig .tc .vmem S256x1024 .f32) (harg24 : arg24.IsWhole)
  (arg25 : Memref sig .tc .vmem S8x512 .f32) (harg25 : arg25.IsWhole)
  (arg26 : Memref sig .tc .vmem S1x512 .f32) (harg26 : arg26.IsWhole)
  (arg27 : Memref sig .tc .vmem S1x512 .f32) (harg27 : arg27.IsWhole)
  (arg28 : Memref sig .tc .vmem S1x1024 .f32) (harg28 : arg28.IsWhole)
  (arg29 : Memref sig .tc .vmem S1x128 .f32) (harg29 : arg29.IsWhole)
  (X : Blocks F)
  (A22 : S1024x1024.Idx → Elt F .f32)  (A23 : S1024x1024.Idx → Elt F .f32)  (A24 : S256x1024.Idx → Elt F .f32)  (A25 : S8x512.Idx → Elt F .f32)  (A26 : S1x512.Idx → Elt F .f32)  (A27 : S1x512.Idx → Elt F .f32)  (A28 : S1x1024.Idx → Elt F .f32)  (A29 : S1x128.Idx → Elt F .f32)

/-- The blocks a grid point reads. -/
def blocks : sProp 𝕄 :=
  iprop(owns (c : Thread nD τ) arg1 fullShare X.o
    ∗ owns (c : Thread nD τ) arg2 fullShare X.za
    ∗ owns (c : Thread nD τ) arg3 fullShare X.ccx
    ∗ owns (c : Thread nD τ) arg4 fullShare X.cbzc
    ∗ owns (c : Thread nD τ) arg5 fullShare X.prev
    ∗ owns (c : Thread nD τ) arg6 fullShare X.x
    ∗ owns (c : Thread nD τ) arg7 fullShare X.p
    ∗ owns (c : Thread nD τ) arg8 fullShare X.t
    ∗ owns (c : Thread nD τ) arg9 fullShare X.wo
    ∗ owns (c : Thread nD τ) arg10 fullShare X.wg
    ∗ owns (c : Thread nD τ) arg11 fullShare X.wp
    ∗ owns (c : Thread nD τ) arg12 fullShare X.cw
    ∗ owns (c : Thread nD τ) arg13 fullShare X.ga
    ∗ owns (c : Thread nD τ) arg14 fullShare X.gc
    ∗ owns (c : Thread nD τ) arg15 fullShare X.gp)
/-- What a grid point starts from. -/
def bodyIn : sProp 𝕄 :=
  iprop(blocks c arg1 arg2 arg3 arg4 arg5 arg6 arg7 arg8 arg9 arg10 arg11 arg12 arg13 arg14 arg15 X
    ∗ (∃ Y, owns (c : Thread nD τ) arg16 fullShare Y)
    ∗ (∃ Y, owns (c : Thread nD τ) arg17 fullShare Y)
    ∗ (∃ Y, owns (c : Thread nD τ) arg18 fullShare Y)
    ∗ (∃ Y, owns (c : Thread nD τ) arg19 fullShare Y)
    ∗ (∃ Y, owns (c : Thread nD τ) arg20 fullShare Y)
    ∗ (∃ Y, owns (c : Thread nD τ) arg21 fullShare Y)
    ∗ owns (c : Thread nD τ) arg22 fullShare A22
    ∗ owns (c : Thread nD τ) arg23 fullShare A23
    ∗ owns (c : Thread nD τ) arg24 fullShare A24
    ∗ owns (c : Thread nD τ) arg25 fullShare A25
    ∗ owns (c : Thread nD τ) arg26 fullShare A26
    ∗ owns (c : Thread nD τ) arg27 fullShare A27
    ∗ owns (c : Thread nD τ) arg28 fullShare A28
    ∗ owns (c : Thread nD τ) arg29 fullShare A29)
/-- What a grid point ends with. -/
def bodyOut : sProp 𝕄 :=
  iprop(blocks c arg1 arg2 arg3 arg4 arg5 arg6 arg7 arg8 arg9 arg10 arg11 arg12 arg13 arg14 arg15 X
    ∗ owns (c : Thread nD τ) arg16 fullShare (out_dx2 X)
    ∗ owns (c : Thread nD τ) arg17 fullShare (out_do X)
    ∗ owns (c : Thread nD τ) arg18 fullShare (out_delta X)
    ∗ owns (c : Thread nD τ) arg19 fullShare (out_dza X)
    ∗ owns (c : Thread nD τ) arg20 fullShare (out_dcz X)
    ∗ owns (c : Thread nD τ) arg21 fullShare (out_du X)
    ∗ owns (c : Thread nD τ) arg22 fullShare (step_dwo X (start i k0_pay3 A22))
    ∗ owns (c : Thread nD τ) arg23 fullShare (step_dwg X (start i k0_pay4 A23))
    ∗ owns (c : Thread nD τ) arg24 fullShare (step_dwp X (start i k0_pay5 A24))
    ∗ owns (c : Thread nD τ) arg25 fullShare (step_dcw X (start i k0_pay6 A25))
    ∗ owns (c : Thread nD τ) arg26 fullShare (step_dga X (start i k0_pay7 A26))
    ∗ owns (c : Thread nD τ) arg27 fullShare (step_dgc X (start i k0_pay8 A27))
    ∗ owns (c : Thread nD τ) arg28 fullShare (step_dgp X (start i k0_pay9 A28))
    ∗ owns (c : Thread nD τ) arg29 fullShare (step_loss X (start i k0_pay10 A29)))

theorem body_point (hX : X.pos = BitVec.ofNat 32 (i 0).val) :
    bodyIn c arg1 arg2 arg3 arg4 arg5 arg6 arg7 arg8 arg9 arg10 arg11 arg12 arg13 arg14 arg15 arg16 arg17 arg18 arg19 arg20 arg21 arg22 arg23 arg24 arg25 arg26 arg27 arg28 arg29 X A22 A23 A24 A25 A26 A27 A28 A29
      ⊢ wp frame (wpE (defs₀ (F := F)) Variants.none (c : Thread nD τ) none) Set.univ
        (cc0_mid_skel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29)
        (fun _ => bodyOut c i arg1 arg2 arg3 arg4 arg5 arg6 arg7 arg8 arg9 arg10 arg11 arg12 arg13 arg14 arg15 arg16 arg17 arg18 arg19 arg20 arg21 arg22 arg23 arg24 arg25 arg26 arg27 arg28 arg29 X A22 A23 A24 A25 A26 A27 A28 A29) := by
  unfold bodyIn blocks owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩⟩, ⟨%Y16, %f16, %h16, H16⟩, ⟨%Y17, %f17, %h17, H17⟩, ⟨%Y18, %f18, %h18, H18⟩, ⟨%Y19, %f19, %h19, H19⟩, ⟨%Y20, %f20, %h20, H20⟩, ⟨%Y21, %f21, %h21, H21⟩, ⟨%f22, %h22, H22⟩, ⟨%f23, %h23, H23⟩, ⟨%f24, %h24, H24⟩, ⟨%f25, %h25, H25⟩, ⟨%f26, %h26, H26⟩, ⟨%f27, %h27, H27⟩, ⟨%f28, %h28, H28⟩, ⟨%f29, %h29, H29⟩⟩
  have hi : ∀ {s : Shape} (z A : s.Idx → Elt F .f32), start i z A = if (i 0).val = 0 then z else A := fun _ _ => rfl
  by_cases hc : (i 0).val = 0
  · have hc' := (cond_iff i).mpr hc
    simp only [hi, if_pos hc]
    sl_unfold [cc0_mid_skel]
    sl_exec
    sl_step
    unfold bodyOut blocks owns
    isplitl [H1 H2 H3 H4 H5 H6 H7 H8 H9 H10 H11 H12 H13 H14 H15]
    · isplitl [H1]; · (iexists _; isplitr; pick_goal 2; (iexact H1); ipureintro; exact h1)
      isplitl [H2]; · (iexists _; isplitr; pick_goal 2; (iexact H2); ipureintro; exact h2)
      isplitl [H3]; · (iexists _; isplitr; pick_goal 2; (iexact H3); ipureintro; exact h3)
      isplitl [H4]; · (iexists _; isplitr; pick_goal 2; (iexact H4); ipureintro; exact h4)
      isplitl [H5]; · (iexists _; isplitr; pick_goal 2; (iexact H5); ipureintro; exact h5)
      isplitl [H6]; · (iexists _; isplitr; pick_goal 2; (iexact H6); ipureintro; exact h6)
      isplitl [H7]; · (iexists _; isplitr; pick_goal 2; (iexact H7); ipureintro; exact h7)
      isplitl [H8]; · (iexists _; isplitr; pick_goal 2; (iexact H8); ipureintro; exact h8)
      isplitl [H9]; · (iexists _; isplitr; pick_goal 2; (iexact H9); ipureintro; exact h9)
      isplitl [H10]; · (iexists _; isplitr; pick_goal 2; (iexact H10); ipureintro; exact h10)
      isplitl [H11]; · (iexists _; isplitr; pick_goal 2; (iexact H11); ipureintro; exact h11)
      isplitl [H12]; · (iexists _; isplitr; pick_goal 2; (iexact H12); ipureintro; exact h12)
      isplitl [H13]; · (iexists _; isplitr; pick_goal 2; (iexact H13); ipureintro; exact h13)
      isplitl [H14]; · (iexists _; isplitr; pick_goal 2; (iexact H14); ipureintro; exact h14)
      iexists _; isplitr; pick_goal 2; · iexact H15
      ipureintro; exact h15
    isplitl [H16]
    · iexists _; isplitr; pick_goal 2
      · iexact H16
      · ipureintro; sl_unfold_run_names
        simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
        rfl
    isplitl [H17]
    · iexists _; isplitr; pick_goal 2
      · iexact H17
      · ipureintro; sl_unfold_run_names
        simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
        rfl
    isplitl [H18]
    · iexists _; isplitr; pick_goal 2
      · iexact H18
      · ipureintro; sl_unfold_run_names
        simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
        exact put18_any _ _ _ _ _ _
    isplitl [H19]
    · iexists _; isplitr; pick_goal 2
      · iexact H19
      · ipureintro; sl_unfold_run_names
        simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
        rfl
    isplitl [H20]
    · iexists _; isplitr; pick_goal 2
      · iexact H20
      · ipureintro; sl_unfold_run_names
        simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
        exact put20_any _ _ _ _
    isplitl [H21]
    · iexists _; isplitr; pick_goal 2
      · iexact H21
      · ipureintro; sl_unfold_run_names
        simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
        rfl
    isplitl [H22]
    · iexists _; isplitr; pick_goal 2
      · iexact H22
      · ipureintro; sl_unfold_run_names
        simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
        rfl
    isplitl [H23]
    · iexists _; isplitr; pick_goal 2
      · iexact H23
      · ipureintro; sl_unfold_run_names
        simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
        rfl
    isplitl [H24]
    · iexists _; isplitr; pick_goal 2
      · iexact H24
      · ipureintro; sl_unfold_run_names
        simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
        rfl
    isplitl [H25]
    · iexists _; isplitr; pick_goal 2
      · iexact H25
      · ipureintro; sl_unfold_run_names
        simp only [read_writes_put, readAt_rows, readCov_rows, read_writes_nil, rowsOf_whole, putOf_whole, row_put 1 0 _ _ (by decide), row_put 2 0 _ _ (by decide), row_put 2 1 _ _ (by decide), hi, if_pos hc, ← hX, h1, h2, h3, h4, h5, h6, h7, h8, h9, h10, h11, h12, h13, h14, h15, h22, h23, h24, h25, h26, h27, h28, h29]
        rfl
    isplitl [H26]
    · iexists _; isplitr; pick_goal 2
      · iexact H26
      · ipureintro; sl_unfold_run_names
        simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
        rfl
    isplitl [H27]
    · iexists _; isplitr; pick_goal 2
      · iexact H27
      · ipureintro; sl_unfold_run_names
        simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
        rfl
    isplitl [H28]
    · iexists _; isplitr; pick_goal 2
      · iexact H28
      · ipureintro; sl_unfold_run_names
        simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
        rfl
    iexists _; isplitr; pick_goal 2
    · iexact H29
    · ipureintro; sl_unfold_run_names
      simp only [read_writes_put, readAt_rows, readCov_rows, read_writes_nil, rowsOf_whole, putOf_whole, hi, if_pos hc, ← hX, h1, h2, h3, h4, h5, h6, h7, h8, h9, h10, h11, h12, h13, h14, h15, h22, h23, h24, h25, h26, h27, h28, h29]
      rfl
  · have hc' : ¬ _ := fun h => hc ((cond_iff i).mp h)
    simp only [hi, if_neg hc]
    sl_unfold [cc0_mid_skel]
    sl_exec
    sl_step
    unfold bodyOut blocks owns
    isplitl [H1 H2 H3 H4 H5 H6 H7 H8 H9 H10 H11 H12 H13 H14 H15]
    · isplitl [H1]; · (iexists _; isplitr; pick_goal 2; (iexact H1); ipureintro; exact h1)
      isplitl [H2]; · (iexists _; isplitr; pick_goal 2; (iexact H2); ipureintro; exact h2)
      isplitl [H3]; · (iexists _; isplitr; pick_goal 2; (iexact H3); ipureintro; exact h3)
      isplitl [H4]; · (iexists _; isplitr; pick_goal 2; (iexact H4); ipureintro; exact h4)
      isplitl [H5]; · (iexists _; isplitr; pick_goal 2; (iexact H5); ipureintro; exact h5)
      isplitl [H6]; · (iexists _; isplitr; pick_goal 2; (iexact H6); ipureintro; exact h6)
      isplitl [H7]; · (iexists _; isplitr; pick_goal 2; (iexact H7); ipureintro; exact h7)
      isplitl [H8]; · (iexists _; isplitr; pick_goal 2; (iexact H8); ipureintro; exact h8)
      isplitl [H9]; · (iexists _; isplitr; pick_goal 2; (iexact H9); ipureintro; exact h9)
      isplitl [H10]; · (iexists _; isplitr; pick_goal 2; (iexact H10); ipureintro; exact h10)
      isplitl [H11]; · (iexists _; isplitr; pick_goal 2; (iexact H11); ipureintro; exact h11)
      isplitl [H12]; · (iexists _; isplitr; pick_goal 2; (iexact H12); ipureintro; exact h12)
      isplitl [H13]; · (iexists _; isplitr; pick_goal 2; (iexact H13); ipureintro; exact h13)
      isplitl [H14]; · (iexists _; isplitr; pick_goal 2; (iexact H14); ipureintro; exact h14)
      iexists _; isplitr; pick_goal 2; · iexact H15
      ipureintro; exact h15
    isplitl [H16]
    · iexists _; isplitr; pick_goal 2
      · iexact H16
      · ipureintro; sl_unfold_run_names
        simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
        rfl
    isplitl [H17]
    · iexists _; isplitr; pick_goal 2
      · iexact H17
      · ipureintro; sl_unfold_run_names
        simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
        rfl
    isplitl [H18]
    · iexists _; isplitr; pick_goal 2
      · iexact H18
      · ipureintro; sl_unfold_run_names
        simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
        exact put18_any _ _ _ _ _ _
    isplitl [H19]
    · iexists _; isplitr; pick_goal 2
      · iexact H19
      · ipureintro; sl_unfold_run_names
        simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
        rfl
    isplitl [H20]
    · iexists _; isplitr; pick_goal 2
      · iexact H20
      · ipureintro; sl_unfold_run_names
        simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
        exact put20_any _ _ _ _
    isplitl [H21]
    · iexists _; isplitr; pick_goal 2
      · iexact H21
      · ipureintro; sl_unfold_run_names
        simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
        rfl
    isplitl [H22]
    · iexists _; isplitr; pick_goal 2
      · iexact H22
      · ipureintro; sl_unfold_run_names
        simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
        rfl
    isplitl [H23]
    · iexists _; isplitr; pick_goal 2
      · iexact H23
      · ipureintro; sl_unfold_run_names
        simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
        rfl
    isplitl [H24]
    · iexists _; isplitr; pick_goal 2
      · iexact H24
      · ipureintro; sl_unfold_run_names
        simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
        rfl
    isplitl [H25]
    · iexists _; isplitr; pick_goal 2
      · iexact H25
      · ipureintro; sl_unfold_run_names
        simp only [read_writes_put, readAt_rows, readCov_rows, read_writes_nil, rowsOf_whole, putOf_whole, row_put 1 0 _ _ (by decide), row_put 2 0 _ _ (by decide), row_put 2 1 _ _ (by decide), hi, if_neg hc, ← hX, h1, h2, h3, h4, h5, h6, h7, h8, h9, h10, h11, h12, h13, h14, h15, h22, h23, h24, h25, h26, h27, h28, h29]
        rfl
    isplitl [H26]
    · iexists _; isplitr; pick_goal 2
      · iexact H26
      · ipureintro; sl_unfold_run_names
        simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
        rfl
    isplitl [H27]
    · iexists _; isplitr; pick_goal 2
      · iexact H27
      · ipureintro; sl_unfold_run_names
        simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
        rfl
    isplitl [H28]
    · iexists _; isplitr; pick_goal 2
      · iexact H28
      · ipureintro; sl_unfold_run_names
        simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
        rfl
    iexists _; isplitr; pick_goal 2
    · iexact H29
    · ipureintro; sl_unfold_run_names
      simp only [read_writes_put, readAt_rows, readCov_rows, read_writes_nil, rowsOf_whole, putOf_whole, hi, if_neg hc, ← hX, h1, h2, h3, h4, h5, h6, h7, h8, h9, h10, h11, h12, h13, h14, h15, h22, h23, h24, h25, h26, h27, h28, h29]
      rfl

end Body

end Cert.Proof.Mid

end
-- ==== Proof.MidRun.lean ====
module

public import proofs.«01_k».proof.Proof.MidBody
public import proofs.«01_k».proof.Proof.Gen.Kernel3Ideal.Frame.Runs
public import Idealize.ShloMosaic.Lib.Pipeline.FrameBody
public import Idealize.ShloMosaic.Lib.Claim

/-! The run of the layer's middle: what each grid point leaves, and the launch over all of them. -/

@[expose] public section

set_option maxRecDepth 16384
set_option maxHeartbeats 2000000

noncomputable section

namespace Cert.Proof.Mid

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Position `t` of the launch works on row block `t`. -/
theorem step_val : ∀ t : Fin cfg0.N, (grid0.coords t 0).val = t.val :=
  (by decide +kernel : ∀ t : Fin grid0.N, (grid0.coords t 0).val = t.val)

theorem lt_N (t : Fin cfg0.N) : t.val < 32 := lt_of_lt_of_eq t.isLt N_0

/-- The blocks position `t` reads. -/
def blocksAt (c : Dev nD) (t : Fin cfg0.N) : Blocks F where
  pos := BitVec.ofNat 32 (grid0.coords t 0).val
  o := iblk m c 0 t
  za := iblk m c 1 t
  ccx := iblk m c 2 t
  cbzc := iblk m c 3 t
  prev := iblk m c 4 t
  x := iblk m c 5 t
  p := iblk m c 6 t
  t := iblk m c 7 t
  wo := iblk m c 8 t
  wg := iblk m c 9 t
  wp := iblk m c 10 t
  cw := iblk m c 11 t
  ga := iblk m c 12 t
  gc := iblk m c 13 t
  gp := iblk m c 14 t

/-- Position `n`, as a point of the launch. -/
def ptOf (n : ℕ) : Fin cfg0.N := ⟨n % 32, lt_of_lt_of_eq (Nat.mod_lt n (by decide)) N_0.symm⟩

theorem ptOf_val (t : Fin cfg0.N) : ptOf t.val = t := Fin.ext (Nat.mod_eq_of_lt (lt_N t))

/-- A running sum after the first `n` positions: from `z`, one `step` after the other. -/
def sumTo {α : Type} (z : α) (step : Blocks F → α → α) (c : Dev nD) : ℕ → α
  | 0 => z
  | n + 1 => step (blocksAt m c (ptOf n)) (sumTo z step c n)

theorem sumTo_succ {α : Type} (z : α) (step : Blocks F → α → α) (c : Dev nD) (t : Fin cfg0.N) :
    sumTo m z step c (t.val + 1) = step (blocksAt m c t) (sumTo m z step c t.val) := by
  show step (blocksAt m c (ptOf t.val)) _ = _
  rw [ptOf_val]

/-- What the launch's arrays and buffers hold: the region's entry, then what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out_dx2 (blocksAt m c t)
    | ⟨16, _⟩ => out_do (blocksAt m c t)
    | ⟨17, _⟩ => out_delta (blocksAt m c t)
    | ⟨18, _⟩ => out_dza (blocksAt m c t)
    | ⟨19, _⟩ => out_dcz (blocksAt m c t)
    | ⟨20, _⟩ => out_du (blocksAt m c t)
    | ⟨21, _⟩ => sumTo m k0_pay3 step_dwo c (t.val + 1)
    | ⟨22, _⟩ => sumTo m k0_pay4 step_dwg c (t.val + 1)
    | ⟨23, _⟩ => sumTo m k0_pay5 step_dwp c (t.val + 1)
    | ⟨24, _⟩ => sumTo m k0_pay6 step_dcw c (t.val + 1)
    | ⟨25, _⟩ => sumTo m k0_pay7 step_dga c (t.val + 1)
    | ⟨26, _⟩ => sumTo m k0_pay8 step_dgc c (t.val + 1)
    | ⟨27, _⟩ => sumTo m k0_pay9 step_dgp c (t.val + 1)
    | ⟨28, _⟩ => sumTo m k0_pay10 step_loss c (t.val + 1)
    | ⟨_ + 29, h⟩ => absurd h (Nat.not_lt.2 (Nat.le_add_left _ _))
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (dats_A m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (dats_A m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (dats_A m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (dats_A m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (dats_A m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (dats_A m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (dats_A m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (dats_A m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (dats_A m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (dats_A m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (dats_A m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (dats_A m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (dats_A m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (dats_A m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (dats_A m c 14) (after_14 m c) t d
theorem after_15 (c : Dev nD) (t : Fin cfg0.N) : (dats m 0 c).after 15 t = out_dx2 (blocksAt m c t) := by dsimp only [dats]
theorem after_16 (c : Dev nD) (t : Fin cfg0.N) : (dats m 0 c).after 16 t = out_do (blocksAt m c t) := by dsimp only [dats]
theorem after_17 (c : Dev nD) (t : Fin cfg0.N) : (dats m 0 c).after 17 t = out_delta (blocksAt m c t) := by dsimp only [dats]
theorem after_18 (c : Dev nD) (t : Fin cfg0.N) : (dats m 0 c).after 18 t = out_dza (blocksAt m c t) := by dsimp only [dats]
theorem after_19 (c : Dev nD) (t : Fin cfg0.N) : (dats m 0 c).after 19 t = out_dcz (blocksAt m c t) := by dsimp only [dats]
theorem after_20 (c : Dev nD) (t : Fin cfg0.N) : (dats m 0 c).after 20 t = out_du (blocksAt m c t) := by dsimp only [dats]

theorem after_21 (c : Dev nD) (t : Fin cfg0.N) : (dats m 0 c).after 21 t = sumTo m k0_pay3 step_dwo c (t.val + 1) := by dsimp only [dats]
theorem start_21 (c : Dev nD) (t : Fin cfg0.N) (d) :
    start (F := F) (grid0.coords t) k0_pay3 ((dats m 0 c).before 21 t d) = sumTo m k0_pay3 step_dwo c t.val := by
  have hN := lt_N t
  unfold start
  rw [step_val t]
  by_cases h : t.val = 0
  · rw [if_pos h, h]; rfl
  · rw [if_neg h, Dat.before_out_kept _ 21 rfl t (by omega) (Bool.eq_false_iff.mpr fun h => by
      have := (flush0_21 _).mp h; dsimp only at this; omega) (fun _ => rfl) (fun _ _ => rfl), after_21]
    exact congrArg (sumTo m k0_pay3 step_dwo c) (by show t.val - 1 + 1 = t.val; omega)
theorem put_21 (c : Dev nD) (t : Fin cfg0.N) (d) :
    step_dwo (blocksAt m c t) (start (F := F) (grid0.coords t) k0_pay3 ((dats m 0 c).before 21 t d)) = (dats m 0 c).after 21 t := by
  rw [start_21, after_21, sumTo_succ]
theorem after_22 (c : Dev nD) (t : Fin cfg0.N) : (dats m 0 c).after 22 t = sumTo m k0_pay4 step_dwg c (t.val + 1) := by dsimp only [dats]
theorem start_22 (c : Dev nD) (t : Fin cfg0.N) (d) :
    start (F := F) (grid0.coords t) k0_pay4 ((dats m 0 c).before 22 t d) = sumTo m k0_pay4 step_dwg c t.val := by
  have hN := lt_N t
  unfold start
  rw [step_val t]
  by_cases h : t.val = 0
  · rw [if_pos h, h]; rfl
  · rw [if_neg h, Dat.before_out_kept _ 22 rfl t (by omega) (Bool.eq_false_iff.mpr fun h => by
      have := (flush0_22 _).mp h; dsimp only at this; omega) (fun _ => rfl) (fun _ _ => rfl), after_22]
    exact congrArg (sumTo m k0_pay4 step_dwg c) (by show t.val - 1 + 1 = t.val; omega)
theorem put_22 (c : Dev nD) (t : Fin cfg0.N) (d) :
    step_dwg (blocksAt m c t) (start (F := F) (grid0.coords t) k0_pay4 ((dats m 0 c).before 22 t d)) = (dats m 0 c).after 22 t := by
  rw [start_22, after_22, sumTo_succ]
theorem after_23 (c : Dev nD) (t : Fin cfg0.N) : (dats m 0 c).after 23 t = sumTo m k0_pay5 step_dwp c (t.val + 1) := by dsimp only [dats]
theorem start_23 (c : Dev nD) (t : Fin cfg0.N) (d) :
    start (F := F) (grid0.coords t) k0_pay5 ((dats m 0 c).before 23 t d) = sumTo m k0_pay5 step_dwp c t.val := by
  have hN := lt_N t
  unfold start
  rw [step_val t]
  by_cases h : t.val = 0
  · rw [if_pos h, h]; rfl
  · rw [if_neg h, Dat.before_out_kept _ 23 rfl t (by omega) (Bool.eq_false_iff.mpr fun h => by
      have := (flush0_23 _).mp h; dsimp only at this; omega) (fun _ => rfl) (fun _ _ => rfl), after_23]
    exact congrArg (sumTo m k0_pay5 step_dwp c) (by show t.val - 1 + 1 = t.val; omega)
theorem put_23 (c : Dev nD) (t : Fin cfg0.N) (d) :
    step_dwp (blocksAt m c t) (start (F := F) (grid0.coords t) k0_pay5 ((dats m 0 c).before 23 t d)) = (dats m 0 c).after 23 t := by
  rw [start_23, after_23, sumTo_succ]
theorem after_24 (c : Dev nD) (t : Fin cfg0.N) : (dats m 0 c).after 24 t = sumTo m k0_pay6 step_dcw c (t.val + 1) := by dsimp only [dats]
theorem start_24 (c : Dev nD) (t : Fin cfg0.N) (d) :
    start (F := F) (grid0.coords t) k0_pay6 ((dats m 0 c).before 24 t d) = sumTo m k0_pay6 step_dcw c t.val := by
  have hN := lt_N t
  unfold start
  rw [step_val t]
  by_cases h : t.val = 0
  · rw [if_pos h, h]; rfl
  · rw [if_neg h, Dat.before_out_kept _ 24 rfl t (by omega) (Bool.eq_false_iff.mpr fun h => by
      have := (flush0_24 _).mp h; dsimp only at this; omega) (fun _ => rfl) (fun _ _ => rfl), after_24]
    exact congrArg (sumTo m k0_pay6 step_dcw c) (by show t.val - 1 + 1 = t.val; omega)
theorem put_24 (c : Dev nD) (t : Fin cfg0.N) (d) :
    step_dcw (blocksAt m c t) (start (F := F) (grid0.coords t) k0_pay6 ((dats m 0 c).before 24 t d)) = (dats m 0 c).after 24 t := by
  rw [start_24, after_24, sumTo_succ]
theorem after_25 (c : Dev nD) (t : Fin cfg0.N) : (dats m 0 c).after 25 t = sumTo m k0_pay7 step_dga c (t.val + 1) := by dsimp only [dats]
theorem start_25 (c : Dev nD) (t : Fin cfg0.N) (d) :
    start (F := F) (grid0.coords t) k0_pay7 ((dats m 0 c).before 25 t d) = sumTo m k0_pay7 step_dga c t.val := by
  have hN := lt_N t
  unfold start
  rw [step_val t]
  by_cases h : t.val = 0
  · rw [if_pos h, h]; rfl
  · rw [if_neg h, Dat.before_out_kept _ 25 rfl t (by omega) (Bool.eq_false_iff.mpr fun h => by
      have := (flush0_25 _).mp h; dsimp only at this; omega) (fun _ => rfl) (fun _ _ => rfl), after_25]
    exact congrArg (sumTo m k0_pay7 step_dga c) (by show t.val - 1 + 1 = t.val; omega)
theorem put_25 (c : Dev nD) (t : Fin cfg0.N) (d) :
    step_dga (blocksAt m c t) (start (F := F) (grid0.coords t) k0_pay7 ((dats m 0 c).before 25 t d)) = (dats m 0 c).after 25 t := by
  rw [start_25, after_25, sumTo_succ]
theorem after_26 (c : Dev nD) (t : Fin cfg0.N) : (dats m 0 c).after 26 t = sumTo m k0_pay8 step_dgc c (t.val + 1) := by dsimp only [dats]
theorem start_26 (c : Dev nD) (t : Fin cfg0.N) (d) :
    start (F := F) (grid0.coords t) k0_pay8 ((dats m 0 c).before 26 t d) = sumTo m k0_pay8 step_dgc c t.val := by
  have hN := lt_N t
  unfold start
  rw [step_val t]
  by_cases h : t.val = 0
  · rw [if_pos h, h]; rfl
  · rw [if_neg h, Dat.before_out_kept _ 26 rfl t (by omega) (Bool.eq_false_iff.mpr fun h => by
      have := (flush0_26 _).mp h; dsimp only at this; omega) (fun _ => rfl) (fun _ _ => rfl), after_26]
    exact congrArg (sumTo m k0_pay8 step_dgc c) (by show t.val - 1 + 1 = t.val; omega)
theorem put_26 (c : Dev nD) (t : Fin cfg0.N) (d) :
    step_dgc (blocksAt m c t) (start (F := F) (grid0.coords t) k0_pay8 ((dats m 0 c).before 26 t d)) = (dats m 0 c).after 26 t := by
  rw [start_26, after_26, sumTo_succ]
theorem after_27 (c : Dev nD) (t : Fin cfg0.N) : (dats m 0 c).after 27 t = sumTo m k0_pay9 step_dgp c (t.val + 1) := by dsimp only [dats]
theorem start_27 (c : Dev nD) (t : Fin cfg0.N) (d) :
    start (F := F) (grid0.coords t) k0_pay9 ((dats m 0 c).before 27 t d) = sumTo m k0_pay9 step_dgp c t.val := by
  have hN := lt_N t
  unfold start
  rw [step_val t]
  by_cases h : t.val = 0
  · rw [if_pos h, h]; rfl
  · rw [if_neg h, Dat.before_out_kept _ 27 rfl t (by omega) (Bool.eq_false_iff.mpr fun h => by
      have := (flush0_27 _).mp h; dsimp only at this; omega) (fun _ => rfl) (fun _ _ => rfl), after_27]
    exact congrArg (sumTo m k0_pay9 step_dgp c) (by show t.val - 1 + 1 = t.val; omega)
theorem put_27 (c : Dev nD) (t : Fin cfg0.N) (d) :
    step_dgp (blocksAt m c t) (start (F := F) (grid0.coords t) k0_pay9 ((dats m 0 c).before 27 t d)) = (dats m 0 c).after 27 t := by
  rw [start_27, after_27, sumTo_succ]
theorem after_28 (c : Dev nD) (t : Fin cfg0.N) : (dats m 0 c).after 28 t = sumTo m k0_pay10 step_loss c (t.val + 1) := by dsimp only [dats]
theorem start_28 (c : Dev nD) (t : Fin cfg0.N) (d) :
    start (F := F) (grid0.coords t) k0_pay10 ((dats m 0 c).before 28 t d) = sumTo m k0_pay10 step_loss c t.val := by
  have hN := lt_N t
  unfold start
  rw [step_val t]
  by_cases h : t.val = 0
  · rw [if_pos h, h]; rfl
  · rw [if_neg h, Dat.before_out_kept _ 28 rfl t (by omega) (Bool.eq_false_iff.mpr fun h => by
      have := (flush0_28 _).mp h; dsimp only at this; omega) (fun _ => rfl) (fun _ _ => rfl), after_28]
    exact congrArg (sumTo m k0_pay10 step_loss c) (by show t.val - 1 + 1 = t.val; omega)
theorem put_28 (c : Dev nD) (t : Fin cfg0.N) (d) :
    step_loss (blocksAt m c t) (start (F := F) (grid0.coords t) k0_pay10 ((dats m 0 c).before 28 t d)) = (dats m 0 c).after 28 t := by
  rw [start_28, after_28, sumTo_succ]

/-- A grid point at its staged buffers. -/
theorem body_any (c : Dev nD) (t : Fin cfg0.N) (B21 : S1024x1024.Idx → Elt F .f32) (B22 : S1024x1024.Idx → Elt F .f32) (B23 : S256x1024.Idx → Elt F .f32) (B24 : S8x512.Idx → Elt F .f32) (B25 : S1x512.Idx → Elt F .f32) (B26 : S1x512.Idx → Elt F .f32) (B27 : S1x1024.Idx → Elt F .f32) (B28 : S1x128.Idx → Elt F .f32) :
    bodyIn c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (blocksAt m c t) B21 B22 B23 B24 B25 B26 B27 B28
      ⊢ wp frame (wpE (defs₀ (F := F)) Variants.none (c : Thread nD τ) none) Set.univ (bodyAt0 t)
        (fun _ => bodyOut c (grid0.coords t) (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (blocksAt m c t) B21 B22 B23 B24 B25 B26 B27 B28) := by
  unfold bodyAt0
  rw [cc0_mid_eq_skeleton]
  exact body_point c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24)) (st0_25 t) (hstage0_25 ((cfg0.slots t 25).cast nbuf0_25)) (st0_26 t) (hstage0_26 ((cfg0.slots t 26).cast nbuf0_26)) (st0_27 t) (hstage0_27 ((cfg0.slots t 27).cast nbuf0_27)) (st0_28 t) (hstage0_28 ((cfg0.slots t 28).cast nbuf0_28)) (blocksAt m c t) B21 B22 B23 B24 B25 B26 B27 B28 rfl

set_option maxHeartbeats 4000000 in
/-- The body at position `t`, its windows one by one. -/
theorem sound_body (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d)))
    ⊢ wp frame (wpE (defs₀ (F := F)) Variants.none c none) Set.univ (bodyAt0 t) (fun _ =>
      iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t))) := by
  simp only [before_0, before_1, before_2, before_3, before_4, before_5, before_6, before_7, before_8, before_9, before_10, before_11, before_12, before_13, before_14]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
  iapply (wp_wand_r Idealize.ShloMosaic.frame (wpE (defs₀ (F := F)) Variants.none (c : Thread nD τ) none) Set.univ)
  isplitl [H0 H1 H2 H3 H4 H5 H6 H7 H8 H9 H10 H11 H12 H13 H14 H15 H16 H17 H18 H19 H20 H21 H22 H23 H24 H25 H26 H27 H28]
  · iapply (body_any m c t ((dats m 0 c).before 21 t d21) ((dats m 0 c).before 22 t d22) ((dats m 0 c).before 23 t d23) ((dats m 0 c).before 24 t d24) ((dats m 0 c).before 25 t d25) ((dats m 0 c).before 26 t d26) ((dats m 0 c).before 27 t d27) ((dats m 0 c).before 28 t d28))
    unfold bodyIn blocks
    isplitl [H0 H1 H2 H3 H4 H5 H6 H7 H8 H9 H10 H11 H12 H13 H14]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28
  · iintro %_ HB
    unfold bodyOut blocks
    rw [put_21, put_22, put_23, put_24, put_25, put_26, put_27, put_28]
    rw [after_0, after_1, after_2, after_3, after_4, after_5, after_6, after_7, after_8, after_9, after_10, after_11, after_12, after_13, after_14, after_15, after_16, after_17, after_18, after_19, after_20]
    icases HB with ⟨⟨H0, H1, H2, H3, H4, H5, H6, H7, H8, H9, H10, H11, H12, H13, H14⟩, H15, H16, H17, H18, H19, H20, H21, H22, H23, H24, H25, H26, H27, H28⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    iexact H28

/-- The body table's row at position `t`. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

set_option backward.isDefEq.respectTransparency.types false in
/-- The launch, at any values: it ends with the arrays at the recorded contents and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := dats_A m) (hΦ := fun _ _ => rfl)

/-- The frame at any values: the arguments end as they were launched and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  θ_run_and (frame_of m ρ (dats m) (dats_A m) ((θ_run defs _ _).mono (fun _ h => h.1) (run_main m ρ)))
    ((θ_run defs _ _).mono (fun _ h => h.2) (run_main m ρ))

end Cert.Proof.Mid

end
-- ==== Proof.MidFrames.lean ====
module

public import proofs.«01_k».proof.Proof.MidRun
public import proofs.«01_k».proof.Defs
public import Idealize.ShloMosaic.Lib.Tactic
public import proofs.«01_k».proof.Proof.Gen.Kernel3

/-! The two frames of the layer's middle: the run holds at any values, so at bits and at extended reals. -/

@[expose] public section

set_option maxRecDepth 16384

noncomputable section

set_option maxHeartbeats 4000000

namespace Cert.Proof.Mid

open Idealize.ShloMosaic Idealize.ShloMosaic.TcCoe Idealize.ShloMosaic.Tactic Idealize.SL Idealize.SL.Sem

theorem main_bits : Cert.Kernel3.main (F := Bits) = Cert.Kernel3Ideal.main (F := Bits) := by sl_kernel_rfl
theorem defs_bits : Cert.Kernel3.defs (F := Bits) = Cert.Kernel3Ideal.defs (F := Bits) := by sl_kernel_rfl

theorem frame_kernel : Cert.quiescent_Kernel3 := fun m ρ _ => by
  rw [main_bits, defs_bits]
  exact frame_any (F := Bits) m ρ

theorem frame_kernelIdeal : Cert.quiescent_Kernel3Ideal := fun m ρ _ => frame_any (F := Ideal) m ρ

theorem preserved : Cert.preserves_Kernel3_Kernel3Ideal := trivial

end Cert.Proof.Mid

end
-- ==== Proof.ProjModel.lean ====
module

public import proofs.«01_k».proof.Proof.FlashModel
public import proofs.«01_k».proof.Proof.Gen.Kernel4Ideal.Skeleton

/-! What one stage of the projections' backward computes, written without memory: the blocks it reads, the
    values it passes on, the projections' gradient it writes and its addends to the running sums. -/

@[expose] public section

set_option maxRecDepth 16384

noncomputable section

namespace Cert.Proof.Proj

open Cert.Kernel4Ideal Cert.Kernel4Ideal.Gen
open Cert.Proof.Flash (rowsOf putOf rowsOf_putOf_ne)
open Idealize.ShloMosaic Idealize.ShloMosaic.TcCoe Idealize.ShloMosaic.Tactic

variable {F : FTy → Type} [FloatOps F] [Named F]

/-- The blocks a grid point reads, and its position. -/
structure Blocks (F : FTy → Type) [FloatOps F] where
  pos : BitVec 32
  x : S256x1024.Idx → Elt F .f32
  proj : S256x512.Idx → Elt F .f32
  ccx : S256x1024.Idx → Elt F .f32
  dq : S256x1024.Idx → Elt F .f32
  dk : S256x1024.Idx → Elt F .f32
  dv : S256x512.Idx → Elt F .f32
  dza : S256x512.Idx → Elt F .bf16
  dcbzc : S256x1024.Idx → Elt F .bf16
  du : S256x512.Idx → Elt F .f32
  nxt : S8x512.Idx → Elt F .f32
  dx2 : S256x1024.Idx → Elt F .f32
  tc : S256x128.Idx → Elt F .f32
  ts1 : S256x128.Idx → Elt F .f32
  ts2 : S256x128.Idx → Elt F .f32
  gin : S1x1024.Idx → Elt F .f32
  win : S1024x3072.Idx → Elt F .bf16
  gcq : S1x256.Idx → Elt F .f32
  wuq : S256x1024.Idx → Elt F .bf16
  gckv : S1x128.Idx → Elt F .f32
  wukv : S128x1024.Idx → Elt F .bf16
  gq : S1x256.Idx → Elt F .f32
  gk : S1x256.Idx → Elt F .f32
  cw : S8x512.Idx → Elt F .f32

/-- What a grid point carries to the next: the input's gradient, the running sums and the first weight's. -/
structure State (F : FTy → Type) [FloatOps F] where
  gx : S256x1024.Idx → Elt F .f32
  uq : S256x1024.Idx → Elt F .f32
  ukv : S128x1024.Idx → Elt F .f32
  gi : S1x1024.Idx → Elt F .f32
  gcq : S1x256.Idx → Elt F .f32
  gckv : S1x128.Idx → Elt F .f32
  gq : S1x256.Idx → Elt F .f32
  gk : S1x256.Idx → Elt F .f32
  W : S1024x3072.Idx → Elt F .f32

/-- The column blocks of the queries' gradient, put one after the other. -/
def over35 {α : Type} (Y : S256x1024.Idx → α) (a b c d : S256x256.Idx → α) : S256x1024.Idx → α :=
  putOf (s := S256x1024) ![0, 768] S256x256.size inb_S256x1024_S256x256_0_768 (putOf (s := S256x1024) ![0, 512] S256x256.size inb_S256x1024_S256x256_0_512 (putOf (s := S256x1024) ![0, 256] S256x256.size inb_S256x1024_S256x256_0_256 (putOf (s := S256x1024) ![0, 0] S256x256.size inb_S256x1024_S256x256_0_0 (Y) a) b) c) d
/-- The column blocks of the keys' and values' gradient, put one after the other. -/
def over36 {α : Type} (Y : S256x1024.Idx → α) (a b c d : S256x128.Idx → α) (e : S256x512.Idx → α) :
    S256x1024.Idx → α :=
  putOf (s := S256x1024) ![0, 512] S256x512.size inb_S256x1024_S256x512_0_512 (putOf (s := S256x1024) ![0, 384] S256x128.size inb_S256x1024_S256x128_0_384 (putOf (s := S256x1024) ![0, 256] S256x128.size inb_S256x1024_S256x128_0_256 (putOf (s := S256x1024) ![0, 128] S256x128.size inb_S256x1024_S256x128_0_128 (putOf (s := S256x1024) ![0, 0] S256x128.size inb_S256x1024_S256x128_0_0 (Y) a) b) c) d) e

/-- A block's first element. -/
def first {R C : ℕ} {α : Type} (a : Shape.Idx ⟨2, ![R + 1, C + 1]⟩ → α) : α :=
  a fun d => ⟨0, by fin_cases d <;> exact Nat.succ_pos _⟩
def put35 {α : Type} (a b c d : S256x256.Idx → α) := over35 (fun _ => first (R := 255) (C := 255) a) a b c d
def put36 {α : Type} (a b c d : S256x128.Idx → α) (e : S256x512.Idx → α) :=
  over36 (fun _ => first (R := 255) (C := 127) a) a b c d e

section Values
variable (X : Blocks F) (D : S256x3072.Idx → Elt F .bf16) (S : State F)

/-! The values passed on, under the names they are printed with. -/

def v41 : FVec F S256x1 .f32 := k0_pay12 X.x
def v43 : FVec F S256x1024 .f32 := k0_pay13 X.x
def v46 : FVec F S256x1024 .bf16 := k0_pay14 X.gin X.x
def v49 : F .f32 := k0_pay15 (F := F) X.pos
def v51 : FVec F S256x128 .f32 := k0_pay16 X.tc
def v53 : FVec F S256x128 .f32 := k0_pay17 X.ts1
def v55 : FVec F S256x128 .f32 := k0_pay18 X.ts2
def v57 : FVec F S1x256 .f32 := k0_pay19 X.gq
def v59 : FVec F S1x256 .f32 := k0_pay20 X.gk
def v63 : FVec F S256x256 .f32 := k0_pay21 (rowsOf (s := S256x512) ![0, 0] S256x256.size inb_S256x512_S256x256_0_0 X.proj)
def v66 : FVec F S256x1 .f32 := k0_pay22 (rowsOf (s := S256x512) ![0, 0] S256x256.size inb_S256x512_S256x256_0_0 X.proj)
def v71 : FVec F S256x1 .f32 := k0_pay23 (v66 X)
def v73 : FVec F S256x256 .f32 := k0_pay24 (v63 X) (v66 X)
def v79 : FVec F S256x1024 .f32 := k0_pay25 X.gcq (v63 X) (v66 X) X.wuq
def v89 : FVec F S256x1 .f32 := k0_pay27 X.gcq (v63 X) (v66 X) X.wuq
def v91 : FVec F S256x256 .f32 := k0_pay28 X.gcq (v63 X) (v66 X) X.wuq
def v109 : FVec F S1x256 .f32 := k0_pay30 (v51 X) (v53 X) (v55 X) X.gcq (v63 X) (v66 X) X.wuq (rowsOf (s := S256x1024) ![0, 0] S256x256.size inb_S256x1024_S256x256_0_0 X.dq)
def v111 : FVec F S256x256 .f32 := k0_pay31 (v51 X) (v53 X) (v55 X) (v57 X) (rowsOf (s := S256x1024) ![0, 0] S256x256.size inb_S256x1024_S256x256_0_0 X.dq)
def v137 : FVec F S256x1024 .f32 := k0_pay34 (rowsOf (s := S256x3072) ![0, 0] S256x512.size inb_S256x3072_S256x512_0_0 D) (rowsOf (s := S1024x3072) ![0, 0] S1024x512.size inb_S1024x3072_S1024x512_0_0 X.win)
def v146 : FVec F S256x1 .f32 := k0_pay36 (v79 X)
def v148 : FVec F S256x256 .f32 := k0_pay37 (v79 X)
def v166 : FVec F S1x256 .f32 := k0_pay39 (v51 X) (v53 X) (v55 X) (v109 X) (v148 X) (rowsOf (s := S256x1024) ![0, 256] S256x256.size inb_S256x1024_S256x256_0_256 X.dq)
def v193 : FVec F S256x1024 .f32 := k0_pay42 (v137 X D) (rowsOf (s := S256x3072) ![0, 512] S256x512.size inb_S256x3072_S256x512_0_512 D) (rowsOf (s := S1024x3072) ![0, 512] S1024x512.size inb_S1024x3072_S1024x512_0_512 X.win)
def v222 : FVec F S1x256 .f32 := k0_pay47 (v51 X) (v53 X) (v55 X) (v79 X) (v166 X) (rowsOf (s := S256x1024) ![0, 512] S256x256.size inb_S256x1024_S256x256_0_512 X.dq)
def v235 : FVec F S256x256 .bf16 := k0_pay48 (v51 X) (v53 X) (v55 X) (v57 X) (v79 X) (rowsOf (s := S256x1024) ![0, 512] S256x256.size inb_S256x1024_S256x256_0_512 X.dq)
def v249 : FVec F S256x1024 .f32 := k0_pay51 (v193 X D) (rowsOf (s := S256x3072) ![0, 1024] S256x512.size inb_S256x3072_S256x512_0_1024 D) (rowsOf (s := S1024x3072) ![0, 1024] S1024x512.size inb_S1024x3072_S1024x512_0_1024 X.win)
def v258 : FVec F S256x1 .f32 := k0_pay53 (v79 X)
def v260 : FVec F S256x256 .f32 := k0_pay54 (v79 X)
def v274 : FVec F S256x256 .f32 := k0_pay55 (v51 X) (v53 X) (v55 X) (rowsOf (s := S256x1024) ![0, 768] S256x256.size inb_S256x1024_S256x256_0_768 X.dq)
def v275 : FVec F S256x256 .f32 := k0_pay56 (v51 X) (v53 X) (v55 X) (v79 X) (rowsOf (s := S256x1024) ![0, 768] S256x256.size inb_S256x1024_S256x256_0_768 X.dq)
def v305 : FVec F S256x1024 .f32 := k0_pay59 (v249 X D) (rowsOf (s := S256x3072) ![0, 1536] S256x512.size inb_S256x3072_S256x512_0_1536 D) (rowsOf (s := S1024x3072) ![0, 1536] S1024x512.size inb_S1024x3072_S1024x512_0_1536 X.win)
def v361 : FVec F S256x1024 .f32 := k0_pay66 (v305 X D) (rowsOf (s := S256x3072) ![0, 2048] S256x512.size inb_S256x3072_S256x512_0_2048 D) (rowsOf (s := S1024x3072) ![0, 2048] S1024x512.size inb_S1024x3072_S1024x512_0_2048 X.win)
def v371 : FVec F S256x1 .f32 := k0_pay68 (rowsOf (s := S256x512) ![0, 256] S256x128.size inb_S256x512_S256x128_0_256 X.proj)
def v373 : FVec F S256x128 .f32 := k0_pay69 (rowsOf (s := S256x512) ![0, 256] S256x128.size inb_S256x512_S256x128_0_256 X.proj)
def v379 : FVec F S256x512 .f32 := k0_pay70 X.gckv (rowsOf (s := S256x512) ![0, 256] S256x128.size inb_S256x512_S256x128_0_256 X.proj) (rowsOf (s := S128x1024) ![0, 0] S128x512.size inb_S128x1024_S128x512_0_0 X.wukv)
def v381 : FVec F S256x128 .f32 := k0_pay71 (rowsOf (s := S256x512) ![0, 384] S256x128.size inb_S256x512_S256x128_0_384 X.proj)
def v384 : FVec F S256x1 .f32 := k0_pay72 (rowsOf (s := S256x512) ![0, 384] S256x128.size inb_S256x512_S256x128_0_384 X.proj)
def v385 : FVec F S1x128 .f32 := k0_pay73 (v59 X)
def v386 : FVec F S1x128 .f32 := k0_pay74 (v59 X)
def v387 : FVec F S256x128 .f32 := k0_pay75 (F := F)
def v388 : FVec F S1x128 .f32 := k0_pay76 (F := F)
def v399 : FVec F S256x1 .f32 := k0_pay78 (v379 X) (v384 X)
def v401 : FVec F S256x128 .f32 := k0_pay79 (v379 X) (v384 X)
def v403 : FVec F S256x128 .f32 := k0_pay80 (v379 X) (v381 X) (v384 X)
def v422 : FVec F S1x128 .f32 := k0_pay83 (v379 X) (v384 X) (v388 (F := F)) (rowsOf (s := S256x1024) ![0, 0] S256x128.size inb_S256x1024_S256x128_0_0 X.dk)
def v426 : FVec F S1x128 .f32 := k0_pay84 (v51 X) (v53 X) (v55 X) (v379 X) (v381 X) (v384 X) (rowsOf (s := S256x1024) ![0, 128] S256x128.size inb_S256x1024_S256x128_0_128 X.dk)
def v428 : FVec F S256x128 .f32 := k0_pay85 (v385 X) (rowsOf (s := S256x1024) ![0, 0] S256x128.size inb_S256x1024_S256x128_0_0 X.dk)
def v430 : FVec F S256x128 .f32 := k0_pay86 (v51 X) (v53 X) (v55 X) (v386 X) (rowsOf (s := S256x1024) ![0, 128] S256x128.size inb_S256x1024_S256x128_0_128 X.dk)
def v433 : FVec F S256x1 .f32 := k0_pay87 (v379 X) (v384 X) (v385 X) (rowsOf (s := S256x1024) ![0, 0] S256x128.size inb_S256x1024_S256x128_0_0 X.dk)
def v454 : FVec F S256x128 .f32 := k0_pay90 (v387 (F := F)) (v399 X) (v403 X) (v430 X) (v433 X)
def v465 : FVec F S256x1024 .f32 := k0_pay92 (v361 X D) (rowsOf (s := S256x3072) ![0, 2560] S256x512.size inb_S256x3072_S256x512_0_2560 D) (rowsOf (s := S1024x3072) ![0, 2560] S1024x512.size inb_S1024x3072_S1024x512_0_2560 X.win)
def v466 : FVec F S256x128 .f32 := k0_pay93 (v379 X)
def v474 : FVec F S256x1 .f32 := k0_pay94 (v379 X) (v384 X)
def v475 : FVec F S256x1 .f32 := k0_pay95 (v474 X)
def v479 : FVec F S256x128 .f32 := k0_pay97 (v381 X) (v474 X)
def v498 : FVec F S1x128 .f32 := k0_pay100 (v422 X) (v466 X) (v474 X) (rowsOf (s := S256x1024) ![0, 256] S256x128.size inb_S256x1024_S256x128_0_256 X.dk)
def v502 : FVec F S1x128 .f32 := k0_pay101 (v51 X) (v53 X) (v55 X) (v381 X) (v426 X) (v474 X) (rowsOf (s := S256x1024) ![0, 384] S256x128.size inb_S256x1024_S256x128_0_384 X.dk)
def v506 : FVec F S256x128 .f32 := k0_pay103 (v51 X) (v53 X) (v55 X) (v386 X) (rowsOf (s := S256x1024) ![0, 384] S256x128.size inb_S256x1024_S256x128_0_384 X.dk)
def v515 : FVec F S256x1 .f32 := k0_pay104 (v51 X) (v53 X) (v55 X) (v381 X) (v385 X) (v386 X) (v466 X) (v474 X) (rowsOf (s := S256x1024) ![0, 256] S256x128.size inb_S256x1024_S256x128_0_256 X.dk) (rowsOf (s := S256x1024) ![0, 384] S256x128.size inb_S256x1024_S256x128_0_384 X.dk)
def v521 : FVec F S256x128 .bf16 := k0_pay105 (v51 X) (v53 X) (v55 X) (v381 X) (v385 X) (v386 X) (v466 X) (v474 X) (rowsOf (s := S256x1024) ![0, 256] S256x128.size inb_S256x1024_S256x128_0_256 X.dk) (rowsOf (s := S256x1024) ![0, 384] S256x128.size inb_S256x1024_S256x128_0_384 X.dk)
def v530 : FVec F S256x128 .f32 := k0_pay107 (v454 X) (v475 X) (v479 X) (v506 X) (v515 X)
def v553 : FVec F S256x128 .f32 := k0_pay110 (v379 X)
def v562 : FVec F S256x1 .f32 := k0_pay111 (v379 X) (v384 X)
def v566 : FVec F S256x128 .f32 := k0_pay113 (v381 X) (v562 X)
def v585 : FVec F S1x128 .f32 := k0_pay116 (v498 X) (v553 X) (v562 X) (rowsOf (s := S256x1024) ![0, 512] S256x128.size inb_S256x1024_S256x128_0_512 X.dk)
def v589 : FVec F S1x128 .f32 := k0_pay117 (v51 X) (v53 X) (v55 X) (v381 X) (v502 X) (v562 X) (rowsOf (s := S256x1024) ![0, 640] S256x128.size inb_S256x1024_S256x128_0_640 X.dk)
def v593 : FVec F S256x128 .f32 := k0_pay119 (v51 X) (v53 X) (v55 X) (v386 X) (rowsOf (s := S256x1024) ![0, 640] S256x128.size inb_S256x1024_S256x128_0_640 X.dk)
def v602 : FVec F S256x1 .f32 := k0_pay120 (v51 X) (v53 X) (v55 X) (v381 X) (v385 X) (v386 X) (v553 X) (v562 X) (rowsOf (s := S256x1024) ![0, 512] S256x128.size inb_S256x1024_S256x128_0_512 X.dk) (rowsOf (s := S256x1024) ![0, 640] S256x128.size inb_S256x1024_S256x128_0_640 X.dk)
def v608 : FVec F S256x128 .bf16 := k0_pay121 (v51 X) (v53 X) (v55 X) (v381 X) (v385 X) (v386 X) (v553 X) (v562 X) (rowsOf (s := S256x1024) ![0, 512] S256x128.size inb_S256x1024_S256x128_0_512 X.dk) (rowsOf (s := S256x1024) ![0, 640] S256x128.size inb_S256x1024_S256x128_0_640 X.dk)
def v617 : FVec F S256x128 .f32 := k0_pay123 (v530 X) (v562 X) (v566 X) (v593 X) (v602 X)
def v627 : FVec F S256x1 .f32 := k0_pay125 (v379 X) (v384 X)
def v629 : FVec F S256x128 .f32 := k0_pay126 (v379 X) (v384 X)
def v631 : FVec F S256x128 .f32 := k0_pay127 (v379 X) (v381 X) (v384 X)
def v635 : FVec F S256x128 .f32 := k0_pay128 (rowsOf (s := S256x1024) ![0, 768] S256x128.size inb_S256x1024_S256x128_0_768 X.dk)
def v646 : FVec F S256x128 .f32 := k0_pay129 (v51 X) (v53 X) (v55 X) (rowsOf (s := S256x1024) ![0, 896] S256x128.size inb_S256x1024_S256x128_0_896 X.dk)
def v650 : FVec F S1x128 .f32 := k0_pay130 (v379 X) (v384 X) (v585 X) (rowsOf (s := S256x1024) ![0, 768] S256x128.size inb_S256x1024_S256x128_0_768 X.dk)
def v653 : FVec F S1x128 .f32 := k0_pay131 (v51 X) (v53 X) (v55 X) (v379 X) (v381 X) (v384 X) (rowsOf (s := S256x1024) ![0, 896] S256x128.size inb_S256x1024_S256x128_0_896 X.dk)
def v682 : FVec F S256x128 .f32 := k0_pay136 (v385 X) (v386 X) (v617 X) (v627 X) (v629 X) (v631 X) (v635 X) (v646 X)
/-- The keys' and values' gradient, whatever was there before. -/
def raw36 : S256x1024.Idx → Elt F .bf16 :=
  put36 (k0_pay89 (v399 X) (v401 X) (v403 X) (v428 X) (v430 X) (v433 X)) (k0_pay106 (v521 X)) (k0_pay122 (v608 X)) (k0_pay135 (v385 X) (v386 X) (v627 X) (v629 X) (v631 X) (v635 X) (v646 X)) (k0_pay139 X.dv)
def v733 : FVec F S256x128 .f32 := k0_pay143 X.gckv (v373 X) (raw36 X) X.wukv
def v755 : FVec F S8x512 .f32 := k0_pay147 X.pos X.nxt
def v759 : FVec F S256x512 .f32 := k0_pay148 X.du (rowsOf (s := S8x512) ![2, 0] S1x512.size inb_S8x512_S1x512_2_0 X.cw)
def v770 : FVec F S256x512 .f32 := k0_pay149 X.pos X.du X.nxt (rowsOf (s := S8x512) ![1, 0] S1x512.size inb_S8x512_S1x512_1_0 X.cw)
/-- The queries' gradient, whatever was there before. -/
def raw35 : S256x1024.Idx → Elt F .bf16 :=
  put35 (k0_pay32 (v89 X) (v91 X) (v111 X)) (k0_pay40 (v51 X) (v53 X) (v55 X) (v57 X) (v146 X) (v148 X) (rowsOf (s := S256x1024) ![0, 256] S256x256.size inb_S256x1024_S256x256_0_256 X.dq)) (k0_pay49 (v235 X)) (k0_pay57 (v57 X) (v258 X) (v260 X) (v274 X))

end Values

/-! What a stage leaves. -/

def piece0 (X : Blocks F) : S256x256.Idx → Elt F .bf16 := k0_pay64 X.gcq (v71 X) (v73 X) (raw35 X) X.wuq
def piece1 (X : Blocks F) : S256x128.Idx → Elt F .bf16 := k0_pay144 (v371 X) (v733 X)
def piece2 (X : Blocks F) : S256x128.Idx → Elt F .bf16 := k0_pay145 (v682 X)
def piece3 (X : Blocks F) : S256x512.Idx → Elt F .bf16 := k0_pay146 X.dza
def piece4 (X : Blocks F) : S256x512.Idx → Elt F .bf16 := k0_pay151 X.du (v755 X) (v759 X) (v770 X) (rowsOf (s := S8x512) ![0, 0] S1x512.size inb_S8x512_S1x512_0_0 X.cw) (rowsOf (s := S256x1024) ![0, 512] S256x512.size inb_S256x1024_S256x512_0_512 X.ccx)
def piece5 (X : Blocks F) : S256x512.Idx → Elt F .bf16 := k0_pay152 X.du (v755 X) (v759 X) (v770 X) (rowsOf (s := S8x512) ![0, 0] S1x512.size inb_S8x512_S1x512_0_0 X.cw) (rowsOf (s := S256x1024) ![0, 0] S256x512.size inb_S256x1024_S256x512_0_0 X.ccx)
def piece6 (X : Blocks F) : S256x1024.Idx → Elt F .bf16 := k0_pay10 X.dcbzc
/-- Seven column blocks, put one after the other. -/
def over33 {α : Type} (Y : S256x3072.Idx → α) (a0 : S256x256.Idx → α) (a1 : S256x128.Idx → α) (a2 : S256x128.Idx → α) (a3 : S256x512.Idx → α) (a4 : S256x512.Idx → α) (a5 : S256x512.Idx → α) (a6 : S256x1024.Idx → α) : S256x3072.Idx → α :=
  putOf (s := S256x3072) ![0, 2048] S256x1024.size
    inb_S256x3072_S256x1024_0_2048 (putOf (s := S256x3072) ![0, 1536] S256x512.size
    inb_S256x3072_S256x512_0_1536 (putOf (s := S256x3072) ![0, 1024] S256x512.size
    inb_S256x3072_S256x512_0_1024 (putOf (s := S256x3072) ![0, 512] S256x512.size
    inb_S256x3072_S256x512_0_512 (putOf (s := S256x3072) ![0, 384] S256x128.size
    inb_S256x3072_S256x128_0_384 (putOf (s := S256x3072) ![0, 256] S256x128.size
    inb_S256x3072_S256x128_0_256 (putOf (s := S256x3072) ![0, 0] S256x256.size
    inb_S256x3072_S256x256_0_0 (Y) a0) a1) a2) a3) a4) a5) a6
def put33 {α : Type} (a0 : S256x256.Idx → α) (a1 : S256x128.Idx → α) (a2 : S256x128.Idx → α) (a3 : S256x512.Idx → α) (a4 : S256x512.Idx → α) (a5 : S256x512.Idx → α) (a6 : S256x1024.Idx → α) := over33 (fun _ => first (R := 255) (C := 255) a0) a0 a1 a2 a3 a4 a5 a6
/-- The projections' gradient, whatever was there before. -/
def grads (X : Blocks F) : S256x3072.Idx → Elt F .bf16 :=
  put33 (piece0 X) (piece1 X) (piece2 X) (piece3 X) (piece4 X) (piece5 X) (piece6 X)
/-- The first weight's running sum, in its six column blocks. -/
def wpiece0 (X : Blocks F) (D : S256x3072.Idx → Elt F .bf16) (S : State F) : S1024x512.Idx → Elt F .f32 := k0_pay33 (v46 X) (rowsOf (s := S256x3072) ![0, 0] S256x512.size inb_S256x3072_S256x512_0_0 D) (rowsOf (s := S1024x3072) ![0, 0] S1024x512.size inb_S1024x3072_S1024x512_0_0 S.W)
def wpiece1 (X : Blocks F) (D : S256x3072.Idx → Elt F .bf16) (S : State F) : S1024x512.Idx → Elt F .f32 := k0_pay41 (v46 X) (rowsOf (s := S256x3072) ![0, 512] S256x512.size inb_S256x3072_S256x512_0_512 D) (rowsOf (s := S1024x3072) ![0, 512] S1024x512.size inb_S1024x3072_S1024x512_0_512 S.W)
def wpiece2 (X : Blocks F) (D : S256x3072.Idx → Elt F .bf16) (S : State F) : S1024x512.Idx → Elt F .f32 := k0_pay50 (v46 X) (rowsOf (s := S256x3072) ![0, 1024] S256x512.size inb_S256x3072_S256x512_0_1024 D) (rowsOf (s := S1024x3072) ![0, 1024] S1024x512.size inb_S1024x3072_S1024x512_0_1024 S.W)
def wpiece3 (X : Blocks F) (D : S256x3072.Idx → Elt F .bf16) (S : State F) : S1024x512.Idx → Elt F .f32 := k0_pay58 (v46 X) (rowsOf (s := S256x3072) ![0, 1536] S256x512.size inb_S256x3072_S256x512_0_1536 D) (rowsOf (s := S1024x3072) ![0, 1536] S1024x512.size inb_S1024x3072_S1024x512_0_1536 S.W)
def wpiece4 (X : Blocks F) (D : S256x3072.Idx → Elt F .bf16) (S : State F) : S1024x512.Idx → Elt F .f32 := k0_pay65 (v46 X) (rowsOf (s := S256x3072) ![0, 2048] S256x512.size inb_S256x3072_S256x512_0_2048 D) (rowsOf (s := S1024x3072) ![0, 2048] S1024x512.size inb_S1024x3072_S1024x512_0_2048 S.W)
def wpiece5 (X : Blocks F) (D : S256x3072.Idx → Elt F .bf16) (S : State F) : S1024x512.Idx → Elt F .f32 := k0_pay91 (v46 X) (rowsOf (s := S256x3072) ![0, 2560] S256x512.size inb_S256x3072_S256x512_0_2560 D) (rowsOf (s := S1024x3072) ![0, 2560] S1024x512.size inb_S1024x3072_S1024x512_0_2560 S.W)
/-- The state after a stage that reads the projections' gradient `D`. -/
def stage (X : Blocks F) (D : S256x3072.Idx → Elt F .bf16) (S : State F) : State F where
  gx := k0_pay109 X.gin (v41 X) (v43 X) (v465 X D) X.dx2
  uq := k0_pay61 (v49 X) X.gcq (v73 X) (raw35 X) S.uq
  ukv := k0_pay140 (v49 X) X.gckv (v373 X) (raw36 X) S.ukv
  gi := k0_pay108 (v43 X) (v465 X D) S.gi
  gcq := k0_pay63 (v49 X) (v73 X) (raw35 X) X.wuq S.gcq
  gckv := k0_pay142 (v49 X) (v373 X) (raw36 X) X.wukv S.gckv
  gq := k0_pay60 (v49 X) (v222 X) (v275 X) S.gq
  gk := putOf (s := S1x256) ![0, 128] S1x128.size
    inb_S1x256_S1x128_0_128 (putOf (s := S1x256) ![0, 0] S1x128.size
    inb_S1x256_S1x128_0_0 (S.gk) (k0_pay137 (v49 X) (v650 X) (rowsOf (s := S1x256) ![0, 0] S1x128.size inb_S1x256_S1x128_0_0 S.gk))) (k0_pay138 (v49 X) (v589 X) (v653 X) (rowsOf (s := S1x256) ![0, 128] S1x128.size inb_S1x256_S1x128_0_128 S.gk))
  W := putOf (s := S1024x3072) ![0, 2560] S1024x512.size
    inb_S1024x3072_S1024x512_0_2560 (putOf (s := S1024x3072) ![0, 2048] S1024x512.size
    inb_S1024x3072_S1024x512_0_2048 (putOf (s := S1024x3072) ![0, 1536] S1024x512.size
    inb_S1024x3072_S1024x512_0_1536 (putOf (s := S1024x3072) ![0, 1024] S1024x512.size
    inb_S1024x3072_S1024x512_0_1024 (putOf (s := S1024x3072) ![0, 512] S1024x512.size
    inb_S1024x3072_S1024x512_0_512 (putOf (s := S1024x3072) ![0, 0] S1024x512.size
    inb_S1024x3072_S1024x512_0_0 (S.W) (wpiece0 X D S)) (wpiece1 X D S)) (wpiece2 X D S)) (wpiece3 X D S)) (wpiece4 X D S)) (wpiece5 X D S)
/-- The state with the running sums at zero. -/
def cleared (S : State F) : State F where
  gx := S.gx
  W := k0_pay1
  uq := k0_pay3
  ukv := k0_pay4
  gi := k0_pay5
  gcq := k0_pay6
  gckv := k0_pay7
  gq := k0_pay8
  gk := k0_pay9

/-! The chains of column blocks do not depend on what was there before. -/

/-- A column block's outside. -/
theorem outside {R C a n : ℕ} (h : ∀ d, (![0, a] : Fin 2 → ℕ) d + (![R, n] : Fin 2 → ℕ) d ≤ (![R, C] : Fin 2 → ℕ) d)
    (x : Shape.Idx ⟨2, ![R, C]⟩) (hx : x ∉ (Rect.unit (s := ⟨2, ![R, C]⟩) ![0, a] ![R, n] h).set) :
    ¬ (a ≤ (x 1).val ∧ (x 1).val < a + n) := fun hc => hx <| by
  rw [Rect.mem_set_unit]
  intro d
  have hr : (x 0).val < R := (x 0).isLt
  fin_cases d
  · exact ⟨Nat.zero_le _, by show (x 0).val < 0 + R; omega⟩
  · exact ⟨hc.1, hc.2⟩

/-- Column blocks apart do not touch each other. -/
theorem cols_put {R C n a b : ℕ} {α : Type} (ha hb) (hab : a + n ≤ b ∨ b + n ≤ a) (Y : Shape.Idx ⟨2, ![R, C]⟩ → α)
    (w : Shape.Idx ⟨2, ![R, n]⟩ → α) :
    rowsOf (s := ⟨2, ![R, C]⟩) ![0, a] ![R, n] ha (putOf (s := ⟨2, ![R, C]⟩) ![0, b] ![R, n] hb Y w)
      = rowsOf (s := ⟨2, ![R, C]⟩) ![0, a] ![R, n] ha Y :=
  rowsOf_putOf_ne _ _ _ ha hb Y w 1 hab

theorem put_agree {R C n a : ℕ} {α : Type} (h) (Y Z : Shape.Idx ⟨2, ![R, C]⟩ → α) (w : Shape.Idx ⟨2, ![R, n]⟩ → α)
    (x : Shape.Idx ⟨2, ![R, C]⟩) (hx : ¬ (a ≤ (x 1).val ∧ (x 1).val < a + n) → Y x = Z x) :
    putOf (s := ⟨2, ![R, C]⟩) ![0, a] ![R, n] h Y w x = putOf (s := ⟨2, ![R, C]⟩) ![0, a] ![R, n] h Z w x := by
  unfold putOf
  by_cases hm : x ∈ (Rect.unit (s := ⟨2, ![R, C]⟩) ![0, a] ![R, n] h).set
  · obtain ⟨y, rfl⟩ := (Rect.unit (s := ⟨2, ![R, C]⟩) ![0, a] ![R, n] h).exists_idx_of_mem hm
    exact (Rect.overlay_emb _ _ _ y).trans (Rect.overlay_emb _ _ _ y).symm
  · rw [Rect.overlay_of_not_mem _ _ _ hm, Rect.overlay_of_not_mem _ _ _ hm]
    exact hx (outside h x hm)

theorem put35_any {α : Type} (Y Z : S256x1024.Idx → α) (a b c d : S256x256.Idx → α) : over35 Y a b c d = over35 Z a b c d := by
  funext x
  refine put_agree _ _ _ _ x fun h4 => put_agree _ _ _ _ x fun h3 => put_agree _ _ _ _ x fun h2 => put_agree _ _ _ _ x fun h1 => ?_
  have hc : (x 1).val < 1024 := (x 1).isLt
  omega

theorem put36_any {α : Type} (Y Z : S256x1024.Idx → α) (a b c d : S256x128.Idx → α) (e : S256x512.Idx → α) : over36 Y a b c d e = over36 Z a b c d e := by
  funext x
  refine put_agree _ _ _ _ x fun h5 => put_agree _ _ _ _ x fun h4 => put_agree _ _ _ _ x fun h3 => put_agree _ _ _ _ x fun h2 => put_agree _ _ _ _ x fun h1 => ?_
  have hc : (x 1).val < 1024 := (x 1).isLt
  omega

theorem put33_any {α : Type} (Y Z : S256x3072.Idx → α) (a0 : S256x256.Idx → α) (a1 : S256x128.Idx → α) (a2 : S256x128.Idx → α) (a3 : S256x512.Idx → α) (a4 : S256x512.Idx → α) (a5 : S256x512.Idx → α) (a6 : S256x1024.Idx → α) : over33 Y a0 a1 a2 a3 a4 a5 a6 = over33 Z a0 a1 a2 a3 a4 a5 a6 := by
  funext x
  refine put_agree _ _ _ _ x fun h7 => put_agree _ _ _ _ x fun h6 => put_agree _ _ _ _ x fun h5 => put_agree _ _ _ _ x fun h4 => put_agree _ _ _ _ x fun h3 => put_agree _ _ _ _ x fun h2 => put_agree _ _ _ _ x fun h1 => ?_
  have hc : (x 1).val < 3072 := (x 1).isLt
  omega

theorem put35_fold {α : Type} (Y : Shape.Idx ⟨2, ![256, 1024]⟩ → α) (a : Shape.Idx ⟨2, ![256, 256]⟩ → α) (b : Shape.Idx ⟨2, ![256, 256]⟩ → α) (c : Shape.Idx ⟨2, ![256, 256]⟩ → α) (d : Shape.Idx ⟨2, ![256, 256]⟩ → α) (h0 h1 h2 h3) :
    putOf (s := ⟨2, ![256, 1024]⟩) ![0, 768] ![256, 256] h3 (putOf (s := ⟨2, ![256, 1024]⟩) ![0, 512] ![256, 256] h2 (putOf (s := ⟨2, ![256, 1024]⟩) ![0, 256] ![256, 256] h1 (putOf (s := ⟨2, ![256, 1024]⟩) ![0, 0] ![256, 256] h0 (Y) a) b) c) d
      = put35 a b c d := put35_any _ _  _ _ _ _

theorem put36_fold {α : Type} (Y : Shape.Idx ⟨2, ![256, 1024]⟩ → α) (a : Shape.Idx ⟨2, ![256, 128]⟩ → α) (b : Shape.Idx ⟨2, ![256, 128]⟩ → α) (c : Shape.Idx ⟨2, ![256, 128]⟩ → α) (d : Shape.Idx ⟨2, ![256, 128]⟩ → α) (e : Shape.Idx ⟨2, ![256, 512]⟩ → α) (h0 h1 h2 h3 h4) :
    putOf (s := ⟨2, ![256, 1024]⟩) ![0, 512] ![256, 512] h4 (putOf (s := ⟨2, ![256, 1024]⟩) ![0, 384] ![256, 128] h3 (putOf (s := ⟨2, ![256, 1024]⟩) ![0, 256] ![256, 128] h2 (putOf (s := ⟨2, ![256, 1024]⟩) ![0, 128] ![256, 128] h1 (putOf (s := ⟨2, ![256, 1024]⟩) ![0, 0] ![256, 128] h0 (Y) a) b) c) d) e
      = put36 a b c d e := put36_any _ _  _ _ _ _ _

theorem put33_fold {α : Type} (Y : Shape.Idx ⟨2, ![256, 3072]⟩ → α) (a0 : Shape.Idx ⟨2, ![256, 256]⟩ → α) (a1 : Shape.Idx ⟨2, ![256, 128]⟩ → α) (a2 : Shape.Idx ⟨2, ![256, 128]⟩ → α) (a3 : Shape.Idx ⟨2, ![256, 512]⟩ → α) (a4 : Shape.Idx ⟨2, ![256, 512]⟩ → α) (a5 : Shape.Idx ⟨2, ![256, 512]⟩ → α) (a6 : Shape.Idx ⟨2, ![256, 1024]⟩ → α) (h0 h1 h2 h3 h4 h5 h6) :
    putOf (s := ⟨2, ![256, 3072]⟩) ![0, 2048] ![256, 1024] h6 (putOf (s := ⟨2, ![256, 3072]⟩) ![0, 1536] ![256, 512] h5 (putOf (s := ⟨2, ![256, 3072]⟩) ![0, 1024] ![256, 512] h4 (putOf (s := ⟨2, ![256, 3072]⟩) ![0, 512] ![256, 512] h3 (putOf (s := ⟨2, ![256, 3072]⟩) ![0, 384] ![256, 128] h2 (putOf (s := ⟨2, ![256, 3072]⟩) ![0, 256] ![256, 128] h1 (putOf (s := ⟨2, ![256, 3072]⟩) ![0, 0] ![256, 256] h0 (Y) a0) a1) a2) a3) a4) a5) a6
      = put33 a0 a1 a2 a3 a4 a5 a6 := put33_any _ _  _ _ _ _ _ _ _

/-- Two blocks side by side. -/
def pairOf {α : Type} (a b : S256x128.Idx → α) : S256x256.Idx → α :=
  concatenate S256x256 1 [⟨S256x128, a⟩, ⟨S256x128, b⟩] concatenates_S256x128_S256x128_S256x256_d1
theorem pair_fold {α : Type} (a b : S256x128.Idx → α) (h) :
    concatenate S256x256 1 [⟨S256x128, a⟩, ⟨S256x128, b⟩] h = pairOf a b := rfl

/-- Eight rows, repeated. -/
def tileOf {α : Type} (v : S8x512.Idx → α) : S256x512.Idx → α :=
  concatenate S256x512 0 [⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩] concatenates_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S8x512_S256x512_d0
theorem tile_fold {α : Type} (v : S8x512.Idx → α) (h) :
    concatenate S256x512 0 [⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩, ⟨S8x512, v⟩] h = tileOf v := rfl

end Cert.Proof.Proj
-- ==== Proof.ProjProg.lean ====
module

public import proofs.«01_k».proof.Proof.ProjModel

/-! A grid point of the projections' backward as four steps: clear the sums, the stage on one buffer, the same
    stage on the other, the copy out. -/

@[expose] public section

set_option maxRecDepth 65536

noncomputable section

namespace Cert.Proof.Proj

open Cert.Kernel4Ideal Cert.Kernel4Ideal.Gen
open Idealize.ShloMosaic Idealize.ShloMosaic.TcCoe Idealize.ShloMosaic.Tactic
open Idealize.SL.Sem

variable {F : FTy → Type} [FloatOps F] [Named F]

section Programs
variable (i : grid0.Coords)
  (arg1 : Memref sig .tc .vmem S256x1024 .f32) (harg1 : arg1.IsWhole)
  (arg2 : Memref sig .tc .vmem S256x512 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x512 .f32) (harg6 : arg6.IsWhole)
  (arg7 : Memref sig .tc .vmem S256x512 .bf16) (harg7 : arg7.IsWhole)
  (arg8 : Memref sig .tc .vmem S256x1024 .bf16) (harg8 : arg8.IsWhole)
  (arg9 : Memref sig .tc .vmem S256x512 .f32) (harg9 : arg9.IsWhole)
  (arg10 : Memref sig .tc .vmem S8x512 .f32) (harg10 : arg10.IsWhole)
  (arg11 : Memref sig .tc .vmem S256x1024 .f32) (harg11 : arg11.IsWhole)
  (arg12 : Memref sig .tc .vmem S256x128 .f32) (harg12 : arg12.IsWhole)
  (arg13 : Memref sig .tc .vmem S256x128 .f32) (harg13 : arg13.IsWhole)
  (arg14 : Memref sig .tc .vmem S256x128 .f32) (harg14 : arg14.IsWhole)
  (arg15 : Memref sig .tc .vmem S1x1024 .f32) (harg15 : arg15.IsWhole)
  (arg16 : Memref sig .tc .vmem S1024x3072 .bf16) (harg16 : arg16.IsWhole)
  (arg17 : Memref sig .tc .vmem S1x256 .f32) (harg17 : arg17.IsWhole)
  (arg18 : Memref sig .tc .vmem S256x1024 .bf16) (harg18 : arg18.IsWhole)
  (arg19 : Memref sig .tc .vmem S1x128 .f32) (harg19 : arg19.IsWhole)
  (arg20 : Memref sig .tc .vmem S128x1024 .bf16) (harg20 : arg20.IsWhole)
  (arg21 : Memref sig .tc .vmem S1x256 .f32) (harg21 : arg21.IsWhole)
  (arg22 : Memref sig .tc .vmem S1x256 .f32) (harg22 : arg22.IsWhole)
  (arg23 : Memref sig .tc .vmem S8x512 .f32) (harg23 : arg23.IsWhole)
  (arg24 : Memref sig .tc .vmem S256x1024 .f32) (harg24 : arg24.IsWhole)
  (arg25 : Memref sig .tc .hbm S1024x3072 .f32) (harg25 : arg25.IsWhole)
  (arg26 : Memref sig .tc .vmem S256x1024 .f32) (harg26 : arg26.IsWhole)
  (arg27 : Memref sig .tc .vmem S128x1024 .f32) (harg27 : arg27.IsWhole)
  (arg28 : Memref sig .tc .vmem S1x1024 .f32) (harg28 : arg28.IsWhole)
  (arg29 : Memref sig .tc .vmem S1x256 .f32) (harg29 : arg29.IsWhole)
  (arg30 : Memref sig .tc .vmem S1x128 .f32) (harg30 : arg30.IsWhole)
  (arg31 : Memref sig .tc .vmem S1x256 .f32) (harg31 : arg31.IsWhole)
  (arg32 : Memref sig .tc .vmem S1x256 .f32) (harg32 : arg32.IsWhole)
  (arg33 : Memref sig .tc .vmem S256x3072 .bf16) (harg33 : arg33.IsWhole)
  (arg34 : Memref sig .tc .vmem S256x3072 .bf16) (harg34 : arg34.IsWhole)
  (arg35 : Memref sig .tc .vmem S256x1024 .bf16) (harg35 : arg35.IsWhole)
  (arg36 : Memref sig .tc .vmem S256x1024 .bf16) (harg36 : arg36.IsWhole)
  (arg37 : Memref sig .tc .vmem S1024x3072 .f32) (harg37 : arg37.IsWhole)
  (arg38 : DmaSems sig S_)

/-- The running sums and the second buffer at zero. -/
def clearProg : Prog (TpuEff nD τ sig (Elt F) Λ₀ .tc) PUnit := do
  let v33 : Vec F S1024x3072 .f32 ← Prog.lift (.load arg37 (Rect.unit (s := S1024x3072) ![0, 0] S1024x3072.size inb_S1024x3072_S1024x3072_0_0).toLoadRect (View.loadsAt_vmem h_S1024x3072))
  Prog.lift (.store arg37 (Rect.unit (s := S1024x3072) ![0, 0] S1024x3072.size inb_S1024x3072_S1024x3072_0_0) (k0_pay1 (F := F)) Finset.univ (View.stores_vmem_bits_univ h_S1024x3072 rfl) (.inl rfl))
  let v37 : Vec F S256x3072 .bf16 ← Prog.lift (.load arg34 (Rect.unit (s := S256x3072) ![0, 0] S256x3072.size inb_S256x3072_S256x3072_0_0).toLoadRect (View.loadsAt_vmem h_S256x3072))
  Prog.lift (.store arg34 (Rect.unit (s := S256x3072) ![0, 0] S256x3072.size inb_S256x3072_S256x3072_0_0) (k0_pay2 (F := F)) Finset.univ (View.stores_vmem h_S256x3072 (harg34.storeExact_slice rfl _ packedbf16_S256x3072_S256x3072_0_0) (fun _ => rfl)) (.inl rfl))
  let v41 : Vec F S256x1024 .f32 ← Prog.lift (.load arg26 (Rect.unit (s := S256x1024) ![0, 0] S256x1024.size inb_S256x1024_S256x1024_0_0).toLoadRect (View.loadsAt_vmem h_S256x1024))
  Prog.lift (.store arg26 (Rect.unit (s := S256x1024) ![0, 0] S256x1024.size inb_S256x1024_S256x1024_0_0) (k0_pay3 (F := F)) Finset.univ (View.stores_vmem_bits_univ h_S256x1024 rfl) (.inl rfl))
  let v43 : Vec F S128x1024 .f32 ← Prog.lift (.load arg27 (Rect.unit (s := S128x1024) ![0, 0] S128x1024.size inb_S128x1024_S128x1024_0_0).toLoadRect (View.loadsAt_vmem h_S128x1024))
  Prog.lift (.store arg27 (Rect.unit (s := S128x1024) ![0, 0] S128x1024.size inb_S128x1024_S128x1024_0_0) (k0_pay4 (F := F)) Finset.univ (View.stores_vmem_bits_univ h_S128x1024 rfl) (.inl rfl))
  let v45 : Vec F S1x1024 .f32 ← Prog.lift (.load arg28 (Rect.unit (s := S1x1024) ![0, 0] S1x1024.size inb_S1x1024_S1x1024_0_0).toLoadRect (View.loadsAt_vmem h_S1x1024))
  Prog.lift (.store arg28 (Rect.unit (s := S1x1024) ![0, 0] S1x1024.size inb_S1x1024_S1x1024_0_0) (k0_pay5 (F := F)) Finset.univ (View.stores_vmem_bits_univ h_S1x1024 rfl) (.inl rfl))
  let v47 : Vec F S1x256 .f32 ← Prog.lift (.load arg29 (Rect.unit (s := S1x256) ![0, 0] S1x256.size inb_S1x256_S1x256_0_0).toLoadRect (View.loadsAt_vmem h_S1x256))
  Prog.lift (.store arg29 (Rect.unit (s := S1x256) ![0, 0] S1x256.size inb_S1x256_S1x256_0_0) (k0_pay6 (F := F)) Finset.univ (View.stores_vmem_bits_univ h_S1x256 rfl) (.inl rfl))
  let v49 : Vec F S1x128 .f32 ← Prog.lift (.load arg30 (Rect.unit (s := S1x128) ![0, 0] S1x128.size inb_S1x128_S1x128_0_0).toLoadRect (View.loadsAt_vmem h_S1x128))
  Prog.lift (.store arg30 (Rect.unit (s := S1x128) ![0, 0] S1x128.size inb_S1x128_S1x128_0_0) (k0_pay7 (F := F)) Finset.univ (View.stores_vmem_bits_univ h_S1x128 rfl) (.inl rfl))
  let v51 : Vec F S1x256 .f32 ← Prog.lift (.load arg31 (Rect.unit (s := S1x256) ![0, 0] S1x256.size inb_S1x256_S1x256_0_0).toLoadRect (View.loadsAt_vmem h_S1x256))
  Prog.lift (.store arg31 (Rect.unit (s := S1x256) ![0, 0] S1x256.size inb_S1x256_S1x256_0_0) (k0_pay8 (F := F)) Finset.univ (View.stores_vmem_bits_univ h_S1x256 rfl) (.inl rfl))
  let v53 : Vec F S1x256 .f32 ← Prog.lift (.load arg32 (Rect.unit (s := S1x256) ![0, 0] S1x256.size inb_S1x256_S1x256_0_0).toLoadRect (View.loadsAt_vmem h_S1x256))
  Prog.lift (.store arg32 (Rect.unit (s := S1x256) ![0, 0] S1x256.size inb_S1x256_S1x256_0_0) (k0_pay9 (F := F)) Finset.univ (View.stores_vmem_bits_univ h_S1x256 rfl) (.inl rfl))
  pure ⟨⟩

/-- The stage: the gradient read in `arg34` is spent, the next one is written to `arg33`. -/
def stageProg (arg0 : BitVec 32) : Prog (TpuEff nD τ sig (Elt F) Λ₀ .tc) PUnit := do
  k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg0
  let v798 : Vec F S256x1024 .bf16 ← Prog.lift (.load arg8 (Rect.unit (s := S256x1024) ![0, 0] S256x1024.size inb_S256x1024_S256x1024_0_0).toLoadRect (View.loadsAt_vmem h_S256x1024))
  let v800 : Vec F S256x1024 .bf16 ← Prog.lift (.load arg33 (Rect.unit (s := S256x3072) ![0, 2048] S256x1024.size inb_S256x3072_S256x1024_0_2048).toLoadRect (View.loadsAt_vmem h_S256x1024))
  Prog.lift (.store arg33 (Rect.unit (s := S256x3072) ![0, 2048] S256x1024.size inb_S256x3072_S256x1024_0_2048) (k0_pay10 v798) Finset.univ (View.stores_vmem h_S256x1024 (harg33.storeExact_slice rfl _ packedbf16_S256x3072_S256x1024_0_2048) (fun _ => rfl)) (.inl rfl))
  pure ⟨⟩

/-- The first weight's sum, copied out. -/
def copyProg : Prog (TpuEff nD τ sig (Elt F) Λ₀ .tc) PUnit := do
  Prog.lift (.enqueueDma arg37 (.here arg25) (.dma arg38.sem) harg37.wordExact harg25.wordExact ⟨Or.inl rfl, trivial⟩)
  Prog.lift (.waitDma2 arg38.sem arg37 arg25 harg37.wordExact harg25.wordExact)
  pure ⟨⟩

theorem swapped (arg0 : BitVec 32) :
    k0_part38 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 arg0
      = k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg34 harg34 arg33 harg33 arg35 harg35 arg36 harg36 arg37 harg37 arg38 arg0 := by
  rfl

theorem prog_eq : cc0_bwd_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38
    = ((if k0_cond1 i = 1#1 then clearProg arg26 arg27 arg28 arg29 arg30 arg31 arg32 arg34 harg34 arg37 else pure ⟨⟩) >>= fun _ =>
      (if k0_cond2 i = 1#1 then stageProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 (BitVec.ofNat 32 (i 0).val) else pure ⟨⟩) >>= fun _ =>
      (if k0_cond3 i = 1#1 then stageProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg34 harg34 arg33 harg33 arg35 harg35 arg36 harg36 arg37 harg37 arg38 (BitVec.ofNat 32 (i 0).val) else pure ⟨⟩) >>= fun _ =>
      (if Scalar.cmpi .ne (Scalar.extui (Scalar.cmpi .eq (BitVec.ofNat 32 (i 0).val) 32#32) : BitVec 32) 0#32 = 1#1 then copyProg arg25 harg25 arg37 harg37 arg38 else pure ⟨⟩)) := by
  rw [cc0_bwd_proj_eq_skeleton]
  unfold cc0_bwd_proj_skel
  by_cases h1 : k0_cond1 i = 1#1 <;> by_cases h2 : k0_cond2 i = 1#1 <;> by_cases h3 : k0_cond3 i = 1#1 <;>
    by_cases h4 : Scalar.cmpi .ne (Scalar.extui (Scalar.cmpi .eq (BitVec.ofNat 32 (i 0).val) 32#32) : BitVec 32) 0#32 = 1#1 <;>
    simp only [h1, h2, h3, h4, dite_true, dite_false, swapped, if_true, if_false, stageProg, clearProg, copyProg, bind_assoc, pure_bind] <;> rfl

end Programs

end Cert.Proof.Proj

end
-- ==== Proof.ProjBody.lean ====
module

public import proofs.«01_k».proof.Proof.ProjProg
public import proofs.«01_k».proof.Proof.Gen.Kernel4Ideal.Launch
public import Idealize.ShloMosaic.Lib.Affine
public import Idealize.ShloMosaic.Lib.Tactic
public import Idealize.ShloMosaic.Lib.WholeRead

/-! The stage of the projections' backward over its memory. -/

@[expose] public section

set_option maxRecDepth 16384
set_option maxHeartbeats 16000000

noncomputable section

namespace Cert.Proof.Proj

open Cert.Kernel4Ideal Cert.Kernel4Ideal.Gen
open Cert.Proof.Flash (rowsOf putOf readAt_rows readCov_rows read_writes_put read_writes_nil rowsOf_whole putOf_whole rowsOf_putOf)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

section Body
variable (c : Dev nD) (i : grid0.Coords)
  (arg1 : Memref sig .tc .vmem S256x1024 .f32) (harg1 : arg1.IsWhole)
  (arg2 : Memref sig .tc .vmem S256x512 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x512 .f32) (harg6 : arg6.IsWhole)
  (arg7 : Memref sig .tc .vmem S256x512 .bf16) (harg7 : arg7.IsWhole)
  (arg8 : Memref sig .tc .vmem S256x1024 .bf16) (harg8 : arg8.IsWhole)
  (arg9 : Memref sig .tc .vmem S256x512 .f32) (harg9 : arg9.IsWhole)
  (arg10 : Memref sig .tc .vmem S8x512 .f32) (harg10 : arg10.IsWhole)
  (arg11 : Memref sig .tc .vmem S256x1024 .f32) (harg11 : arg11.IsWhole)
  (arg12 : Memref sig .tc .vmem S256x128 .f32) (harg12 : arg12.IsWhole)
  (arg13 : Memref sig .tc .vmem S256x128 .f32) (harg13 : arg13.IsWhole)
  (arg14 : Memref sig .tc .vmem S256x128 .f32) (harg14 : arg14.IsWhole)
  (arg15 : Memref sig .tc .vmem S1x1024 .f32) (harg15 : arg15.IsWhole)
  (arg16 : Memref sig .tc .vmem S1024x3072 .bf16) (harg16 : arg16.IsWhole)
  (arg17 : Memref sig .tc .vmem S1x256 .f32) (harg17 : arg17.IsWhole)
  (arg18 : Memref sig .tc .vmem S256x1024 .bf16) (harg18 : arg18.IsWhole)
  (arg19 : Memref sig .tc .vmem S1x128 .f32) (harg19 : arg19.IsWhole)
  (arg20 : Memref sig .tc .vmem S128x1024 .bf16) (harg20 : arg20.IsWhole)
  (arg21 : Memref sig .tc .vmem S1x256 .f32) (harg21 : arg21.IsWhole)
  (arg22 : Memref sig .tc .vmem S1x256 .f32) (harg22 : arg22.IsWhole)
  (arg23 : Memref sig .tc .vmem S8x512 .f32) (harg23 : arg23.IsWhole)
  (arg24 : Memref sig .tc .vmem S256x1024 .f32) (harg24 : arg24.IsWhole)
  (arg25 : Memref sig .tc .hbm S1024x3072 .f32) (harg25 : arg25.IsWhole)
  (arg26 : Memref sig .tc .vmem S256x1024 .f32) (harg26 : arg26.IsWhole)
  (arg27 : Memref sig .tc .vmem S128x1024 .f32) (harg27 : arg27.IsWhole)
  (arg28 : Memref sig .tc .vmem S1x1024 .f32) (harg28 : arg28.IsWhole)
  (arg29 : Memref sig .tc .vmem S1x256 .f32) (harg29 : arg29.IsWhole)
  (arg30 : Memref sig .tc .vmem S1x128 .f32) (harg30 : arg30.IsWhole)
  (arg31 : Memref sig .tc .vmem S1x256 .f32) (harg31 : arg31.IsWhole)
  (arg32 : Memref sig .tc .vmem S1x256 .f32) (harg32 : arg32.IsWhole)
  (arg33 : Memref sig .tc .vmem S256x3072 .bf16) (harg33 : arg33.IsWhole)
  (arg34 : Memref sig .tc .vmem S256x3072 .bf16) (harg34 : arg34.IsWhole)
  (arg35 : Memref sig .tc .vmem S256x1024 .bf16) (harg35 : arg35.IsWhole)
  (arg36 : Memref sig .tc .vmem S256x1024 .bf16) (harg36 : arg36.IsWhole)
  (arg37 : Memref sig .tc .vmem S1024x3072 .f32) (harg37 : arg37.IsWhole)
  (arg38 : DmaSems sig S_)
  (X : Blocks F) (S : State F) (D : S256x3072.Idx → Elt F .bf16)

/-- The blocks a grid point reads. -/
def blocks : sProp 𝕄 :=
  iprop(owns (c : Thread nD τ) arg1 fullShare X.x
    ∗ owns (c : Thread nD τ) arg2 fullShare X.proj
    ∗ owns (c : Thread nD τ) arg3 fullShare X.ccx
    ∗ owns (c : Thread nD τ) arg4 fullShare X.dq
    ∗ owns (c : Thread nD τ) arg5 fullShare X.dk
    ∗ owns (c : Thread nD τ) arg6 fullShare X.dv
    ∗ owns (c : Thread nD τ) arg7 fullShare X.dza
    ∗ owns (c : Thread nD τ) arg8 fullShare X.dcbzc
    ∗ owns (c : Thread nD τ) arg9 fullShare X.du
    ∗ owns (c : Thread nD τ) arg10 fullShare X.nxt
    ∗ owns (c : Thread nD τ) arg11 fullShare X.dx2
    ∗ owns (c : Thread nD τ) arg12 fullShare X.tc
    ∗ owns (c : Thread nD τ) arg13 fullShare X.ts1
    ∗ owns (c : Thread nD τ) arg14 fullShare X.ts2
    ∗ owns (c : Thread nD τ) arg15 fullShare X.gin
    ∗ owns (c : Thread nD τ) arg16 fullShare X.win
    ∗ owns (c : Thread nD τ) arg17 fullShare X.gcq
    ∗ owns (c : Thread nD τ) arg18 fullShare X.wuq
    ∗ owns (c : Thread nD τ) arg19 fullShare X.gckv
    ∗ owns (c : Thread nD τ) arg20 fullShare X.wukv
    ∗ owns (c : Thread nD τ) arg21 fullShare X.gq
    ∗ owns (c : Thread nD τ) arg22 fullShare X.gk
    ∗ owns (c : Thread nD τ) arg23 fullShare X.cw)
/-- The state a grid point carries. -/
def held : sProp 𝕄 :=
  iprop(owns (c : Thread nD τ) arg24 fullShare S.gx
    ∗ owns (c : Thread nD τ) arg26 fullShare S.uq
    ∗ owns (c : Thread nD τ) arg27 fullShare S.ukv
    ∗ owns (c : Thread nD τ) arg28 fullShare S.gi
    ∗ owns (c : Thread nD τ) arg29 fullShare S.gcq
    ∗ owns (c : Thread nD τ) arg30 fullShare S.gckv
    ∗ owns (c : Thread nD τ) arg31 fullShare S.gq
    ∗ owns (c : Thread nD τ) arg32 fullShare S.gk
    ∗ owns (c : Thread nD τ) arg37 fullShare S.W)
/-- The two scratch buffers at anything. -/
def loose : sProp 𝕄 :=
  iprop((∃ Y, owns (c : Thread nD τ) arg35 fullShare Y) ∗ (∃ Y, owns (c : Thread nD τ) arg36 fullShare Y))

theorem stage_point (hX : X.pos = BitVec.ofNat 32 (i 0).val) :
    iprop(blocks c arg1 arg2 arg3 arg4 arg5 arg6 arg7 arg8 arg9 arg10 arg11 arg12 arg13 arg14 arg15 arg16 arg17 arg18 arg19 arg20 arg21 arg22 arg23 X ∗ held c arg24 arg26 arg27 arg28 arg29 arg30 arg31 arg32 arg37 S
      ∗ (∃ Y, owns (c : Thread nD τ) arg33 fullShare Y) ∗ owns (c : Thread nD τ) arg34 fullShare D ∗ loose c arg35 arg36)
      ⊢ wp frame (wpE (defs₀ (F := F)) Variants.none (c : Thread nD τ) none) Set.univ
        (stageProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 (BitVec.ofNat 32 (i 0).val))
        (fun _ => iprop(blocks c arg1 arg2 arg3 arg4 arg5 arg6 arg7 arg8 arg9 arg10 arg11 arg12 arg13 arg14 arg15 arg16 arg17 arg18 arg19 arg20 arg21 arg22 arg23 X ∗ held c arg24 arg26 arg27 arg28 arg29 arg30 arg31 arg32 arg37 (stage X D S)
          ∗ owns (c : Thread nD τ) arg33 fullShare (grads X) ∗ owns (c : Thread nD τ) arg34 fullShare D ∗ loose c arg35 arg36)) := by
  unfold blocks held loose owns
  iintro ⟨⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩, ⟨%f21, %h21, H21⟩, ⟨%f22, %h22, H22⟩, ⟨%f23, %h23, H23⟩⟩, ⟨⟨%f24, %h24, H24⟩, ⟨%f26, %h26, H26⟩, ⟨%f27, %h27, H27⟩, ⟨%f28, %h28, H28⟩, ⟨%f29, %h29, H29⟩, ⟨%f30, %h30, H30⟩, ⟨%f31, %h31, H31⟩, ⟨%f32, %h32, H32⟩, ⟨%f37, %h37, H37⟩⟩, ⟨%Y33, %f33, %h33, H33⟩, ⟨%f34, %h34, H34⟩, ⟨%Y35, %f35, %h35, H35⟩, ⟨%Y36, %f36, %h36, H36⟩⟩
  obtain ⟨pos, x1, x2, x3, x4, x5, x6, x7, x8, x9, x10, x11, x12, x13, x14, x15, x16, x17, x18, x19, x20, x21, x22, x23⟩ := X
  obtain ⟨x24, x26, x27, x28, x29, x30, x31, x32, x37⟩ := S
  dsimp only at hX h1 h2 h3 h4 h5 h6 h7 h8 h9 h10 h11 h12 h13 h14 h15 h16 h17 h18 h19 h20 h21 h22 h23 h24 h26 h27 h28 h29 h30 h31 h32 h37
  subst hX h1 h2 h3 h4 h5 h6 h7 h8 h9 h10 h11 h12 h13 h14 h15 h16 h17 h18 h19 h20 h21 h22 h23 h24 h26 h27 h28 h29 h30 h31 h32 h37 h34
  sl_unfold [stageProg]
  sl_exec
  sl_step
  isplitl [H1 H2 H3 H4 H5 H6 H7 H8 H9 H10 H11 H12 H13 H14 H15 H16 H17 H18 H19 H20 H21 H22 H23]
  · isplitl [H1]; · (iexists _; isplitr; pick_goal 2; (iexact H1); ipureintro; rfl)
    isplitl [H2]; · (iexists _; isplitr; pick_goal 2; (iexact H2); ipureintro; rfl)
    isplitl [H3]; · (iexists _; isplitr; pick_goal 2; (iexact H3); ipureintro; rfl)
    isplitl [H4]; · (iexists _; isplitr; pick_goal 2; (iexact H4); ipureintro; rfl)
    isplitl [H5]; · (iexists _; isplitr; pick_goal 2; (iexact H5); ipureintro; rfl)
    isplitl [H6]; · (iexists _; isplitr; pick_goal 2; (iexact H6); ipureintro; rfl)
    isplitl [H7]; · (iexists _; isplitr; pick_goal 2; (iexact H7); ipureintro; rfl)
    isplitl [H8]; · (iexists _; isplitr; pick_goal 2; (iexact H8); ipureintro; rfl)
    isplitl [H9]; · (iexists _; isplitr; pick_goal 2; (iexact H9); ipureintro; rfl)
    isplitl [H10]; · (iexists _; isplitr; pick_goal 2; (iexact H10); ipureintro; rfl)
    isplitl [H11]; · (iexists _; isplitr; pick_goal 2; (iexact H11); ipureintro; rfl)
    isplitl [H12]; · (iexists _; isplitr; pick_goal 2; (iexact H12); ipureintro; rfl)
    isplitl [H13]; · (iexists _; isplitr; pick_goal 2; (iexact H13); ipureintro; rfl)
    isplitl [H14]; · (iexists _; isplitr; pick_goal 2; (iexact H14); ipureintro; rfl)
    isplitl [H15]; · (iexists _; isplitr; pick_goal 2; (iexact H15); ipureintro; rfl)
    isplitl [H16]; · (iexists _; isplitr; pick_goal 2; (iexact H16); ipureintro; rfl)
    isplitl [H17]; · (iexists _; isplitr; pick_goal 2; (iexact H17); ipureintro; rfl)
    isplitl [H18]; · (iexists _; isplitr; pick_goal 2; (iexact H18); ipureintro; rfl)
    isplitl [H19]; · (iexists _; isplitr; pick_goal 2; (iexact H19); ipureintro; rfl)
    isplitl [H20]; · (iexists _; isplitr; pick_goal 2; (iexact H20); ipureintro; rfl)
    isplitl [H21]; · (iexists _; isplitr; pick_goal 2; (iexact H21); ipureintro; rfl)
    isplitl [H22]; · (iexists _; isplitr; pick_goal 2; (iexact H22); ipureintro; rfl)
    iexists _; isplitr; pick_goal 2; · iexact H23
    ipureintro; rfl
  isplitl [H24 H26 H27 H28 H29 H30 H31 H32 H37]
  · isplitl [H24]
    · iexists _; isplitr; pick_goal 2
      · iexact H24
      · ipureintro; sl_unfold_run_names
        simp only [v41, v43, v46, v49, v51, v53, v55, v57, v59, v63, v66, v71, v73, v79, v89, v91, v109, v111, v137, v146, v148, v166, v193, v222, v235, v249, v258, v260, v274, v275, v305, v361, v371, v373, v379, v381, v384, v385, v386, v387, v388, v399, v401, v403, v422, v426, v428, v430, v433, v454, v465, v466, v474, v475, v479, v498, v502, v506, v515, v521, v530, v553, v562, v566, v585, v589, v593, v602, v608, v617, v627, v629, v631, v635, v646, v650, v653, v682, raw36, v733, v755, v759, v770, raw35, piece0, piece1, piece2, piece3, piece4, piece5, piece6, grads, wpiece0, wpiece1, wpiece2, wpiece3, wpiece4, wpiece5, stage, k0_pay1, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, pair_fold, tile_fold, put35_fold, put36_fold, put33_fold, read_writes_put, readAt_rows, readCov_rows, read_writes_nil, rowsOf_whole, putOf_whole, rowsOf_putOf]
    isplitl [H26]
    · iexists _; isplitr; pick_goal 2
      · iexact H26
      · ipureintro; sl_unfold_run_names
        simp only [v41, v43, v46, v49, v51, v53, v55, v57, v59, v63, v66, v71, v73, v79, v89, v91, v109, v111, v137, v146, v148, v166, v193, v222, v235, v249, v258, v260, v274, v275, v305, v361, v371, v373, v379, v381, v384, v385, v386, v387, v388, v399, v401, v403, v422, v426, v428, v430, v433, v454, v465, v466, v474, v475, v479, v498, v502, v506, v515, v521, v530, v553, v562, v566, v585, v589, v593, v602, v608, v617, v627, v629, v631, v635, v646, v650, v653, v682, raw36, v733, v755, v759, v770, raw35, piece0, piece1, piece2, piece3, piece4, piece5, piece6, grads, wpiece0, wpiece1, wpiece2, wpiece3, wpiece4, wpiece5, stage, k0_pay1, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, pair_fold, tile_fold, put35_fold, put36_fold, put33_fold, read_writes_put, readAt_rows, readCov_rows, read_writes_nil, rowsOf_whole, putOf_whole, rowsOf_putOf]
    isplitl [H27]
    · iexists _; isplitr; pick_goal 2
      · iexact H27
      · ipureintro; sl_unfold_run_names
        simp only [v41, v43, v46, v49, v51, v53, v55, v57, v59, v63, v66, v71, v73, v79, v89, v91, v109, v111, v137, v146, v148, v166, v193, v222, v235, v249, v258, v260, v274, v275, v305, v361, v371, v373, v379, v381, v384, v385, v386, v387, v388, v399, v401, v403, v422, v426, v428, v430, v433, v454, v465, v466, v474, v475, v479, v498, v502, v506, v515, v521, v530, v553, v562, v566, v585, v589, v593, v602, v608, v617, v627, v629, v631, v635, v646, v650, v653, v682, raw36, v733, v755, v759, v770, raw35, piece0, piece1, piece2, piece3, piece4, piece5, piece6, grads, wpiece0, wpiece1, wpiece2, wpiece3, wpiece4, wpiece5, stage, k0_pay1, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, pair_fold, tile_fold, put35_fold, put36_fold, put33_fold, read_writes_put, readAt_rows, readCov_rows, read_writes_nil, rowsOf_whole, putOf_whole, rowsOf_putOf]
    isplitl [H28]
    · iexists _; isplitr; pick_goal 2
      · iexact H28
      · ipureintro; sl_unfold_run_names
        simp only [v41, v43, v46, v49, v51, v53, v55, v57, v59, v63, v66, v71, v73, v79, v89, v91, v109, v111, v137, v146, v148, v166, v193, v222, v235, v249, v258, v260, v274, v275, v305, v361, v371, v373, v379, v381, v384, v385, v386, v387, v388, v399, v401, v403, v422, v426, v428, v430, v433, v454, v465, v466, v474, v475, v479, v498, v502, v506, v515, v521, v530, v553, v562, v566, v585, v589, v593, v602, v608, v617, v627, v629, v631, v635, v646, v650, v653, v682, raw36, v733, v755, v759, v770, raw35, piece0, piece1, piece2, piece3, piece4, piece5, piece6, grads, wpiece0, wpiece1, wpiece2, wpiece3, wpiece4, wpiece5, stage, k0_pay1, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, pair_fold, tile_fold, put35_fold, put36_fold, put33_fold, read_writes_put, readAt_rows, readCov_rows, read_writes_nil, rowsOf_whole, putOf_whole, rowsOf_putOf]
    isplitl [H29]
    · iexists _; isplitr; pick_goal 2
      · iexact H29
      · ipureintro; sl_unfold_run_names
        simp only [v41, v43, v46, v49, v51, v53, v55, v57, v59, v63, v66, v71, v73, v79, v89, v91, v109, v111, v137, v146, v148, v166, v193, v222, v235, v249, v258, v260, v274, v275, v305, v361, v371, v373, v379, v381, v384, v385, v386, v387, v388, v399, v401, v403, v422, v426, v428, v430, v433, v454, v465, v466, v474, v475, v479, v498, v502, v506, v515, v521, v530, v553, v562, v566, v585, v589, v593, v602, v608, v617, v627, v629, v631, v635, v646, v650, v653, v682, raw36, v733, v755, v759, v770, raw35, piece0, piece1, piece2, piece3, piece4, piece5, piece6, grads, wpiece0, wpiece1, wpiece2, wpiece3, wpiece4, wpiece5, stage, k0_pay1, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, pair_fold, tile_fold, put35_fold, put36_fold, put33_fold, read_writes_put, readAt_rows, readCov_rows, read_writes_nil, rowsOf_whole, putOf_whole, rowsOf_putOf]
    isplitl [H30]
    · iexists _; isplitr; pick_goal 2
      · iexact H30
      · ipureintro; sl_unfold_run_names
        simp only [v41, v43, v46, v49, v51, v53, v55, v57, v59, v63, v66, v71, v73, v79, v89, v91, v109, v111, v137, v146, v148, v166, v193, v222, v235, v249, v258, v260, v274, v275, v305, v361, v371, v373, v379, v381, v384, v385, v386, v387, v388, v399, v401, v403, v422, v426, v428, v430, v433, v454, v465, v466, v474, v475, v479, v498, v502, v506, v515, v521, v530, v553, v562, v566, v585, v589, v593, v602, v608, v617, v627, v629, v631, v635, v646, v650, v653, v682, raw36, v733, v755, v759, v770, raw35, piece0, piece1, piece2, piece3, piece4, piece5, piece6, grads, wpiece0, wpiece1, wpiece2, wpiece3, wpiece4, wpiece5, stage, k0_pay1, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, pair_fold, tile_fold, put35_fold, put36_fold, put33_fold, read_writes_put, readAt_rows, readCov_rows, read_writes_nil, rowsOf_whole, putOf_whole, rowsOf_putOf]
    isplitl [H31]
    · iexists _; isplitr; pick_goal 2
      · iexact H31
      · ipureintro; sl_unfold_run_names
        simp only [v41, v43, v46, v49, v51, v53, v55, v57, v59, v63, v66, v71, v73, v79, v89, v91, v109, v111, v137, v146, v148, v166, v193, v222, v235, v249, v258, v260, v274, v275, v305, v361, v371, v373, v379, v381, v384, v385, v386, v387, v388, v399, v401, v403, v422, v426, v428, v430, v433, v454, v465, v466, v474, v475, v479, v498, v502, v506, v515, v521, v530, v553, v562, v566, v585, v589, v593, v602, v608, v617, v627, v629, v631, v635, v646, v650, v653, v682, raw36, v733, v755, v759, v770, raw35, piece0, piece1, piece2, piece3, piece4, piece5, piece6, grads, wpiece0, wpiece1, wpiece2, wpiece3, wpiece4, wpiece5, stage, k0_pay1, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, pair_fold, tile_fold, put35_fold, put36_fold, put33_fold, read_writes_put, readAt_rows, readCov_rows, read_writes_nil, rowsOf_whole, putOf_whole, rowsOf_putOf]
    isplitl [H32]
    · iexists _; isplitr; pick_goal 2
      · iexact H32
      · ipureintro; sl_unfold_run_names
        simp only [v41, v43, v46, v49, v51, v53, v55, v57, v59, v63, v66, v71, v73, v79, v89, v91, v109, v111, v137, v146, v148, v166, v193, v222, v235, v249, v258, v260, v274, v275, v305, v361, v371, v373, v379, v381, v384, v385, v386, v387, v388, v399, v401, v403, v422, v426, v428, v430, v433, v454, v465, v466, v474, v475, v479, v498, v502, v506, v515, v521, v530, v553, v562, v566, v585, v589, v593, v602, v608, v617, v627, v629, v631, v635, v646, v650, v653, v682, raw36, v733, v755, v759, v770, raw35, piece0, piece1, piece2, piece3, piece4, piece5, piece6, grads, wpiece0, wpiece1, wpiece2, wpiece3, wpiece4, wpiece5, stage, k0_pay1, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, pair_fold, tile_fold, put35_fold, put36_fold, put33_fold, read_writes_put, readAt_rows, readCov_rows, read_writes_nil, rowsOf_whole, putOf_whole, rowsOf_putOf]
    · iexists _; isplitr; pick_goal 2
      · iexact H37
      · ipureintro; sl_unfold_run_names
        simp only [v41, v43, v46, v49, v51, v53, v55, v57, v59, v63, v66, v71, v73, v79, v89, v91, v109, v111, v137, v146, v148, v166, v193, v222, v235, v249, v258, v260, v274, v275, v305, v361, v371, v373, v379, v381, v384, v385, v386, v387, v388, v399, v401, v403, v422, v426, v428, v430, v433, v454, v465, v466, v474, v475, v479, v498, v502, v506, v515, v521, v530, v553, v562, v566, v585, v589, v593, v602, v608, v617, v627, v629, v631, v635, v646, v650, v653, v682, raw36, v733, v755, v759, v770, raw35, piece0, piece1, piece2, piece3, piece4, piece5, piece6, grads, wpiece0, wpiece1, wpiece2, wpiece3, wpiece4, wpiece5, stage, k0_pay1, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, pair_fold, tile_fold, put35_fold, put36_fold, put33_fold, read_writes_put, readAt_rows, readCov_rows, read_writes_nil, rowsOf_whole, putOf_whole, rowsOf_putOf]
  isplitl [H33]
  · iexists _; isplitr; pick_goal 2
    · iexact H33
    · ipureintro; sl_unfold_run_names
      simp only [v41, v43, v46, v49, v51, v53, v55, v57, v59, v63, v66, v71, v73, v79, v89, v91, v109, v111, v137, v146, v148, v166, v193, v222, v235, v249, v258, v260, v274, v275, v305, v361, v371, v373, v379, v381, v384, v385, v386, v387, v388, v399, v401, v403, v422, v426, v428, v430, v433, v454, v465, v466, v474, v475, v479, v498, v502, v506, v515, v521, v530, v553, v562, v566, v585, v589, v593, v602, v608, v617, v627, v629, v631, v635, v646, v650, v653, v682, raw36, v733, v755, v759, v770, raw35, piece0, piece1, piece2, piece3, piece4, piece5, piece6, grads, wpiece0, wpiece1, wpiece2, wpiece3, wpiece4, wpiece5, stage, k0_pay1, k0_pay3, k0_pay4, k0_pay5, k0_pay6, k0_pay7, k0_pay8, k0_pay9, k0_pay10, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, pair_fold, tile_fold, put35_fold, put36_fold, put33_fold, read_writes_put, readAt_rows, readCov_rows, read_writes_nil, rowsOf_whole, putOf_whole, rowsOf_putOf]
  isplitl [H34]; · (iexists _; isplitr; pick_goal 2; (iexact H34); ipureintro; rfl)
  isplitl [H35]
  · iexists _, _; isplitr; pick_goal 2
    · iexact H35
    · ipureintro; rfl
  · iexists _, _; isplitr; pick_goal 2
    · iexact H36
    · ipureintro; rfl

end Body

end Cert.Proof.Proj

end
-- ==== Proof.ProjPoint.lean ====
module

public import proofs.«01_k».proof.Proof.ProjBody

/-! One grid point of the projections' backward. -/

@[expose] public section

set_option maxRecDepth 16384
set_option maxHeartbeats 4000000

noncomputable section

namespace Cert.Proof.Proj

open Cert.Kernel4Ideal Cert.Kernel4Ideal.Gen
open Cert.Proof.Flash (rowsOf putOf readAt_rows readCov_rows read_writes_put read_writes_nil rowsOf_whole putOf_whole rowsOf_putOf)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- What a grid point carries: the state and the two buffers of the projections' gradient. -/
structure Full (F : FTy → Type) [FloatOps F] [Named F] where
  S : State F
  A : S256x3072.Idx → Elt F .bf16
  B : S256x3072.Idx → Elt F .bf16

/-- The first point clears the sums and the second buffer. -/
def clearedFull (Z : Full F) : Full F := ⟨cleared Z.S, Z.A, k0_pay2⟩
/-- The stage on the first buffer, and on the second. -/
def stageA (X : Blocks F) (Z : Full F) : Full F := ⟨stage X Z.B Z.S, grads X, Z.B⟩
def stageB (X : Blocks F) (Z : Full F) : Full F := ⟨stage X Z.A Z.S, Z.A, grads X⟩
/-- The `n`-th grid point. -/
def point (n : ℕ) (X : Blocks F) (Z : Full F) : Full F :=
  if n % 2 = 0 then stageA X (if n = 0 then clearedFull Z else Z) else stageB X Z

theorem cond1_iff : ∀ i : grid0.Coords, k0_cond1 i = 1#1 ↔ (i 0).val = 0 := by decide +kernel
theorem cond2_iff : ∀ i : grid0.Coords, k0_cond2 i = 1#1 ↔ (i 0).val % 2 = 0 := by decide +kernel
theorem cond3_iff : ∀ i : grid0.Coords, k0_cond3 i = 1#1 ↔ (i 0).val % 2 = 1 := by decide +kernel
theorem cond4_iff : ∀ i : grid0.Coords,
    Scalar.cmpi .ne (Scalar.extui (Scalar.cmpi .eq (BitVec.ofNat 32 (i 0).val) 32#32) : BitVec 32) 0#32 = 1#1 ↔ (i 0).val = 32 := by decide +kernel

section Body
variable (c : Dev nD) (i : grid0.Coords)
  (arg1 : Memref sig .tc .vmem S256x1024 .f32) (harg1 : arg1.IsWhole)
  (arg2 : Memref sig .tc .vmem S256x512 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x512 .f32) (harg6 : arg6.IsWhole)
  (arg7 : Memref sig .tc .vmem S256x512 .bf16) (harg7 : arg7.IsWhole)
  (arg8 : Memref sig .tc .vmem S256x1024 .bf16) (harg8 : arg8.IsWhole)
  (arg9 : Memref sig .tc .vmem S256x512 .f32) (harg9 : arg9.IsWhole)
  (arg10 : Memref sig .tc .vmem S8x512 .f32) (harg10 : arg10.IsWhole)
  (arg11 : Memref sig .tc .vmem S256x1024 .f32) (harg11 : arg11.IsWhole)
  (arg12 : Memref sig .tc .vmem S256x128 .f32) (harg12 : arg12.IsWhole)
  (arg13 : Memref sig .tc .vmem S256x128 .f32) (harg13 : arg13.IsWhole)
  (arg14 : Memref sig .tc .vmem S256x128 .f32) (harg14 : arg14.IsWhole)
  (arg15 : Memref sig .tc .vmem S1x1024 .f32) (harg15 : arg15.IsWhole)
  (arg16 : Memref sig .tc .vmem S1024x3072 .bf16) (harg16 : arg16.IsWhole)
  (arg17 : Memref sig .tc .vmem S1x256 .f32) (harg17 : arg17.IsWhole)
  (arg18 : Memref sig .tc .vmem S256x1024 .bf16) (harg18 : arg18.IsWhole)
  (arg19 : Memref sig .tc .vmem S1x128 .f32) (harg19 : arg19.IsWhole)
  (arg20 : Memref sig .tc .vmem S128x1024 .bf16) (harg20 : arg20.IsWhole)
  (arg21 : Memref sig .tc .vmem S1x256 .f32) (harg21 : arg21.IsWhole)
  (arg22 : Memref sig .tc .vmem S1x256 .f32) (harg22 : arg22.IsWhole)
  (arg23 : Memref sig .tc .vmem S8x512 .f32) (harg23 : arg23.IsWhole)
  (arg24 : Memref sig .tc .vmem S256x1024 .f32) (harg24 : arg24.IsWhole)
  (arg26 : Memref sig .tc .vmem S256x1024 .f32) (harg26 : arg26.IsWhole)
  (arg27 : Memref sig .tc .vmem S128x1024 .f32) (harg27 : arg27.IsWhole)
  (arg28 : Memref sig .tc .vmem S1x1024 .f32) (harg28 : arg28.IsWhole)
  (arg29 : Memref sig .tc .vmem S1x256 .f32) (harg29 : arg29.IsWhole)
  (arg30 : Memref sig .tc .vmem S1x128 .f32) (harg30 : arg30.IsWhole)
  (arg31 : Memref sig .tc .vmem S1x256 .f32) (harg31 : arg31.IsWhole)
  (arg32 : Memref sig .tc .vmem S1x256 .f32) (harg32 : arg32.IsWhole)
  (arg33 : Memref sig .tc .vmem S256x3072 .bf16) (harg33 : arg33.IsWhole)
  (arg34 : Memref sig .tc .vmem S256x3072 .bf16) (harg34 : arg34.IsWhole)
  (arg35 : Memref sig .tc .vmem S256x1024 .bf16) (harg35 : arg35.IsWhole)
  (arg36 : Memref sig .tc .vmem S256x1024 .bf16) (harg36 : arg36.IsWhole)
  (arg37 : Memref sig .tc .vmem S1024x3072 .f32) (harg37 : arg37.IsWhole)
  (X : Blocks F) (S : State F) (D : S256x3072.Idx → Elt F .bf16) (Z : Full F)

/-- The copy's own cell, its result and the waits. -/
def copying (G : S1024x3072.Idx → Elt F .f32) (Wt : Waits sig Unit) : sProp 𝕄 :=
  iprop(semVal ((c : Thread nD τ), SemLoc.dma 46) 0
    ∗ ((Memref.whole main_v75_1 : Memref sig .tc .hbm S1024x3072 .f32).view.loc (c : Thread nD τ) ↦{fullShare} G)
    ∗ owes (c : Thread nD τ) 0 Wt)

/-- What a grid point works on. -/
def full : sProp 𝕄 :=
  iprop(blocks c arg1 arg2 arg3 arg4 arg5 arg6 arg7 arg8 arg9 arg10 arg11 arg12 arg13 arg14 arg15 arg16 arg17 arg18 arg19 arg20 arg21 arg22 arg23 X ∗ held c arg24 arg26 arg27 arg28 arg29 arg30 arg31 arg32 arg37 Z.S ∗ owns (c : Thread nD τ) arg33 fullShare Z.A ∗ owns (c : Thread nD τ) arg34 fullShare Z.B ∗ loose c arg35 arg36)

theorem clear_point :
    iprop(held c arg24 arg26 arg27 arg28 arg29 arg30 arg31 arg32 arg37 S ∗ (∃ Y, owns (c : Thread nD τ) arg34 fullShare Y))
      ⊢ wp frame (wpE (defs₀ (F := F)) Variants.none (c : Thread nD τ) none) Set.univ
        (clearProg arg26 arg27 arg28 arg29 arg30 arg31 arg32 arg34 harg34 arg37)
        (fun _ => iprop(held c arg24 arg26 arg27 arg28 arg29 arg30 arg31 arg32 arg37 (cleared S) ∗ owns (c : Thread nD τ) arg34 fullShare (k0_pay2 (F := F)))) := by
  unfold held owns
  iintro ⟨⟨⟨%f24, %h24, H24⟩, ⟨%f26, %h26, H26⟩, ⟨%f27, %h27, H27⟩, ⟨%f28, %h28, H28⟩, ⟨%f29, %h29, H29⟩, ⟨%f30, %h30, H30⟩, ⟨%f31, %h31, H31⟩, ⟨%f32, %h32, H32⟩, ⟨%f37, %h37, H37⟩⟩, ⟨%Y34, %f34, %h34, H34⟩⟩
  sl_unfold [clearProg]
  sl_exec
  sl_step
  isplitl [H24 H26 H27 H28 H29 H30 H31 H32 H37]
  · isplitl [H24]; · (iexists _; isplitr; pick_goal 2; (iexact H24); ipureintro; exact h24)
    isplitl [H26]; · (iexists _; isplitr; pick_goal 2; (iexact H26); ipureintro; sl_unfold_run_names; simp only [read_writes_put, read_writes_nil, putOf_whole, cleared])
    isplitl [H27]; · (iexists _; isplitr; pick_goal 2; (iexact H27); ipureintro; sl_unfold_run_names; simp only [read_writes_put, read_writes_nil, putOf_whole, cleared])
    isplitl [H28]; · (iexists _; isplitr; pick_goal 2; (iexact H28); ipureintro; sl_unfold_run_names; simp only [read_writes_put, read_writes_nil, putOf_whole, cleared])
    isplitl [H29]; · (iexists _; isplitr; pick_goal 2; (iexact H29); ipureintro; sl_unfold_run_names; simp only [read_writes_put, read_writes_nil, putOf_whole, cleared])
    isplitl [H30]; · (iexists _; isplitr; pick_goal 2; (iexact H30); ipureintro; sl_unfold_run_names; simp only [read_writes_put, read_writes_nil, putOf_whole, cleared])
    isplitl [H31]; · (iexists _; isplitr; pick_goal 2; (iexact H31); ipureintro; sl_unfold_run_names; simp only [read_writes_put, read_writes_nil, putOf_whole, cleared])
    isplitl [H32]; · (iexists _; isplitr; pick_goal 2; (iexact H32); ipureintro; sl_unfold_run_names; simp only [read_writes_put, read_writes_nil, putOf_whole, cleared])
    · iexists _; isplitr; pick_goal 2; (iexact H37); ipureintro; sl_unfold_run_names; simp only [read_writes_put, read_writes_nil, putOf_whole, cleared]
  · iexists _; isplitr; pick_goal 2; (iexact H34); ipureintro; sl_unfold_run_names; simp only [read_writes_put, read_writes_nil, putOf_whole]

theorem copy_point (W : S1024x3072.Idx → Elt F .f32) (G : S1024x3072.Idx → Elt F .f32) (Wt : Waits sig Unit) :
    iprop(owns (c : Thread nD τ) arg37 fullShare W ∗ copying c G Wt)
      ⊢ wp frame (wpE (defs₀ (F := F)) Variants.none (c : Thread nD τ) none) Set.univ
        (copyProg (Memref.whole main_v75_1) (Memref.isWhole_whole _) arg37 harg37 cc0_scratch5)
        (fun _ => iprop(owns (c : Thread nD τ) arg37 fullShare W ∗ (∃ Wt', copying c W Wt'))) := by
  unfold copying owns
  iintro ⟨⟨%f37, %h37, H37⟩, ⟨Hq, Hh, HW⟩⟩
  sl_unfold [copyProg]
  sl_exec
  sl_step
  subst h37
  isplitl [H37]
  · iexists f37; isplitr; · (ipureintro; rfl)
    iexact H37
  iexists _
  isplitl [Hq]; · iexact Hq
  isplitl [Hh]
  · have e : View.write (Elt F) (Memref.whole main_v75_1 : Memref sig .tc .hbm S1024x3072 .f32).view G (View.read (Elt F) arg37.view f37) Finset.univ
        = View.read (Elt F) arg37.view f37 := View.write_whole_univ _ _ _
    iapply (Entails.of_eq (congrArg (fun g => ((Memref.whole main_v75_1 : Memref sig .tc .hbm S1024x3072 .f32).view.loc (c : Thread nD τ) ↦{fullShare} g)) e))
    iexact Hh
  iexact HW

theorem skip_point (P : sProp 𝕄) :
    P ⊢ wp frame (wpE (Ix := Unit) (Name := ℕ) (U := Pipeline.UD sig nD τ) (Lvl := ℕ) (defs₀ (F := F)) Variants.none (c : Thread nD τ) none) Set.univ (pure ⟨⟩ : Prog (TpuEff nD τ sig (Elt F) Λ₀ .tc) PUnit) (fun _ => P) := by
  iintro H
  sl_step
  iexact H

theorem seq_point {P Q : sProp 𝕄} {R : PUnit → sProp 𝕄} {p k : Prog (TpuEff nD τ sig (Elt F) Λ₀ .tc) PUnit}
    (h : P ⊢ wp frame (wpE (defs₀ (F := F)) Variants.none (c : Thread nD τ) none) Set.univ p (fun _ => Q))
    (h' : Q ⊢ wp frame (wpE (defs₀ (F := F)) Variants.none (c : Thread nD τ) none) Set.univ k R) :
    P ⊢ wp frame (wpE (defs₀ (F := F)) Variants.none (c : Thread nD τ) none) Set.univ (p >>= fun _ => k) R := by
  rw [wp_bind]
  exact h.trans (wp_mono _ _ _ fun _ => h')

/-- A branch of the body: the program where the condition holds, nothing where it doesn't. -/
theorem branch_point {b : Prop} [Decidable b] {P Q : sProp 𝕄} {p : Prog (TpuEff nD τ sig (Elt F) Λ₀ .tc) PUnit}
    (ht : b → (P ⊢ wp frame (wpE (defs₀ (F := F)) Variants.none (c : Thread nD τ) none) Set.univ p (fun _ => Q)))
    (hf : ¬b → P = Q) :
    P ⊢ wp frame (wpE (defs₀ (F := F)) Variants.none (c : Thread nD τ) none) Set.univ (if b then p else pure ⟨⟩) (fun _ => Q) := by
  by_cases hb : b
  · rw [if_pos hb]; exact ht hb
  · rw [if_neg hb, ← hf hb]; exact skip_point c P

theorem frame_point {P P' Q Q' : sProp 𝕄} {p : Prog (TpuEff nD τ sig (Elt F) Λ₀ .tc) PUnit} (Rr : sProp 𝕄)
    (h : P ⊢ wp frame (wpE (defs₀ (F := F)) Variants.none (c : Thread nD τ) none) Set.univ p (fun _ => Q))
    (h1 : P' ⊢ iprop(P ∗ Rr)) (h2 : iprop(Q ∗ Rr) ⊢ Q') :
    P' ⊢ wp frame (wpE (defs₀ (F := F)) Variants.none (c : Thread nD τ) none) Set.univ p (fun _ => Q') :=
  h1.trans ((sep_mono_l h).trans ((wp_frame_r _ _ _).trans (wp_mono _ _ _ fun _ => h2)))

/-- A grid point together with its copy's cell. -/
def whole (Z : Full F) (G : S1024x3072.Idx → Elt F .f32) : sProp 𝕄 := iprop(full c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X Z ∗ ∃ Wt, copying c G Wt)

theorem clear_whole (G : S1024x3072.Idx → Elt F .f32) :
    whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X Z G ⊢ wp frame (wpE (defs₀ (F := F)) Variants.none (c : Thread nD τ) none) Set.univ
        (clearProg arg26 arg27 arg28 arg29 arg30 arg31 arg32 arg34 harg34 arg37) (fun _ => whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X (clearedFull Z) G) := by
  refine frame_point c iprop(blocks c arg1 arg2 arg3 arg4 arg5 arg6 arg7 arg8 arg9 arg10 arg11 arg12 arg13 arg14 arg15 arg16 arg17 arg18 arg19 arg20 arg21 arg22 arg23 X ∗ owns (c : Thread nD τ) arg33 fullShare Z.A ∗ loose c arg35 arg36 ∗ ∃ Wt, copying c G Wt)
    (clear_point c arg24 arg26 arg27 arg28 arg29 arg30 arg31 arg32 arg34 harg34 arg37 Z.S) ?_ ?_
  · unfold whole full
    iintro ⟨⟨Hb, Hs, Ha, Hc, Hl⟩, Hq⟩
    isplitl [Hs Hc]
    · isplitl [Hs]; · iexact Hs
      iexists _; iexact Hc
    isplitl [Hb]; · iexact Hb
    isplitl [Ha]; · iexact Ha
    isplitl [Hl]; · iexact Hl
    iexact Hq
  · unfold whole full clearedFull
    iintro ⟨⟨Hs, Hc⟩, Hb, Ha, Hl, Hq⟩
    isplitr [Hq]; swap
    · iexact Hq
    isplitl [Hb]; · iexact Hb
    isplitl [Hs]; · iexact Hs
    isplitl [Ha]; · iexact Ha
    isplitl [Hc]; · iexact Hc
    iexact Hl

theorem stageA_whole (hX : X.pos = BitVec.ofNat 32 (i 0).val) (G : S1024x3072.Idx → Elt F .f32) :
    whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X Z G ⊢ wp frame (wpE (defs₀ (F := F)) Variants.none (c : Thread nD τ) none) Set.univ
        (stageProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (Memref.whole main_v75_1) (Memref.isWhole_whole _) arg26 harg26 arg27 harg27 arg28 harg28 arg29 harg29 arg30 harg30 arg31 harg31 arg32 harg32 arg33 harg33 arg34 harg34 arg35 harg35 arg36 harg36 arg37 harg37 cc0_scratch5 (BitVec.ofNat 32 (i 0).val)) (fun _ => whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X (stageA X Z) G) := by
  refine frame_point c iprop(∃ Wt, copying c G Wt) (stage_point c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (Memref.whole main_v75_1) (Memref.isWhole_whole _) arg26 harg26 arg27 harg27 arg28 harg28 arg29 harg29 arg30 harg30 arg31 harg31 arg32 harg32 arg33 harg33 arg34 harg34 arg35 harg35 arg36 harg36 arg37 harg37 cc0_scratch5 X Z.S Z.B hX) ?_ ?_
  · unfold whole full
    iintro ⟨⟨Hb, Hs, Ha, Hc, Hl⟩, Hq⟩
    isplitr [Hq]; swap
    · iexact Hq
    isplitl [Hb]; · iexact Hb
    isplitl [Hs]; · iexact Hs
    isplitl [Ha]; · (iexists _; iexact Ha)
    isplitl [Hc]; · iexact Hc
    iexact Hl
  · unfold whole full stageA
    iintro ⟨⟨Hb, Hs, Ha, Hc, Hl⟩, Hq⟩
    isplitr [Hq]; swap
    · iexact Hq
    isplitl [Hb]; · iexact Hb
    isplitl [Hs]; · iexact Hs
    isplitl [Ha]; · iexact Ha
    isplitl [Hc]; · iexact Hc
    iexact Hl

theorem stageB_whole (hX : X.pos = BitVec.ofNat 32 (i 0).val) (G : S1024x3072.Idx → Elt F .f32) :
    whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X Z G ⊢ wp frame (wpE (defs₀ (F := F)) Variants.none (c : Thread nD τ) none) Set.univ
        (stageProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (Memref.whole main_v75_1) (Memref.isWhole_whole _) arg26 harg26 arg27 harg27 arg28 harg28 arg29 harg29 arg30 harg30 arg31 harg31 arg32 harg32 arg34 harg34 arg33 harg33 arg35 harg35 arg36 harg36 arg37 harg37 cc0_scratch5 (BitVec.ofNat 32 (i 0).val)) (fun _ => whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X (stageB X Z) G) := by
  refine frame_point c iprop(∃ Wt, copying c G Wt) (stage_point c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (Memref.whole main_v75_1) (Memref.isWhole_whole _) arg26 harg26 arg27 harg27 arg28 harg28 arg29 harg29 arg30 harg30 arg31 harg31 arg32 harg32 arg34 harg34 arg33 harg33 arg35 harg35 arg36 harg36 arg37 harg37 cc0_scratch5 X Z.S Z.A hX) ?_ ?_
  · unfold whole full
    iintro ⟨⟨Hb, Hs, Ha, Hc, Hl⟩, Hq⟩
    isplitr [Hq]; swap
    · iexact Hq
    isplitl [Hb]; · iexact Hb
    isplitl [Hs]; · iexact Hs
    isplitl [Hc]; · (iexists _; iexact Hc)
    isplitl [Ha]; · iexact Ha
    iexact Hl
  · unfold whole full stageB
    iintro ⟨⟨Hb, Hs, Hc, Ha, Hl⟩, Hq⟩
    isplitr [Hq]; swap
    · iexact Hq
    isplitl [Hb]; · iexact Hb
    isplitl [Hs]; · iexact Hs
    isplitl [Ha]; · iexact Ha
    isplitl [Hc]; · iexact Hc
    iexact Hl

theorem copy_whole (G : S1024x3072.Idx → Elt F .f32) :
    whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X Z G ⊢ wp frame (wpE (defs₀ (F := F)) Variants.none (c : Thread nD τ) none) Set.univ
        (copyProg (Memref.whole main_v75_1) (Memref.isWhole_whole _) arg37 harg37 cc0_scratch5) (fun _ => whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X Z Z.S.W) := by
  unfold whole full held
  iintro ⟨⟨Hb, ⟨H24, H26, H27, H28, H29, H30, H31, H32, H37⟩, Ha, Hc, Hl⟩, ⟨%Wt, Hq⟩⟩
  iapply (frame_point c iprop(blocks c arg1 arg2 arg3 arg4 arg5 arg6 arg7 arg8 arg9 arg10 arg11 arg12 arg13 arg14 arg15 arg16 arg17 arg18 arg19 arg20 arg21 arg22 arg23 X ∗ (owns (c : Thread nD τ) arg24 fullShare Z.S.gx ∗ owns (c : Thread nD τ) arg26 fullShare Z.S.uq ∗ owns (c : Thread nD τ) arg27 fullShare Z.S.ukv ∗ owns (c : Thread nD τ) arg28 fullShare Z.S.gi ∗ owns (c : Thread nD τ) arg29 fullShare Z.S.gcq ∗ owns (c : Thread nD τ) arg30 fullShare Z.S.gckv ∗ owns (c : Thread nD τ) arg31 fullShare Z.S.gq ∗ owns (c : Thread nD τ) arg32 fullShare Z.S.gk) ∗ owns (c : Thread nD τ) arg33 fullShare Z.A ∗ owns (c : Thread nD τ) arg34 fullShare Z.B ∗ loose c arg35 arg36)
    (copy_point c arg37 harg37 Z.S.W G Wt) .rfl ?_) $$ [$]
  iintro ⟨⟨H37, Hq⟩, Hb, ⟨H24, H26, H27, H28, H29, H30, H31, H32⟩, Ha, Hc, Hl⟩
  isplitr [Hq]; swap
  · iexact Hq
  isplitl [Hb]; · iexact Hb
  isplitr [Ha Hc Hl]
  · (isplitl [H24]; · iexact H24); (isplitl [H26]; · iexact H26); (isplitl [H27]; · iexact H27); (isplitl [H28]; · iexact H28); (isplitl [H29]; · iexact H29); (isplitl [H30]; · iexact H30); (isplitl [H31]; · iexact H31); (isplitl [H32]; · iexact H32); iexact H37
  isplitl [Ha]; · iexact Ha
  isplitl [Hc]; · iexact Hc
  iexact Hl

/-- One grid point: it clears at the first, runs the stage on the buffer of its parity, and copies at the last. -/
theorem body_point (hX : X.pos = BitVec.ofNat 32 (i 0).val) (G : S1024x3072.Idx → Elt F .f32) :
    whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X Z G ⊢ wp frame (wpE (defs₀ (F := F)) Variants.none (c : Thread nD τ) none) Set.univ
        (cc0_bwd_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 (Memref.whole main_v75_1) (Memref.isWhole_whole _) arg26 harg26 arg27 harg27 arg28 harg28 arg29 harg29 arg30 harg30 arg31 harg31 arg32 harg32 arg33 harg33 arg34 harg34 arg35 harg35 arg36 harg36 arg37 harg37 cc0_scratch5)
        (fun _ => whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X (point (i 0).val X Z) (if (i 0).val = 32 then (point (i 0).val X Z).S.W else G)) := by
  rw [prog_eq]
  refine seq_point c (Q := whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X (if (i 0).val = 0 then clearedFull Z else Z) G) ?_
    (seq_point c (Q := whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X (if (i 0).val % 2 = 0 then stageA X (if (i 0).val = 0 then clearedFull Z else Z) else Z) G) ?_
      (seq_point c (Q := whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 X (point (i 0).val X Z) G) ?_ ?_))
  · refine branch_point c (fun h => ?_) fun h => ?_
    · rw [if_pos ((cond1_iff i).1 h)]; exact clear_whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 harg34 arg35 arg36 arg37 X Z G
    · rw [if_neg (fun e => h ((cond1_iff i).2 e))]
  · refine branch_point c (fun h => ?_) fun h => ?_
    · rw [if_pos ((cond2_iff i).1 h)]; exact stageA_whole c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28 arg29 harg29 arg30 harg30 arg31 harg31 arg32 harg32 arg33 harg33 arg34 harg34 arg35 harg35 arg36 harg36 arg37 harg37 X _ hX G
    · have hn : ¬ (i 0).val % 2 = 0 := fun e => h ((cond2_iff i).2 e)
      rw [if_neg hn, if_neg (fun e => hn (by rw [e]))]
  · refine branch_point c (fun h => ?_) fun h => ?_
    · have hn : ¬ (i 0).val % 2 = 0 := fun e => by have := (cond3_iff i).1 h; omega
      unfold point
      rw [if_neg hn, if_neg hn]; exact stageB_whole c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg26 harg26 arg27 harg27 arg28 harg28 arg29 harg29 arg30 harg30 arg31 harg31 arg32 harg32 arg33 harg33 arg34 harg34 arg35 harg35 arg36 harg36 arg37 harg37 X Z hX G
    · have hn : (i 0).val % 2 = 0 := by
        have : ¬ (i 0).val % 2 = 1 := fun e => h ((cond3_iff i).2 e)
        omega
      unfold point
      rw [if_pos hn, if_pos hn]
  · refine branch_point c (fun h => ?_) fun h => ?_
    · rw [if_pos ((cond4_iff i).1 h)]; exact copy_whole c arg1 arg2 arg3 arg4 arg5 arg6 arg7 arg8 arg9 arg10 arg11 arg12 arg13 arg14 arg15 arg16 arg17 arg18 arg19 arg20 arg21 arg22 arg23 arg24 arg26 arg27 arg28 arg29 arg30 arg31 arg32 arg33 arg34 arg35 arg36 arg37 harg37 X _ G
    · rw [if_neg (fun e => h ((cond4_iff i).2 e))]

end Body

end Cert.Proof.Proj

end
-- ==== Proof.ProjRun.lean ====
module

public import proofs.«01_k».proof.Proof.ProjPoint
public import proofs.«01_k».proof.Proof.Gen.Kernel4Ideal.Frame.Runs
public import Idealize.ShloMosaic.Lib.Pipeline.FrameBody
public import Idealize.ShloMosaic.Lib.Pipeline.FrameSuffixV
public import Idealize.ShloMosaic.Lib.Claim

/-! The run of the projections' backward: what each grid point leaves, and the launch over all of them. -/

@[expose] public section

set_option maxRecDepth 16384
set_option maxHeartbeats 4000000

noncomputable section

namespace Cert.Proof.Proj

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- Position `t` of the launch is grid point `t`. -/
theorem step_val : ∀ t : Fin cfg0.N, (grid0.coords t 0).val = t.val :=
  (by decide +kernel : ∀ t : Fin grid0.N, (grid0.coords t 0).val = t.val)

theorem lt_N (t : Fin cfg0.N) : t.val < 33 := lt_of_lt_of_eq t.isLt N_0

/-- The blocks position `t` reads. -/
def blocksAt (c : Dev nD) (t : Fin cfg0.N) : Blocks F where
  pos := BitVec.ofNat 32 (grid0.coords t 0).val
  x := iblk m c 0 t
  proj := iblk m c 1 t
  ccx := iblk m c 2 t
  dq := iblk m c 3 t
  dk := iblk m c 4 t
  dv := iblk m c 5 t
  dza := iblk m c 6 t
  dcbzc := iblk m c 7 t
  du := iblk m c 8 t
  nxt := iblk m c 9 t
  dx2 := iblk m c 10 t
  tc := iblk m c 11 t
  ts1 := iblk m c 12 t
  ts2 := iblk m c 13 t
  gin := iblk m c 14 t
  win := iblk m c 15 t
  gcq := iblk m c 16 t
  wuq := iblk m c 17 t
  gckv := iblk m c 18 t
  wukv := iblk m c 19 t
  gq := iblk m c 20 t
  gk := iblk m c 21 t
  cw := iblk m c 22 t

/-- Position `n`, as a point of the launch. -/
def ptOf (n : ℕ) : Fin cfg0.N := ⟨n % 33, lt_of_lt_of_eq (Nat.mod_lt n (by decide)) N_0.symm⟩

theorem ptOf_val (t : Fin cfg0.N) : ptOf t.val = t := Fin.ext (Nat.mod_eq_of_lt (lt_N t))

/-- What is there before the first point, of no consequence. -/
def start0 : Full F := ⟨⟨k0_pay3, k0_pay3, k0_pay4, k0_pay5, k0_pay6, k0_pay7, k0_pay8, k0_pay9, k0_pay1⟩, k0_pay2, k0_pay2⟩

/-- What is carried after the first `n` positions. -/
def stateAt (c : Dev nD) : ℕ → Full F
  | 0 => start0
  | n + 1 => point n (blocksAt m c (ptOf n)) (stateAt c n)

theorem stateAt_succ (c : Dev nD) (t : Fin cfg0.N) :
    stateAt m c (t.val + 1) = point t.val (blocksAt m c t) (stateAt m c t.val) := by
  show point t.val (blocksAt m c (ptOf t.val)) _ = _
  rw [ptOf_val]

/-- The first point forgets what it finds. -/
theorem point_first (X : Blocks F) (Z Z' : Full F) : point 0 X Z = point 0 X Z' := rfl
/-- Every point forgets the input's gradient it finds. -/
theorem point_gx (n : ℕ) (X : Blocks F) (Z : Full F) (g : S256x1024.Idx → Elt F .f32) :
    point n X ⟨{ Z.S with gx := g }, Z.A, Z.B⟩ = point n X Z := by
  unfold point
  split_ifs <;> rfl

/-- The product's cell in the memory left out of the windows: the running sum once it is copied. -/
def cellAt (c : Dev nD) (n : ℕ) : S1024x3072.Idx → Elt F .f32 :=
  if n = 33 then (stateAt m c 33).S.W else V m c main_v75_1

/-- The scratch buffers before position `n`. -/
def scratchAt (c : Dev nD) : ℕ → sProp 𝕄
  | 0 => iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d))
  | n + 1 => iprop(owns (c : Thread nD τ) scM0_0 fullShare (stateAt m c (n + 1)).A ∗ owns (c : Thread nD τ) scM0_1 fullShare (stateAt m c (n + 1)).B ∗ (∃ d, owns (c : Thread nD τ) scM0_2 fullShare d) ∗ (∃ d, owns (c : Thread nD τ) scM0_3 fullShare d) ∗ owns (c : Thread nD τ) scM0_4 fullShare (stateAt m c (n + 1)).S.W)

/-- What the launch's arrays and buffers hold: the region's entry, then what the body leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (stateAt m c (t.val + 1)).S.gx
    | ⟨24, _⟩ => (stateAt m c (t.val + 1)).S.uq
    | ⟨25, _⟩ => (stateAt m c (t.val + 1)).S.ukv
    | ⟨26, _⟩ => (stateAt m c (t.val + 1)).S.gi
    | ⟨27, _⟩ => (stateAt m c (t.val + 1)).S.gcq
    | ⟨28, _⟩ => (stateAt m c (t.val + 1)).S.gckv
    | ⟨29, _⟩ => (stateAt m c (t.val + 1)).S.gq
    | ⟨30, _⟩ => (stateAt m c (t.val + 1)).S.gk
    | ⟨_ + 31, h⟩ => absurd h (Nat.not_lt.2 (Nat.le_add_left _ _))
  Φ t := iprop(scratchAt m c t.val ∗ semVal ((c : Thread nD τ), SemLoc.dma 46) 0 ∗ emp ∗ hbPt0 c hbM0_0 (cellAt m c t.val))
  q w := Pipeline.shareOf spec0 w
  owed _ := 0

theorem dats_A (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (dats_A m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (dats_A m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (dats_A m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (dats_A m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (dats_A m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (dats_A m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (dats_A m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (dats_A m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (dats_A m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (dats_A m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t :=
  before0_10_of m (dats m 0 c) (dats_A m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t :=
  before0_11_of m (dats m 0 c) (dats_A m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t :=
  before0_12_of m (dats m 0 c) (dats_A m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t :=
  before0_13_of m (dats m 0 c) (dats_A m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t :=
  before0_14_of m (dats m 0 c) (dats_A m c 14) (after_14 m c) t d
theorem after_15 (c : Dev nD) (t : Fin cfg0.N) : (dats m 0 c).after 15 t = iblk m c 15 t := by dsimp only [dats]
theorem before_15 (c : Dev nD) (t : Fin cfg0.N) (d) : (dats m 0 c).before 15 t d = iblk m c 15 t :=
  before0_15_of m (dats m 0 c) (dats_A m c 15) (after_15 m c) t d
theorem after_16 (c : Dev nD) (t : Fin cfg0.N) : (dats m 0 c).after 16 t = iblk m c 16 t := by dsimp only [dats]
theorem before_16 (c : Dev nD) (t : Fin cfg0.N) (d) : (dats m 0 c).before 16 t d = iblk m c 16 t :=
  before0_16_of m (dats m 0 c) (dats_A m c 16) (after_16 m c) t d
theorem after_17 (c : Dev nD) (t : Fin cfg0.N) : (dats m 0 c).after 17 t = iblk m c 17 t := by dsimp only [dats]
theorem before_17 (c : Dev nD) (t : Fin cfg0.N) (d) : (dats m 0 c).before 17 t d = iblk m c 17 t :=
  before0_17_of m (dats m 0 c) (dats_A m c 17) (after_17 m c) t d
theorem after_18 (c : Dev nD) (t : Fin cfg0.N) : (dats m 0 c).after 18 t = iblk m c 18 t := by dsimp only [dats]
theorem before_18 (c : Dev nD) (t : Fin cfg0.N) (d) : (dats m 0 c).before 18 t d = iblk m c 18 t :=
  before0_18_of m (dats m 0 c) (dats_A m c 18) (after_18 m c) t d
theorem after_19 (c : Dev nD) (t : Fin cfg0.N) : (dats m 0 c).after 19 t = iblk m c 19 t := by dsimp only [dats]
theorem before_19 (c : Dev nD) (t : Fin cfg0.N) (d) : (dats m 0 c).before 19 t d = iblk m c 19 t :=
  before0_19_of m (dats m 0 c) (dats_A m c 19) (after_19 m c) t d
theorem after_20 (c : Dev nD) (t : Fin cfg0.N) : (dats m 0 c).after 20 t = iblk m c 20 t := by dsimp only [dats]
theorem before_20 (c : Dev nD) (t : Fin cfg0.N) (d) : (dats m 0 c).before 20 t d = iblk m c 20 t :=
  before0_20_of m (dats m 0 c) (dats_A m c 20) (after_20 m c) t d
theorem after_21 (c : Dev nD) (t : Fin cfg0.N) : (dats m 0 c).after 21 t = iblk m c 21 t := by dsimp only [dats]
theorem before_21 (c : Dev nD) (t : Fin cfg0.N) (d) : (dats m 0 c).before 21 t d = iblk m c 21 t :=
  before0_21_of m (dats m 0 c) (dats_A m c 21) (after_21 m c) t d
theorem after_22 (c : Dev nD) (t : Fin cfg0.N) : (dats m 0 c).after 22 t = iblk m c 22 t := by dsimp only [dats]
theorem before_22 (c : Dev nD) (t : Fin cfg0.N) (d) : (dats m 0 c).before 22 t d = iblk m c 22 t :=
  before0_22_of m (dats m 0 c) (dats_A m c 22) (after_22 m c) t d
theorem after_23 (c : Dev nD) (t : Fin cfg0.N) : (dats m 0 c).after 23 t = (stateAt m c (t.val + 1)).S.gx := by dsimp only [dats]
theorem after_24 (c : Dev nD) (t : Fin cfg0.N) : (dats m 0 c).after 24 t = (stateAt m c (t.val + 1)).S.uq := by dsimp only [dats]
theorem after_25 (c : Dev nD) (t : Fin cfg0.N) : (dats m 0 c).after 25 t = (stateAt m c (t.val + 1)).S.ukv := by dsimp only [dats]
theorem after_26 (c : Dev nD) (t : Fin cfg0.N) : (dats m 0 c).after 26 t = (stateAt m c (t.val + 1)).S.gi := by dsimp only [dats]
theorem after_27 (c : Dev nD) (t : Fin cfg0.N) : (dats m 0 c).after 27 t = (stateAt m c (t.val + 1)).S.gcq := by dsimp only [dats]
theorem after_28 (c : Dev nD) (t : Fin cfg0.N) : (dats m 0 c).after 28 t = (stateAt m c (t.val + 1)).S.gckv := by dsimp only [dats]
theorem after_29 (c : Dev nD) (t : Fin cfg0.N) : (dats m 0 c).after 29 t = (stateAt m c (t.val + 1)).S.gq := by dsimp only [dats]
theorem after_30 (c : Dev nD) (t : Fin cfg0.N) : (dats m 0 c).after 30 t = (stateAt m c (t.val + 1)).S.gk := by dsimp only [dats]
theorem live_24 (i : cfg0.grid.Coords) : cfg0.idle 24 i = false := (by decide +kernel : ∀ i : grid0.Coords, cfg0.idle 24 i = false) i
theorem before_24 (c : Dev nD) (t : Fin cfg0.N) (ht : t.val ≠ 0) (d) : (dats m 0 c).before 24 t d = (stateAt m c t.val).S.uq := by
  have hN := lt_N t
  rw [Dat.before_out_kept _ 24 rfl t ht (Bool.eq_false_iff.mpr fun h => by
      have := (flush0_24 _).mp h; dsimp only at this; omega) live_24 (fun _ _ => rfl), after_24]
  exact congrArg (fun n => (stateAt m c n).S.uq) (by show t.val - 1 + 1 = t.val; omega)
theorem live_25 (i : cfg0.grid.Coords) : cfg0.idle 25 i = false := (by decide +kernel : ∀ i : grid0.Coords, cfg0.idle 25 i = false) i
theorem before_25 (c : Dev nD) (t : Fin cfg0.N) (ht : t.val ≠ 0) (d) : (dats m 0 c).before 25 t d = (stateAt m c t.val).S.ukv := by
  have hN := lt_N t
  rw [Dat.before_out_kept _ 25 rfl t ht (Bool.eq_false_iff.mpr fun h => by
      have := (flush0_25 _).mp h; dsimp only at this; omega) live_25 (fun _ _ => rfl), after_25]
  exact congrArg (fun n => (stateAt m c n).S.ukv) (by show t.val - 1 + 1 = t.val; omega)
theorem live_26 (i : cfg0.grid.Coords) : cfg0.idle 26 i = false := (by decide +kernel : ∀ i : grid0.Coords, cfg0.idle 26 i = false) i
theorem before_26 (c : Dev nD) (t : Fin cfg0.N) (ht : t.val ≠ 0) (d) : (dats m 0 c).before 26 t d = (stateAt m c t.val).S.gi := by
  have hN := lt_N t
  rw [Dat.before_out_kept _ 26 rfl t ht (Bool.eq_false_iff.mpr fun h => by
      have := (flush0_26 _).mp h; dsimp only at this; omega) live_26 (fun _ _ => rfl), after_26]
  exact congrArg (fun n => (stateAt m c n).S.gi) (by show t.val - 1 + 1 = t.val; omega)
theorem live_27 (i : cfg0.grid.Coords) : cfg0.idle 27 i = false := (by decide +kernel : ∀ i : grid0.Coords, cfg0.idle 27 i = false) i
theorem before_27 (c : Dev nD) (t : Fin cfg0.N) (ht : t.val ≠ 0) (d) : (dats m 0 c).before 27 t d = (stateAt m c t.val).S.gcq := by
  have hN := lt_N t
  rw [Dat.before_out_kept _ 27 rfl t ht (Bool.eq_false_iff.mpr fun h => by
      have := (flush0_27 _).mp h; dsimp only at this; omega) live_27 (fun _ _ => rfl), after_27]
  exact congrArg (fun n => (stateAt m c n).S.gcq) (by show t.val - 1 + 1 = t.val; omega)
theorem live_28 (i : cfg0.grid.Coords) : cfg0.idle 28 i = false := (by decide +kernel : ∀ i : grid0.Coords, cfg0.idle 28 i = false) i
theorem before_28 (c : Dev nD) (t : Fin cfg0.N) (ht : t.val ≠ 0) (d) : (dats m 0 c).before 28 t d = (stateAt m c t.val).S.gckv := by
  have hN := lt_N t
  rw [Dat.before_out_kept _ 28 rfl t ht (Bool.eq_false_iff.mpr fun h => by
      have := (flush0_28 _).mp h; dsimp only at this; omega) live_28 (fun _ _ => rfl), after_28]
  exact congrArg (fun n => (stateAt m c n).S.gckv) (by show t.val - 1 + 1 = t.val; omega)
theorem live_29 (i : cfg0.grid.Coords) : cfg0.idle 29 i = false := (by decide +kernel : ∀ i : grid0.Coords, cfg0.idle 29 i = false) i
theorem before_29 (c : Dev nD) (t : Fin cfg0.N) (ht : t.val ≠ 0) (d) : (dats m 0 c).before 29 t d = (stateAt m c t.val).S.gq := by
  have hN := lt_N t
  rw [Dat.before_out_kept _ 29 rfl t ht (Bool.eq_false_iff.mpr fun h => by
      have := (flush0_29 _).mp h; dsimp only at this; omega) live_29 (fun _ _ => rfl), after_29]
  exact congrArg (fun n => (stateAt m c n).S.gq) (by show t.val - 1 + 1 = t.val; omega)
theorem live_30 (i : cfg0.grid.Coords) : cfg0.idle 30 i = false := (by decide +kernel : ∀ i : grid0.Coords, cfg0.idle 30 i = false) i
theorem before_30 (c : Dev nD) (t : Fin cfg0.N) (ht : t.val ≠ 0) (d) : (dats m 0 c).before 30 t d = (stateAt m c t.val).S.gk := by
  have hN := lt_N t
  rw [Dat.before_out_kept _ 30 rfl t ht (Bool.eq_false_iff.mpr fun h => by
      have := (flush0_30 _).mp h; dsimp only at this; omega) live_30 (fun _ _ => rfl), after_30]
  exact congrArg (fun n => (stateAt m c n).S.gk) (by show t.val - 1 + 1 = t.val; omega)

theorem live_23 (i : cfg0.grid.Coords) : cfg0.idle 23 i = false := (by decide +kernel : ∀ i : grid0.Coords, cfg0.idle 23 i = false) i

theorem leaves_0 (c : Dev nD) (t : Fin cfg0.N) : (dats m 0 c).leavesExact 0 t = owns (c : Thread nD τ) (st0_0 t) fullShare ((dats m 0 c).after 0 t) := by
  unfold Dat.leavesExact; rw [liveAt0_0 t]
theorem leaves_1 (c : Dev nD) (t : Fin cfg0.N) : (dats m 0 c).leavesExact 1 t = owns (c : Thread nD τ) (st0_1 t) fullShare ((dats m 0 c).after 1 t) := by
  unfold Dat.leavesExact; rw [liveAt0_1 t]
theorem leaves_2 (c : Dev nD) (t : Fin cfg0.N) : (dats m 0 c).leavesExact 2 t = owns (c : Thread nD τ) (st0_2 t) fullShare ((dats m 0 c).after 2 t) := by
  unfold Dat.leavesExact; rw [liveAt0_2 t]
theorem leaves_3 (c : Dev nD) (t : Fin cfg0.N) : (dats m 0 c).leavesExact 3 t = owns (c : Thread nD τ) (st0_3 t) fullShare ((dats m 0 c).after 3 t) := by
  unfold Dat.leavesExact; rw [liveAt0_3 t]
theorem leaves_4 (c : Dev nD) (t : Fin cfg0.N) : (dats m 0 c).leavesExact 4 t = owns (c : Thread nD τ) (st0_4 t) fullShare ((dats m 0 c).after 4 t) := by
  unfold Dat.leavesExact; rw [liveAt0_4 t]
theorem leaves_5 (c : Dev nD) (t : Fin cfg0.N) : (dats m 0 c).leavesExact 5 t = owns (c : Thread nD τ) (st0_5 t) fullShare ((dats m 0 c).after 5 t) := by
  unfold Dat.leavesExact; rw [liveAt0_5 t]
theorem leaves_6 (c : Dev nD) (t : Fin cfg0.N) : (dats m 0 c).leavesExact 6 t = owns (c : Thread nD τ) (st0_6 t) fullShare ((dats m 0 c).after 6 t) := by
  unfold Dat.leavesExact; rw [liveAt0_6 t]
theorem leaves_7 (c : Dev nD) (t : Fin cfg0.N) : (dats m 0 c).leavesExact 7 t = owns (c : Thread nD τ) (st0_7 t) fullShare ((dats m 0 c).after 7 t) := by
  unfold Dat.leavesExact; rw [liveAt0_7 t]
theorem leaves_8 (c : Dev nD) (t : Fin cfg0.N) : (dats m 0 c).leavesExact 8 t = owns (c : Thread nD τ) (st0_8 t) fullShare ((dats m 0 c).after 8 t) := by
  unfold Dat.leavesExact; rw [liveAt0_8 t]
theorem leaves_9 (c : Dev nD) (t : Fin cfg0.N) : (dats m 0 c).leavesExact 9 t = owns (c : Thread nD τ) (st0_9 t) fullShare ((dats m 0 c).after 9 t) := by
  unfold Dat.leavesExact; rw [liveAt0_9 t]
theorem leaves_10 (c : Dev nD) (t : Fin cfg0.N) : (dats m 0 c).leavesExact 10 t = owns (c : Thread nD τ) (st0_10 t) fullShare ((dats m 0 c).after 10 t) := by
  unfold Dat.leavesExact; rw [liveAt0_10 t]
theorem leaves_11 (c : Dev nD) (t : Fin cfg0.N) : (dats m 0 c).leavesExact 11 t = owns (c : Thread nD τ) (st0_11 t) fullShare ((dats m 0 c).after 11 t) := by
  unfold Dat.leavesExact; rw [liveAt0_11 t]
theorem leaves_12 (c : Dev nD) (t : Fin cfg0.N) : (dats m 0 c).leavesExact 12 t = owns (c : Thread nD τ) (st0_12 t) fullShare ((dats m 0 c).after 12 t) := by
  unfold Dat.leavesExact; rw [liveAt0_12 t]
theorem leaves_13 (c : Dev nD) (t : Fin cfg0.N) : (dats m 0 c).leavesExact 13 t = owns (c : Thread nD τ) (st0_13 t) fullShare ((dats m 0 c).after 13 t) := by
  unfold Dat.leavesExact; rw [liveAt0_13 t]
theorem leaves_14 (c : Dev nD) (t : Fin cfg0.N) : (dats m 0 c).leavesExact 14 t = owns (c : Thread nD τ) (st0_14 t) fullShare ((dats m 0 c).after 14 t) := by
  unfold Dat.leavesExact; rw [liveAt0_14 t]
theorem leaves_15 (c : Dev nD) (t : Fin cfg0.N) : (dats m 0 c).leavesExact 15 t = owns (c : Thread nD τ) (st0_15 t) fullShare ((dats m 0 c).after 15 t) := by
  unfold Dat.leavesExact; rw [liveAt0_15 t]
theorem leaves_16 (c : Dev nD) (t : Fin cfg0.N) : (dats m 0 c).leavesExact 16 t = owns (c : Thread nD τ) (st0_16 t) fullShare ((dats m 0 c).after 16 t) := by
  unfold Dat.leavesExact; rw [liveAt0_16 t]
theorem leaves_17 (c : Dev nD) (t : Fin cfg0.N) : (dats m 0 c).leavesExact 17 t = owns (c : Thread nD τ) (st0_17 t) fullShare ((dats m 0 c).after 17 t) := by
  unfold Dat.leavesExact; rw [liveAt0_17 t]
theorem leaves_18 (c : Dev nD) (t : Fin cfg0.N) : (dats m 0 c).leavesExact 18 t = owns (c : Thread nD τ) (st0_18 t) fullShare ((dats m 0 c).after 18 t) := by
  unfold Dat.leavesExact; rw [liveAt0_18 t]
theorem leaves_19 (c : Dev nD) (t : Fin cfg0.N) : (dats m 0 c).leavesExact 19 t = owns (c : Thread nD τ) (st0_19 t) fullShare ((dats m 0 c).after 19 t) := by
  unfold Dat.leavesExact; rw [liveAt0_19 t]
theorem leaves_20 (c : Dev nD) (t : Fin cfg0.N) : (dats m 0 c).leavesExact 20 t = owns (c : Thread nD τ) (st0_20 t) fullShare ((dats m 0 c).after 20 t) := by
  unfold Dat.leavesExact; rw [liveAt0_20 t]
theorem leaves_21 (c : Dev nD) (t : Fin cfg0.N) : (dats m 0 c).leavesExact 21 t = owns (c : Thread nD τ) (st0_21 t) fullShare ((dats m 0 c).after 21 t) := by
  unfold Dat.leavesExact; rw [liveAt0_21 t]
theorem leaves_22 (c : Dev nD) (t : Fin cfg0.N) : (dats m 0 c).leavesExact 22 t = owns (c : Thread nD τ) (st0_22 t) fullShare ((dats m 0 c).after 22 t) := by
  unfold Dat.leavesExact; rw [liveAt0_22 t]
theorem leaves_23 (c : Dev nD) (t : Fin cfg0.N) : (dats m 0 c).leavesExact 23 t = owns (c : Thread nD τ) (st0_23 t) fullShare ((dats m 0 c).after 23 t) := by
  unfold Dat.leavesExact; rw [live_23]
theorem leaves_24 (c : Dev nD) (t : Fin cfg0.N) : (dats m 0 c).leavesExact 24 t = owns (c : Thread nD τ) (st0_24 t) fullShare ((dats m 0 c).after 24 t) := by
  unfold Dat.leavesExact; rw [live_24]
theorem leaves_25 (c : Dev nD) (t : Fin cfg0.N) : (dats m 0 c).leavesExact 25 t = owns (c : Thread nD τ) (st0_25 t) fullShare ((dats m 0 c).after 25 t) := by
  unfold Dat.leavesExact; rw [live_25]
theorem leaves_26 (c : Dev nD) (t : Fin cfg0.N) : (dats m 0 c).leavesExact 26 t = owns (c : Thread nD τ) (st0_26 t) fullShare ((dats m 0 c).after 26 t) := by
  unfold Dat.leavesExact; rw [live_26]
theorem leaves_27 (c : Dev nD) (t : Fin cfg0.N) : (dats m 0 c).leavesExact 27 t = owns (c : Thread nD τ) (st0_27 t) fullShare ((dats m 0 c).after 27 t) := by
  unfold Dat.leavesExact; rw [live_27]
theorem leaves_28 (c : Dev nD) (t : Fin cfg0.N) : (dats m 0 c).leavesExact 28 t = owns (c : Thread nD τ) (st0_28 t) fullShare ((dats m 0 c).after 28 t) := by
  unfold Dat.leavesExact; rw [live_28]
theorem leaves_29 (c : Dev nD) (t : Fin cfg0.N) : (dats m 0 c).leavesExact 29 t = owns (c : Thread nD τ) (st0_29 t) fullShare ((dats m 0 c).after 29 t) := by
  unfold Dat.leavesExact; rw [live_29]
theorem leaves_30 (c : Dev nD) (t : Fin cfg0.N) : (dats m 0 c).leavesExact 30 t = owns (c : Thread nD τ) (st0_30 t) fullShare ((dats m 0 c).after 30 t) := by
  unfold Dat.leavesExact; rw [live_30]

theorem cell_succ (c : Dev nD) (t : Fin cfg0.N) (Z : Full F) (hZ : point t.val (blocksAt m c t) Z = stateAt m c (t.val + 1)) :
    (if t.val = 32 then (point t.val (blocksAt m c t) Z).S.W else cellAt m c t.val) = cellAt m c (t.val + 1) := by
  have hN := lt_N t
  rw [hZ]
  unfold cellAt
  by_cases h : t.val = 32
  · rw [if_pos h, if_pos (by omega), h]
  · rw [if_neg h, if_neg (by omega), if_neg (by omega)]

/-- The body at position `t`, from a state that leads to the next one. -/
theorem run_point (c : Dev nD) (t : Fin cfg0.N) (Z : Full F) (hZ : point t.val (blocksAt m c t) Z = stateAt m c (t.val + 1)) :
    whole c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) scM0_0 scM0_1 scM0_2 scM0_3 scM0_4 (blocksAt m c t) Z (cellAt m c t.val)
      ⊢ wp frame (wpE (defs₀ (F := F)) Variants.none (c : Thread nD τ) none) Set.univ (bodyAt0 t)
        (fun _ => whole c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) scM0_0 scM0_1 scM0_2 scM0_3 scM0_4 (blocksAt m c t) (stateAt m c (t.val + 1)) (cellAt m c (t.val + 1))) := by
  have h := body_point c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24)) (st0_25 t) (hstage0_25 ((cfg0.slots t 25).cast nbuf0_25)) (st0_26 t) (hstage0_26 ((cfg0.slots t 26).cast nbuf0_26)) (st0_27 t) (hstage0_27 ((cfg0.slots t 27).cast nbuf0_27)) (st0_28 t) (hstage0_28 ((cfg0.slots t 28).cast nbuf0_28)) (st0_29 t) (hstage0_29 ((cfg0.slots t 29).cast nbuf0_29)) (st0_30 t) (hstage0_30 ((cfg0.slots t 30).cast nbuf0_30)) scM0_0 (Memref.isWhole_whole _) scM0_1 (Memref.isWhole_whole _) scM0_2 (Memref.isWhole_whole _) scM0_3 (Memref.isWhole_whole _) scM0_4 (Memref.isWhole_whole _) (blocksAt m c t) Z rfl (cellAt m c t.val)
  rw [step_val t, cell_succ m c t Z hZ, hZ] at h
  exact h

theorem scratch_zero (c : Dev nD) (n : ℕ) (h : n = 0) : scratchAt m c n
    = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) := by
  subst h; rfl

theorem scratch_pos (c : Dev nD) (n : ℕ) (h : n ≠ 0) : scratchAt m c n
    = iprop(owns (c : Thread nD τ) scM0_0 fullShare (stateAt m c n).A ∗ owns (c : Thread nD τ) scM0_1 fullShare (stateAt m c n).B ∗ (∃ d, owns (c : Thread nD τ) scM0_2 fullShare d) ∗ (∃ d, owns (c : Thread nD τ) scM0_3 fullShare d) ∗ owns (c : Thread nD τ) scM0_4 fullShare (stateAt m c n).S.W) := by
  cases n with
  | zero => exact absurd rfl h
  | succ n => rfl

/-- The windows and buffers of a position, gathered. -/
theorem gather (c : Dev nD) (t : Fin cfg0.N) (Z : Full F) (G : S1024x3072.Idx → Elt F .f32) :
    iprop((owns (c : Thread nD τ) scM0_0 fullShare Z.A ∗ owns (c : Thread nD τ) scM0_1 fullShare Z.B ∗ (∃ d, owns (c : Thread nD τ) scM0_2 fullShare d) ∗ (∃ d, owns (c : Thread nD τ) scM0_3 fullShare d) ∗ owns (c : Thread nD τ) scM0_4 fullShare Z.S.W)
      ∗ (semVal ((c : Thread nD τ), SemLoc.dma 46) 0 ∗ emp ∗ hbPt0 c hbM0_0 G) ∗ (∃ Wt, owes (c : Thread nD τ) 0 Wt)
      ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t) ∗ owns (c : Thread nD τ) (st0_14 t) fullShare (iblk m c 14 t) ∗ owns (c : Thread nD τ) (st0_15 t) fullShare (iblk m c 15 t) ∗ owns (c : Thread nD τ) (st0_16 t) fullShare (iblk m c 16 t) ∗ owns (c : Thread nD τ) (st0_17 t) fullShare (iblk m c 17 t) ∗ owns (c : Thread nD τ) (st0_18 t) fullShare (iblk m c 18 t) ∗ owns (c : Thread nD τ) (st0_19 t) fullShare (iblk m c 19 t) ∗ owns (c : Thread nD τ) (st0_20 t) fullShare (iblk m c 20 t) ∗ owns (c : Thread nD τ) (st0_21 t) fullShare (iblk m c 21 t) ∗ owns (c : Thread nD τ) (st0_22 t) fullShare (iblk m c 22 t)
      ∗ owns (c : Thread nD τ) (st0_23 t) fullShare Z.S.gx ∗ owns (c : Thread nD τ) (st0_24 t) fullShare Z.S.uq ∗ owns (c : Thread nD τ) (st0_25 t) fullShare Z.S.ukv ∗ owns (c : Thread nD τ) (st0_26 t) fullShare Z.S.gi ∗ owns (c : Thread nD τ) (st0_27 t) fullShare Z.S.gcq ∗ owns (c : Thread nD τ) (st0_28 t) fullShare Z.S.gckv ∗ owns (c : Thread nD τ) (st0_29 t) fullShare Z.S.gq ∗ owns (c : Thread nD τ) (st0_30 t) fullShare Z.S.gk)
    ⊢ whole c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) scM0_0 scM0_1 scM0_2 scM0_3 scM0_4 (blocksAt m c t) Z G := by
  unfold whole full blocks held loose copying
  iintro ⟨⟨HA, HB, HC, HD, HE⟩, ⟨Hq, -, Hh⟩, ⟨%Wt, HW⟩, H0, H1, H2, H3, H4, H5, H6, H7, H8, H9, H10, H11, H12, H13, H14, H15, H16, H17, H18, H19, H20, H21, H22, H23, H24, H25, H26, H27, H28, H29, H30⟩
  isplitr [Hq Hh HW]; swap
  · iexists Wt
    isplitl [Hq]; · iexact Hq
    isplitl [Hh]; · iexact Hh
    iexact HW
  isplitl [H0 H1 H2 H3 H4 H5 H6 H7 H8 H9 H10 H11 H12 H13 H14 H15 H16 H17 H18 H19 H20 H21 H22]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  isplitl [H23 H24 H25 H26 H27 H28 H29 H30 HE]
  · isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact HE
  isplitl [HA]; · iexact HA
  isplitl [HB]; · iexact HB
  isplitl [HC]; · iexact HC
  iexact HD

theorem scatter (c : Dev nD) (t : Fin cfg0.N) (Z : Full F) (G : S1024x3072.Idx → Elt F .f32) :
    whole c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) scM0_0 scM0_1 scM0_2 scM0_3 scM0_4 (blocksAt m c t) Z G ⊢
    iprop((owns (c : Thread nD τ) scM0_0 fullShare Z.A ∗ owns (c : Thread nD τ) scM0_1 fullShare Z.B ∗ (∃ d, owns (c : Thread nD τ) scM0_2 fullShare d) ∗ (∃ d, owns (c : Thread nD τ) scM0_3 fullShare d) ∗ owns (c : Thread nD τ) scM0_4 fullShare Z.S.W)
      ∗ (semVal ((c : Thread nD τ), SemLoc.dma 46) 0 ∗ emp ∗ hbPt0 c hbM0_0 G) ∗ (∃ Wt, owes (c : Thread nD τ) 0 Wt)
      ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t) ∗ owns (c : Thread nD τ) (st0_14 t) fullShare (iblk m c 14 t) ∗ owns (c : Thread nD τ) (st0_15 t) fullShare (iblk m c 15 t) ∗ owns (c : Thread nD τ) (st0_16 t) fullShare (iblk m c 16 t) ∗ owns (c : Thread nD τ) (st0_17 t) fullShare (iblk m c 17 t) ∗ owns (c : Thread nD τ) (st0_18 t) fullShare (iblk m c 18 t) ∗ owns (c : Thread nD τ) (st0_19 t) fullShare (iblk m c 19 t) ∗ owns (c : Thread nD τ) (st0_20 t) fullShare (iblk m c 20 t) ∗ owns (c : Thread nD τ) (st0_21 t) fullShare (iblk m c 21 t) ∗ owns (c : Thread nD τ) (st0_22 t) fullShare (iblk m c 22 t)
      ∗ owns (c : Thread nD τ) (st0_23 t) fullShare Z.S.gx ∗ owns (c : Thread nD τ) (st0_24 t) fullShare Z.S.uq ∗ owns (c : Thread nD τ) (st0_25 t) fullShare Z.S.ukv ∗ owns (c : Thread nD τ) (st0_26 t) fullShare Z.S.gi ∗ owns (c : Thread nD τ) (st0_27 t) fullShare Z.S.gcq ∗ owns (c : Thread nD τ) (st0_28 t) fullShare Z.S.gckv ∗ owns (c : Thread nD τ) (st0_29 t) fullShare Z.S.gq ∗ owns (c : Thread nD τ) (st0_30 t) fullShare Z.S.gk) := by
  unfold whole full blocks held loose copying
  iintro ⟨⟨⟨H0, H1, H2, H3, H4, H5, H6, H7, H8, H9, H10, H11, H12, H13, H14, H15, H16, H17, H18, H19, H20, H21, H22⟩, ⟨H23, H24, H25, H26, H27, H28, H29, H30, HE⟩, HA, HB, HC, HD⟩, ⟨%Wt, Hq, Hh, HW⟩⟩
  isplitl [HA HB HC HD HE]
  · isplitl [HA]; · iexact HA
    isplitl [HB]; · iexact HB
    isplitl [HC]; · iexact HC
    isplitl [HD]; · iexact HD
    iexact HE
  isplitl [Hq Hh]
  · isplitl [Hq]; · iexact Hq
    isplitr; · iempintro
    iexact Hh
  isplitl [HW]; · (iexists Wt; iexact HW)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

/-- The body at position `t`, its windows one by one. -/
theorem sound_body (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d)))
    ⊢ wp frame (wpE (defs₀ (F := F)) Variants.none (c : Thread nD τ) none) Set.univ (bodyAt0 t)
      (fun _ => iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t)) := by
  simp only [before_0, before_1, before_2, before_3, before_4, before_5, before_6, before_7, before_8, before_9, before_10, before_11, before_12, before_13, before_14, before_15, before_16, before_17, before_18, before_19, before_20, before_21, before_22]
  rw [leaves_0, after_0, leaves_1, after_1, leaves_2, after_2, leaves_3, after_3, leaves_4, after_4, leaves_5, after_5, leaves_6, after_6, leaves_7, after_7, leaves_8, after_8, leaves_9, after_9, leaves_10, after_10, leaves_11, after_11, leaves_12, after_12, leaves_13, after_13, leaves_14, after_14, leaves_15, after_15, leaves_16, after_16, leaves_17, after_17, leaves_18, after_18, leaves_19, after_19, leaves_20, after_20, leaves_21, after_21, leaves_22, after_22, leaves_23, after_23, leaves_24, after_24, leaves_25, after_25, leaves_26, after_26, leaves_27, after_27, leaves_28, after_28, leaves_29, after_29, leaves_30, after_30]
  rw [show (dats m 0 c).Φ t.castSucc = iprop(scratchAt m c t.val ∗ semVal ((c : Thread nD τ), SemLoc.dma 46) 0 ∗ emp ∗ hbPt0 c hbM0_0 (cellAt m c t.val)) from rfl,
    show (dats m 0 c).Φ t.succ = iprop(scratchAt m c (t.val + 1) ∗ semVal ((c : Thread nD τ), SemLoc.dma 46) 0 ∗ emp ∗ hbPt0 c hbM0_0 (cellAt m c (t.val + 1))) from rfl]
  unfold Dat.owesAt Pipeline.owesWithin
  rw [show (dats m 0 c).owed t.castSucc = 0 from rfl, show (dats m 0 c).owed t.succ = 0 from rfl]
  have fin : ∀ Z : Full F, point t.val (blocksAt m c t) Z = stateAt m c (t.val + 1) →
      (whole c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) scM0_0 scM0_1 scM0_2 scM0_3 scM0_4 (blocksAt m c t) Z (cellAt m c t.val) ⊢ wp frame (wpE (defs₀ (F := F)) Variants.none (c : Thread nD τ) none) Set.univ (bodyAt0 t)
        (fun _ => iprop((scratchAt m c (t.val + 1) ∗ semVal ((c : Thread nD τ), SemLoc.dma 46) 0 ∗ emp ∗ hbPt0 c hbM0_0 (cellAt m c (t.val + 1)))
          ∗ (∃ Wt, ⌜↑Wt ⊆ (dats m 0 c).bound () t.succ⌝ ∗ owes (c : Thread nD τ) 0 Wt)
          ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (iblk m c 11 t) ∗ owns (c : Thread nD τ) (st0_12 t) fullShare (iblk m c 12 t) ∗ owns (c : Thread nD τ) (st0_13 t) fullShare (iblk m c 13 t) ∗ owns (c : Thread nD τ) (st0_14 t) fullShare (iblk m c 14 t) ∗ owns (c : Thread nD τ) (st0_15 t) fullShare (iblk m c 15 t) ∗ owns (c : Thread nD τ) (st0_16 t) fullShare (iblk m c 16 t) ∗ owns (c : Thread nD τ) (st0_17 t) fullShare (iblk m c 17 t) ∗ owns (c : Thread nD τ) (st0_18 t) fullShare (iblk m c 18 t) ∗ owns (c : Thread nD τ) (st0_19 t) fullShare (iblk m c 19 t) ∗ owns (c : Thread nD τ) (st0_20 t) fullShare (iblk m c 20 t) ∗ owns (c : Thread nD τ) (st0_21 t) fullShare (iblk m c 21 t) ∗ owns (c : Thread nD τ) (st0_22 t) fullShare (iblk m c 22 t)
          ∗ owns (c : Thread nD τ) (st0_23 t) fullShare (stateAt m c (t.val + 1)).S.gx ∗ owns (c : Thread nD τ) (st0_24 t) fullShare (stateAt m c (t.val + 1)).S.uq ∗ owns (c : Thread nD τ) (st0_25 t) fullShare (stateAt m c (t.val + 1)).S.ukv ∗ owns (c : Thread nD τ) (st0_26 t) fullShare (stateAt m c (t.val + 1)).S.gi ∗ owns (c : Thread nD τ) (st0_27 t) fullShare (stateAt m c (t.val + 1)).S.gcq ∗ owns (c : Thread nD τ) (st0_28 t) fullShare (stateAt m c (t.val + 1)).S.gckv ∗ owns (c : Thread nD τ) (st0_29 t) fullShare (stateAt m c (t.val + 1)).S.gq ∗ owns (c : Thread nD τ) (st0_30 t) fullShare (stateAt m c (t.val + 1)).S.gk))) := fun Z hZ => by
    refine (run_point m c t Z hZ).trans (wp_mono _ _ _ fun _ => (scatter m c t _ _).trans ?_)
    show _ ⊢ iprop((iprop(_ ∗ _ ∗ _ ∗ _ ∗ _) ∗ _) ∗ _)
    iintro ⟨HS, Hq, ⟨%Wt, HW⟩, HO⟩
    isplitl [HS Hq]
    · isplitl [HS]; · iexact HS
      iexact Hq
    isplitl [HW]
    · iexists Wt; isplitr; · (ipureintro; exact fun _ _ => Or.inl trivial)
      iexact HW
    iexact HO
  by_cases h : t.val = 0
  · rw [scratch_zero m c t.val h]
    iintro ⟨⟨HS, Hq, -, Hh⟩, ⟨%Wt, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
    icases HS with ⟨⟨%a0, HA⟩, ⟨%a1, HB⟩, HC, HD, ⟨%a4, HE⟩⟩
    iapply (fin ⟨⟨(dats m 0 c).before 23 t d23, (dats m 0 c).before 24 t d24, (dats m 0 c).before 25 t d25, (dats m 0 c).before 26 t d26, (dats m 0 c).before 27 t d27, (dats m 0 c).before 28 t d28, (dats m 0 c).before 29 t d29, (dats m 0 c).before 30 t d30, a4⟩, a0, a1⟩ (by rw [stateAt_succ, h]; rfl))
    iapply (gather m c t ⟨⟨(dats m 0 c).before 23 t d23, (dats m 0 c).before 24 t d24, (dats m 0 c).before 25 t d25, (dats m 0 c).before 26 t d26, (dats m 0 c).before 27 t d27, (dats m 0 c).before 28 t d28, (dats m 0 c).before 29 t d29, (dats m 0 c).before 30 t d30, a4⟩, a0, a1⟩ (cellAt m c t.val))
    isplitl [HA HB HC HD HE]
    · isplitl [HA]; · iexact HA
      isplitl [HB]; · iexact HB
      isplitl [HC]; · iexact HC
      isplitl [HD]; · iexact HD
      iexact HE
    isplitl [Hq Hh]
    · isplitl [Hq]; · iexact Hq
      isplitr; · iempintro
      iexact Hh
    isplitl [HW]; · (iexists Wt; iexact HW)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    iexact H30
  · rw [scratch_pos m c t.val h]
    simp only [before_24 m c t h, before_25 m c t h, before_26 m c t h, before_27 m c t h, before_28 m c t h, before_29 m c t h, before_30 m c t h]
    iintro ⟨⟨HS, Hq, -, Hh⟩, ⟨%Wt, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
    icases HS with ⟨HA, HB, HC, HD, HE⟩
    iapply (fin ⟨{ (stateAt m c t.val).S with gx := (dats m 0 c).before 23 t d23 }, (stateAt m c t.val).A, (stateAt m c t.val).B⟩ (by rw [stateAt_succ, point_gx]))
    iapply (gather m c t ⟨{ (stateAt m c t.val).S with gx := (dats m 0 c).before 23 t d23 }, (stateAt m c t.val).A, (stateAt m c t.val).B⟩ (cellAt m c t.val))
    isplitl [HA HB HC HD HE]
    · isplitl [HA]; · iexact HA
      isplitl [HB]; · iexact HB
      isplitl [HC]; · iexact HC
      isplitl [HD]; · iexact HD
      iexact HE
    isplitl [Hq Hh]
    · isplitl [Hq]; · iexact Hq
      isplitr; · iempintro
      iexact Hh
    isplitl [HW]; · (iexists Wt; iexact HW)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    iexact H30

/-- The body table's row at position `t`. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

end Cert.Proof.Proj

end
-- ==== Proof.ProjLaunch.lean ====
module

public import proofs.«01_k».proof.Proof.ProjRun
public import Idealize.ShloMosaic.Lib.Pipeline.FrameBody
public import Idealize.ShloMosaic.Lib.Pipeline.FrameSuffixV
public import Idealize.ShloMosaic.Lib.Claim

/-! The launch of the projections' backward over all its grid points. -/

@[expose] public section

set_option maxRecDepth 16384
set_option maxHeartbeats 4000000

noncomputable section

namespace Cert.Proof.Proj

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The cell's contents at the end, by reference. -/
def cellG (c : Dev nD) (b : Ref sig .tc) : Buf (Elt F) ((c.tc : Thread nD τ).loc b) :=
  if h : b = main_v75_1 then h ▸ (stateAt m c 33).S.W else V m c b

theorem bufs_eq (c : Dev nD) (G : (c : Dev nD) → (b : Ref sig .tc) → Buf (Elt F) ((c.tc : Thread nD τ).loc b)) :
    ΦDRV osem0 spec0 H0 R0 (V m) G c
      = (iprop(((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d))
        ∗ semVal ((c : Thread nD τ), SemLoc.dma 46) 0 ∗ emp ∗ hbPt0 c hbM0_0 (G c main_v75_1)) : sProp 𝕄) := by
  unfold ΦDRV
  rw [scopedRest0_eq, ownSems00_eq, hbmPts0_eq, BI.bigSep_eq_bigSepL_of_eq (S := R0) [main_v75_1] (by decide) (by decide)]
  simp only [scM0_0, scM0_1, scM0_2, scM0_3, scM0_4, owns_whole]
  rfl

theorem phi_eq (c : Dev nD) (t) : (dats m 0 c).Φ t
    = iprop(scratchAt m c t.val ∗ semVal ((c : Thread nD τ), SemLoc.dma 46) 0 ∗ emp ∗ hbPt0 c hbM0_0 (cellAt m c t.val)) := rfl

theorem hin (c : Dev nD) : ΦDRV osem0 spec0 H0 R0 (V m) (V m) c ⊢ (dats m 0 c).Φ 0 := by
  rw [bufs_eq m c (V m), phi_eq]
  exact Entails.refl _

theorem hout (c : Dev nD) : (dats m 0 c).Φ (Fin.last cfg0.N) ⊢ ΦDRV osem0 spec0 H0 R0 (V m) (cellG m) c := by
  rw [bufs_eq m c (cellG m), phi_eq]
  rw [show (Fin.last cfg0.N).val = 33 from N_0,
    scratch_pos m c 33 (by decide), show cellG m c main_v75_1 = cellAt m c 33 from by unfold cellG cellAt; rw [dif_pos rfl, if_pos rfl]]
  iintro ⟨⟨HA, HB, HC, HD, HE⟩, Hq⟩
  isplitr [Hq]; swap
  · iexact Hq
  isplitl [HA]; · (iexists _; iexact HA)
  isplitl [HB]; · (iexists _; iexact HB)
  isplitl [HC]; · iexact HC
  isplitl [HD]; · iexact HD
  iexists _; iexact HE

set_option backward.isDefEq.respectTransparency.types false in
/-- The launch, at any values: the arrays end at the recorded contents, every other buffer at what the lines after the
    region make of them, and every semaphore at zero. -/
theorem run_main : θ_run defs (onTc (τ := τ) (main (F := F))) (s₀ m ρ)
    (fun r => (∀ c : Dev nD, (∀ w, r.2.mem ((spec0 w).arr.view.loc (c.tc : Thread nD τ)) = (dats m 0 c).arrAt w cfg0.N)
      ∧ ∀ b ∈ restRefs sig spec0, r.2.mem ((c.tc : Thread nD τ).loc b)
          = StableHlo.after (List.flatten [hostOps1]) (withArrays spec0 c (withR (V0 m c) R0 c (cellG m c)) fun w => (dats m 0 c).arrAt w cfg0.N) (Proc.devRef .tc b))
      ∧ r.2.sem = fun _ => 0) :=
  have hrest : restRefs sig spec0 ⊆ restRefsP sig Prefetch.none spec0 :=
    fun b hb => Finset.mem_sdiff.mpr ⟨hb, fun h => ((Finset.mem_image.mp h).elim fun k _ => k.elim0)⟩
  (θ_run defs _ _).mono (fun r ⟨h, hz⟩ => ⟨fun c => ⟨(h c).1, fun b hb => (h c).2 b (hrest hb)⟩, hz⟩)
    (θ_run_frameP_dmaR_aroundV_shared (Q' := _) (hQ' := fun _ h => h) (fun q => (cfgs q).toPCfg (Val := Elt F)) (fun q => (cfgs q).toPCfg_adm) (dats m) (0 : Fin 1) launch₀0.toP osem0 defs₀ Variants.none ownSemFacts0 H0 R0
      (H0_sub.trans hrest) (R0_sub.trans (Finset.sdiff_subset_sdiff hrest subset_rfl))
      m ρ main (fun c => (body_obligation m c).loose) (fun _ _ _ => rfl) (fun _ _ => rfl) (V0 m) [hostOps1] sfx_sub sfx_fresh sfx_keeps (cellG m) (hmain m Variants.none) (dats_A m) (fun _ k => k.elim0)
      (fun c => (show _ ⊢ ΦDRV osem0 spec0 H0 R0 (V m) (V m) c from by iintro ⟨H, -⟩; iexact H).trans (hin m c)) (hout m))

/-- A buffer neither the body's copy nor the lines after the region write ends as the region found it. -/
theorem rest_kept (c : Dev nD) (b : Ref sig .tc) (hb : b ∈ restRefs sig spec0 \ (R0 ∪ T0)) :
    StableHlo.after (List.flatten [hostOps1]) (withArrays spec0 c (withR (V0 m c) R0 c (cellG m c)) fun w => (dats m 0 c).arrAt w cfg0.N) (Proc.devRef .tc b) = V m c b := by
  have hn := (Finset.mem_sdiff.mp hb).2
  rw [StableHlo.after_of_forall_not_mem (b := Proc.devRef .tc b), withArrays_of_ne, withR_of_not_mem]
  · exact fun h => hn (Finset.mem_union_left _ h)
  · intro w e
    have h1 := (Finset.mem_sdiff.mp hb).1
    simp only [Finset.mem_sdiff, Finset.mem_filter, Finset.mem_univ, true_and, Finset.mem_image, not_exists, Bool.not_eq_true] at h1
    exact h1.2 w e
  · intro op hop hw
    obtain ⟨ops, ho, hop⟩ := List.mem_flatten.mp hop
    exact hn (Finset.mem_union_right _ (sfx_writes ops ho op hop b hw))

/-- The frame at any values: the arguments end as they were launched and every semaphore at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) ∧ r.2.sem = fun _ => 0) :=
  θ_run_and (frame_of m ρ (dats m) (dats_A m) ((θ_run defs _ _).mono (fun _ h c => ⟨(h.1 c).1, fun b hb => ((h.1 c).2 b (Finset.mem_sdiff.mp hb).1).trans (rest_kept m c b hb)⟩) (run_main m ρ)))
    ((θ_run defs _ _).mono (fun _ h => h.2) (run_main m ρ))

end Cert.Proof.Proj

end
-- ==== Proof.ProjFrames.lean ====
module

public import proofs.«01_k».proof.Proof.ProjLaunch
public import proofs.«01_k».proof.Defs
public import Idealize.ShloMosaic.Lib.Tactic
public import proofs.«01_k».proof.Proof.Gen.Kernel4

/-! The two frames of the projections' backward: the run holds at any values, so at bits and at extended reals. -/

@[expose] public section

set_option maxRecDepth 16384
set_option maxHeartbeats 4000000

noncomputable section

namespace Cert.Proof.Proj

open Idealize.ShloMosaic Idealize.ShloMosaic.TcCoe Idealize.ShloMosaic.Tactic Idealize.SL Idealize.SL.Sem

/-- At bits a named constant is the word the kernel spells. -/
@[reducible] def bitsNamed : Named Bits where
  named _ _ {φ} bits := FloatOps.ofBits (F := Bits) φ bits

theorem main_bits : Cert.Kernel4.main (F := Bits) = Cert.Kernel4Ideal.main (F := Bits) := by sl_kernel_rfl
theorem defs_bits : Cert.Kernel4.defs (F := Bits) = @Cert.Kernel4Ideal.defs Bits _ bitsNamed _ := by sl_kernel_rfl

theorem frame_kernel : Cert.quiescent_Kernel4 := fun m ρ _ => by
  rw [main_bits, defs_bits]
  exact @frame_any Bits _ bitsNamed m ρ

theorem frame_kernelIdeal : Cert.quiescent_Kernel4Ideal := fun m ρ _ => frame_any (F := Ideal) m ρ

theorem preserved : Cert.preserves_Kernel4_Kernel4Ideal :=
  IdealRules.named_const.statement Cert.Kernel4Ideal.κ "inv192" .f32 0x3BAAAAAB#32 _ rfl

end Cert.Proof.Proj

end
-- ==== Proof.MidMath.lean ====
module

public import proofs.«01_k».proof.Proof.FlashRef
public import Idealize.ShloMosaic.Lib.ValueIdxCore

/-! The layer's middle over the reals: the merge of the attention's and the convolution's outputs, the gated
    embedding and the loss, with the gradients of all of them. Row by row where rows do not meet, summed over the
    rows for the weights. -/

@[expose] public section

set_option maxRecDepth 16384

noncomputable section

namespace Cert.Proof.Mid

open Cert.Proof.Flash
open Idealize.ShloMosaic

/-! ## Constants, sums and the two scalar functions -/

/-- The norms' epsilon, as rounded. -/
def eps : ℝ := 8796093 / 2 ^ 43

theorem eps_pos : 0 < eps := by unfold eps; norm_num

theorem eps_up : Ideal.ofBits .f32 0x358637BD#32 = (eps : EReal) := by
  simp [Ideal.ofBits, Ideal.ieee, eps, -EReal.coe_mul]; norm_num
theorem c512_up : Ideal.ofBits .f32 0x3B000000#32 = ((1 / 512 : ℝ) : EReal) := by
  simp [Ideal.ofBits, Ideal.ieee, -EReal.coe_mul]; norm_num
theorem c1024_up : Ideal.ofBits .f32 0x3A800000#32 = ((1 / 1024 : ℝ) : EReal) := by
  simp [Ideal.ofBits, Ideal.ieee, -EReal.coe_mul]; norm_num
theorem c2048_up : Ideal.ofBits .f32 0x3A000000#32 = ((1 / 2048 : ℝ) : EReal) := by
  simp [Ideal.ofBits, Ideal.ieee, -EReal.coe_mul]; norm_num
theorem one_up : Ideal.ofBits .f32 0x3F800000#32 = ((1 : ℝ) : EReal) := by
  simp [Ideal.ofBits, Ideal.ieee, -EReal.coe_mul]; norm_num
theorem zero_up : Ideal.ofBits .f32 0x00000000#32 = ((0 : ℝ) : EReal) := Ideal.ofBits_zero_f32

/-- A sum of reals, as a sum of extended reals. -/
theorem coe_sum {ι : Type*} [Fintype ι] (f : ι → ℝ) : ((∑ k, f k : ℝ) : EReal) = ∑ k, (f k : EReal) := (sum_coe f).symm

/-- The logistic function, -/
def sig (z : ℝ) : ℝ := (1 + Real.exp (-z))⁻¹
/-- and the derivative of `z * sig z`. -/
def dsilu (z : ℝ) : ℝ := sig z * (1 + z * (1 - sig z))

/-! ## A norm -/

section norm
variable {n : ℕ} (k : ℝ) (f : Fin n → ℝ)

/-- A row's mean square, moved off zero; -/
def msq : ℝ := (∑ c, f c * f c) * k + eps
/-- the factor that brings the row to length one. -/
def rst : ℝ := (Real.sqrt (msq k f))⁻¹
/-- The gradient through a norm: `dy` at its output, `g` its weights, `xh` the normed row, `r` its factor. -/
def nb (r : ℝ) (g xh dy : Fin n → ℝ) (c : Fin n) : ℝ := r * (dy c * g c - xh c * ((∑ d, dy d * g d * xh d) * k))

theorem msq_pos (hk : 0 ≤ k) : 0 < msq k f :=
  add_pos_of_nonneg_of_pos (mul_nonneg (Finset.sum_nonneg fun c _ => mul_self_nonneg (f c)) hk) eps_pos

theorem rsqrt_up (hk : 0 ≤ k) : Ideal.rsqrt (msq k f : EReal) = (rst k f : EReal) := by
  rw [Ideal.rsqrt_coe, if_neg (msq_pos k f hk).le.not_gt, if_neg (msq_pos k f hk).ne']; rfl

theorem rst_cube (hk : 0 ≤ k) : rst k f / msq k f = rst k f * rst k f * rst k f := by
  have h : rst k f * rst k f = (msq k f)⁻¹ := by
    unfold rst; rw [← mul_inv, Real.mul_self_sqrt (msq_pos k f hk).le]
  rw [mul_assoc, h, div_eq_mul_inv]

/-- The other way of writing the gradient through a norm. -/
theorem nb_other (hk : 0 ≤ k) (g dy : Fin n → ℝ) (c : Fin n) :
    dy c * g c * rst k f + f c * ((∑ d, f d * (dy d * g d)) * (-(1 / 2) * (rst k f / msq k f)) * k)
        + (∑ d, f d * (dy d * g d)) * (-(1 / 2) * (rst k f / msq k f)) * k * f c
      = nb k (rst k f) g (fun c => f c * rst k f) dy c := by
  have e : ∑ d, dy d * g d * (f d * rst k f) = (∑ d, f d * (dy d * g d)) * rst k f := by
    rw [Finset.sum_mul]; exact Finset.sum_congr rfl fun d _ => by ring
  unfold nb
  rw [e, rst_cube k f hk]
  ring

end norm

/-! ## Rows and columns -/

/-- Row `r` of row block `t`. -/
def mrow (t : Fin 32) (r : Fin 256) : Fin 8192 := ⟨t.val * 256 + r.val, by omega⟩

/-- All rows, block by block. -/
theorem sum_mrow {M : Type*} [AddCommMonoid M] (f : Fin 8192 → M) : ∑ R, f R = ∑ t, ∑ r, f (mrow t r) := by
  rw [← Finset.sum_product' Finset.univ Finset.univ fun t r => f (mrow t r), Finset.univ_product_univ]
  exact (Equiv.sum_comp (finProdFinEquiv (m := 32) (n := 256)) f).symm.trans
    (Finset.sum_congr rfl fun x _ => congrArg f (Fin.ext (by show x.2.val + 256 * x.1.val = x.1.val * 256 + x.2.val; omega)))

/-- A column of the left half, -/
def lo (a : Fin 512) : Fin 1024 := ⟨a.val, by omega⟩
/-- and one of the right half. -/
def hi (a : Fin 512) : Fin 1024 := ⟨512 + a.val, by omega⟩
/-- Two halves side by side. -/
def both (f g : Fin 512 → ℝ) (j : Fin 1024) : ℝ := if h : j.val < 512 then f ⟨j.val, h⟩ else g ⟨j.val - 512, by omega⟩

theorem both_lo (f g : Fin 512 → ℝ) (a : Fin 512) : both f g (lo a) = f a := dif_pos a.isLt
theorem both_hi (f g : Fin 512 → ℝ) (a : Fin 512) : both f g (hi a) = g a := by
  unfold both hi
  rw [dif_neg (by simp)]
  exact congrArg g (Fin.ext (by simp))

theorem sum_both (f : Fin 1024 → ℝ) : ∑ j, f j = ∑ a, f (lo a) + ∑ a, f (hi a) :=
  (Fin.sum_univ_add (a := 512) (b := 512) f)

/-! ## The layer -/

/-- What the layer's middle works on: the attention's output, the input projection, the residual, the features, the
    target, the three weights, the convolution's filter and the norms' three weights. -/
structure In where
  o : Fin 8192 → Fin 512 → ℝ
  pr : Fin 8192 → Fin 3008 → ℝ
  x : Fin 8192 → Fin 1024 → ℝ
  p : Fin 8192 → Fin 256 → ℝ
  t : Fin 8192 → Fin 1024 → ℝ
  wo : Fin 1024 → Fin 1024 → ℝ
  wg : Fin 1024 → Fin 1024 → ℝ
  wp : Fin 256 → Fin 1024 → ℝ
  cw : Fin 3 → Fin 512 → ℝ
  ga : Fin 1 → Fin 512 → ℝ
  gc : Fin 1 → Fin 512 → ℝ
  gp : Fin 1 → Fin 1024 → ℝ

section layer
variable (I : In) (R : Fin 8192)

/-- The attention's gate, -/
def za (c : Fin 512) : ℝ := I.pr R ⟨448 + c.val, by omega⟩
/-- the gate before the convolution's output, the convolution's two factors, -/
def cb (c : Fin 512) : ℝ := I.pr R ⟨960 + c.val, by omega⟩
def cc (c : Fin 512) : ℝ := I.pr R ⟨1472 + c.val, by omega⟩
def cx (c : Fin 512) : ℝ := I.pr R ⟨1984 + c.val, by omega⟩
/-- and the gate after it. -/
def zc (c : Fin 512) : ℝ := I.pr R ⟨2496 + c.val, by omega⟩

/-- The convolution's input, -/
def mm (c : Fin 512) : ℝ := cc I R c * cx I R c
/-- the same `k` rows before, zero above the first row, -/
def bk (k : ℕ) (c : Fin 512) : ℝ := if k ≤ R.val then mm I ⟨R.val - k, by omega⟩ c else 0
/-- and the convolution. -/
def u (c : Fin 512) : ℝ := I.cw 0 c * bk I R 2 c + I.cw 1 c * bk I R 1 c + I.cw 2 c * mm I R c

/-- The gated attention, its factor and its normed rows; -/
def gav (c : Fin 512) : ℝ := I.o R c * (za I R c * sig (za I R c))
def ra : ℝ := rst (1 / 512) (gav I R)
def gha (c : Fin 512) : ℝ := gav I R c * ra I R
/-- the same of the convolution. -/
def gcv (c : Fin 512) : ℝ := cb I R c * u I R c * (zc I R c * sig (zc I R c))
def rc : ℝ := rst (1 / 512) (gcv I R)
def ghc (c : Fin 512) : ℝ := gcv I R c * rc I R

def ya (c : Fin 512) : ℝ := gha I R c * I.ga 0 c
def yc (c : Fin 512) : ℝ := ghc I R c * I.gc 0 c

/-- The residual with the merged heads; its factor, its normed rows, and those weighted. -/
def x2 (c : Fin 1024) : ℝ := I.x R c + ∑ a, ya I R a * I.wo (lo a) c + ∑ a, yc I R a * I.wo (hi a) c
def r2 : ℝ := rst (1 / 1024) (x2 I R)
def xh2 (c : Fin 1024) : ℝ := x2 I R c * r2 I R
def n2 (c : Fin 1024) : ℝ := xh2 I R c * I.gp 0 c

/-- The gate, the embedding and the error. -/
def gate (c : Fin 1024) : ℝ := sig (∑ k, n2 I R k * I.wg k c)
def pw (c : Fin 1024) : ℝ := ∑ k, I.p R k * I.wp k c
def err (c : Fin 1024) : ℝ := x2 I R c + gate I R c * pw I R c - I.t R c

/-- The gradients, from the loss back: at the output, at the gate's argument, at the normed residual, at the residual, -/
def dout (c : Fin 1024) : ℝ := err I R c * (1 / 1024)
def dgl (c : Fin 1024) : ℝ := dout I R c * pw I R c * gate I R c * (1 - gate I R c)
def dn2 (c : Fin 1024) : ℝ := ∑ k, dgl I R k * I.wg c k
def dx2 (c : Fin 1024) : ℝ := dout I R c + nb (1 / 1024) (r2 I R) (I.gp 0) (xh2 I R) (dn2 I R) c
/-- at the merged heads, -/
def dy (j : Fin 1024) : ℝ := ∑ k, dx2 I R k * I.wo j k
/-- at the two gated outputs, -/
def dga (c : Fin 512) : ℝ := nb (1 / 512) (ra I R) (I.ga 0) (gha I R) (fun a => dy I R (lo a)) c
def dgc (c : Fin 512) : ℝ := nb (1 / 512) (rc I R) (I.gc 0) (ghc I R) (fun a => dy I R (hi a)) c
/-- and at the two groups of heads and their gates. -/
def dO (c : Fin 512) : ℝ := dga I R c * (za I R c * sig (za I R c))
def dza (c : Fin 512) : ℝ := dga I R c * I.o R c * dsilu (za I R c)
def du (c : Fin 512) : ℝ := dgc I R c * cb I R c * (zc I R c * sig (zc I R c))
def dcb (c : Fin 512) : ℝ := dgc I R c * u I R c * (zc I R c * sig (zc I R c))
def dzc (c : Fin 512) : ℝ := dgc I R c * cb I R c * u I R c * dsilu (zc I R c)
/-- A head's row sum of its gradient times its output. -/
def delta (h : Fin 4) : ℝ := ∑ e : Fin 128, dO I R ⟨h.val * 128 + e.val, by omega⟩ * I.o R ⟨h.val * 128 + e.val, by omega⟩

/-! A row's addends to the sums: the merge's weight, the gate's, the embedding's, the filter, the three norms' weights
    and the loss. -/

def ewo (a b : Fin 1024) : ℝ := both (ya I R) (yc I R) a * dx2 I R b
def ewg (a b : Fin 1024) : ℝ := n2 I R a * dgl I R b
def ewp (a : Fin 256) (b : Fin 1024) : ℝ := I.p R a * (dout I R b * gate I R b)
def ecw (j : Fin 8) (c : Fin 512) : ℝ :=
  if j.val = 0 then du I R c * bk I R 2 c else if j.val = 1 then du I R c * bk I R 1 c else if j.val = 2 then du I R c * mm I R c else 0
def ega (_ : Fin 1) (c : Fin 512) : ℝ := dy I R (lo c) * gha I R c
def egc (_ : Fin 1) (c : Fin 512) : ℝ := dy I R (hi c) * ghc I R c
def egp (_ : Fin 1) (c : Fin 1024) : ℝ := dn2 I R c * xh2 I R c
def eloss (_ : Fin 1) (_ : Fin 128) : ℝ := (∑ c, err I R c * err I R c) * (1 / 2048)

end layer

/-- A sum of the rows' addends. -/
def overRows {α β : Type} (e : Fin 8192 → α → β → ℝ) (a : α) (b : β) : ℝ := ∑ R, e R a b

/-- The sum of the first `n` row blocks. -/
def overBlocks {α β : Type} (e : Fin 8192 → α → β → ℝ) (n : ℕ) (a : α) (b : β) : ℝ :=
  ∑ t : Fin 32, if t.val < n then ∑ r, e (mrow t r) a b else 0

theorem overBlocks_zero {α β : Type} (e : Fin 8192 → α → β → ℝ) (a : α) (b : β) : overBlocks e 0 a b = 0 :=
  Finset.sum_eq_zero fun t _ => if_neg (Nat.not_lt_zero _)

theorem overBlocks_succ {α β : Type} (e : Fin 8192 → α → β → ℝ) (t : Fin 32) (a : α) (b : β) :
    overBlocks e (t.val + 1) a b = overBlocks e t.val a b + ∑ r, e (mrow t r) a b := by
  have h : ∑ r, e (mrow t r) a b = ∑ s : Fin 32, if s = t then ∑ r, e (mrow s r) a b else 0 := by
    rw [Finset.sum_ite_eq' Finset.univ t, if_pos (Finset.mem_univ t)]
  unfold overBlocks
  rw [h, ← Finset.sum_add_distrib]
  refine Finset.sum_congr rfl fun s _ => ?_
  by_cases h1 : s.val < t.val
  · rw [if_pos h1, if_pos (by omega), if_neg (fun e => by rw [e] at h1; exact lt_irrefl _ h1), add_zero]
  · by_cases h2 : s = t
    · rw [if_neg h1, if_pos (by rw [h2]; omega), if_pos h2, zero_add]
    · rw [if_neg h1, if_neg h2, if_neg (fun h => h2 (Fin.ext (by omega))), add_zero]

theorem overBlocks_all {α β : Type} (e : Fin 8192 → α → β → ℝ) (a : α) (b : β) : overBlocks e 32 a b = overRows e a b := by
  unfold overBlocks overRows
  rw [sum_mrow]
  exact Finset.sum_congr rfl fun t _ => if_pos t.isLt

end Cert.Proof.Mid

end
-- ==== Proof.MidRef.lean ====
module

public import proofs.«01_k».proof.Proof.MidMath
public import proofs.«01_k».proof.Proof.FlashHost
public import proofs.«01_k».proof.Proof.Gen.Reference3Ideal.Run
public import proofs.«01_k».proof.Proof.Gen.Reference3Ideal.Read

/-! The reference's results over the reals, read off one value of it after another. -/

@[expose] public section

set_option maxRecDepth 16384

noncomputable section

namespace Cert.Proof.Mid

open Cert.Reference3Ideal Cert.Reference3Ideal.Gen Cert.Reference3Ideal.Read
open Cert.Proof.Flash
open Idealize.ShloMosaic

/-! ## Constants and the two functions -/

theorem half_up : Ideal.ofBits .f32 0x3F000000#32 = ((1 / 2 : ℝ) : EReal) := by
  simp [Ideal.ofBits, Ideal.ieee, -EReal.coe_mul]; norm_num
theorem minusHalf_up : Ideal.ofBits .f32 0xBF000000#32 = ((-(1 / 2) : ℝ) : EReal) := by
  simp [Ideal.ofBits, Ideal.ieee, -EReal.coe_mul]; norm_num
theorem two_up : Ideal.ofBits .f32 0x40000000#32 = ((2 : ℝ) : EReal) := by
  simp [Ideal.ofBits, Ideal.ieee, -EReal.coe_mul]; norm_num

theorem over512 (x : EReal) : Ideal.div x (Ideal.ofBits .f32 0x44000000#32) = x * ((1 / 512 : ℝ) : EReal) := by
  rw [show Ideal.ofBits .f32 0x44000000#32 = ((512 : ℝ) : EReal) by simp [Ideal.ofBits, Ideal.ieee, -EReal.coe_mul]; norm_num,
    Ideal.div_coe (by norm_num)]
theorem over1024 (x : EReal) : Ideal.div x (Ideal.ofBits .f32 0x44800000#32) = x * ((1 / 1024 : ℝ) : EReal) := by
  rw [show Ideal.ofBits .f32 0x44800000#32 = ((1024 : ℝ) : EReal) by simp [Ideal.ofBits, Ideal.ieee, -EReal.coe_mul]; norm_num,
    Ideal.div_coe (by norm_num)]

theorem sig_up (z : ℝ) : Ideal.div 1 (1 + Ideal.exp (-(z : EReal))) = (sig z : EReal) := by
  have h : (1 + Real.exp (-z)) ≠ 0 := (add_pos one_pos (Real.exp_pos _)).ne'
  rw [← EReal.coe_neg, Ideal.exp_coe, ← EReal.coe_one, ← EReal.coe_add, div_real h, one_div]; rfl

theorem rsqrt512 (f : Fin 512 → ℝ) : Ideal.rsqrt (msq (1 / 512) f : EReal) = (rst (1 / 512) f : EReal) := rsqrt_up _ f (by norm_num)
theorem rsqrt1024 (f : Fin 1024 → ℝ) : Ideal.rsqrt (msq (1 / 1024) f : EReal) = (rst (1 / 1024) f : EReal) := rsqrt_up _ f (by norm_num)
theorem div512 (x : ℝ) (f : Fin 512 → ℝ) : Ideal.div (x : EReal) (msq (1 / 512) f : EReal) = ((x / msq (1 / 512) f : ℝ) : EReal) :=
  div_real (msq_pos _ f (by norm_num)).ne'
theorem div1024 (x : ℝ) (f : Fin 1024 → ℝ) : Ideal.div (x : EReal) (msq (1 / 1024) f : EReal) = ((x / msq (1 / 1024) f : ℝ) : EReal) :=
  div_real (msq_pos _ f (by norm_num)).ne'

theorem sum_unit (x : EReal) : ∑ _k : Fin 1, x = x := by simp

theorem ix2_fst {n m : ℕ} (a : Fin n) (b : Fin m) : ix2 a b 0 = a := rfl
theorem ix2_snd {n m : ℕ} (a : Fin n) (b : Fin m) : ix2 a b 1 = b := rfl

attribute [local pointwise] up2 ix2_fst ix2_snd EReal.coe_mul EReal.coe_add EReal.coe_sub coe_sum over512 over1024 half_up minusHalf_up
  two_up eps_up EReal.coe_one sig_up sum_unit rsqrt512 rsqrt1024 div512 div1024

variable (I : In)

/-- The gate's argument. -/
def gl (R : Fin 8192) (c : Fin 1024) : ℝ := ∑ k, n2 I R k * I.wg k c

/-! ## The reference's values -/
theorem ref_v0 : val_main_v0 (F := Ideal) (up2 I.pr) = up2 (za I) := by
  funext j; idx_vars j
  pointwise [val_main_v0, za]

theorem ref_v1 : val_main_v1 (F := Ideal) (up2 I.pr) = up2 (cb I) := by
  funext j; idx_vars j
  pointwise [val_main_v1, cb]

theorem ref_v4 : val_main_v4 (F := Ideal) (up2 I.pr) = up2 (zc I) := by
  funext j; idx_vars j
  pointwise [val_main_v4, zc]

theorem ref_v5 : val_main_v5 (F := Ideal) (up2 I.pr) = up2 (mm I) := by
  funext j; idx_vars j
  pointwise [val_main_v5, val_main_v2, val_main_v3, mm, cc, cx]

theorem pad_zero : val_main_call0_v0 (F := Ideal) (Shape.Idx.first h_S_) = 0 := by
  show ((((0#32 : BitVec 32).toInt : ℝ)) : EReal) = 0
  simp

theorem ref_v9 : val_main_v9 (F := Ideal) (up2 I.pr) = up2 (fun R => bk I R 2) := by
  funext j; idx_vars j
  pointwise [val_main_v9, val_main_v6, ref_v5, pad_zero, bk]
  by_cases h : 2 ≤ j0.val
  · rw [dif_pos ⟨h, by omega⟩, if_pos h]
  · rw [dif_neg fun e => h e.1, if_neg h]; rfl

theorem ref_v17 : val_main_v17 (F := Ideal) (up2 I.pr) = up2 (fun R => bk I R 1) := by
  funext j; idx_vars j
  pointwise [val_main_v17, val_main_v6, ref_v5, pad_zero, bk]
  by_cases h : 1 ≤ j0.val
  · rw [dif_pos ⟨by omega, by omega⟩, if_pos h]
    exact congrArg Real.toEReal (congrArg (mm I · j1) (Fin.ext (by show 1 + j0.val - 2 = j0.val - 1; omega)))
  · rw [dif_neg fun e => h (by omega), if_neg h]; rfl

theorem ref_v24 : val_main_v24 (F := Ideal) (up2 I.pr) = up2 (mm I) := by
  funext j; idx_vars j
  pointwise [val_main_v24, val_main_v6, ref_v5, pad_zero]

theorem ref_v28 : val_main_v28 (F := Ideal) (up2 I.pr) (up2 I.cw) = up2 (u I) := by
  funext j; idx_vars j
  pointwise [val_main_v28, val_main_v21, val_main_v27, val_main_v14, val_main_v20, val_main_v26, val_main_v13, val_main_v12, val_main_v19, val_main_v25, val_main_cst, val_main_v11, val_main_v18, val_main_v23, val_main_v10, val_main_v16, val_main_v22, val_main_v8, val_main_v15, val_main_v7, ref_v24, ref_v17, ref_v9, u]

theorem ref_v29_2 : val_main_v29_2 (F := Ideal) (up2 I.pr) = up2 (fun R c => sig (za I R c)) := by
  funext j; idx_vars j
  pointwise [val_main_v29_2, val_main_call1_v4, val_main_call1_v3, val_main_call1_cst_0, val_main_call1_v2, val_main_call1_v1, val_main_call1_cst, val_main_call1_v0, ref_v0]

theorem ref_v29_1 : val_main_v29_1 (F := Ideal) (up2 I.pr) = up2 (fun R c => sig (za I R c) * (1 - sig (za I R c))) := by
  funext j; idx_vars j
  pointwise [val_main_v29_1, val_main_call1_v7, val_main_call1_v6, val_main_call1_cst_1, ref_v29_2]

theorem ref_v29_0 : val_main_v29_0 (F := Ideal) (up2 I.pr) = up2 (fun R c => za I R c * sig (za I R c)) := by
  funext j; idx_vars j
  pointwise [val_main_v29_0, ref_v0, ref_v29_2]

theorem ref_v30 : val_main_v30 (F := Ideal) (up2 I.o) (up2 I.pr) = up2 (gav I) := by
  funext j; idx_vars j
  pointwise [val_main_v30, ref_v29_0, gav]

theorem ref_v37 : val_main_v37 (F := Ideal) (up2 I.o) (up2 I.pr) = up2 (fun R (_ : Fin 1) => msq (1 / 512) (gav I R)) := by
  funext j; idx_vars j
  pointwise [val_main_v37, val_main_v35, val_main_v36, val_main_v33, val_main_v34, val_main_cst_2, val_main_v32, val_main_cst_1, val_main_v31, val_main_cst_0, ref_v30, msq]

theorem ref_v38 : val_main_v38 (F := Ideal) (up2 I.o) (up2 I.pr) = up2 (fun R (_ : Fin 1) => ra I R) := by
  funext j; idx_vars j
  pointwise [val_main_v38, ref_v37, ra]

theorem ref_v41 : val_main_v41 (F := Ideal) (up2 I.o) (up2 I.pr) = up2 (fun R (_ : Fin 1) => -(1 / 2) * (ra I R / msq (1 / 512) (gav I R))) := by
  funext j; idx_vars j
  pointwise [val_main_v41, val_main_v40, val_main_v39, val_main_cst_3, ref_v38, ref_v37]

theorem ref_v43 : val_main_v43 (F := Ideal) (up2 I.o) (up2 I.pr) = up2 (gha I) := by
  funext j; idx_vars j
  pointwise [val_main_v43, val_main_v42, ref_v30, ref_v38, gha]

theorem ref_v45 : val_main_v45 (F := Ideal) (up2 I.o) (up2 I.pr) (up2 I.ga) = up2 (ya I) := by
  funext j; idx_vars j
  pointwise [val_main_v45, val_main_v44, ref_v43, ya]

theorem ref_v46 : val_main_v46 (F := Ideal) (up2 I.pr) (up2 I.cw) = up2 (fun R c => cb I R c * u I R c) := by
  funext j; idx_vars j
  pointwise [val_main_v46, ref_v1, ref_v28]

theorem ref_v47_2 : val_main_v47_2 (F := Ideal) (up2 I.pr) = up2 (fun R c => sig (zc I R c)) := by
  funext j; idx_vars j
  pointwise [val_main_v47_2, val_main_call2_v4, val_main_call2_v3, val_main_call2_cst_0, val_main_call2_v2, val_main_call2_v1, val_main_call2_cst, val_main_call2_v0, ref_v4]

theorem ref_v47_1 : val_main_v47_1 (F := Ideal) (up2 I.pr) = up2 (fun R c => sig (zc I R c) * (1 - sig (zc I R c))) := by
  funext j; idx_vars j
  pointwise [val_main_v47_1, val_main_call2_v7, val_main_call2_v6, val_main_call2_cst_1, ref_v47_2]

theorem ref_v47_0 : val_main_v47_0 (F := Ideal) (up2 I.pr) = up2 (fun R c => zc I R c * sig (zc I R c)) := by
  funext j; idx_vars j
  pointwise [val_main_v47_0, ref_v4, ref_v47_2]

theorem ref_v48 : val_main_v48 (F := Ideal) (up2 I.pr) (up2 I.cw) = up2 (gcv I) := by
  funext j; idx_vars j
  pointwise [val_main_v48, ref_v46, ref_v47_0, gcv]

theorem ref_v55 : val_main_v55 (F := Ideal) (up2 I.pr) (up2 I.cw) = up2 (fun R (_ : Fin 1) => msq (1 / 512) (gcv I R)) := by
  funext j; idx_vars j
  pointwise [val_main_v55, val_main_v53, val_main_v54, val_main_v51, val_main_v52, val_main_cst_6, val_main_v50, val_main_cst_5, val_main_v49, val_main_cst_4, ref_v48, msq]

theorem ref_v56 : val_main_v56 (F := Ideal) (up2 I.pr) (up2 I.cw) = up2 (fun R (_ : Fin 1) => rc I R) := by
  funext j; idx_vars j
  pointwise [val_main_v56, ref_v55, rc]

theorem ref_v59 : val_main_v59 (F := Ideal) (up2 I.pr) (up2 I.cw) = up2 (fun R (_ : Fin 1) => -(1 / 2) * (rc I R / msq (1 / 512) (gcv I R))) := by
  funext j; idx_vars j
  pointwise [val_main_v59, val_main_v58, val_main_v57, val_main_cst_7, ref_v56, ref_v55]

theorem ref_v61 : val_main_v61 (F := Ideal) (up2 I.pr) (up2 I.cw) = up2 (ghc I) := by
  funext j; idx_vars j
  pointwise [val_main_v61, val_main_v60, ref_v48, ref_v56, ghc]

theorem ref_v63 : val_main_v63 (F := Ideal) (up2 I.pr) (up2 I.cw) (up2 I.gc) = up2 (yc I) := by
  funext j; idx_vars j
  pointwise [val_main_v63, val_main_v62, ref_v61, yc]

theorem ref_v64 : val_main_v64 (F := Ideal) (up2 I.o) (up2 I.pr) (up2 I.cw) (up2 I.ga) (up2 I.gc) = up2 (fun R => both (ya I R) (yc I R)) := by
  funext j; idx_vars j
  pointwise [val_main_v64, ref_v45, ref_v63, both]
  split_ifs <;> rfl

theorem ref_v66 : val_main_v66 (F := Ideal) (up2 I.o) (up2 I.pr) (up2 I.x) (up2 I.wo) (up2 I.cw) (up2 I.ga) (up2 I.gc) = up2 (x2 I) := by
  refine Eq.trans (b := up2 fun R c => I.x R c + ∑ k, both (ya I R) (yc I R) k * I.wo k c) ?_ (congrArg up2 (funext₂ fun R c => ?_))
  · funext j; idx_vars j
    pointwise [val_main_v66, val_main_v65, ref_v64]
  · rw [sum_both]; simp only [both_lo, both_hi]; exact (add_assoc _ _ _).symm

theorem ref_v73 : val_main_v73 (F := Ideal) (up2 I.o) (up2 I.pr) (up2 I.x) (up2 I.wo) (up2 I.cw) (up2 I.ga) (up2 I.gc) = up2 (fun R (_ : Fin 1) => msq (1 / 1024) (x2 I R)) := by
  funext j; idx_vars j
  pointwise [val_main_v73, val_main_v71, val_main_v72, val_main_v69, val_main_v70, val_main_cst_10, val_main_v68, val_main_cst_9, val_main_v67, val_main_cst_8, ref_v66, msq]

theorem ref_v74 : val_main_v74 (F := Ideal) (up2 I.o) (up2 I.pr) (up2 I.x) (up2 I.wo) (up2 I.cw) (up2 I.ga) (up2 I.gc) = up2 (fun R (_ : Fin 1) => r2 I R) := by
  funext j; idx_vars j
  pointwise [val_main_v74, ref_v73, r2]

theorem ref_v77 : val_main_v77 (F := Ideal) (up2 I.o) (up2 I.pr) (up2 I.x) (up2 I.wo) (up2 I.cw) (up2 I.ga) (up2 I.gc) = up2 (fun R (_ : Fin 1) => -(1 / 2) * (r2 I R / msq (1 / 1024) (x2 I R))) := by
  funext j; idx_vars j
  pointwise [val_main_v77, val_main_v76, val_main_v75, val_main_cst_11, ref_v74, ref_v73]

theorem ref_v79 : val_main_v79 (F := Ideal) (up2 I.o) (up2 I.pr) (up2 I.x) (up2 I.wo) (up2 I.cw) (up2 I.ga) (up2 I.gc) = up2 (xh2 I) := by
  funext j; idx_vars j
  pointwise [val_main_v79, val_main_v78, ref_v66, ref_v74, xh2]

theorem ref_v81 : val_main_v81 (F := Ideal) (up2 I.o) (up2 I.pr) (up2 I.x) (up2 I.wo) (up2 I.cw) (up2 I.ga) (up2 I.gc) (up2 I.gp) = up2 (n2 I) := by
  funext j; idx_vars j
  pointwise [val_main_v81, val_main_v80, ref_v79, n2]

theorem ref_v82 : val_main_v82 (F := Ideal) (up2 I.o) (up2 I.pr) (up2 I.x) (up2 I.wo) (up2 I.wg) (up2 I.cw) (up2 I.ga) (up2 I.gc) (up2 I.gp) = up2 (gl I) := by
  funext j; idx_vars j
  pointwise [val_main_v82, ref_v81, gl]

theorem gate_eq (R : Fin 8192) (c : Fin 1024) : sig (gl I R c) = gate I R c := rfl

theorem ref_v88 : val_main_v88 (F := Ideal) (up2 I.o) (up2 I.pr) (up2 I.x) (up2 I.wo) (up2 I.wg) (up2 I.cw) (up2 I.ga) (up2 I.gc) (up2 I.gp) = up2 (gate I) := by
  funext j; idx_vars j
  pointwise [val_main_v88, val_main_v87, val_main_v86, val_main_cst_13, val_main_v85, val_main_v84, val_main_cst_12, val_main_v83, ref_v82, gate_eq]

theorem ref_v91 : val_main_v91 (F := Ideal) (up2 I.o) (up2 I.pr) (up2 I.x) (up2 I.wo) (up2 I.wg) (up2 I.cw) (up2 I.ga) (up2 I.gc) (up2 I.gp) = up2 (fun R c => gate I R c * (1 - gate I R c)) := by
  funext j; idx_vars j
  pointwise [val_main_v91, val_main_v90, val_main_v89, val_main_cst_14, ref_v88]

theorem ref_v92 : val_main_v92 (F := Ideal) (up2 I.p) (up2 I.wp) = up2 (pw I) := by
  funext j; idx_vars j
  pointwise [val_main_v92, pw]

theorem ref_v95 : val_main_v95 (F := Ideal) (up2 I.o) (up2 I.pr) (up2 I.x) (up2 I.p) (up2 I.t) (up2 I.wo) (up2 I.wg) (up2 I.wp) (up2 I.cw) (up2 I.ga) (up2 I.gc) (up2 I.gp) = up2 (err I) := by
  funext j; idx_vars j
  pointwise [val_main_v95, val_main_v94, val_main_v93, ref_v66, ref_v88, ref_v92, err]

theorem ref_v109 : val_main_v109 (F := Ideal) (up2 I.o) (up2 I.pr) (up2 I.x) (up2 I.p) (up2 I.t) (up2 I.wo) (up2 I.wg) (up2 I.wp) (up2 I.cw) (up2 I.ga) (up2 I.gc) (up2 I.gp) = up2 (dout I) := by
  refine Eq.trans (b := up2 fun R c => 1 / 2 * 1 * (1 / 1024) * (2 * err I R c)) ?_ (congrArg up2 (funext₂ fun R c => ?_))
  · funext j; idx_vars j
    pointwise [val_main_v109, val_main_v108, val_main_v98, val_main_v107, val_main_v97, val_main_v105, val_main_v106, val_main_cst_15, val_main_v104, val_main_cst_22, val_main_cst_20, val_main_cst_21, ref_v95]
  · unfold dout; ring

theorem ref_v113 : val_main_v113 (F := Ideal) (up2 I.o) (up2 I.pr) (up2 I.x) (up2 I.p) (up2 I.t) (up2 I.wo) (up2 I.wg) (up2 I.wp) (up2 I.cw) (up2 I.ga) (up2 I.gc) (up2 I.gp) = up2 (overRows (ewp I)) := by
  refine Eq.trans (b := up2 fun a b => ∑ R, gate I R b * dout I R b * I.p R a) ?_ (congrArg up2 (funext₂ fun a b => ?_))
  · funext j; idx_vars j
    pointwise [val_main_v113, val_main_v112, val_main_v110, ref_v88, ref_v109]
  · exact Finset.sum_congr rfl fun R _ => by unfold ewp; ring

theorem ref_v114 : val_main_v114 (F := Ideal) (up2 I.o) (up2 I.pr) (up2 I.x) (up2 I.p) (up2 I.t) (up2 I.wo) (up2 I.wg) (up2 I.wp) (up2 I.cw) (up2 I.ga) (up2 I.gc) (up2 I.gp) = up2 (dgl I) := by
  refine Eq.trans (b := up2 fun R c => dout I R c * pw I R c * (gate I R c * (1 - gate I R c))) ?_ (congrArg up2 (funext₂ fun R c => ?_))
  · funext j; idx_vars j
    pointwise [val_main_v114, val_main_v111, ref_v91, ref_v109, ref_v92]
  · unfold dgl; ring

theorem ref_v116 : val_main_v116 (F := Ideal) (up2 I.o) (up2 I.pr) (up2 I.x) (up2 I.p) (up2 I.t) (up2 I.wo) (up2 I.wg) (up2 I.wp) (up2 I.cw) (up2 I.ga) (up2 I.gc) (up2 I.gp) = up2 (overRows (ewg I)) := by
  refine Eq.trans (b := up2 fun a b => ∑ R, dgl I R b * n2 I R a) ?_ (congrArg up2 (funext₂ fun a b => ?_))
  · funext j; idx_vars j
    pointwise [val_main_v116, val_main_v115, ref_v114, ref_v81]
  · exact Finset.sum_congr rfl fun R _ => mul_comm _ _

theorem ref_v117 : val_main_v117 (F := Ideal) (up2 I.o) (up2 I.pr) (up2 I.x) (up2 I.p) (up2 I.t) (up2 I.wo) (up2 I.wg) (up2 I.wp) (up2 I.cw) (up2 I.ga) (up2 I.gc) (up2 I.gp) = up2 (dn2 I) := by
  funext j; idx_vars j
  pointwise [val_main_v117, ref_v114, dn2]

theorem ref_v120 : val_main_v120 (F := Ideal) (up2 I.o) (up2 I.pr) (up2 I.x) (up2 I.p) (up2 I.t) (up2 I.wo) (up2 I.wg) (up2 I.wp) (up2 I.cw) (up2 I.ga) (up2 I.gc) (up2 I.gp) = up2 (overRows (egp I)) := by
  refine Eq.trans (b := up2 fun (_ : Fin 1) c => ∑ R, xh2 I R c * dn2 I R c) ?_ (congrArg up2 (funext₂ fun a b => ?_))
  · funext j; idx_vars j
    pointwise [val_main_v120, val_main_v119, val_main_v118, val_main_cst_23, ref_v79, ref_v117]
  · exact Finset.sum_congr rfl fun R _ => mul_comm _ _

theorem ref_v122 : val_main_v122 (F := Ideal) (up2 I.o) (up2 I.pr) (up2 I.x) (up2 I.p) (up2 I.t) (up2 I.wo) (up2 I.wg) (up2 I.wp) (up2 I.cw) (up2 I.ga) (up2 I.gc) (up2 I.gp) = up2 (fun R c => dn2 I R c * I.gp 0 c) := by
  funext j; idx_vars j
  pointwise [val_main_v122, val_main_v121, ref_v117]

theorem ref_v133 : val_main_v133 (F := Ideal) (up2 I.o) (up2 I.pr) (up2 I.x) (up2 I.p) (up2 I.t) (up2 I.wo) (up2 I.wg) (up2 I.wp) (up2 I.cw) (up2 I.ga) (up2 I.gc) (up2 I.gp) = up2 (fun R (_ : Fin 1024) => (∑ d, x2 I R d * (dn2 I R d * I.gp 0 d)) * (-(1 / 2) * (r2 I R / msq (1 / 1024) (x2 I R))) * (1 / 1024)) := by
  funext j; idx_vars j
  pointwise [val_main_v133, val_main_v132, val_main_v131, val_main_cst_26, val_main_v129, val_main_v130, val_main_v125, val_main_cst_25, val_main_v124, val_main_v123, val_main_cst_24, ref_v77, ref_v66, ref_v122]

theorem ref_v137 : val_main_v137 (F := Ideal) (up2 I.o) (up2 I.pr) (up2 I.x) (up2 I.p) (up2 I.t) (up2 I.wo) (up2 I.wg) (up2 I.wp) (up2 I.cw) (up2 I.ga) (up2 I.gc) (up2 I.gp) = up2 (dx2 I) := by
  refine Eq.trans (b := up2 fun R c => dout I R c + dn2 I R c * I.gp 0 c * r2 I R + x2 I R c * ((∑ d, x2 I R d * (dn2 I R d * I.gp 0 d)) * (-(1 / 2) * (r2 I R / msq (1 / 1024) (x2 I R))) * (1 / 1024))
      + (∑ d, x2 I R d * (dn2 I R d * I.gp 0 d)) * (-(1 / 2) * (r2 I R / msq (1 / 1024) (x2 I R))) * (1 / 1024) * x2 I R c) ?_ (congrArg up2 (funext₂ fun R c => ?_))
  · funext j; idx_vars j
    pointwise [val_main_v137, val_main_v135, val_main_v136, val_main_v128, val_main_v134, val_main_v127, val_main_v126, ref_v133, ref_v66, ref_v109, ref_v122, ref_v74]
  · have h := nb_other (1 / 1024) (x2 I R) (by norm_num) (I.gp 0) (dn2 I R) c
    refine Eq.trans ?_ (congrArg (dout I R c + ·) h)
    show _ = dout I R c + (dn2 I R c * I.gp 0 c * r2 I R + _ + _)
    rw [← add_assoc, ← add_assoc]; rfl

theorem ref_v139 : val_main_v139 (F := Ideal) (up2 I.o) (up2 I.pr) (up2 I.x) (up2 I.p) (up2 I.t) (up2 I.wo) (up2 I.wg) (up2 I.wp) (up2 I.cw) (up2 I.ga) (up2 I.gc) (up2 I.gp) = up2 (overRows (ewo I)) := by
  refine Eq.trans (b := up2 fun a b => ∑ R, dx2 I R b * both (ya I R) (yc I R) a) ?_ (congrArg up2 (funext₂ fun a b => ?_))
  · funext j; idx_vars j
    pointwise [val_main_v139, val_main_v138, ref_v137, ref_v64]
  · exact Finset.sum_congr rfl fun R _ => mul_comm _ _

theorem ref_v140 : val_main_v140 (F := Ideal) (up2 I.o) (up2 I.pr) (up2 I.x) (up2 I.p) (up2 I.t) (up2 I.wo) (up2 I.wg) (up2 I.wp) (up2 I.cw) (up2 I.ga) (up2 I.gc) (up2 I.gp) = up2 (dy I) := by
  funext j; idx_vars j
  pointwise [val_main_v140, ref_v137, dy]

theorem ref_v141 : val_main_v141 (F := Ideal) (up2 I.o) (up2 I.pr) (up2 I.x) (up2 I.p) (up2 I.t) (up2 I.wo) (up2 I.wg) (up2 I.wp) (up2 I.cw) (up2 I.ga) (up2 I.gc) (up2 I.gp) = up2 (fun R c => dy I R (lo c)) := by
  funext j; idx_vars j
  pointwise [val_main_v141, ref_v140, lo]

theorem ref_v142 : val_main_v142 (F := Ideal) (up2 I.o) (up2 I.pr) (up2 I.x) (up2 I.p) (up2 I.t) (up2 I.wo) (up2 I.wg) (up2 I.wp) (up2 I.cw) (up2 I.ga) (up2 I.gc) (up2 I.gp) = up2 (fun R c => dy I R (hi c)) := by
  funext j; idx_vars j
  pointwise [val_main_v142, ref_v140, hi]

theorem ref_v145 : val_main_v145 (F := Ideal) (up2 I.o) (up2 I.pr) (up2 I.x) (up2 I.p) (up2 I.t) (up2 I.wo) (up2 I.wg) (up2 I.wp) (up2 I.cw) (up2 I.ga) (up2 I.gc) (up2 I.gp) = up2 (overRows (egc I)) := by
  refine Eq.trans (b := up2 fun (_ : Fin 1) c => ∑ R, ghc I R c * dy I R (hi c)) ?_ (congrArg up2 (funext₂ fun a b => ?_))
  · funext j; idx_vars j
    pointwise [val_main_v145, val_main_v144, val_main_v143, val_main_cst_27, ref_v61, ref_v142]
  · exact Finset.sum_congr rfl fun R _ => mul_comm _ _

theorem ref_v157 : val_main_v157 (F := Ideal) (up2 I.o) (up2 I.pr) (up2 I.x) (up2 I.p) (up2 I.t) (up2 I.wo) (up2 I.wg) (up2 I.wp) (up2 I.cw) (up2 I.ga) (up2 I.gc) (up2 I.gp) = up2 (fun R (_ : Fin 512) => (∑ d, gcv I R d * (dy I R (hi d) * I.gc 0 d)) * (-(1 / 2) * (rc I R / msq (1 / 512) (gcv I R))) * (1 / 512)) := by
  funext j; idx_vars j
  pointwise [val_main_v157, val_main_v156, val_main_v155, val_main_cst_30, val_main_v153, val_main_v154, val_main_v150, val_main_cst_29, val_main_v149, val_main_v148, val_main_cst_28, val_main_v147, val_main_v146, ref_v59, ref_v48, ref_v142]

theorem ref_v161 : val_main_v161 (F := Ideal) (up2 I.o) (up2 I.pr) (up2 I.x) (up2 I.p) (up2 I.t) (up2 I.wo) (up2 I.wg) (up2 I.wp) (up2 I.cw) (up2 I.ga) (up2 I.gc) (up2 I.gp) = up2 (dgc I) := by
  refine Eq.trans (b := up2 fun R c => dy I R (hi c) * I.gc 0 c * rc I R + gcv I R c * ((∑ d, gcv I R d * (dy I R (hi d) * I.gc 0 d)) * (-(1 / 2) * (rc I R / msq (1 / 512) (gcv I R))) * (1 / 512))
      + (∑ d, gcv I R d * (dy I R (hi d) * I.gc 0 d)) * (-(1 / 2) * (rc I R / msq (1 / 512) (gcv I R))) * (1 / 512) * gcv I R c) ?_ (congrArg up2 (funext₂ fun R c => ?_))
  · funext j; idx_vars j
    pointwise [val_main_v161, val_main_v159, val_main_v160, val_main_v152, val_main_v158, val_main_v147, val_main_v151, val_main_v146, ref_v157, ref_v48, ref_v142, ref_v56]
  · exact nb_other (1 / 512) (gcv I R) (by norm_num) (I.gc 0) (fun a => dy I R (hi a)) c

theorem ref_v164 : val_main_v164 (F := Ideal) (up2 I.o) (up2 I.pr) (up2 I.x) (up2 I.p) (up2 I.t) (up2 I.wo) (up2 I.wg) (up2 I.wp) (up2 I.cw) (up2 I.ga) (up2 I.gc) (up2 I.gp) = up2 (dzc I) := by
  refine Eq.trans (b := up2 fun R c => cb I R c * u I R c * dgc I R c * sig (zc I R c) + zc I R c * (cb I R c * u I R c * dgc I R c) * (sig (zc I R c) * (1 - sig (zc I R c)))) ?_ (congrArg up2 (funext₂ fun R c => ?_))
  · funext j; idx_vars j
    pointwise [val_main_v164, val_main_call3_v1, val_main_call3_v2, val_main_v162, val_main_call3_v0, ref_v47_2, ref_v47_1, ref_v46, ref_v161, ref_v4]
  · unfold dzc dsilu; ring

theorem ref_v165 : val_main_v165 (F := Ideal) (up2 I.o) (up2 I.pr) (up2 I.x) (up2 I.p) (up2 I.t) (up2 I.wo) (up2 I.wg) (up2 I.wp) (up2 I.cw) (up2 I.ga) (up2 I.gc) (up2 I.gp) = up2 (du I) := by
  refine Eq.trans (b := up2 fun R c => cb I R c * (dgc I R c * (zc I R c * sig (zc I R c)))) ?_ (congrArg up2 (funext₂ fun R c => ?_))
  · funext j; idx_vars j
    pointwise [val_main_v165, val_main_v163, ref_v1, ref_v161, ref_v47_0]
  · unfold du; ring

theorem ref_v166 : val_main_v166 (F := Ideal) (up2 I.o) (up2 I.pr) (up2 I.x) (up2 I.p) (up2 I.t) (up2 I.wo) (up2 I.wg) (up2 I.wp) (up2 I.cw) (up2 I.ga) (up2 I.gc) (up2 I.gp) = up2 (dcb I) := by
  refine Eq.trans (b := up2 fun R c => dgc I R c * (zc I R c * sig (zc I R c)) * u I R c) ?_ (congrArg up2 (funext₂ fun R c => ?_))
  · funext j; idx_vars j
    pointwise [val_main_v166, val_main_v163, ref_v28, ref_v161, ref_v47_0]
  · unfold dcb; ring

theorem ref_v169 : val_main_v169 (F := Ideal) (up2 I.o) (up2 I.pr) (up2 I.x) (up2 I.p) (up2 I.t) (up2 I.wo) (up2 I.wg) (up2 I.wp) (up2 I.cw) (up2 I.ga) (up2 I.gc) (up2 I.gp) = up2 (overRows (ega I)) := by
  refine Eq.trans (b := up2 fun (_ : Fin 1) c => ∑ R, gha I R c * dy I R (lo c)) ?_ (congrArg up2 (funext₂ fun a b => ?_))
  · funext j; idx_vars j
    pointwise [val_main_v169, val_main_v168, val_main_v167, val_main_cst_31, ref_v43, ref_v141]
  · exact Finset.sum_congr rfl fun R _ => mul_comm _ _

theorem ref_v181 : val_main_v181 (F := Ideal) (up2 I.o) (up2 I.pr) (up2 I.x) (up2 I.p) (up2 I.t) (up2 I.wo) (up2 I.wg) (up2 I.wp) (up2 I.cw) (up2 I.ga) (up2 I.gc) (up2 I.gp) = up2 (fun R (_ : Fin 512) => (∑ d, gav I R d * (dy I R (lo d) * I.ga 0 d)) * (-(1 / 2) * (ra I R / msq (1 / 512) (gav I R))) * (1 / 512)) := by
  funext j; idx_vars j
  pointwise [val_main_v181, val_main_v180, val_main_v179, val_main_cst_34, val_main_v177, val_main_v178, val_main_v174, val_main_cst_33, val_main_v173, val_main_v172, val_main_cst_32, val_main_v171, val_main_v170, ref_v41, ref_v30, ref_v141]

theorem ref_v185 : val_main_v185 (F := Ideal) (up2 I.o) (up2 I.pr) (up2 I.x) (up2 I.p) (up2 I.t) (up2 I.wo) (up2 I.wg) (up2 I.wp) (up2 I.cw) (up2 I.ga) (up2 I.gc) (up2 I.gp) = up2 (dga I) := by
  refine Eq.trans (b := up2 fun R c => dy I R (lo c) * I.ga 0 c * ra I R + gav I R c * ((∑ d, gav I R d * (dy I R (lo d) * I.ga 0 d)) * (-(1 / 2) * (ra I R / msq (1 / 512) (gav I R))) * (1 / 512))
      + (∑ d, gav I R d * (dy I R (lo d) * I.ga 0 d)) * (-(1 / 2) * (ra I R / msq (1 / 512) (gav I R))) * (1 / 512) * gav I R c) ?_ (congrArg up2 (funext₂ fun R c => ?_))
  · funext j; idx_vars j
    pointwise [val_main_v185, val_main_v183, val_main_v184, val_main_v176, val_main_v182, val_main_v171, val_main_v175, val_main_v170, ref_v181, ref_v30, ref_v141, ref_v38]
  · exact nb_other (1 / 512) (gav I R) (by norm_num) (I.ga 0) (fun a => dy I R (lo a)) c

theorem ref_v187 : val_main_v187 (F := Ideal) (up2 I.o) (up2 I.pr) (up2 I.x) (up2 I.p) (up2 I.t) (up2 I.wo) (up2 I.wg) (up2 I.wp) (up2 I.cw) (up2 I.ga) (up2 I.gc) (up2 I.gp) = up2 (dO I) := by
  funext j; idx_vars j
  pointwise [val_main_v187, ref_v185, ref_v29_0, dO]

theorem ref_v188 : val_main_v188 (F := Ideal) (up2 I.o) (up2 I.pr) (up2 I.x) (up2 I.p) (up2 I.t) (up2 I.wo) (up2 I.wg) (up2 I.wp) (up2 I.cw) (up2 I.ga) (up2 I.gc) (up2 I.gp) = up2 (dza I) := by
  refine Eq.trans (b := up2 fun R c => I.o R c * dga I R c * sig (za I R c) + za I R c * (I.o R c * dga I R c) * (sig (za I R c) * (1 - sig (za I R c)))) ?_ (congrArg up2 (funext₂ fun R c => ?_))
  · funext j; idx_vars j
    pointwise [val_main_v188, val_main_call4_v1, val_main_call4_v2, val_main_v186, val_main_call4_v0, ref_v29_2, ref_v29_1, ref_v185, ref_v0]
  · unfold dza dsilu; ring

theorem ref_v193 : val_main_v193 (F := Ideal) (up2 I.o) (up2 I.pr) (up2 I.x) (up2 I.p) (up2 I.t) (up2 I.wo) (up2 I.wg) (up2 I.wp) (up2 I.cw) (up2 I.ga) (up2 I.gc) (up2 I.gp) = up2 (fun (_ : Fin 1) c => ∑ R, du I R c * mm I R c) := by
  funext j; idx_vars j
  pointwise [val_main_v193, val_main_v192, val_main_v191, val_main_cst_36, val_main_v190, val_main_v189, val_main_cst_35, ref_v165, ref_v24]

theorem ref_v199 : val_main_v199 (F := Ideal) (up2 I.o) (up2 I.pr) (up2 I.x) (up2 I.p) (up2 I.t) (up2 I.wo) (up2 I.wg) (up2 I.wp) (up2 I.cw) (up2 I.ga) (up2 I.gc) (up2 I.gp) = up2 (fun (_ : Fin 1) c => ∑ R, du I R c * bk I R 1 c) := by
  funext j; idx_vars j
  pointwise [val_main_v199, val_main_v198, val_main_v197, val_main_cst_39, val_main_v196, val_main_v195, val_main_cst_38, ref_v165, ref_v17]

theorem ref_v206 : val_main_v206 (F := Ideal) (up2 I.o) (up2 I.pr) (up2 I.x) (up2 I.p) (up2 I.t) (up2 I.wo) (up2 I.wg) (up2 I.wp) (up2 I.cw) (up2 I.ga) (up2 I.gc) (up2 I.gp) = up2 (fun (_ : Fin 1) c => ∑ R, du I R c * bk I R 2 c) := by
  funext j; idx_vars j
  pointwise [val_main_v206, val_main_v205, val_main_v204, val_main_cst_42, val_main_v203, val_main_v202, val_main_cst_41, ref_v165, ref_v9]

theorem pad_zero' : val_main_call5_v0 (F := Ideal) (Shape.Idx.first h_S_) = 0 := pad_zero

theorem ref_v219 : val_main_v219 (F := Ideal) (up2 I.o) (up2 I.pr) (up2 I.x) (up2 I.p) (up2 I.t) (up2 I.wo) (up2 I.wg) (up2 I.wp) (up2 I.cw) (up2 I.ga) (up2 I.gc) (up2 I.gp) = up2 (overRows (ecw I)) := by
  funext j; idx_vars j
  pointwise [val_main_v219, val_main_v208, val_main_v201, val_main_v207, val_main_v194, val_main_v200, val_main_cst_43, val_main_cst_37, val_main_cst_40, pad_zero', ref_v206, ref_v193, ref_v199, overRows, ecw]
  rcases (by omega : j0.val = 0 ∨ j0.val = 1 ∨ j0.val = 2 ∨ 3 ≤ j0.val) with h | h | h | h
  · simp [h]
  · simp [h]
  · simp [h]
  · rw [dif_neg (by omega)]
    simp [show j0.val ≠ 0 by omega, show j0.val ≠ 1 by omega, show j0.val ≠ 2 by omega]

theorem ref_v215 : val_main_v215 (F := Ideal) (up2 I.o) (up2 I.pr) (up2 I.x) (up2 I.p) (up2 I.t) (up2 I.wo) (up2 I.wg) (up2 I.wp) (up2 I.cw) (up2 I.ga) (up2 I.gc) (up2 I.gp) = up2 (fun r q => delta I q (head8 r)) := by
  funext j; idx_vars j
  pointwise [val_main_v215, val_main_v214, val_main_v213, val_main_v211, val_main_v210, val_main_cst_44, val_main_v209, ref_v187, delta, head8]

theorem ref_v212 : val_main_v212 (F := Ideal) (up2 I.o) (up2 I.pr) (up2 I.x) (up2 I.p) (up2 I.t) (up2 I.wo) (up2 I.wg) (up2 I.wp) (up2 I.cw) (up2 I.ga) (up2 I.gc) (up2 I.gp) = up2 (dO I) := by
  funext j; idx_vars j
  pointwise [val_main_v212, ref_v187]

theorem ref_v216 : val_main_v216 (F := Ideal) (up2 I.o) (up2 I.pr) (up2 I.x) (up2 I.p) (up2 I.t) (up2 I.wo) (up2 I.wg) (up2 I.wp) (up2 I.cw) (up2 I.ga) (up2 I.gc) (up2 I.gp) = up2 (dza I) := by
  funext j; idx_vars j
  pointwise [val_main_v216, ref_v188]

theorem ref_v218 : val_main_v218 (F := Ideal) (up2 I.o) (up2 I.pr) (up2 I.x) (up2 I.p) (up2 I.t) (up2 I.wo) (up2 I.wg) (up2 I.wp) (up2 I.cw) (up2 I.ga) (up2 I.gc) (up2 I.gp) = up2 (fun R => both (dcb I R) (dzc I R)) := by
  funext j; idx_vars j
  pointwise [val_main_v218, val_main_v217, ref_v166, ref_v164, both]
  split_ifs <;> rfl

theorem ref_v220 : val_main_v220 (F := Ideal) (up2 I.o) (up2 I.pr) (up2 I.x) (up2 I.p) (up2 I.t) (up2 I.wo) (up2 I.wg) (up2 I.wp) (up2 I.cw) (up2 I.ga) (up2 I.gc) (up2 I.gp) = up2 (overRows (eloss I)) := by
  refine Eq.trans (b := up2 fun (_ : Fin 1) (_ : Fin 128) => 1 / 2 * ∑ R, (∑ c, err I R c * err I R c) * (1 / 1024)) ?_ (congrArg up2 (funext₂ fun a b => ?_))
  · funext j; idx_vars j
    pointwise [val_main_v220, val_main_v103, val_main_cst_19, val_main_v102, val_main_v101, val_main_cst_18, val_main_v99, val_main_v100, val_main_v96, val_main_cst_16, val_main_cst_17, ref_v95]
  · rw [Finset.mul_sum]; exact Finset.sum_congr rfl fun R _ => by unfold eloss; ring

end Cert.Proof.Mid

end
-- ==== Proof.MidBlocks.lean ====
module

public import proofs.«01_k».proof.Proof.MidMath
public import proofs.«01_k».proof.Proof.MidModel
public import proofs.«01_k».proof.Proof.FlashHost
public import Idealize.ShloMosaic.Lib.Pointwise

/-! One grid point of the layer's middle over the reals: every value it passes on is a block of rows of the layer's. -/

@[expose] public section

set_option maxRecDepth 16384

noncomputable section

namespace Cert.Proof.Mid

open Cert.Kernel3Ideal Cert.Kernel3Ideal.Gen
open Cert.Proof.Flash
open Idealize.ShloMosaic

/-- The rows of block `t`. -/
abbrev rows {n : ℕ} (t : Fin 32) (f : Fin 8192 → Fin n → ℝ) : (⟨2, ![256, n]⟩ : Shape).Idx → EReal := up2 fun r c => f (mrow t r) c

/-- The eight rows before block `t`; of the first block, its own. -/
def before (t : Fin 32) (r : Fin 8) : Fin 8192 := ⟨(t.val * 32 - 1) * 8 + r.val, by omega⟩

/-- `X` holds the blocks of grid point `t` of the layer `I`. -/
structure Holds (I : In) (t : Fin 32) (X : Blocks Ideal) : Prop where
  pos : X.pos = BitVec.ofNat 32 t.val
  o : X.o = rows t I.o
  za : X.za = rows t (za I)
  ccx : X.ccx = rows t fun R => both (cc I R) (cx I R)
  cbzc : X.cbzc = rows t fun R => both (cb I R) (zc I R)
  prev : X.prev = up2 fun r => both (cc I (before t r)) (cx I (before t r))
  x : X.x = rows t I.x
  p : X.p = rows t I.p
  t : X.t = rows t I.t
  wo : X.wo = up2 I.wo
  wg : X.wg = up2 I.wg
  wp : X.wp = up2 I.wp
  cw : X.cw = up2 fun j c => if h : j.val < 3 then I.cw ⟨j.val, h⟩ c else 0
  ga : X.ga = up2 I.ga
  gc : X.gc = up2 I.gc
  gp : X.gp = up2 I.gp

theorem ix2_l {n m : ℕ} (a : Fin n) (b : Fin m) : ix2 a b 0 = a := rfl
theorem ix2_r {n m : ℕ} (a : Fin n) (b : Fin m) : ix2 a b 1 = b := rfl
theorem logi (z : ℝ) : Ideal.logistic z = (sig z : EReal) := Ideal.logistic_coe z

attribute [local pointwise] rows up2 ix2_l ix2_r logi EReal.coe_mul EReal.coe_add EReal.coe_sub coe_sum c512_up c1024_up c2048_up eps_up EReal.coe_one

theorem norm_up {n : ℕ} (k : ℝ) (hk : 0 ≤ k) (f : Fin n → ℝ) :
    Ideal.rsqrt ((∑ x, (f x : EReal) * (f x : EReal)) * (k : EReal) + (eps : EReal)) = (rst k f : EReal) := by
  rw [sum_mul_coe, ← EReal.coe_mul, ← EReal.coe_add]
  exact rsqrt_up k f hk

/-- A rotation along the rows. -/
theorem rot_up {n m : ℕ} (sb : BitVec 32) (k : ℕ) (e : sb.toNat % n = k) (h : (⟨2, ![n, m]⟩ : Shape).Rotates 0 none) (f : Fin n → Fin m → ℝ) :
    dynamicRotate (s := ⟨2, ![n, m]⟩) 0 sb none (up2 f) h = up2 fun r c => f ⟨(r.val + n - k) % n, Nat.mod_lt _ r.pos⟩ c := by
  funext j
  refine congrArg Real.toEReal (congrArg₂ f (Fin.ext ?_) rfl)
  show ((j 0).val + n - sb.toNat % n) % n = _
  rw [e]

/-- Eight rows, 32 times. -/
theorem rep_up (g : Fin 8 → Fin 512 → ℝ)
    (h : Shape.Concatenates ((List.replicate 32 (⟨S8x512, up2 g⟩ : (s : Shape) × (s.Idx → EReal))).map (·.1)) S256x512 0) :
    concatenate S256x512 0 (List.replicate 32 (⟨S8x512, up2 g⟩ : (s : Shape) × (s.Idx → EReal))) h
      = up2 fun r c => g ⟨r.val % 8, Nat.mod_lt _ (by norm_num)⟩ c := by
  funext j
  refine concatenate_replicate_apply 0 32 (up2 g) h rfl j (ix2 ⟨(j 0).val % 8, Nat.mod_lt _ (by norm_num)⟩ (j 1)) rfl fun b hb => ?_
  fin_cases b
  · exact absurd rfl hb
  · rfl

theorem sge_small {k : ℕ} (hk : k < 8) (r : Fin 256) : IntOp.cmpi .sge (BitVec.ofNat 32 r.val) (BitVec.ofNat 32 k) = if k ≤ r.val then 1#1 else 0#1 := by
  have h := sle_small (a := k) (b := r.val) (by omega) (by omega)
  exact h

/-- Whether a row block has one before it, as a number. -/
theorem later (t : Fin 32) : (Scalar.extui (Scalar.cmpi CmpIPredicate.sgt (BitVec.ofNat 32 t.val) 0#32) : BitVec 32).toInt = if t.val = 0 then 0 else 1 := by
  revert t; decide

/-- A row, `k` rows back. -/
theorem bk_at (I : In) (t : Fin 32) (k : ℕ) (hk : k < 8) (r : Fin 256) (c : Fin 512) :
    (if k ≤ r.val then mm I (mrow t ⟨(r.val + 256 - k) % 256, Nat.mod_lt _ (by norm_num)⟩) c
      else if t.val = 0 then 0 else mm I (before t ⟨(r.val % 8 + 8 - k) % 8, Nat.mod_lt _ (by norm_num)⟩) c) = bk I (mrow t r) k c := by
  have ht := t.isLt
  have hr := r.isLt
  have e0 : (mrow t r).val = t.val * 256 + r.val := rfl
  unfold bk
  by_cases h : k ≤ r.val
  · rw [if_pos h, if_pos (by omega)]
    exact congrArg (mm I · c) (Fin.ext (by show t.val * 256 + (r.val + 256 - k) % 256 = t.val * 256 + r.val - k; omega))
  · by_cases h0 : t.val = 0
    · rw [if_neg h, if_pos h0, if_neg (by omega)]
    · rw [if_neg h, if_neg h0, if_pos (by omega)]
      exact congrArg (mm I · c) (Fin.ext (by show (t.val * 32 - 1) * 8 + (r.val % 8 + 8 - k) % 8 = t.val * 256 + r.val - k; omega))

/-- An array with a sub-array replaced, at a place. -/
theorem putOf_at {n m a b n' m' : ℕ} (h) (Y : (⟨2, ![n, m]⟩ : Shape).Idx → EReal) (w : (⟨2, ![n', m']⟩ : Shape).Idx → EReal) (r : Fin n) (c : Fin m) :
    putOf (s := ⟨2, ![n, m]⟩) ![a, b] ![n', m'] h Y w (ix2 r c)
      = if hh : (a ≤ r.val ∧ r.val < a + n') ∧ b ≤ c.val ∧ c.val < b + m' then w (ix2 ⟨r.val - a, by omega⟩ ⟨c.val - b, by omega⟩) else Y (ix2 r c) := by
  unfold putOf
  by_cases hh : (a ≤ r.val ∧ r.val < a + n') ∧ b ≤ c.val ∧ c.val < b + m'
  · rw [dif_pos hh]
    have e : (ix2 r c : (⟨2, ![n, m]⟩ : Shape).Idx) = (Rect.unit (s := ⟨2, ![n, m]⟩) ![a, b] ![n', m'] h).emb (ix2 ⟨r.val - a, by omega⟩ ⟨c.val - b, by omega⟩) := by
      funext d
      fin_cases d
      · exact Fin.ext (by show r.val = a + 1 * (r.val - a); omega)
      · exact Fin.ext (by show c.val = b + 1 * (c.val - b); omega)
    rw [e, Rect.overlay_emb]
  · rw [dif_neg hh]
    refine Rect.overlay_of_not_mem _ _ _ ?_
    rw [Rect.mem_set_unit]
    exact fun hm => hh ⟨hm 0, hm 1⟩

/-- Two column blocks side by side. -/
theorem put20_up (Y) (f g : Fin 256 → Fin 512 → ℝ) : put20 Y (up2 f) (up2 g) = up2 fun r => both (f r) (g r) := by
  funext j
  idx_vars j
  refine (putOf_at _ _ _ j0 j1).trans ?_
  show _ = ((both (f j0) (g j0) j1 : ℝ) : EReal)
  unfold both
  by_cases h : j1.val < 512
  · rw [dif_neg (by omega), dif_pos h]
    refine (putOf_at _ _ _ j0 j1).trans ((dif_pos (by omega)).trans ?_)
    exact congrArg Real.toEReal (congrArg₂ f (Fin.ext (Nat.sub_zero _)) (Fin.ext (Nat.sub_zero _)))
  · rw [dif_neg h, dif_pos (by omega)]
    exact congrArg Real.toEReal (congrArg₂ g (Fin.ext (Nat.sub_zero _)) rfl)

/-- Four blocks of eight rows, each of one row's values. -/
theorem put18_up (Y) (f : Fin 256 → Fin 4 → ℝ) :
    put18 Y (up2 fun _ q => f q 0) (up2 fun _ q => f q 1) (up2 fun _ q => f q 2) (up2 fun _ q => f q 3) = up2 fun r q => f q (head8 r) := by
  funext j
  idx_vars j
  have hf : ∀ k : Fin 4, k.val = j0.val / 8 → ∀ q : Fin 256, q.val = j1.val → ((f q k : ℝ) : EReal) = (f j1 (head8 j0) : ℝ) := fun k hk q hq => by
    obtain rfl : k = head8 j0 := Fin.ext hk
    obtain rfl : q = j1 := Fin.ext hq
    rfl
  refine (putOf_at _ _ _ j0 j1).trans ?_
  by_cases h3 : 24 ≤ j0.val
  · exact (dif_pos (by omega)).trans (hf 3 (by show 3 = _; omega) _ (Nat.sub_zero _))
  refine (dif_neg (by omega)).trans ((putOf_at _ _ _ j0 j1).trans ?_)
  by_cases h2 : 16 ≤ j0.val
  · exact (dif_pos (by omega)).trans (hf 2 (by show 2 = _; omega) _ (Nat.sub_zero _))
  refine (dif_neg (by omega)).trans ((putOf_at _ _ _ j0 j1).trans ?_)
  by_cases h1 : 8 ≤ j0.val
  · exact (dif_pos (by omega)).trans (hf 1 (by show 1 = _; omega) _ (Nat.sub_zero _))
  refine (dif_neg (by omega)).trans ((putOf_at _ _ _ j0 j1).trans ?_)
  exact (dif_pos (by omega)).trans (hf 0 (by show 0 = _; omega) _ (Nat.sub_zero _))

/-- The filter's three rows. -/
theorem put25_up (A B : Fin 8 → Fin 512 → ℝ) (hB : ∀ j c, 3 ≤ j.val → B j c = A j c) :
    put25 (up2 A) (up2 fun _ c => B 0 c) (up2 fun _ c => B 1 c) (up2 fun _ c => B 2 c) = up2 B := by
  funext j
  idx_vars j
  have hf : ∀ k : Fin 8, k.val = j0.val → ∀ q : Fin 512, q.val = j1.val → ((B k q : ℝ) : EReal) = (B j0 j1 : ℝ) := fun k hk q hq => by
    obtain rfl : k = j0 := Fin.ext hk
    obtain rfl : q = j1 := Fin.ext hq
    rfl
  refine (putOf_at _ _ _ j0 j1).trans ?_
  by_cases h2 : j0.val = 2
  · exact (dif_pos (by omega)).trans (hf 2 h2.symm _ (Nat.sub_zero _))
  refine (dif_neg (by omega)).trans ((putOf_at _ _ _ j0 j1).trans ?_)
  by_cases h1 : j0.val = 1
  · exact (dif_pos (by omega)).trans (hf 1 h1.symm _ (Nat.sub_zero _))
  refine (dif_neg (by omega)).trans ((putOf_at _ _ _ j0 j1).trans ?_)
  by_cases h0 : j0.val = 0
  · exact (dif_pos (by omega)).trans (hf 0 h0.symm _ (Nat.sub_zero _))
  exact (dif_neg (by omega)).trans (congrArg Real.toEReal (hB j0 j1 (by omega)).symm)

/-- The addends of one row block. -/
def blockSum {α β : Type} (e : Fin 8192 → α → β → ℝ) (t : Fin 32) (a : α) (b : β) : ℝ := ∑ r, e (mrow t r) a b

/-! The loss's block: the sums along a row and over the rows, apart. -/

theorem all_rows (x : S256x1.Idx → EReal) :
    shapeCast S1x1 (multiReduction (F := Ideal) (φ := .f32) .add [0] S1 x 0x00000000#32 reduces_S256x1_S1 (.inl rfl) rfl) shapeCasts_S1_S1x1
      = fun _ => ∑ k : Fin 256, x (ix2 k 0) := by
  funext j
  idx_vars j
  pointwise []

theorem all_cols (E : S256x1024.Idx → EReal) :
    shapeCast S256x1 (multiReduction (F := Ideal) (φ := .f32) .add [1] S256 E 0x00000000#32 reduces_S256x1024_S256 (.inl rfl) rfl) shapeCasts_S256_S256x1
      = fun j => ∑ k : Fin 1024, E (ix2 (j 0) k) := by
  funext j
  idx_vars j
  pointwise []

section point
variable {I : In} {t : Fin 32} {X : Blocks Ideal} (H : Holds I t X)

/-- A sub-array of an array of reals. -/
theorem rowsOf_up {n m a b n' m' : ℕ} (h) (f : Fin n → Fin m → ℝ) (g : Fin n' → Fin m' → ℝ)
    (e : ∀ r c (hr : a + r.val < n) (hc : b + c.val < m), f ⟨a + r.val, hr⟩ ⟨b + c.val, hc⟩ = g r c) :
    rowsOf (s := ⟨2, ![n, m]⟩) ![a, b] ![n', m'] h (up2 f) = up2 g := by
  funext y
  have h0 : a + n' ≤ n := h 0
  have h1 : b + m' ≤ m := h 1
  have l0 : (y 0).val < n' := (y 0).isLt
  have l1 : (y 1).val < m' := (y 1).isLt
  refine (congrArg Real.toEReal ?_).trans (congrArg Real.toEReal (e (y 0) (y 1) (by omega) (by omega)))
  exact congrArg₂ f (Fin.ext (by show a + 1 * (y 0).val = a + (y 0).val; omega)) (Fin.ext (by show b + 1 * (y 1).val = b + (y 1).val; omega))

theorem cols_lo {m : ℕ} (h) (f g : Fin m → Fin 512 → ℝ) :
    rowsOf (s := ⟨2, ![m, 1024]⟩) ![0, 0] ![m, 512] h (up2 fun r => both (f r) (g r)) = up2 f :=
  rowsOf_up h _ _ fun r c hr hc => by
    have e : (⟨0 + r.val, hr⟩ : Fin m) = r := Fin.ext (Nat.zero_add _)
    have e' : (⟨0 + c.val, hc⟩ : Fin 1024) = lo c := Fin.ext (Nat.zero_add _)
    rw [e, e', both_lo]

theorem cols_hi {m : ℕ} (h) (f g : Fin m → Fin 512 → ℝ) :
    rowsOf (s := ⟨2, ![m, 1024]⟩) ![0, 512] ![m, 512] h (up2 fun r => both (f r) (g r)) = up2 g :=
  rowsOf_up h _ _ fun r c hr hc => by
    have e : (⟨0 + r.val, hr⟩ : Fin m) = r := Fin.ext (Nat.zero_add _)
    have e' : (⟨512 + c.val, hc⟩ : Fin 1024) = hi c := rfl
    rw [e, e', both_hi]

include H

theorem v5_up : v5 X = rows t (za I) := by
  unfold v5
  rw [H.za]
  funext j
  idx_vars j
  pointwise [k0_pay11]

theorem v7_up : v7 X = rows t (cc I) := by
  refine (congrArg (k0_pay12 (F := Ideal)) ((congrArg _ H.ccx).trans (cols_lo _ _ _))).trans ?_
  funext j
  idx_vars j
  pointwise [k0_pay12]

theorem v9_up : v9 X = rows t (cx I) := by
  refine (congrArg (k0_pay13 (F := Ideal)) ((congrArg _ H.ccx).trans (cols_hi _ _ _))).trans ?_
  funext j
  idx_vars j
  pointwise [k0_pay13]

theorem v11_up : v11 X = rows t (cb I) := by
  refine (congrArg (k0_pay14 (F := Ideal)) ((congrArg _ H.cbzc).trans (cols_lo _ _ _))).trans ?_
  funext j
  idx_vars j
  pointwise [k0_pay14]

theorem v13_up : v13 X = rows t (zc I) := by
  refine (congrArg (k0_pay15 (F := Ideal)) ((congrArg _ H.cbzc).trans (cols_hi _ _ _))).trans ?_
  funext j
  idx_vars j
  pointwise [k0_pay15]

theorem v18_up : v18 X = up2 fun _ c => I.cw 0 c := by
  refine (congrArg (k0_pay16 (F := Ideal)) ((congrArg _ H.cw).trans (rowsOf_up _ _ (fun _ c => I.cw 0 c) fun r c hr hc => ?_))).trans ?_
  · obtain ⟨r, h⟩ := r
    obtain rfl : r = 0 := by omega
    exact (dif_pos (show 0 + 0 < 3 by omega)).trans (congrArg (I.cw 0) (Fin.ext (Nat.zero_add _)))
  funext j
  idx_vars j
  pointwise [k0_pay16]

theorem v20_up : v20 X = up2 fun _ c => I.cw 1 c := by
  refine (congrArg (k0_pay17 (F := Ideal)) ((congrArg _ H.cw).trans (rowsOf_up _ _ (fun _ c => I.cw 1 c) fun r c hr hc => ?_))).trans ?_
  · obtain ⟨r, h⟩ := r
    obtain rfl : r = 0 := by omega
    exact (dif_pos (show 1 + 0 < 3 by omega)).trans (congrArg (I.cw 1) (Fin.ext (Nat.zero_add _)))
  funext j
  idx_vars j
  pointwise [k0_pay17]

theorem v22_up : v22 X = up2 fun _ c => I.cw 2 c := by
  refine (congrArg (k0_pay18 (F := Ideal)) ((congrArg _ H.cw).trans (rowsOf_up _ _ (fun _ c => I.cw 2 c) fun r c hr hc => ?_))).trans ?_
  · obtain ⟨r, h⟩ := r
    obtain rfl : r = 0 := by omega
    exact (dif_pos (show 2 + 0 < 3 by omega)).trans (congrArg (I.cw 2) (Fin.ext (Nat.zero_add _)))
  funext j
  idx_vars j
  pointwise [k0_pay18]

theorem v24_up : v24 X = rows t I.p := by
  unfold v24
  rw [H.p]
  funext j
  idx_vars j
  pointwise [k0_pay19]

theorem v26_up : v26 X = up2 I.wp := by
  unfold v26
  rw [H.wp]
  funext j
  idx_vars j
  pointwise [k0_pay20]

theorem v27_up : v27 X = rows t (pw I) := by
  unfold v27
  rw [v24_up H, v26_up H]
  funext j
  idx_vars j
  pointwise [k0_pay21, pw]

theorem v28_up : v28 X = rows t fun R c => sig (za I R c) := by
  unfold v28
  rw [v5_up H]
  funext j
  idx_vars j
  pointwise [k0_pay22]

theorem v29_up : v29 X = rows t fun R c => za I R c * sig (za I R c) := by
  unfold v29
  rw [v5_up H]
  funext j
  idx_vars j
  pointwise [k0_pay23, k0_pay22]

theorem pay24_up : k0_pay24 X.o (v5 X) = rows t (gav I) := by
  rw [v5_up H, H.o]
  funext j
  idx_vars j
  pointwise [k0_pay24, k0_pay23, k0_pay22, gav]

theorem v38_up : v38 X = up2 fun r _ => ra I (mrow t r) := by
  unfold v38 k0_pay25
  rw [pay24_up H]
  funext j
  idx_vars j
  pointwise [ra]
  exact norm_up _ (by norm_num) _

theorem v40_up : v40 X = rows t (gha I) := by
  have e0 := v38_up H
  unfold v38 at e0
  unfold v40 k0_pay26
  rw [e0, pay24_up H]
  funext j
  idx_vars j
  pointwise [gha]

theorem v43_up : v43 X = rows t (ya I) := by
  have e0 := v40_up H
  unfold v40 at e0
  unfold v43 k0_pay27
  rw [e0, H.ga]
  funext j
  idx_vars j
  pointwise [ya]

theorem v48_up : v48 X = rows t fun R c => I.x R c + ∑ a, ya I R a * I.wo (lo a) c := by
  have e0 := v43_up H
  unfold v43 at e0
  unfold v48 k0_pay28
  rw [e0, H.x, H.wo, rowsOf_up _ _ (fun a c => I.wo (lo a) c) fun r c hr hc => congrArg₂ I.wo (Fin.ext (Nat.zero_add _)) (Fin.ext (Nat.zero_add _))]
  funext j
  idx_vars j
  pointwise []

theorem v49_up : v49 X = rows t (mm I) := by
  unfold v49
  rw [v7_up H, v9_up H]
  funext j
  idx_vars j
  pointwise [k0_pay29, mm]

theorem pay30_up : k0_pay30 X.pos (rowsOf (s := S8x1024) ![0, 0] S8x512.size inb_S8x1024_S8x512_0_0 X.prev) (rowsOf (s := S8x1024) ![0, 512] S8x512.size inb_S8x1024_S8x512_0_512 X.prev) = up2 fun r c => if t.val = 0 then 0 else mm I (before t r) c := by
  refine (congrArg₂ (k0_pay30 (F := Ideal) X.pos) ((congrArg _ H.prev).trans (cols_lo _ _ _)) ((congrArg _ H.prev).trans (cols_hi _ _ _))).trans ?_
  rw [H.pos]
  funext j
  idx_vars j
  pointwise [k0_pay30, mm]
  rw [later]
  by_cases h : t.val = 0
  · rw [if_pos h, if_pos h]; simp
  · rw [if_neg h, if_neg h]; simp

theorem v66_up : v66 X = rows t fun R => bk I R 1 := by
  have e0 := v49_up H
  unfold v49 at e0
  have e1 := pay30_up H
  unfold v66 k0_pay31
  rw [e0, e1, rot_up 1#32 1 (by decide), rot_up 1#32 1 (by decide)]
  dsimp only
  refine (congrArg (select _ _) (rep_up _ _)).trans ?_
  funext j
  idx_vars j
  pointwise []
  rw [sge_small (by omega), ← bk_at I t 1 (by omega)]
  by_cases h : 1 ≤ j0.val
  · rw [if_pos h, if_pos h]; rfl
  · rw [if_neg h, if_neg h]; rfl

theorem v69_up : v69 X = up2 fun r c => if t.val = 0 then 0 else mm I (before t ⟨(r.val % 8 + 8 - 2) % 8, Nat.mod_lt _ (by norm_num)⟩) c := by
  have e0 := pay30_up H
  unfold v69 k0_pay32
  rw [e0, rot_up 2#32 2 (by decide)]
  exact rep_up _ _

theorem v73_up : v73 X = rows t fun R => bk I R 2 := by
  unfold v73 k0_pay33
  rw [v49_up H, v69_up H, rot_up 2#32 2 (by decide)]
  funext j
  idx_vars j
  pointwise []
  rw [sge_small (by omega), ← bk_at I t 2 (by omega)]
  by_cases h : 2 ≤ j0.val
  · rw [if_pos h, if_pos h]; rfl
  · rw [if_neg h, if_neg h]; rfl

theorem v81_up : v81 X = rows t (u I) := by
  have e0 := v73_up H
  unfold v73 at e0
  unfold v81 k0_pay34
  rw [e0, v18_up H, v20_up H, v22_up H, v49_up H, v66_up H]
  funext j
  idx_vars j
  pointwise [u]

theorem v82_up : v82 X = rows t fun R c => sig (zc I R c) := by
  unfold v82
  rw [v13_up H]
  funext j
  idx_vars j
  pointwise [k0_pay35]

theorem v83_up : v83 X = rows t fun R c => zc I R c * sig (zc I R c) := by
  unfold v83
  rw [v13_up H]
  funext j
  idx_vars j
  pointwise [k0_pay36, k0_pay35]

theorem pay37_up : k0_pay37 (v11 X) (v13 X) (v18 X) (v20 X) (v22 X) (v49 X) (v66 X) (iota .tc S256x512 32 [0] iota_S256x512_d0_w32) (v69 X) = rows t (gcv I) := by
  have e0 := v81_up H
  unfold v81 at e0
  have e1 := v83_up H
  unfold v83 at e1
  unfold k0_pay37
  rw [e0, e1, v11_up H]
  funext j
  idx_vars j
  pointwise [gcv]

theorem v93_up : v93 X = up2 fun r _ => rc I (mrow t r) := by
  unfold v93 k0_pay38
  rw [pay37_up H]
  funext j
  idx_vars j
  pointwise [rc]
  exact norm_up _ (by norm_num) _

theorem v95_up : v95 X = rows t (ghc I) := by
  have e0 := v93_up H
  unfold v93 at e0
  unfold v95 k0_pay39
  rw [e0, pay37_up H]
  funext j
  idx_vars j
  pointwise [ghc]

theorem pay40_up : k0_pay40 (v11 X) (v13 X) X.gc (v18 X) (v20 X) (v22 X) (v49 X) (v66 X) (iota .tc S256x512 32 [0] iota_S256x512_d0_w32) (v69 X) = rows t (yc I) := by
  have e0 := v95_up H
  unfold v95 at e0
  unfold k0_pay40
  rw [e0, H.gc]
  funext j
  idx_vars j
  pointwise [yc]

theorem v99_up : v99 X = rows t fun R => both (ya I R) (yc I R) := by
  unfold v99 k0_pay41
  rw [pay40_up H, v43_up H]
  funext j
  idx_vars j
  pointwise [both]
  split_ifs <;> rfl

theorem v103_up : v103 X = rows t (x2 I) := by
  unfold v103 k0_pay42
  rw [pay40_up H, v48_up H, H.wo, rowsOf_up _ _ (fun a c => I.wo (hi a) c) fun r c hr hc => congrArg₂ I.wo rfl (Fin.ext (Nat.zero_add _))]
  funext j
  idx_vars j
  pointwise [x2]

theorem v111_up : v111 X = up2 fun r _ => r2 I (mrow t r) := by
  have e0 := v103_up H
  unfold v103 at e0
  unfold v111 k0_pay43
  rw [e0]
  funext j
  idx_vars j
  pointwise [r2]
  exact norm_up _ (by norm_num) _

theorem v113_up : v113 X = rows t (xh2 I) := by
  have e0 := v103_up H
  unfold v103 at e0
  have e1 := v111_up H
  unfold v111 at e1
  unfold v113 k0_pay44
  rw [e0, e1]
  funext j
  idx_vars j
  pointwise [xh2]

theorem v116_up : v116 X = rows t (n2 I) := by
  have e0 := v113_up H
  unfold v113 at e0
  unfold v116 k0_pay45
  rw [e0, H.gp]
  funext j
  idx_vars j
  pointwise [n2]

theorem pay46_up : k0_pay46 (v116 X) X.wg = rows t (gate I) := by
  unfold k0_pay46
  rw [v116_up H, H.wg]
  funext j
  idx_vars j
  pointwise [gate]
  rw [sum_mul_coe, logi]

theorem pay47_up : k0_pay47 (v27 X) (v103 X) (v116 X) X.wg X.t = rows t (err I) := by
  have e0 := pay46_up H
  unfold k0_pay47
  rw [e0, v103_up H, v27_up H, H.t]
  funext j
  idx_vars j
  pointwise [err]

theorem v138_up : v138 X = rows t (dout I) := by
  have e0 := pay47_up H
  unfold v138 k0_pay49
  rw [e0]
  funext j
  idx_vars j
  pointwise [dout]

theorem v144_up : v144 X = rows t (dgl I) := by
  have e0 := v138_up H
  unfold v138 at e0
  have e1 := pay46_up H
  unfold v144 k0_pay50
  rw [e0, e1, v27_up H]
  funext j
  idx_vars j
  pointwise [dgl]

theorem v147_up : v147 X = rows t (dn2 I) := by
  have e0 := v144_up H
  unfold v144 at e0
  unfold v147 k0_pay51
  rw [e0, H.wg]
  funext j
  idx_vars j
  pointwise [dn2]

theorem out_dx2_up : out_dx2 X = rows t (dx2 I) := by
  unfold out_dx2 k0_pay55
  rw [v111_up H, v113_up H, v138_up H, v147_up H, H.gp]
  funext j
  idx_vars j
  pointwise [dx2, nb]

theorem v184_up : v184 X = rows t (dy I) := by
  have e0 := out_dx2_up H
  unfold out_dx2 at e0
  unfold v184 k0_pay57 k0_pay56
  rw [e0, H.wo]
  funext j
  idx_vars j
  pointwise [dy]

theorem pay59_up : k0_pay59 (v184 X) = rows t fun R c => dy I R (lo c) := by
  rw [v184_up H]
  funext j
  idx_vars j
  pointwise [k0_pay59]
  exact congrArg Real.toEReal (congrArg (dy I _) (Fin.ext (by simp [lo])))

theorem pay60_up : k0_pay60 (v184 X) = rows t fun R c => dy I R (hi c) := by
  rw [v184_up H]
  funext j
  idx_vars j
  pointwise [k0_pay60]
  exact congrArg Real.toEReal (congrArg (dy I _) (Fin.ext (by simp [hi])))

theorem v217_up : v217 X = rows t (dga I) := by
  unfold v217 k0_pay63
  rw [pay59_up H, v38_up H, v40_up H, H.ga]
  funext j
  idx_vars j
  pointwise [dga, nb]

theorem v229_up : v229 X = rows t (dgc I) := by
  unfold v229 k0_pay64
  rw [pay60_up H, v93_up H, v95_up H, H.gc]
  funext j
  idx_vars j
  pointwise [dgc, nb]

theorem v230_up : v230 X = rows t (dO I) := by
  have e0 := v217_up H
  unfold v217 at e0
  unfold v230 k0_pay65
  rw [e0, v29_up H]
  funext j
  idx_vars j
  pointwise [dO]

theorem out_do_up : out_do X = rows t (dO I) := by
  have e0 := v230_up H
  unfold v230 at e0
  unfold out_do v231 k0_pay66
  rw [e0]
  funext j
  idx_vars j
  pointwise []

theorem out_dza_up : out_dza X = rows t (dza I) := by
  unfold out_dza
  rw [v5_up H, v28_up H, v217_up H, H.o]
  funext j
  idx_vars j
  pointwise [k0_pay67, dza, dsilu]

theorem out_du_up : out_du X = rows t (du I) := by
  unfold out_du
  rw [v11_up H, v83_up H, v229_up H]
  funext j
  idx_vars j
  pointwise [k0_pay72, du]

theorem pay73_up : k0_pay73 (v81 X) (v83 X) (v229 X) = rows t (dcb I) := by
  rw [v81_up H, v83_up H, v229_up H]
  funext j
  idx_vars j
  pointwise [k0_pay73, dcb]

theorem pay74_up : k0_pay74 (v11 X) (v13 X) (v81 X) (v82 X) (v229 X) = rows t (dzc I) := by
  rw [v11_up H, v13_up H, v81_up H, v82_up H, v229_up H]
  funext j
  idx_vars j
  pointwise [k0_pay74, dzc, dsilu]

theorem pay68_up : k0_pay68 X.o (v230 X) = up2 fun _ r => delta I (mrow t r) 0 := by
  rw [v230_up H, H.o]
  funext j
  idx_vars j
  pointwise [k0_pay68, delta]

theorem pay69_up : k0_pay69 X.o (v230 X) = up2 fun _ r => delta I (mrow t r) 1 := by
  rw [v230_up H, H.o]
  funext j
  idx_vars j
  pointwise [k0_pay69, delta]

theorem pay70_up : k0_pay70 X.o (v230 X) = up2 fun _ r => delta I (mrow t r) 2 := by
  rw [v230_up H, H.o]
  funext j
  idx_vars j
  pointwise [k0_pay70, delta]

theorem pay71_up : k0_pay71 X.o (v230 X) = up2 fun _ r => delta I (mrow t r) 3 := by
  rw [v230_up H, H.o]
  funext j
  idx_vars j
  pointwise [k0_pay71, delta]

theorem out_dcz_up : out_dcz X = rows t fun R => both (dcb I R) (dzc I R) := by
  unfold out_dcz
  rw [pay73_up H, pay74_up H]
  exact put20_up _ _ _

theorem out_delta_up : out_delta X = up2 fun r q => delta I (mrow t q) (head8 r) := by
  unfold out_delta
  rw [pay68_up H, pay69_up H, pay70_up H, pay71_up H]
  exact put18_up _ fun q k => delta I (mrow t q) k

theorem step_dwo_up (A : Fin 1024 → Fin 1024 → ℝ) : step_dwo X (up2 A) = up2 fun a b => A a b + blockSum (ewo I) t a b := by
  have e0 := out_dx2_up H
  unfold out_dx2 at e0
  unfold step_dwo k0_pay58 k0_pay56
  rw [e0, v99_up H]
  funext j
  idx_vars j
  pointwise [k0_pay3, blockSum, ewo]

theorem step_dwg_up (A : Fin 1024 → Fin 1024 → ℝ) : step_dwg X (up2 A) = up2 fun a b => A a b + blockSum (ewg I) t a b := by
  unfold step_dwg
  rw [v116_up H, v144_up H]
  funext j
  idx_vars j
  pointwise [k0_pay53, blockSum, ewg]

theorem step_dwp_up (A : Fin 256 → Fin 1024 → ℝ) : step_dwp X (up2 A) = up2 fun a b => A a b + blockSum (ewp I) t a b := by
  have e0 := v138_up H
  unfold v138 at e0
  have e1 := pay46_up H
  unfold step_dwp k0_pay52
  rw [e0, e1, v24_up H]
  funext j
  idx_vars j
  pointwise [k0_pay3, blockSum, ewp]

theorem step_dga_up (A : Fin 1 → Fin 512 → ℝ) : step_dga X (up2 A) = up2 fun a b => A a b + blockSum (ega I) t a b := by
  unfold step_dga k0_pay61
  rw [pay59_up H, v40_up H]
  funext j
  idx_vars j
  pointwise [k0_pay3, blockSum, ega]

theorem step_dgc_up (A : Fin 1 → Fin 512 → ℝ) : step_dgc X (up2 A) = up2 fun a b => A a b + blockSum (egc I) t a b := by
  unfold step_dgc k0_pay62
  rw [pay60_up H, v95_up H]
  funext j
  idx_vars j
  pointwise [k0_pay3, blockSum, egc]

theorem step_dgp_up (A : Fin 1 → Fin 1024 → ℝ) : step_dgp X (up2 A) = up2 fun a b => A a b + blockSum (egp I) t a b := by
  unfold step_dgp
  rw [v113_up H, v147_up H]
  funext j
  idx_vars j
  pointwise [k0_pay54, blockSum, egp]

theorem step_loss_up (A : Fin 1 → Fin 128 → ℝ) : step_loss X (up2 A) = up2 fun a b => A a b + blockSum (eloss I) t a b := by
  have e0 := pay47_up H
  unfold step_loss k0_pay48
  have hb : ∀ a b, blockSum (eloss I) t a b = (∑ r, ∑ c, err I (mrow t r) c * err I (mrow t r) c) * (1 / 2048) := fun _ _ => (Finset.sum_mul _ _ _).symm
  simp only [hb]
  rw [e0]
  show addf (shapeCast S1x128 (up2 A) shapeCasts_S1x128_S1x128) (broadcastTo S1x128 (mulf (shapeCast S1x1 (multiReduction (F := Ideal) (φ := .f32) .add [0] S1
    (shapeCast S256x1 (multiReduction (F := Ideal) (φ := .f32) .add [1] S256 (mulf (rows t (err I)) (rows t (err I))) 0x00000000#32 reduces_S256x1024_S256 (.inl rfl) rfl) shapeCasts_S256_S256x1)
    0x00000000#32 reduces_S256x1_S1 (.inl rfl) rfl) shapeCasts_S1_S1x1) (broadcast S1x1 (Scalar.ofBits .f32 0x3A000000#32))) broadcasts_S1x1_S1x128) = _
  rw [all_cols, all_rows]
  funext j
  idx_vars j
  pointwise []

theorem v284_up : v284 X = rows t (du I) := by
  exact out_du_up H

theorem row0_up (A : Fin 8 → Fin 512 → ℝ) : k0_pay75 (v11 X) (v73 X) (v83 X) (v229 X) (rowsOf (s := S8x512) ![0, 0] S1x512.size inb_S8x512_S1x512_0_0 (up2 A)) = up2 fun _ c => A 0 c + blockSum (ecw I) t 0 c := by
  have e0 := out_du_up H
  unfold out_du at e0
  have h : rowsOf (s := S8x512) ![0, 0] S1x512.size inb_S8x512_S1x512_0_0 (up2 A) = up2 fun _ c => A 0 c := rowsOf_up _ _ _ fun r c hr hc => by
    obtain rfl : r = 0 := Subsingleton.elim _ _
    exact congrArg₂ A (Fin.ext rfl) (Fin.ext (Nat.zero_add _))
  unfold k0_pay75
  rw [e0, v73_up H, h]
  funext j
  idx_vars j
  pointwise [k0_pay3, blockSum, ecw]

theorem row1_up (A : Fin 8 → Fin 512 → ℝ) : k0_pay1 (v66 X) (v284 X) (k0_pay76  (rowsOf (s := S8x512) ![1, 0] S1x512.size inb_S8x512_S1x512_1_0 (up2 A))) = up2 fun _ c => A 1 c + blockSum (ecw I) t 1 c := by
  have h : rowsOf (s := S8x512) ![1, 0] S1x512.size inb_S8x512_S1x512_1_0 (up2 A) = up2 fun _ c => A 1 c := rowsOf_up _ _ _ fun r c hr hc => by
    obtain rfl : r = 0 := Subsingleton.elim _ _
    exact congrArg₂ A (Fin.ext rfl) (Fin.ext (Nat.zero_add _))
  rw [v66_up H, v284_up H, h]
  funext j
  idx_vars j
  pointwise [k0_pay1, k0_pay76, blockSum, ecw]

theorem row2_up (A : Fin 8 → Fin 512 → ℝ) : k0_pay2 (v49 X) (v284 X) (rowsOf (s := S8x512) ![2, 0] S1x512.size inb_S8x512_S1x512_2_0 (up2 A)) = up2 fun _ c => A 2 c + blockSum (ecw I) t 2 c := by
  have h : rowsOf (s := S8x512) ![2, 0] S1x512.size inb_S8x512_S1x512_2_0 (up2 A) = up2 fun _ c => A 2 c := rowsOf_up _ _ _ fun r c hr hc => by
    obtain rfl : r = 0 := Subsingleton.elim _ _
    exact congrArg₂ A (Fin.ext rfl) (Fin.ext (Nat.zero_add _))
  rw [v49_up H, v284_up H, h]
  funext j
  idx_vars j
  pointwise [k0_pay2, blockSum, ecw]

theorem step_dcw_up (A : Fin 8 → Fin 512 → ℝ) : step_dcw X (up2 A) = up2 fun a b => A a b + blockSum (ecw I) t a b := by
  unfold step_dcw
  rw [row0_up H, row1_up H, row2_up H]
  refine put25_up A (fun a b => A a b + blockSum (ecw I) t a b) fun j c hj => ?_
  refine (congrArg (A j c + ·) (Finset.sum_eq_zero fun r _ => ?_)).trans (add_zero _)
  exact (if_neg (by omega)).trans ((if_neg (by omega)).trans (if_neg (by omega)))

end point

/-! Where the sums start. -/

theorem zero3_up : k0_pay3 (F := Ideal) = up2 fun (_ : Fin 1024) (_ : Fin 1024) => 0 := by
  funext j
  idx_vars j
  pointwise [k0_pay3, EReal.coe_zero]

theorem zero4_up : k0_pay4 (F := Ideal) = up2 fun (_ : Fin 1024) (_ : Fin 1024) => 0 := by
  funext j
  idx_vars j
  pointwise [k0_pay4, EReal.coe_zero]

theorem zero5_up : k0_pay5 (F := Ideal) = up2 fun (_ : Fin 256) (_ : Fin 1024) => 0 := by
  funext j
  idx_vars j
  pointwise [k0_pay5, EReal.coe_zero]

theorem zero6_up : k0_pay6 (F := Ideal) = up2 fun (_ : Fin 8) (_ : Fin 512) => 0 := by
  funext j
  idx_vars j
  pointwise [k0_pay6, EReal.coe_zero]

theorem zero7_up : k0_pay7 (F := Ideal) = up2 fun (_ : Fin 1) (_ : Fin 512) => 0 := by
  funext j
  idx_vars j
  pointwise [k0_pay7, EReal.coe_zero]

theorem zero8_up : k0_pay8 (F := Ideal) = up2 fun (_ : Fin 1) (_ : Fin 512) => 0 := by
  funext j
  idx_vars j
  pointwise [k0_pay8, EReal.coe_zero]

theorem zero9_up : k0_pay9 (F := Ideal) = up2 fun (_ : Fin 1) (_ : Fin 1024) => 0 := by
  funext j
  idx_vars j
  pointwise [k0_pay9, EReal.coe_zero]

theorem zero10_up : k0_pay10 (F := Ideal) = up2 fun (_ : Fin 1) (_ : Fin 128) => 0 := by
  funext j
  idx_vars j
  pointwise [k0_pay10, EReal.coe_zero]

end Cert.Proof.Mid

end
-- ==== Proof.MidTail.lean ====
module

public import proofs.«01_k».proof.Proof.MidBlocks
public import proofs.«01_k».proof.Proof.MidRun
public import Idealize.ShloMosaic.Lib.Pipeline.ValueKit

/-! The arrays the host hands the layer's middle, the blocks a grid point reads of them, and the arrays it leaves. -/

@[expose] public section

set_option maxRecDepth 16384

noncomputable section

namespace Cert.Proof.Mid

open Cert.Kernel3Ideal Cert.Kernel3Ideal.Gen
open Cert.Proof.Flash (up2 head8)
open Idealize.ShloMosaic Idealize.ShloMosaic.TcCoe Idealize.ShloMosaic.Pipeline Idealize.ShloMosaic.StableHlo

/-! ## The host's operations -/

/-- The projection's columns in the packed order, -/
def hPack (x : S8192x3008.Idx → EReal) : S8192x3072.Idx → EReal :=
  concatenate S8192x3072 1 [⟨S8192x448, extractStridedSlice S8192x448 ![0, 0] x slices_S8192x3008_S8192x448_0_0⟩,
    ⟨S8192x64, broadcastInDim S8192x64 ![] bcast_S_S8192x64 (constant (F := Ideal) S_ .f32 0x00000000#32)⟩,
    ⟨S8192x512, extractStridedSlice S8192x512 ![0, 448] x slices_S8192x3008_S8192x512_0_448⟩,
    ⟨S8192x1024, extractStridedSlice S8192x1024 ![0, 1472] x slices_S8192x3008_S8192x1024_0_1472⟩,
    ⟨S8192x512, extractStridedSlice S8192x512 ![0, 960] x slices_S8192x3008_S8192x512_0_960⟩,
    ⟨S8192x512, extractStridedSlice S8192x512 ![0, 2496] x slices_S8192x3008_S8192x512_0_2496⟩]
    concatenates_S8192x448_S8192x64_S8192x512_S8192x1024_S8192x512_S8192x512_S8192x3072_d1
/-- and the filter with five rows of zeros below it. -/
def hFilter (x : S3x512.Idx → EReal) : S8x512.Idx → EReal :=
  pad S8x512 ![0, 0] ![5, 0] ![0, 0] x (sitofp (F := Ideal) .f32 (constantI S_ 32 0#32)) pads_S3x512_S8x512_050_000 h_S_

/-- The packed columns over the reals. -/
def packed (I : In) (R : Fin 8192) (j : Fin 3072) : ℝ :=
  if h0 : j.val < 448 then I.pr R ⟨j.val, by omega⟩ else if h1 : j.val - 448 < 64 then 0
  else if h2 : j.val - 448 - 64 < 512 then I.pr R ⟨448 + (j.val - 448 - 64), by omega⟩
  else if h3 : j.val - 448 - 64 - 512 < 1024 then I.pr R ⟨1472 + (j.val - 448 - 64 - 512), by omega⟩
  else if h4 : j.val - 448 - 64 - 512 - 1024 < 512 then I.pr R ⟨960 + (j.val - 448 - 64 - 512 - 1024), by omega⟩
  else I.pr R ⟨2496 + (j.val - 448 - 64 - 512 - 1024 - 512), by omega⟩

attribute [local pointwise] up2 ix2_l ix2_r

theorem hPack_up (I : In) : hPack (up2 I.pr) = up2 (packed I) := by
  funext j; idx_vars j
  pointwise [hPack, packed]
  split_ifs <;> first | rfl | exact Ideal.ofBits_zero_f32

theorem zero_pad (i : S_.Idx) : sitofp (F := Ideal) .f32 (constantI S_ 32 0#32) i = 0 := by
  show ((((0#32 : BitVec 32).toInt : ℝ)) : EReal) = 0
  simp

theorem hFilter_up (I : In) : hFilter (up2 I.cw) = up2 fun j c => if h : j.val < 3 then I.cw ⟨j.val, h⟩ c else 0 := by
  funext j; idx_vars j
  pointwise [hFilter, zero_pad]
  split_ifs <;> rfl

theorem packed_za (I : In) (R : Fin 8192) (c : Fin 512) : packed I R ⟨512 + c.val, by omega⟩ = za I R c := by
  unfold packed za
  rw [dif_neg (by simp only; omega), dif_neg (by simp only; omega), dif_pos (by simp only; omega)]
  exact congrArg (I.pr R) (Fin.ext (by simp only; omega))
theorem packed_ccx (I : In) (R : Fin 8192) (c : Fin 1024) : packed I R ⟨1024 + c.val, by omega⟩ = both (cc I R) (cx I R) c := by
  unfold packed both cc cx
  rw [dif_neg (by simp only; omega), dif_neg (by simp only; omega), dif_neg (by simp only; omega), dif_pos (by simp only; omega)]
  split_ifs <;> exact congrArg (I.pr R) (Fin.ext (by simp only; omega))
theorem packed_cbzc (I : In) (R : Fin 8192) (c : Fin 1024) : packed I R ⟨2048 + c.val, by omega⟩ = both (cb I R) (zc I R) c := by
  unfold packed both cb zc
  rw [dif_neg (by simp only; omega), dif_neg (by simp only; omega), dif_neg (by simp only; omega), dif_neg (by simp only; omega)]
  by_cases h : c.val < 512
  · rw [dif_pos (by simp only; omega), dif_pos h]
    exact congrArg (I.pr R) (Fin.ext (by simp only; omega))
  · rw [dif_neg (by simp only; omega), dif_neg h]
    exact congrArg (I.pr R) (Fin.ext (by simp only; omega))

variable (m : (ℓ : Loc nD τ Cert.Kernel3Ideal.sig) → Buf (Elt Ideal) ℓ) (c : Dev nD)

/-- The call's operands that the host prepares, read through its operations. -/
theorem operands : (V m c main_v6 = hPack (m (c, Proc.tc.devRef main_arg1)))
    ∧ (V m c main_v7 = hFilter (m (c, Proc.tc.devRef main_arg8)))
    ∧ (V m c main_v8 = m (c, Proc.tc.devRef main_arg5))
    ∧ (V m c main_v9 = m (c, Proc.tc.devRef main_arg6))
    ∧ (V m c main_v10 = m (c, Proc.tc.devRef main_arg7)) := by
  refine ⟨?_, ?_, ?_, ?_, ?_⟩ <;>
  · show StableHlo.after _ _ _ = _
    simp only [hostOps0, hostOps0_1, hostOps0_2, List.flatten_cons, List.flatten_nil, List.append_nil,
      List.cons_append, List.nil_append, TRef.nullary, TRef.ternary, TRef.unary, TRef.binary, TRef.toBuf, TRef.ofBuf, cast_eq]
    after_results_simp
    rfl

/-! ## The blocks of a grid point -/

/-- A grid point, as a number below 32. -/
def pt (t : Fin cfg0.N) : Fin 32 := ⟨t.val, lt_N t⟩

theorem index_0 : ∀ t : Fin cfg0.N, win0_0.index t = ![t.val, 0] := (by decide +kernel : ∀ t : Fin grid0.N, _)
theorem index_1 : ∀ t : Fin cfg0.N, win0_1.index t = ![t.val, 1] := (by decide +kernel : ∀ t : Fin grid0.N, _)
theorem index_2 : ∀ t : Fin cfg0.N, win0_2.index t = ![t.val, 1] := (by decide +kernel : ∀ t : Fin grid0.N, _)
theorem index_3 : ∀ t : Fin cfg0.N, win0_3.index t = ![t.val, 2] := (by decide +kernel : ∀ t : Fin grid0.N, _)
theorem index_4 : ∀ t : Fin cfg0.N, win0_4.index t = ![t.val * 32 - 1, 1] := (by decide +kernel : ∀ t : Fin grid0.N, _)
theorem index_5 : ∀ t : Fin cfg0.N, win0_5.index t = ![t.val, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![0, 0] := (by decide +kernel : ∀ t : Fin grid0.N, _)
theorem index_10 : ∀ t : Fin cfg0.N, win0_10.index t = ![0, 0] := (by decide +kernel : ∀ t : Fin grid0.N, _)
theorem index_11 : ∀ t : Fin cfg0.N, win0_11.index t = ![0, 0] := (by decide +kernel : ∀ t : Fin grid0.N, _)
theorem index_12 : ∀ t : Fin cfg0.N, win0_12.index t = ![0, 0] := (by decide +kernel : ∀ t : Fin grid0.N, _)
theorem index_13 : ∀ t : Fin cfg0.N, win0_13.index t = ![0, 0] := (by decide +kernel : ∀ t : Fin grid0.N, _)
theorem index_14 : ∀ t : Fin cfg0.N, win0_14.index t = ![0, 0] := (by decide +kernel : ∀ t : Fin grid0.N, _)
theorem index_15 : ∀ t : Fin cfg0.N, win0_15.index t = ![t.val, 0] := (by decide +kernel : ∀ t : Fin grid0.N, _)
theorem index_16 : ∀ t : Fin cfg0.N, win0_16.index t = ![t.val, 0] := (by decide +kernel : ∀ t : Fin grid0.N, _)
theorem index_17 : ∀ t : Fin cfg0.N, win0_17.index t = ![0, t.val] := (by decide +kernel : ∀ t : Fin grid0.N, _)
theorem index_18 : ∀ t : Fin cfg0.N, win0_18.index t = ![t.val, 0] := (by decide +kernel : ∀ t : Fin grid0.N, _)
theorem index_19 : ∀ t : Fin cfg0.N, win0_19.index t = ![t.val, 0] := (by decide +kernel : ∀ t : Fin grid0.N, _)
theorem index_20 : ∀ t : Fin cfg0.N, win0_20.index t = ![t.val, 0] := (by decide +kernel : ∀ t : Fin grid0.N, _)
theorem index_21 : ∀ t : Fin cfg0.N, win0_21.index t = ![0, 0] := (by decide +kernel : ∀ t : Fin grid0.N, _)
theorem index_22 : ∀ t : Fin cfg0.N, win0_22.index t = ![0, 0] := (by decide +kernel : ∀ t : Fin grid0.N, _)
theorem index_23 : ∀ t : Fin cfg0.N, win0_23.index t = ![0, 0] := (by decide +kernel : ∀ t : Fin grid0.N, _)
theorem index_24 : ∀ t : Fin cfg0.N, win0_24.index t = ![0, 0] := (by decide +kernel : ∀ t : Fin grid0.N, _)
theorem index_25 : ∀ t : Fin cfg0.N, win0_25.index t = ![0, 0] := (by decide +kernel : ∀ t : Fin grid0.N, _)
theorem index_26 : ∀ t : Fin cfg0.N, win0_26.index t = ![0, 0] := (by decide +kernel : ∀ t : Fin grid0.N, _)
theorem index_27 : ∀ t : Fin cfg0.N, win0_27.index t = ![0, 0] := (by decide +kernel : ∀ t : Fin grid0.N, _)
theorem index_28 : ∀ t : Fin cfg0.N, win0_28.index t = ![0, 0] := (by decide +kernel : ∀ t : Fin grid0.N, _)

/-- The arguments are those of the layer `I`. -/
structure Given (I : In) : Prop where
  o : m (c, Proc.tc.devRef main_arg0) = up2 I.o
  pr : m (c, Proc.tc.devRef main_arg1) = up2 I.pr
  x : m (c, Proc.tc.devRef main_arg2) = up2 I.x
  p : m (c, Proc.tc.devRef main_arg3) = up2 I.p
  t : m (c, Proc.tc.devRef main_arg4) = up2 I.t
  wo : m (c, Proc.tc.devRef main_arg5) = up2 I.wo
  wg : m (c, Proc.tc.devRef main_arg6) = up2 I.wg
  wp : m (c, Proc.tc.devRef main_arg7) = up2 I.wp
  cw : m (c, Proc.tc.devRef main_arg8) = up2 I.cw
  ga : m (c, Proc.tc.devRef main_arg9) = up2 I.ga
  gc : m (c, Proc.tc.devRef main_arg10) = up2 I.gc
  gp : m (c, Proc.tc.devRef main_arg11) = up2 I.gp

section layer
variable (I : In) (H : Given m c I)
include H

theorem packed_up : V m c main_v6 = up2 (packed I) := (operands m c).1.trans ((congrArg hPack H.pr).trans (hPack_up I))

theorem block_o (t : Fin cfg0.N) : iblk m c 0 t = rows (pt t) I.o := by
  have e0 : V m c main_arg0 = up2 I.o := (V_main_arg0 m c).trans H.o
  funext y
  have e : (win0_0.blk t).view.emb y = ix2 (mrow (pt t) (y 0)) (y 1) := by
    blk_ext [index_0 t, mrow, pt]
  blk_simp [iblk]
  rw [e0, e]
  rfl

theorem block_x (t : Fin cfg0.N) : iblk m c 5 t = rows (pt t) I.x := by
  have e0 : V m c main_arg2 = up2 I.x := (V_main_arg2 m c).trans H.x
  funext y
  have e : (win0_5.blk t).view.emb y = ix2 (mrow (pt t) (y 0)) (y 1) := by
    blk_ext [index_5 t, mrow, pt]
  blk_simp [iblk]
  rw [e0, e]
  rfl

theorem block_p (t : Fin cfg0.N) : iblk m c 6 t = rows (pt t) I.p := by
  have e0 : V m c main_arg3 = up2 I.p := (V_main_arg3 m c).trans H.p
  funext y
  have e : (win0_6.blk t).view.emb y = ix2 (mrow (pt t) (y 0)) (y 1) := by
    blk_ext [index_6 t, mrow, pt]
  blk_simp [iblk]
  rw [e0, e]
  rfl

theorem block_t (t : Fin cfg0.N) : iblk m c 7 t = rows (pt t) I.t := by
  have e0 : V m c main_arg4 = up2 I.t := (V_main_arg4 m c).trans H.t
  funext y
  have e : (win0_7.blk t).view.emb y = ix2 (mrow (pt t) (y 0)) (y 1) := by
    blk_ext [index_7 t, mrow, pt]
  blk_simp [iblk]
  rw [e0, e]
  rfl

theorem block_za (t : Fin cfg0.N) : iblk m c 1 t = rows (pt t) (za I) := by
  have e0 : V m c main_v6 = up2 (packed I) := packed_up m c I H
  funext y
  have e : (win0_1.blk t).view.emb y = ix2 (mrow (pt t) (y 0)) ⟨512 + (y 1).val, by have := (y 1).isLt; simp at this; omega⟩ := by
    blk_ext [index_1 t, mrow, pt]
  blk_simp [iblk]
  rw [e0, e]
  exact congrArg Real.toEReal (packed_za I _ (y 1))

theorem block_ccx (t : Fin cfg0.N) : iblk m c 2 t = rows (pt t) fun R => both (cc I R) (cx I R) := by
  have e0 : V m c main_v6 = up2 (packed I) := packed_up m c I H
  funext y
  have e : (win0_2.blk t).view.emb y = ix2 (mrow (pt t) (y 0)) ⟨1024 + (y 1).val, by have := (y 1).isLt; simp at this; omega⟩ := by
    blk_ext [index_2 t, mrow, pt]
  blk_simp [iblk]
  rw [e0, e]
  exact congrArg Real.toEReal (packed_ccx I _ (y 1))

theorem block_cbzc (t : Fin cfg0.N) : iblk m c 3 t = rows (pt t) fun R => both (cb I R) (zc I R) := by
  have e0 : V m c main_v6 = up2 (packed I) := packed_up m c I H
  funext y
  have e : (win0_3.blk t).view.emb y = ix2 (mrow (pt t) (y 0)) ⟨2048 + (y 1).val, by have := (y 1).isLt; simp at this; omega⟩ := by
    blk_ext [index_3 t, mrow, pt]
  blk_simp [iblk]
  rw [e0, e]
  exact congrArg Real.toEReal (packed_cbzc I _ (y 1))

theorem block_prev (t : Fin cfg0.N) : iblk m c 4 t = up2 fun r => both (cc I (before (pt t) r)) (cx I (before (pt t) r)) := by
  have e0 : V m c main_v6 = up2 (packed I) := packed_up m c I H
  funext y
  have e : (win0_4.blk t).view.emb y = ix2 (before (pt t) (y 0)) ⟨1024 + (y 1).val, by have := (y 1).isLt; simp at this; omega⟩ := by
    blk_ext [index_4 t, before, pt]
  blk_simp [iblk]
  rw [e0, e]
  exact congrArg Real.toEReal (packed_ccx I _ (y 1))

theorem block_wo (t : Fin cfg0.N) : iblk m c 8 t = up2 I.wo := by
  have e0 : V m c main_v8 = up2 I.wo := (operands m c).2.2.1.trans H.wo
  funext y
  have e : (win0_8.blk t).view.emb y = ix2 (y 0) (y 1) := by
    blk_ext [index_8 t]
  blk_simp [iblk]
  rw [e0, e]
  rfl

theorem block_wg (t : Fin cfg0.N) : iblk m c 9 t = up2 I.wg := by
  have e0 : V m c main_v9 = up2 I.wg := (operands m c).2.2.2.1.trans H.wg
  funext y
  have e : (win0_9.blk t).view.emb y = ix2 (y 0) (y 1) := by
    blk_ext [index_9 t]
  blk_simp [iblk]
  rw [e0, e]
  rfl

theorem block_wp (t : Fin cfg0.N) : iblk m c 10 t = up2 I.wp := by
  have e0 : V m c main_v10 = up2 I.wp := (operands m c).2.2.2.2.trans H.wp
  funext y
  have e : (win0_10.blk t).view.emb y = ix2 (y 0) (y 1) := by
    blk_ext [index_10 t]
  blk_simp [iblk]
  rw [e0, e]
  rfl

theorem block_ga (t : Fin cfg0.N) : iblk m c 12 t = up2 I.ga := by
  have e0 : V m c main_arg9 = up2 I.ga := (V_main_arg9 m c).trans H.ga
  funext y
  have e : (win0_12.blk t).view.emb y = ix2 (y 0) (y 1) := by
    blk_ext [index_12 t]
  blk_simp [iblk]
  rw [e0, e]
  rfl

theorem block_gc (t : Fin cfg0.N) : iblk m c 13 t = up2 I.gc := by
  have e0 : V m c main_arg10 = up2 I.gc := (V_main_arg10 m c).trans H.gc
  funext y
  have e : (win0_13.blk t).view.emb y = ix2 (y 0) (y 1) := by
    blk_ext [index_13 t]
  blk_simp [iblk]
  rw [e0, e]
  rfl

theorem block_gp (t : Fin cfg0.N) : iblk m c 14 t = up2 I.gp := by
  have e0 : V m c main_arg11 = up2 I.gp := (V_main_arg11 m c).trans H.gp
  funext y
  have e : (win0_14.blk t).view.emb y = ix2 (y 0) (y 1) := by
    blk_ext [index_14 t]
  blk_simp [iblk]
  rw [e0, e]
  rfl

theorem block_cw (t : Fin cfg0.N) : iblk m c 11 t = up2 fun j c => if h : j.val < 3 then I.cw ⟨j.val, h⟩ c else 0 := by
  have e0 : V m c main_v7 = _ := (operands m c).2.1.trans ((congrArg hFilter H.cw).trans (hFilter_up I))
  funext y
  have e : (win0_11.blk t).view.emb y = ix2 (y 0) (y 1) := by
    blk_ext [index_11 t]
  blk_simp [iblk]
  rw [e0, e]
  rfl

/-- A grid point reads the layer's blocks. -/
theorem holds (t : Fin cfg0.N) : Holds I (pt t) (blocksAt m c t) := by
  constructor
  · show BitVec.ofNat 32 (grid0.coords t 0).val = BitVec.ofNat 32 t.val
    rw [step_val]
  · dsimp only [blocksAt]; exact block_o m c I H t
  · dsimp only [blocksAt]; exact block_za m c I H t
  · dsimp only [blocksAt]; exact block_ccx m c I H t
  · dsimp only [blocksAt]; exact block_cbzc m c I H t
  · dsimp only [blocksAt]; exact block_prev m c I H t
  · dsimp only [blocksAt]; exact block_x m c I H t
  · dsimp only [blocksAt]; exact block_p m c I H t
  · dsimp only [blocksAt]; exact block_t m c I H t
  · dsimp only [blocksAt]; exact block_wo m c I H t
  · dsimp only [blocksAt]; exact block_wg m c I H t
  · dsimp only [blocksAt]; exact block_wp m c I H t
  · dsimp only [blocksAt]; exact block_cw m c I H t
  · dsimp only [blocksAt]; exact block_ga m c I H t
  · dsimp only [blocksAt]; exact block_gc m c I H t
  · dsimp only [blocksAt]; exact block_gp m c I H t

/-! ## The arrays it leaves -/

theorem arr_dx2 : (dats m 0 c).arrAt 15 cfg0.N = up2 (dx2 I) := by
  refine (dats m 0 c).arrAt_eq_of_covers 15 _ (by decide +kernel) fun t hf y => ?_
  blk_simp
  have e : (win0_15.blk t).view.emb y = ix2 (mrow (pt t) (y 0)) (y 1) := by
    blk_ext [index_15 t, mrow, pt]
  rw [after_15, out_dx2_up (holds m c I H t), e]
  rfl

theorem arr_do : (dats m 0 c).arrAt 16 cfg0.N = up2 (dO I) := by
  refine (dats m 0 c).arrAt_eq_of_covers 16 _ (by decide +kernel) fun t hf y => ?_
  blk_simp
  have e : (win0_16.blk t).view.emb y = ix2 (mrow (pt t) (y 0)) (y 1) := by
    blk_ext [index_16 t, mrow, pt]
  rw [after_16, out_do_up (holds m c I H t), e]
  rfl

theorem arr_delta : (dats m 0 c).arrAt 17 cfg0.N = up2 fun r q => delta I q (head8 r) := by
  refine (dats m 0 c).arrAt_eq_of_covers 17 _ (by decide +kernel) fun t hf y => ?_
  blk_simp
  have e : (win0_17.blk t).view.emb y = ix2 (y 0) (mrow (pt t) (y 1)) := by
    blk_ext [index_17 t, mrow, pt]
  rw [after_17, out_delta_up (holds m c I H t), e]
  rfl

theorem arr_dza : (dats m 0 c).arrAt 18 cfg0.N = up2 (dza I) := by
  refine (dats m 0 c).arrAt_eq_of_covers 18 _ (by decide +kernel) fun t hf y => ?_
  blk_simp
  have e : (win0_18.blk t).view.emb y = ix2 (mrow (pt t) (y 0)) (y 1) := by
    blk_ext [index_18 t, mrow, pt]
  rw [after_18, out_dza_up (holds m c I H t), e]
  rfl

theorem arr_dcz : (dats m 0 c).arrAt 19 cfg0.N = up2 fun R => both (dcb I R) (dzc I R) := by
  refine (dats m 0 c).arrAt_eq_of_covers 19 _ (by decide +kernel) fun t hf y => ?_
  blk_simp
  have e : (win0_19.blk t).view.emb y = ix2 (mrow (pt t) (y 0)) (y 1) := by
    blk_ext [index_19 t, mrow, pt]
  rw [after_19, out_dcz_up (holds m c I H t), e]
  rfl

theorem arr_du : (dats m 0 c).arrAt 20 cfg0.N = up2 (du I) := by
  refine (dats m 0 c).arrAt_eq_of_covers 20 _ (by decide +kernel) fun t hf y => ?_
  blk_simp
  have e : (win0_20.blk t).view.emb y = ix2 (mrow (pt t) (y 0)) (y 1) := by
    blk_ext [index_20 t, mrow, pt]
  rw [after_20, out_du_up (holds m c I H t), e]
  rfl

end layer

/-- A running sum that starts at zero and takes a row block's addends at every grid point. -/
theorem sum_up {a b : ℕ} (z : (⟨2, ![a, b]⟩ : Shape).Idx → EReal)
    (step : Blocks Ideal → ((⟨2, ![a, b]⟩ : Shape).Idx → EReal) → (⟨2, ![a, b]⟩ : Shape).Idx → EReal)
    (e : Fin 8192 → Fin a → Fin b → ℝ) (hz : z = up2 fun _ _ => 0)
    (hs : ∀ t A, step (blocksAt m c t) (up2 A) = up2 fun a b => A a b + blockSum e (pt t) a b) :
    ∀ n ≤ 32, sumTo m z step c n = up2 (overBlocks e n)
  | 0, _ => hz.trans (congrArg up2 (funext₂ fun a b => (overBlocks_zero e a b).symm))
  | n + 1, hn => by
    show step (blocksAt m c (ptOf n)) (sumTo m z step c n) = _
    rw [sum_up z step e hz hs n (by omega), hs]
    have ev : (pt (ptOf n)).val = n := Nat.mod_eq_of_lt (by omega)
    refine congrArg up2 (funext₂ fun a b => ?_)
    have h := overBlocks_succ e (pt (ptOf n)) a b
    rw [ev] at h
    exact h.symm

section sums
variable (I : In) (H : Given m c I)
include H

theorem arr_dwo : (dats m 0 c).arrAt 21 cfg0.N = up2 (overRows (ewo I)) := by
  refine (dats m 0 c).arrAt_eq_of_covers 21 _ (by decide +kernel) fun t hf y => ?_
  blk_simp
  have e : (win0_21.blk t).view.emb y = ix2 (y 0) (y 1) := by
    blk_ext [index_21 t]
  have hN := lt_N t
  have ht : t.val + 1 = 32 := by have := (flush0_21 t).mp hf; omega
  rw [after_21, ht, e]
  refine (congrFun (sum_up m c _ _ (ewo I) zero3_up (fun t A => step_dwo_up (holds m c I H t) A) 32 le_rfl) y).trans ?_
  exact congrArg Real.toEReal (overBlocks_all (ewo I) (y 0) (y 1))

theorem arr_dwg : (dats m 0 c).arrAt 22 cfg0.N = up2 (overRows (ewg I)) := by
  refine (dats m 0 c).arrAt_eq_of_covers 22 _ (by decide +kernel) fun t hf y => ?_
  blk_simp
  have e : (win0_22.blk t).view.emb y = ix2 (y 0) (y 1) := by
    blk_ext [index_22 t]
  have hN := lt_N t
  have ht : t.val + 1 = 32 := by have := (flush0_22 t).mp hf; omega
  rw [after_22, ht, e]
  refine (congrFun (sum_up m c _ _ (ewg I) zero4_up (fun t A => step_dwg_up (holds m c I H t) A) 32 le_rfl) y).trans ?_
  exact congrArg Real.toEReal (overBlocks_all (ewg I) (y 0) (y 1))

theorem arr_dwp : (dats m 0 c).arrAt 23 cfg0.N = up2 (overRows (ewp I)) := by
  refine (dats m 0 c).arrAt_eq_of_covers 23 _ (by decide +kernel) fun t hf y => ?_
  blk_simp
  have e : (win0_23.blk t).view.emb y = ix2 (y 0) (y 1) := by
    blk_ext [index_23 t]
  have hN := lt_N t
  have ht : t.val + 1 = 32 := by have := (flush0_23 t).mp hf; omega
  rw [after_23, ht, e]
  refine (congrFun (sum_up m c _ _ (ewp I) zero5_up (fun t A => step_dwp_up (holds m c I H t) A) 32 le_rfl) y).trans ?_
  exact congrArg Real.toEReal (overBlocks_all (ewp I) (y 0) (y 1))

theorem arr_dcw : (dats m 0 c).arrAt 24 cfg0.N = up2 (overRows (ecw I)) := by
  refine (dats m 0 c).arrAt_eq_of_covers 24 _ (by decide +kernel) fun t hf y => ?_
  blk_simp
  have e : (win0_24.blk t).view.emb y = ix2 (y 0) (y 1) := by
    blk_ext [index_24 t]
  have hN := lt_N t
  have ht : t.val + 1 = 32 := by have := (flush0_24 t).mp hf; omega
  rw [after_24, ht, e]
  refine (congrFun (sum_up m c _ _ (ecw I) zero6_up (fun t A => step_dcw_up (holds m c I H t) A) 32 le_rfl) y).trans ?_
  exact congrArg Real.toEReal (overBlocks_all (ecw I) (y 0) (y 1))

theorem arr_dga : (dats m 0 c).arrAt 25 cfg0.N = up2 (overRows (ega I)) := by
  refine (dats m 0 c).arrAt_eq_of_covers 25 _ (by decide +kernel) fun t hf y => ?_
  blk_simp
  have e : (win0_25.blk t).view.emb y = ix2 (y 0) (y 1) := by
    blk_ext [index_25 t]
  have hN := lt_N t
  have ht : t.val + 1 = 32 := by have := (flush0_25 t).mp hf; omega
  rw [after_25, ht, e]
  refine (congrFun (sum_up m c _ _ (ega I) zero7_up (fun t A => step_dga_up (holds m c I H t) A) 32 le_rfl) y).trans ?_
  exact congrArg Real.toEReal (overBlocks_all (ega I) (y 0) (y 1))

theorem arr_dgc : (dats m 0 c).arrAt 26 cfg0.N = up2 (overRows (egc I)) := by
  refine (dats m 0 c).arrAt_eq_of_covers 26 _ (by decide +kernel) fun t hf y => ?_
  blk_simp
  have e : (win0_26.blk t).view.emb y = ix2 (y 0) (y 1) := by
    blk_ext [index_26 t]
  have hN := lt_N t
  have ht : t.val + 1 = 32 := by have := (flush0_26 t).mp hf; omega
  rw [after_26, ht, e]
  refine (congrFun (sum_up m c _ _ (egc I) zero8_up (fun t A => step_dgc_up (holds m c I H t) A) 32 le_rfl) y).trans ?_
  exact congrArg Real.toEReal (overBlocks_all (egc I) (y 0) (y 1))

theorem arr_dgp : (dats m 0 c).arrAt 27 cfg0.N = up2 (overRows (egp I)) := by
  refine (dats m 0 c).arrAt_eq_of_covers 27 _ (by decide +kernel) fun t hf y => ?_
  blk_simp
  have e : (win0_27.blk t).view.emb y = ix2 (y 0) (y 1) := by
    blk_ext [index_27 t]
  have hN := lt_N t
  have ht : t.val + 1 = 32 := by have := (flush0_27 t).mp hf; omega
  rw [after_27, ht, e]
  refine (congrFun (sum_up m c _ _ (egp I) zero9_up (fun t A => step_dgp_up (holds m c I H t) A) 32 le_rfl) y).trans ?_
  exact congrArg Real.toEReal (overBlocks_all (egp I) (y 0) (y 1))

theorem arr_loss : (dats m 0 c).arrAt 28 cfg0.N = up2 (overRows (eloss I)) := by
  refine (dats m 0 c).arrAt_eq_of_covers 28 _ (by decide +kernel) fun t hf y => ?_
  blk_simp
  have e : (win0_28.blk t).view.emb y = ix2 (y 0) (y 1) := by
    blk_ext [index_28 t]
  have hN := lt_N t
  have ht : t.val + 1 = 32 := by have := (flush0_28 t).mp hf; omega
  rw [after_28, ht, e]
  refine (congrFun (sum_up m c _ _ (eloss I) zero10_up (fun t A => step_loss_up (holds m c I H t) A) 32 le_rfl) y).trans ?_
  exact congrArg Real.toEReal (overBlocks_all (eloss I) (y 0) (y 1))

end sums

end Cert.Proof.Mid

end
-- ==== Proof.MidFinite.lean ====
module

public import proofs.«01_k».proof.Proof.FlashFinite
public import proofs.«01_k».proof.Proof.MidMath
public import proofs.«01_k».proof.Proof.Gen.Pre_finite12

/-! The precondition of the layer's middle: every element of every argument is a real number. -/

@[expose] public section

set_option maxRecDepth 16384

noncomputable section

namespace Cert.Proof.Mid

open Cert.Pre_finite12 Cert.Pre_finite12.Facts Idealize.ShloMosaic
open Cert.Proof.Flash (up2 inf_top real_of_abs)

instance : Subsingleton S_.Idx := ⟨fun i j => funext fun a => a.elim0⟩

/-- Twelve bits put beside each other are read back at their places. -/
theorem beside_bits (b0 b1 b2 b3 b4 b5 b6 b7 b8 b9 b10 b11 : IVec S_ 1) (f : S_.BroadcastsInDim S1 (![] : Fin 0 → Fin S1.rank))
    (g : Shape.Concatenates [S1, S1, S1, S1, S1, S1, S1, S1, S1, S1, S1, S1] S12 0)
    (e : ∀ i, concatenate S12 0 [⟨S1, broadcastInDim S1 ![] f b0⟩, ⟨S1, broadcastInDim S1 ![] f b1⟩, ⟨S1, broadcastInDim S1 ![] f b2⟩, ⟨S1, broadcastInDim S1 ![] f b3⟩,
      ⟨S1, broadcastInDim S1 ![] f b4⟩, ⟨S1, broadcastInDim S1 ![] f b5⟩, ⟨S1, broadcastInDim S1 ![] f b6⟩, ⟨S1, broadcastInDim S1 ![] f b7⟩,
      ⟨S1, broadcastInDim S1 ![] f b8⟩, ⟨S1, broadcastInDim S1 ![] f b9⟩, ⟨S1, broadcastInDim S1 ![] f b10⟩, ⟨S1, broadcastInDim S1 ![] f b11⟩] g i = 1#1) :
    (b0 ix0 = 1#1 ∧ b1 ix0 = 1#1 ∧ b2 ix0 = 1#1 ∧ b3 ix0 = 1#1 ∧ b4 ix0 = 1#1 ∧ b5 ix0 = 1#1) ∧
      b6 ix0 = 1#1 ∧ b7 ix0 = 1#1 ∧ b8 ix0 = 1#1 ∧ b9 ix0 = 1#1 ∧ b10 ix0 = 1#1 ∧ b11 ix0 = 1#1 := by
  have e0 := e (ix1 0)
  have e1 := e (ix1 1)
  have e2 := e (ix1 2)
  have e3 := e (ix1 3)
  have e4 := e (ix1 4)
  have e5 := e (ix1 5)
  have e6 := e (ix1 6)
  have e7 := e (ix1 7)
  have e8 := e (ix1 8)
  have e9 := e (ix1 9)
  have e10 := e (ix1 10)
  have e11 := e (ix1 11)
  pointwise at e0 e1 e2 e3 e4 e5 e6 e7 e8 e9 e10 e11
  exact ⟨⟨e0, e1, e2, e3, e4, e5⟩, e6, e7, e8, e9, e10, e11⟩

/-- A matrix whose elements are all below `+∞` in absolute value is a matrix of reals. -/
theorem reals_of_test {n0 n1 : Nat} (x top : FVec Ideal ⟨2, ![n0, n1]⟩ .f32) (ht : ∀ i, top i = Ideal.ofBits .f32 0x7F800000#32)
    (e : ∀ i, cmpf .olt (Host.absf x) top i = 1#1) : ∃ f : Fin n0 → Fin n1 → ℝ, x = up2 f := by
  have H : ∀ i, ∃ r : ℝ, x i = (r : EReal) := fun i => by
    have hc : BitVec.ofBool (decide (max (x i) (-x i) < top i)) = 1#1 := e i
    rw [ht, inf_top] at hc
    refine real_of_abs ?_
    by_contra hn
    rw [decide_eq_false hn] at hc
    exact absurd hc (by decide)
  choose f hf using H
  exact ⟨fun a b => f (ix2 a b), funext fun i => (congrArg x (eq_ix2 i)).trans (hf _)⟩

/-- Where the precondition is one, every argument is an array of reals. -/
theorem reals (a0 : FVec Ideal S8192x512 .f32) (a1 : FVec Ideal S8192x3008 .f32) (a2 : FVec Ideal S8192x1024 .f32) (a3 : FVec Ideal S8192x256 .f32)
    (a4 : FVec Ideal S8192x1024 .f32) (a5 : FVec Ideal S1024x1024 .f32) (a6 : FVec Ideal S1024x1024 .f32) (a7 : FVec Ideal S256x1024 .f32)
    (a8 : FVec Ideal S3x512 .f32) (a9 : FVec Ideal S1x512 .f32) (a10 : FVec Ideal S1x512 .f32) (a11 : FVec Ideal S1x1024 .f32)
    (h : fn (F := Ideal) a0 a1 a2 a3 a4 a5 a6 a7 a8 a9 a10 a11 = fun _ => 1#1) :
    ∃ I : In, (a0 = up2 I.o ∧ a1 = up2 I.pr ∧ a2 = up2 I.x ∧ a3 = up2 I.p ∧ a4 = up2 I.t ∧ a5 = up2 I.wo) ∧
      a6 = up2 I.wg ∧ a7 = up2 I.wp ∧ a8 = up2 I.cw ∧ a9 = up2 I.ga ∧ a10 = up2 I.gc ∧ a11 = up2 I.gp := by
  have h0 := congrFun h ix0
  unfold fn fn_part1 fn_part2 fn_part3 at h0
  dsimp only at h0
  obtain ⟨⟨t0, t1, t2, t3, t4, t5⟩, t6, t7, t8, t9, t10, t11⟩ :=
    beside_bits _ _ _ _ _ _ _ _ _ _ _ _ _ _ (Host.reduce_andi_all _ _ _ _ _ h0)
  obtain ⟨f0, h1⟩ := reals_of_test a0 _ (fun _ => rfl) (Host.reduce_andi_all _ _ _ _ _ t0)
  obtain ⟨f1, h2⟩ := reals_of_test a1 _ (fun _ => rfl) (Host.reduce_andi_all _ _ _ _ _ t1)
  obtain ⟨f2, h3⟩ := reals_of_test a2 _ (fun _ => rfl) (Host.reduce_andi_all _ _ _ _ _ t2)
  obtain ⟨f3, h4⟩ := reals_of_test a3 _ (fun _ => rfl) (Host.reduce_andi_all _ _ _ _ _ t3)
  obtain ⟨f4, h5⟩ := reals_of_test a4 _ (fun _ => rfl) (Host.reduce_andi_all _ _ _ _ _ t4)
  obtain ⟨f5, h6⟩ := reals_of_test a5 _ (fun _ => rfl) (Host.reduce_andi_all _ _ _ _ _ t5)
  obtain ⟨f6, h7⟩ := reals_of_test a6 _ (fun _ => rfl) (Host.reduce_andi_all _ _ _ _ _ t6)
  obtain ⟨f7, h8⟩ := reals_of_test a7 _ (fun _ => rfl) (Host.reduce_andi_all _ _ _ _ _ t7)
  obtain ⟨f8, h9⟩ := reals_of_test a8 _ (fun _ => rfl) (Host.reduce_andi_all _ _ _ _ _ t8)
  obtain ⟨f9, h10⟩ := reals_of_test a9 _ (fun _ => rfl) (Host.reduce_andi_all _ _ _ _ _ t9)
  obtain ⟨f10, h11⟩ := reals_of_test a10 _ (fun _ => rfl) (Host.reduce_andi_all _ _ _ _ _ t10)
  obtain ⟨f11, h12⟩ := reals_of_test a11 _ (fun _ => rfl) (Host.reduce_andi_all _ _ _ _ _ t11)
  exact ⟨⟨f0, f1, f2, f3, f4, f5, f6, f7, f8, f9, f10, f11⟩, ⟨h1, h2, h3, h4, h5, h6⟩, h7, h8, h9, h10, h11, h12⟩

end Cert.Proof.Mid

end
-- ==== Proof.lean ====
/- The claims: the frames of the attention's backward and forward calls, of the layer's middle and of their references,
   and the equality of their results. -/
module

public import proofs.«01_k».proof.Defs
public import proofs.«01_k».proof.Proof.FlashFrames
public import proofs.«01_k».proof.Proof.FlashRef
public import proofs.«01_k».proof.Proof.FlashTail
public import proofs.«01_k».proof.Proof.FlashFinite
public import proofs.«01_k».proof.Proof.FwdFrames
public import proofs.«01_k».proof.Proof.FwdRef
public import proofs.«01_k».proof.Proof.FwdTail
public import proofs.«01_k».proof.Proof.FwdFinite
public import proofs.«01_k».proof.Proof.MidFrames
public import proofs.«01_k».proof.Proof.ProjFrames
public import proofs.«01_k».proof.Proof.MidRef
public import proofs.«01_k».proof.Proof.MidTail
public import proofs.«01_k».proof.Proof.MidFinite
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite3
public import proofs.«01_k».proof.Proof.Gen.Kernel2Ideal.Skeleton
public import proofs.«01_k».proof.Proof.Gen.Kernel2Ideal.Launch
public import proofs.«01_k».proof.Proof.Gen.Kernel2Ideal.Loops
public import proofs.«01_k».proof.Proof.Gen.Kernel2Ideal.Points
public import proofs.«01_k».proof.Proof.Gen.Kernel2Ideal.Frame.Runs
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite12
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame.Runs
public import proofs.«01_k».proof.Proof.Gen.Reference4Ideal
public import proofs.«01_k».proof.Proof.Gen.Reference4Ideal.Run
public import proofs.«01_k».proof.Proof.Gen.Reference4Ideal.Read

@[expose] public section

set_option maxRecDepth 16384

noncomputable section

namespace Cert.Proof.Flash

open Idealize.ShloMosaic

/-- The reference leaves its arguments and its semaphores as they were. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

section value

open Cert.KernelIdeal Cert.KernelIdeal.Gen

/-- The kernel ends with what the lines after its region compute, its arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v51) = Pipeline.afterTail₀ cfgs (dats m) 0 (V0 m) [hostOps1] c main_v51
      ∧ r.2.mem ((c.tc : Thread nD τ).loc main_v55) = Pipeline.afterTail₀ cfgs (dats m) 0 (V0 m) [hostOps1] c main_v55
      ∧ r.2.mem ((c.tc : Thread nD τ).loc main_v56) = Pipeline.afterTail₀ cfgs (dats m) 0 (V0 m) [hostOps1] c main_v56
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r (h : _ ∧ _) c =>
    ⟨(h.1 c).2 main_v51 (Pipeline.mem_restRefs_of main_v51 (by decide) (by decide)),
      (h.1 c).2 main_v55 (Pipeline.mem_restRefs_of main_v55 (by decide) (by decide)),
      (h.1 c).2 main_v56 (Pipeline.mem_restRefs_of main_v56 (by decide) (by decide)),
      ((h.1 c).2 main_arg0 (Pipeline.mem_restRefs_of main_arg0 (by decide) (by decide))).trans (W_main_arg0 m _ c),
      ((h.1 c).2 main_arg1 (Pipeline.mem_restRefs_of main_arg1 (by decide) (by decide))).trans (W_main_arg1 m _ c),
      ((h.1 c).2 main_arg2 (Pipeline.mem_restRefs_of main_arg2 (by decide) (by decide))).trans (W_main_arg2 m _ c),
      ((h.1 c).2 main_arg3 (Pipeline.mem_restRefs_of main_arg3 (by decide) (by decide))).trans (W_main_arg3 m _ c)⟩)
    (run_main m ρ)

end value

/-- On finite arguments the kernel and the reference end with the same three gradients. -/
theorem gradients : Cert.algebraic_KernelIdeal_ReferenceIdeal_pre_finite := by
  intro m g m' g' hpre hargs
  refine ⟨_, _, _, kernel_run m g, (θ_run Cert.ReferenceIdeal.defs _ _).mono (fun r h c => ?_)
    (Cert.ReferenceIdeal.Value.run (F := Ideal) m' g')⟩
  obtain ⟨r0, r1, r2, rest⟩ := h c
  obtain ⟨a0, a1, a2, a3⟩ := hargs c
  obtain ⟨Q, K, V, O, hQ, hK, hV, hO⟩ := reals _ _ _ _ (hpre c)
  refine ⟨r0.trans ?_, r1.trans ?_, r2.trans ?_, rest⟩
  · rw [Cert.ReferenceIdeal.Read.val_main_v63_eq, a0, a1, a2, a3]
    refine Eq.trans ?_ (result_dq Q K V O m c hQ hK hV hO).symm
    refine Eq.trans ?_ (ref_gradQ Q K V O)
    exact congr (congr (congr (congrArg _ hQ) hK) hV) hO
  · rw [Cert.ReferenceIdeal.Read.val_main_v61_eq, a0, a1, a2, a3]
    refine Eq.trans ?_ (result_dk Q K V O m c hQ hK hV hO).symm
    refine Eq.trans ?_ (ref_gradK Q K V O)
    exact congr (congr (congr (congrArg _ hQ) hK) hV) hO
  · rw [Cert.ReferenceIdeal.Read.val_main_v44_eq, a0, a1, a3]
    refine Eq.trans ?_ (result_dv Q K V O m c hQ hK hV hO).symm
    refine Eq.trans ?_ (ref_gradV Q K O)
    exact congr (congr (congrArg _ hQ) hK) hO

end Cert.Proof.Flash

namespace Cert.Proof.Fwd

open Idealize.ShloMosaic

/-- The forward reference leaves its arguments and its semaphores as they were. -/
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

section value

open Cert.Kernel2Ideal Cert.Kernel2Ideal.Gen

/-- The forward kernel ends with what its region and the line after it compute, its arguments unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v13) = Pipeline.afterTail₀ cfgs (dats m) 0 (V0 m) [hostOps1] c main_v13
      ∧ r.2.mem ((c.tc : Thread nD τ).loc main_v12_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r (h : _ ∧ _) c =>
    ⟨(h.1 c).2 main_v13 (Pipeline.mem_restRefs_of main_v13 (by decide) (by decide)), (h.1 c).1 4,
      ((h.1 c).2 main_arg0 (Pipeline.mem_restRefs_of main_arg0 (by decide) (by decide))).trans (W_main_arg0 m _ c),
      ((h.1 c).2 main_arg1 (Pipeline.mem_restRefs_of main_arg1 (by decide) (by decide))).trans (W_main_arg1 m _ c),
      ((h.1 c).2 main_arg2 (Pipeline.mem_restRefs_of main_arg2 (by decide) (by decide))).trans (W_main_arg2 m _ c)⟩)
    (run_main m ρ)

end value

/-- On finite arguments the forward kernel and its reference end with the same output and the same log-sums. -/
theorem outputs : Cert.algebraic_Kernel2Ideal_Reference2Ideal_pre_finite3 := by
  intro m g m' g' hpre hargs
  refine ⟨_, _, kernel_run m g, (θ_run Cert.Reference2Ideal.defs _ _).mono (fun r h c => ?_)
    (Cert.Reference2Ideal.Value.run (F := Ideal) m' g')⟩
  obtain ⟨r0, r1, rest⟩ := h c
  obtain ⟨a0, a1, a2⟩ := hargs c
  obtain ⟨Q, K, V, hQ, hK, hV⟩ := reals _ _ _ (hpre c)
  refine ⟨r0.trans ?_, (r1.trans (Cert.Reference2Ideal.Read.val_main_v42_eq _ _)).trans ?_, rest⟩
  · rw [Cert.Reference2Ideal.Read.val_main_v40_eq, a0, a1, a2]
    refine Eq.trans ?_ (result_o m c Q K V hQ hK hV).symm
    refine Eq.trans ?_ (ref_output Q K V)
    exact congr (congr (congrArg _ hQ) hK) hV
  · rw [a0, a1]
    refine Eq.trans ?_ (arr_l m c Q K V hQ hK hV).symm
    refine Eq.trans ?_ (ref_logSum Q K)
    exact congr (congrArg _ hQ) hK

end Cert.Proof.Fwd

namespace Cert.Proof.Mid

open Idealize.ShloMosaic

/-- The middle's reference leaves its arguments and its semaphores as they were. -/
theorem frame_reference : Cert.quiescent_Reference3Ideal := fun m ρ _ =>
  (θ_run Cert.Reference3Ideal.defs _ _).mono (fun r h =>
    ⟨fun c => (h c).2.2.2.2.2.2.2.2.2.2.2.2.2.2, sem_eq_zero_of_no_sems (by decide) r.2⟩)
    (Cert.Reference3Ideal.Value.run (F := Ideal) m ρ)

section value

open Cert.Kernel3Ideal Cert.Kernel3Ideal.Gen

/-- The middle ends with the arrays its grid leaves, its arguments unchanged. -/
theorem kernel_run (m : (ℓ : Loc nD τ Cert.Kernel3Ideal.sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v11_0) = (dats m 0 c).arrAt 15 cfg0.N
      ∧ r.2.mem ((c.tc : Thread nD τ).loc main_v11_1) = (dats m 0 c).arrAt 16 cfg0.N
      ∧ r.2.mem ((c.tc : Thread nD τ).loc main_v11_2) = (dats m 0 c).arrAt 17 cfg0.N
      ∧ r.2.mem ((c.tc : Thread nD τ).loc main_v11_3) = (dats m 0 c).arrAt 18 cfg0.N
      ∧ r.2.mem ((c.tc : Thread nD τ).loc main_v11_4) = (dats m 0 c).arrAt 19 cfg0.N
      ∧ r.2.mem ((c.tc : Thread nD τ).loc main_v11_5) = (dats m 0 c).arrAt 20 cfg0.N
      ∧ r.2.mem ((c.tc : Thread nD τ).loc main_v11_6) = (dats m 0 c).arrAt 21 cfg0.N
      ∧ r.2.mem ((c.tc : Thread nD τ).loc main_v11_7) = (dats m 0 c).arrAt 22 cfg0.N
      ∧ r.2.mem ((c.tc : Thread nD τ).loc main_v11_8) = (dats m 0 c).arrAt 23 cfg0.N
      ∧ r.2.mem ((c.tc : Thread nD τ).loc main_v11_9) = (dats m 0 c).arrAt 24 cfg0.N
      ∧ r.2.mem ((c.tc : Thread nD τ).loc main_v11_10) = (dats m 0 c).arrAt 25 cfg0.N
      ∧ r.2.mem ((c.tc : Thread nD τ).loc main_v11_11) = (dats m 0 c).arrAt 26 cfg0.N
      ∧ r.2.mem ((c.tc : Thread nD τ).loc main_v11_12) = (dats m 0 c).arrAt 27 cfg0.N
      ∧ r.2.mem ((c.tc : Thread nD τ).loc main_v11_13) = (dats m 0 c).arrAt 28 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨(h.1.1 c).1 15, (h.1.1 c).1 16, (h.1.1 c).1 17, (h.1.1 c).1 18, (h.1.1 c).1 19, (h.1.1 c).1 20, (h.1.1 c).1 21,
      (h.1.1 c).1 22, (h.1.1 c).1 23, (h.1.1 c).1 24, (h.1.1 c).1 25, (h.1.1 c).1 26, (h.1.1 c).1 27, (h.1.1 c).1 28, h.2.1 c⟩)
    (θ_run_and (run_main m ρ) (frame_any m ρ))

end value

/-- Equal arguments give equal values. -/
theorem same {A0 A1 A2 A3 A4 A5 A6 A7 A8 A9 A10 A11 B : Type} (f : A0 → A1 → A2 → A3 → A4 → A5 → A6 → A7 → A8 → A9 → A10 → A11 → B)
    {x0 y0 : A0} {x1 y1 : A1} {x2 y2 : A2} {x3 y3 : A3} {x4 y4 : A4} {x5 y5 : A5} {x6 y6 : A6} {x7 y7 : A7} {x8 y8 : A8} {x9 y9 : A9} {x10 y10 : A10} {x11 y11 : A11}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) :
    f x0 x1 x2 x3 x4 x5 x6 x7 x8 x9 x10 x11 = f y0 y1 y2 y3 y4 y5 y6 y7 y8 y9 y10 y11 := by
  subst e0 e1 e2 e3 e4 e5 e6 e7 e8 e9 e10 e11; rfl

set_option maxHeartbeats 4000000 in
/-- On finite arguments the middle and its reference end with the same fourteen results. -/
theorem results : Cert.algebraic_Kernel3Ideal_Reference3Ideal_pre_finite12 := by
  intro m g m' g' hpre hargs
  refine ⟨_, _, _, _, _, _, _, _, _, _, _, _, _, _, kernel_run m g, (θ_run Cert.Reference3Ideal.defs _ _).mono (fun r h c => ?_)
    (Cert.Reference3Ideal.Value.run (F := Ideal) m' g')⟩
  obtain ⟨r0, r1, r2, r3, r4, r5, r6, r7, r8, r9, r10, r11, r12, r13, rest⟩ := h c
  obtain ⟨a0, a1, a2, a3, a4, a5, a6, a7, a8, a9, a10, a11⟩ := hargs c
  obtain ⟨I, ⟨h0, h1, h2, h3, h4, h5⟩, h6, h7, h8, h9, h10, h11⟩ := reals _ _ _ _ _ _ _ _ _ _ _ _ (hpre c)
  have H : Given m c I := ⟨h0, h1, h2, h3, h4, h5, h6, h7, h8, h9, h10, h11⟩
  have e0 := a0.trans h0
  have e1 := a1.trans h1
  have e2 := a2.trans h2
  have e3 := a3.trans h3
  have e4 := a4.trans h4
  have e5 := a5.trans h5
  have e6 := a6.trans h6
  have e7 := a7.trans h7
  have e8 := a8.trans h8
  have e9 := a9.trans h9
  have e10 := a10.trans h10
  have e11 := a11.trans h11
  refine ⟨r0.trans ((Cert.Reference3Ideal.Read.val_main_v137_eq _).trans (Eq.trans ?_ ((ref_v137 I).trans (arr_dx2 m c I H).symm))),
    r1.trans ((Cert.Reference3Ideal.Read.val_main_v212_eq _).trans (Eq.trans ?_ ((ref_v212 I).trans (arr_do m c I H).symm))),
    r2.trans ((Cert.Reference3Ideal.Read.val_main_v215_eq _).trans (Eq.trans ?_ ((ref_v215 I).trans (arr_delta m c I H).symm))),
    r3.trans ((Cert.Reference3Ideal.Read.val_main_v216_eq _).trans (Eq.trans ?_ ((ref_v216 I).trans (arr_dza m c I H).symm))),
    r4.trans ((Cert.Reference3Ideal.Read.val_main_v218_eq _).trans (Eq.trans ?_ ((ref_v218 I).trans (arr_dcz m c I H).symm))),
    r5.trans ((Cert.Reference3Ideal.Read.val_main_v165_eq _).trans (Eq.trans ?_ ((ref_v165 I).trans (arr_du m c I H).symm))),
    r6.trans ((Cert.Reference3Ideal.Read.val_main_v139_eq _).trans (Eq.trans ?_ ((ref_v139 I).trans (arr_dwo m c I H).symm))),
    r7.trans ((Cert.Reference3Ideal.Read.val_main_v116_eq _).trans (Eq.trans ?_ ((ref_v116 I).trans (arr_dwg m c I H).symm))),
    r8.trans ((Cert.Reference3Ideal.Read.val_main_v113_eq _).trans (Eq.trans ?_ ((ref_v113 I).trans (arr_dwp m c I H).symm))),
    r9.trans ((Cert.Reference3Ideal.Read.val_main_v219_eq _).trans (Eq.trans ?_ ((ref_v219 I).trans (arr_dcw m c I H).symm))),
    r10.trans ((Cert.Reference3Ideal.Read.val_main_v169_eq _).trans (Eq.trans ?_ ((ref_v169 I).trans (arr_dga m c I H).symm))),
    r11.trans ((Cert.Reference3Ideal.Read.val_main_v145_eq _).trans (Eq.trans ?_ ((ref_v145 I).trans (arr_dgc m c I H).symm))),
    r12.trans ((Cert.Reference3Ideal.Read.val_main_v120_eq _).trans (Eq.trans ?_ ((ref_v120 I).trans (arr_dgp m c I H).symm))),
    r13.trans ((Cert.Reference3Ideal.Read.val_main_v220_eq _).trans (Eq.trans ?_ ((ref_v220 I).trans (arr_loss m c I H).symm))),
    rest⟩
  all_goals exact same _ e0 e1 e2 e3 e4 e5 e6 e7 e8 e9 e10 e11

end Cert.Proof.Mid

namespace Cert.Proof.Proj

open Idealize.ShloMosaic

/-- The projections' reference leaves its arguments and its semaphores as they were. -/
theorem frame_reference : Cert.quiescent_Reference4Ideal := fun m ρ _ =>
  (θ_run Cert.Reference4Ideal.defs _ _).mono (fun r h =>
    ⟨fun c => (h c).2.2.2.2.2.2.2.2.2, sem_eq_zero_of_no_sems (by decide) r.2⟩)
    (Cert.Reference4Ideal.Value.run (F := Ideal) m ρ)

end Cert.Proof.Proj

theorem Cert.Proof.claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite.Gen.facts, Cert.Pre_finite3.Gen.facts, Cert.Pre_finite12.Gen.facts,
    Flash.frame_kernel, Flash.frame_kernelIdeal, fun m ρ _ => Flash.frame_kernelIdeal m ρ trivial, Flash.frame_reference,
    fun m ρ _ => Flash.frame_reference m ρ trivial,
    Fwd.frame_kernel, Fwd.frame_kernelIdeal, fun m ρ _ => Fwd.frame_kernelIdeal m ρ trivial, Fwd.frame_reference,
    fun m ρ _ => Fwd.frame_reference m ρ trivial,
    Mid.frame_kernel, Mid.frame_kernelIdeal, fun m ρ _ => Mid.frame_kernelIdeal m ρ trivial, Mid.frame_reference,
    fun m ρ _ => Mid.frame_reference m ρ trivial,
    Proj.frame_kernel, Proj.frame_kernelIdeal, Proj.frame_reference,
    Flash.preserved, Flash.gradients, Fwd.preserved, Fwd.outputs, Mid.preserved, Mid.results, Proj.preserved⟩
